-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Experts [hPre_tables_in_bounds : Cert.Pre_tables_in_bounds.Facts] (m : (ℓ : Loc Cert.Experts.nD Cert.Experts.τ Cert.Experts.sig) → Buf (Elt Bits) ℓ) : Prop :=
  ∀ c : Dev Cert.Experts.nD,
    (Cert.Pre_tables_in_bounds.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables_in_bounds : Cert.Pre_tables_in_bounds.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_bounds.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_in_bounds [hPre_tables_in_bounds : Cert.Pre_tables_in_bounds.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_in_bounds.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite [hPre_finite : Cert.Pre_finite.Facts] (m : (ℓ : Loc Cert.MixIdeal.nD Cert.MixIdeal.τ Cert.MixIdeal.sig) → Buf (Elt Ideal) ℓ) : Prop :=
  ∀ c : Dev Cert.MixIdeal.nD,
    (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.2.1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite [hPre_finite : Cert.Pre_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.2.2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.2.2.2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.2.2.2.2.2.2.2.1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))).2.2.2.2.2.2.2.2.2.2.2 = (fun _ => 1#1)

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Experts [hExperts : Cert.Experts.Facts] [hPre_tables_in_bounds : Cert.Pre_tables_in_bounds.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables_in_bounds : Cert.Pre_tables_in_bounds.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_tables_in_bounds [hExpertsRefIdeal : Cert.ExpertsRefIdeal.Facts] [hPre_tables_in_bounds : Cert.Pre_tables_in_bounds.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_in_bounds m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixIdeal_pre_finite [hMixIdeal : Cert.MixIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def quiescent_MixRefIdeal_pre_finite [hMixRefIdeal : Cert.MixRefIdeal.Facts] [hPre_finite : Cert.Pre_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v249) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Proj_ProjIdeal : Prop :=
  True

def algebraic_ProjIdeal_ProjRefIdeal_on_gate_columns [hProjIdeal : Cert.ProjIdeal.Facts] [hProjRefIdeal : Cert.ProjRefIdeal.Facts] [hOn_gate_columns : Cert.On_gate_columns.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v18_1)) (v2 : (c : Dev Cert.ProjIdeal.nD) → Buf (Elt Ideal) ((c.tc : Thread Cert.ProjIdeal.nD Cert.ProjIdeal.τ).loc Cert.ProjIdeal.main_v18_2)) (v3 : (c : Dev Cert.ProjIdeal.nD) → Buf (Elt Ideal) ((c.tc : Thread Cert.ProjIdeal.nD Cert.ProjIdeal.τ).loc Cert.ProjIdeal.main_v18_3)) (v4 : (c : Dev Cert.ProjIdeal.nD) → Buf (Elt Ideal) ((c.tc : Thread Cert.ProjIdeal.nD Cert.ProjIdeal.τ).loc Cert.ProjIdeal.main_v18_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          (∀ i : (⟨2, ![32768, 1536]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).1 i = 1#1 → r.2.mem ((c.tc : Thread Cert.ProjIdeal.nD Cert.ProjIdeal.τ).loc Cert.ProjIdeal.main_v18_0) i = v0 c i)
          ∧ (∀ i : (⟨2, ![32768, 128]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.1 i = 1#1 → r.2.mem ((c.tc : Thread Cert.ProjIdeal.nD Cert.ProjIdeal.τ).loc Cert.ProjIdeal.main_v18_1) i = v1 c i)
          ∧ (∀ i : (⟨3, ![512, 16, 64]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.1 i = 1#1 → r.2.mem ((c.tc : Thread Cert.ProjIdeal.nD Cert.ProjIdeal.τ).loc Cert.ProjIdeal.main_v18_2) i = v2 c i)
          ∧ (∀ i : (⟨2, ![32768, 512]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.1 i = 1#1 → r.2.mem ((c.tc : Thread Cert.ProjIdeal.nD Cert.ProjIdeal.τ).loc Cert.ProjIdeal.main_v18_3) i = v3 c i)
          ∧ (∀ i : (⟨2, ![32768, 512]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.2 i = 1#1 → r.2.mem ((c.tc : Thread Cert.ProjIdeal.nD Cert.ProjIdeal.τ).loc Cert.ProjIdeal.main_v18_4) i = v4 c i)
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          (∀ i : (⟨2, ![32768, 1536]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).1 i = 1#1 → r.2.mem ((c.tc : Thread Cert.ProjRefIdeal.nD Cert.ProjRefIdeal.τ).loc Cert.ProjRefIdeal.main_v70) i = v0 c i)
          ∧ (∀ i : (⟨2, ![32768, 128]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.1 i = 1#1 → r.2.mem ((c.tc : Thread Cert.ProjRefIdeal.nD Cert.ProjRefIdeal.τ).loc Cert.ProjRefIdeal.main_v72) i = v1 c i)
          ∧ (∀ i : (⟨3, ![512, 16, 64]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.1 i = 1#1 → r.2.mem ((c.tc : Thread Cert.ProjRefIdeal.nD Cert.ProjRefIdeal.τ).loc Cert.ProjRefIdeal.main_v74) i = v2 c i)
          ∧ (∀ i : (⟨2, ![32768, 512]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.1 i = 1#1 → r.2.mem ((c.tc : Thread Cert.ProjRefIdeal.nD Cert.ProjRefIdeal.τ).loc Cert.ProjRefIdeal.main_v76) i = v3 c i)
          ∧ (∀ i : (⟨2, ![32768, 512]⟩ : Shape).Idx, (Cert.On_gate_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2.2 i = 1#1 → r.2.mem ((c.tc : Thread Cert.ProjRefIdeal.nD Cert.ProjRefIdeal.τ).loc Cert.ProjRefIdeal.main_v77) i = v4 c i)
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables_in_bounds : Cert.Pre_tables_in_bounds.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v23) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Mix_MixIdeal : Prop :=
  True

def algebraic_MixIdeal_MixRefIdeal_on_without_scores [hMixIdeal : Cert.MixIdeal.Facts] [hMixRefIdeal : Cert.MixRefIdeal.Facts] [hOn_without_scores : Cert.On_without_scores.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨2, ![32768, 1024]⟩ : Shape).Idx, (Cert.On_without_scores.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).1 i = 1#1 → r.2.mem ((c.tc : Thread Cert.MixIdeal.nD Cert.MixIdeal.τ).loc Cert.MixIdeal.main_v8_0) i = v0 c i)
          ∧ (∀ i : (⟨2, ![32768, 1024]⟩ : Shape).Idx, (Cert.On_without_scores.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.1 i = 1#1 → r.2.mem ((c.tc : Thread Cert.MixIdeal.nD Cert.MixIdeal.τ).loc Cert.MixIdeal.main_v8_1) i = v1 c i)
          ∧ (∀ i : (⟨2, ![64, 32768]⟩ : Shape).Idx, (Cert.On_without_scores.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2 i = 1#1 → r.2.mem ((c.tc : Thread Cert.MixIdeal.nD Cert.MixIdeal.τ).loc Cert.MixIdeal.main_v8_2) i = v2 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          (∀ i : (⟨2, ![32768, 1024]⟩ : Shape).Idx, (Cert.On_without_scores.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).1 i = 1#1 → r.2.mem ((c.tc : Thread Cert.MixRefIdeal.nD Cert.MixRefIdeal.τ).loc Cert.MixRefIdeal.main_v53) i = v0 c i)
          ∧ (∀ i : (⟨2, ![32768, 1024]⟩ : Shape).Idx, (Cert.On_without_scores.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.1 i = 1#1 → r.2.mem ((c.tc : Thread Cert.MixRefIdeal.nD Cert.MixRefIdeal.τ).loc Cert.MixRefIdeal.main_v54) i = v1 c i)
          ∧ (∀ i : (⟨2, ![64, 32768]⟩ : Shape).Idx, (Cert.On_without_scores.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2 i = 1#1 → r.2.mem ((c.tc : Thread Cert.MixRefIdeal.nD Cert.MixRefIdeal.τ).loc Cert.MixRefIdeal.main_v56) i = v2 c i)
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15))

def algebraic_MixIdeal_MixRefIdeal_pre_finite [hMixIdeal : Cert.MixIdeal.Facts] [hMixRefIdeal : Cert.MixRefIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v53) = v0 c
          ∧ r.2.mem ((c.tc : Thread Cert.MixRefIdeal.nD Cert.MixRefIdeal.τ).loc Cert.MixRefIdeal.main_v54) = v1 c
          ∧ r.2.mem ((c.tc : Thread Cert.MixRefIdeal.nD Cert.MixRefIdeal.τ).loc Cert.MixRefIdeal.main_v56) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15))

def preserves_Ctx_CtxIdeal : Prop :=
  True

def algebraic_CtxIdeal_CtxRefIdeal_on_context_gate_columns [hCtxIdeal : Cert.CtxIdeal.Facts] [hCtxRefIdeal : Cert.CtxRefIdeal.Facts] [hOn_context_gate_columns : Cert.On_context_gate_columns.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)) →
    ∃ (v0 : (c : Dev Cert.CtxIdeal.nD) → Buf (Elt Ideal) ((c.tc : Thread Cert.CtxIdeal.nD Cert.CtxIdeal.τ).loc Cert.CtxIdeal.main_v14_0)) (v1 : (c : Dev Cert.CtxIdeal.nD) → Buf (Elt Ideal) ((c.tc : Thread Cert.CtxIdeal.nD Cert.CtxIdeal.τ).loc Cert.CtxIdeal.main_v14_1)) (v2 : (c : Dev Cert.CtxIdeal.nD) → Buf (Elt Ideal) ((c.tc : Thread Cert.CtxIdeal.nD Cert.CtxIdeal.τ).loc Cert.CtxIdeal.main_v14_2)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          (∀ i : (⟨2, ![4096, 1536]⟩ : Shape).Idx, (Cert.On_context_gate_columns.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).1 i = 1#1 → r.2.mem ((c.tc : Thread Cert.CtxIdeal.nD Cert.CtxIdeal.τ).loc Cert.CtxIdeal.main_v14_0) i = v0 c i)
          ∧ (∀ i : (⟨2, ![4096, 128]⟩ : Shape).Idx, (Cert.On_context_gate_columns.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).2.1 i = 1#1 → r.2.mem ((c.tc : Thread Cert.CtxIdeal.nD Cert.CtxIdeal.τ).loc Cert.CtxIdeal.main_v14_1) i = v1 c i)
          ∧ (∀ i : (⟨3, ![64, 16, 64]⟩ : Shape).Idx, (Cert.On_context_gate_columns.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).2.2 i = 1#1 → r.2.mem ((c.tc : Thread Cert.CtxIdeal.nD Cert.CtxIdeal.τ).loc Cert.CtxIdeal.main_v14_2) i = v2 c i)
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          (∀ i : (⟨2, ![4096, 1536]⟩ : Shape).Idx, (Cert.On_context_gate_columns.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).1 i = 1#1 → r.2.mem ((c.tc : Thread Cert.CtxRefIdeal.nD Cert.CtxRefIdeal.τ).loc Cert.CtxRefIdeal.main_v59) i = v0 c i)
          ∧ (∀ i : (⟨2, ![4096, 128]⟩ : Shape).Idx, (Cert.On_context_gate_columns.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).2.1 i = 1#1 → r.2.mem ((c.tc : Thread Cert.CtxRefIdeal.nD Cert.CtxRefIdeal.τ).loc Cert.CtxRefIdeal.main_v61) i = v1 c i)
          ∧ (∀ i : (⟨3, ![64, 16, 64]⟩ : Shape).Idx, (Cert.On_context_gate_columns.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).2.2 i = 1#1 → r.2.mem ((c.tc : Thread Cert.CtxRefIdeal.nD Cert.CtxRefIdeal.τ).loc Cert.CtxRefIdeal.main_v63) i = v2 c i)
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6))

def preserves_Mod_ModIdeal : Prop :=
  True

def algebraic_ModIdeal_ModRefIdeal_on_modulation_rows [hModIdeal : Cert.ModIdeal.Facts] [hModRefIdeal : Cert.ModRefIdeal.Facts] [hOn_modulation_rows : Cert.On_modulation_rows.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          (∀ i : (⟨2, ![24, 6144]⟩ : Shape).Idx, (Cert.On_modulation_rows.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) i = 1#1 → r.2.mem ((c.tc : Thread Cert.ModIdeal.nD Cert.ModIdeal.τ).loc Cert.ModIdeal.main_v4) i = v0 c i)
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          (∀ i : (⟨2, ![24, 6144]⟩ : Shape).Idx, (Cert.On_modulation_rows.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) i = 1#1 → r.2.mem ((c.tc : Thread Cert.ModRefIdeal.nD Cert.ModRefIdeal.τ).loc Cert.ModRefIdeal.main_v10) i = v0 c i)
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)) →
    ∃ (v0 : (c : Dev Cert.ShortIdeal.nD) → Buf (Elt Ideal) ((c.tc : Thread Cert.ShortIdeal.nD Cert.ShortIdeal.τ).loc Cert.ShortIdeal.main_v0)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v0) = v0 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v76) = v0 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1))

def Claim : Prop :=
  ∃ (hConv : Cert.Conv.Facts) (hConvIdeal : Cert.ConvIdeal.Facts) (hConvRefIdeal : Cert.ConvRefIdeal.Facts) (hProj : Cert.Proj.Facts) (hProjIdeal : Cert.ProjIdeal.Facts) (hProjRefIdeal : Cert.ProjRefIdeal.Facts) (hExperts : Cert.Experts.Facts) (hExpertsIdeal : Cert.ExpertsIdeal.Facts) (hExpertsRefIdeal : Cert.ExpertsRefIdeal.Facts) (hMix : Cert.Mix.Facts) (hMixIdeal : Cert.MixIdeal.Facts) (hMixRefIdeal : Cert.MixRefIdeal.Facts) (hCtx : Cert.Ctx.Facts) (hCtxIdeal : Cert.CtxIdeal.Facts) (hCtxRefIdeal : Cert.CtxRefIdeal.Facts) (hMod : Cert.Mod.Facts) (hModIdeal : Cert.ModIdeal.Facts) (hModRefIdeal : Cert.ModRefIdeal.Facts) (hShort : Cert.Short.Facts) (hShortIdeal : Cert.ShortIdeal.Facts) (hShortRefIdeal : Cert.ShortRefIdeal.Facts) (hPre_tables_in_bounds : Cert.Pre_tables_in_bounds.Facts) (hPre_finite : Cert.Pre_finite.Facts) (hOn_gate_columns : Cert.On_gate_columns.Facts) (hOn_without_scores : Cert.On_without_scores.Facts) (hOn_context_gate_columns : Cert.On_context_gate_columns.Facts) (hOn_modulation_rows : Cert.On_modulation_rows.Facts),
    quiescent_Conv (hConv := hConv)
    ∧ quiescent_ConvIdeal (hConvIdeal := hConvIdeal)
    ∧ quiescent_ConvRefIdeal (hConvRefIdeal := hConvRefIdeal)
    ∧ quiescent_Proj (hProj := hProj)
    ∧ quiescent_ProjIdeal (hProjIdeal := hProjIdeal)
    ∧ quiescent_ProjRefIdeal (hProjRefIdeal := hProjRefIdeal)
    ∧ quiescent_Experts (hExperts := hExperts) (hPre_tables_in_bounds := hPre_tables_in_bounds)
    ∧ quiescent_ExpertsIdeal (hExpertsIdeal := hExpertsIdeal) (hPre_tables_in_bounds := hPre_tables_in_bounds)
    ∧ quiescent_ExpertsRefIdeal (hExpertsRefIdeal := hExpertsRefIdeal)
    ∧ quiescent_ExpertsRefIdeal_pre_tables_in_bounds (hExpertsRefIdeal := hExpertsRefIdeal) (hPre_tables_in_bounds := hPre_tables_in_bounds)
    ∧ quiescent_Mix (hMix := hMix)
    ∧ quiescent_MixIdeal (hMixIdeal := hMixIdeal)
    ∧ quiescent_MixIdeal_pre_finite (hMixIdeal := hMixIdeal) (hPre_finite := hPre_finite)
    ∧ quiescent_MixRefIdeal (hMixRefIdeal := hMixRefIdeal)
    ∧ quiescent_MixRefIdeal_pre_finite (hMixRefIdeal := hMixRefIdeal) (hPre_finite := hPre_finite)
    ∧ quiescent_Ctx (hCtx := hCtx)
    ∧ quiescent_CtxIdeal (hCtxIdeal := hCtxIdeal)
    ∧ quiescent_CtxRefIdeal (hCtxRefIdeal := hCtxRefIdeal)
    ∧ quiescent_Mod (hMod := hMod)
    ∧ quiescent_ModIdeal (hModIdeal := hModIdeal)
    ∧ quiescent_ModRefIdeal (hModRefIdeal := hModRefIdeal)
    ∧ quiescent_Short (hShort := hShort)
    ∧ quiescent_ShortIdeal (hShortIdeal := hShortIdeal)
    ∧ quiescent_ShortRefIdeal (hShortRefIdeal := hShortRefIdeal)
    ∧ preserves_Conv_ConvIdeal
    ∧ algebraic_ConvIdeal_ConvRefIdeal (hConvIdeal := hConvIdeal) (hConvRefIdeal := hConvRefIdeal)
    ∧ preserves_Proj_ProjIdeal
    ∧ algebraic_ProjIdeal_ProjRefIdeal_on_gate_columns (hProjIdeal := hProjIdeal) (hProjRefIdeal := hProjRefIdeal) (hOn_gate_columns := hOn_gate_columns)
    ∧ preserves_Experts_ExpertsIdeal
    ∧ algebraic_ExpertsIdeal_ExpertsRefIdeal (hExpertsIdeal := hExpertsIdeal) (hExpertsRefIdeal := hExpertsRefIdeal) (hPre_tables_in_bounds := hPre_tables_in_bounds)
    ∧ preserves_Mix_MixIdeal
    ∧ algebraic_MixIdeal_MixRefIdeal_on_without_scores (hMixIdeal := hMixIdeal) (hMixRefIdeal := hMixRefIdeal) (hOn_without_scores := hOn_without_scores)
    ∧ algebraic_MixIdeal_MixRefIdeal_pre_finite (hMixIdeal := hMixIdeal) (hMixRefIdeal := hMixRefIdeal) (hPre_finite := hPre_finite)
    ∧ preserves_Ctx_CtxIdeal
    ∧ algebraic_CtxIdeal_CtxRefIdeal_on_context_gate_columns (hCtxIdeal := hCtxIdeal) (hCtxRefIdeal := hCtxRefIdeal) (hOn_context_gate_columns := hOn_context_gate_columns)
    ∧ preserves_Mod_ModIdeal
    ∧ algebraic_ModIdeal_ModRefIdeal_on_modulation_rows (hModIdeal := hModIdeal) (hModRefIdeal := hModRefIdeal) (hOn_modulation_rows := hOn_modulation_rows)
    ∧ preserves_Short_ShortIdeal
    ∧ algebraic_ShortIdeal_ShortRefIdeal (hShortIdeal := hShortIdeal) (hShortRefIdeal := hShortRefIdeal)
-- ==== On_context_gate_columns.lean ====
abbrev S16x256x1024 : Shape := ⟨3, ![16, 256, 1024]⟩
abbrev S1x1x1024 : Shape := ⟨3, ![1, 1, 1024]⟩
abbrev S1024 : Shape := ⟨1, ![1024]⟩
abbrev S1024x3088 : Shape := ⟨2, ![1024, 3088]⟩
abbrev S2x4 : Shape := ⟨2, ![2, 4]⟩
abbrev S_ : Shape := ⟨0, ![]⟩
abbrev S4096x1536 : Shape := ⟨2, ![4096, 1536]⟩
abbrev S4096x128 : Shape := ⟨2, ![4096, 128]⟩
abbrev S64x16x64 : Shape := ⟨3, ![64, 16, 64]⟩

class Facts : Prop where
  bcast_S_S4096x1536 : S_.BroadcastsInDim S4096x1536 (![] : Fin 0 → Fin S4096x1536.rank)
  bcast_S_S4096x128 : S_.BroadcastsInDim S4096x128 (![] : Fin 0 → Fin S4096x128.rank)
  bcast_S_S64x16x64 : S_.BroadcastsInDim S64x16x64 (![] : Fin 0 → Fin S64x16x64.rank)

variable [Facts]

def fn {F : FTy → Type} [FloatOps F] (main_arg0 : FVec F S16x256x1024 .f32) (main_arg1 : FVec F S1x1x1024 .f32) (main_arg2 : FVec F S1x1x1024 .f32) (main_arg3 : FVec F S1024 .f32) (main_arg4 : FVec F S1024x3088 .f32) (main_arg5 : FVec F S2x4 .f32) (main_arg6 : FVec F S2x4 .f32) : IVec S4096x1536 1 × IVec S4096x128 1 × IVec S64x16x64 1 :=
  let main_c : IVec S_ 1 := constantI S_ 1 1#1
  let main_v0 : IVec S4096x1536 1 := broadcastInDim S4096x1536 ![] bcast_S_S4096x1536 main_c
  let main_v1 : IVec S4096x128 32 := iotaInDim S4096x128 32 1
  let main_c_0 : IVec S_ 32 := constantI S_ 32 16#32
  let main_v2 : IVec S4096x128 32 := broadcastInDim S4096x128 ![] bcast_S_S4096x128 main_c_0
  let main_v3 : IVec S4096x128 1 := cmpi .slt main_v1 main_v2
  let main_c_1 : IVec S_ 1 := constantI S_ 1 1#1
  let main_v4 : IVec S64x16x64 1 := broadcastInDim S64x16x64 ![] bcast_S_S64x16x64 main_c_1
  (main_v0, main_v3, main_v4)
-- ==== On_gate_columns.lean ====
abbrev S16x2048x1024 : Shape := ⟨3, ![16, 2048, 1024]⟩
abbrev S16x1x1024 : Shape := ⟨3, ![16, 1, 1024]⟩
abbrev S1024 : Shape := ⟨1, ![1024]⟩
abbrev S1024x3088 : Shape := ⟨2, ![1024, 3088]⟩
abbrev S2x4 : Shape := ⟨2, ![2, 4]⟩
abbrev S_ : Shape := ⟨0, ![]⟩
abbrev S32768x1536 : Shape := ⟨2, ![32768, 1536]⟩
abbrev S32768x128 : Shape := ⟨2, ![32768, 128]⟩
abbrev S512x16x64 : Shape := ⟨3, ![512, 16, 64]⟩
abbrev S32768x512 : Shape := ⟨2, ![32768, 512]⟩

class Facts : Prop where
  bcast_S_S32768x1536 : S_.BroadcastsInDim S32768x1536 (![] : Fin 0 → Fin S32768x1536.rank)
  bcast_S_S32768x128 : S_.BroadcastsInDim S32768x128 (![] : Fin 0 → Fin S32768x128.rank)
  bcast_S_S512x16x64 : S_.BroadcastsInDim S512x16x64 (![] : Fin 0 → Fin S512x16x64.rank)
  bcast_S_S32768x512 : S_.BroadcastsInDim S32768x512 (![] : Fin 0 → Fin S32768x512.rank)

variable [Facts]

def fn {F : FTy → Type} [FloatOps F] (main_arg0 : FVec F S16x2048x1024 .f32) (main_arg1 : FVec F S16x1x1024 .f32) (main_arg2 : FVec F S16x1x1024 .f32) (main_arg3 : FVec F S1024 .f32) (main_arg4 : FVec F S1024x3088 .f32) (main_arg5 : FVec F S2x4 .f32) (main_arg6 : FVec F S2x4 .f32) : IVec S32768x1536 1 × IVec S32768x128 1 × IVec S512x16x64 1 × IVec S32768x512 1 × IVec S32768x512 1 :=
  let main_c : IVec S_ 1 := constantI S_ 1 1#1
  let main_v0 : IVec S32768x1536 1 := broadcastInDim S32768x1536 ![] bcast_S_S32768x1536 main_c
  let main_v1 : IVec S32768x128 32 := iotaInDim S32768x128 32 1
  let main_c_0 : IVec S_ 32 := constantI S_ 32 16#32
  let main_v2 : IVec S32768x128 32 := broadcastInDim S32768x128 ![] bcast_S_S32768x128 main_c_0
  let main_v3 : IVec S32768x128 1 := cmpi .slt main_v1 main_v2
  let main_c_1 : IVec S_ 1 := constantI S_ 1 1#1
  let main_v4 : IVec S512x16x64 1 := broadcastInDim S512x16x64 ![] bcast_S_S512x16x64 main_c_1
  let main_c_2 : IVec S_ 1 := constantI S_ 1 1#1
  let main_v5 : IVec S32768x512 1 := broadcastInDim S32768x512 ![] bcast_S_S32768x512 main_c_2
  let main_c_3 : IVec S_ 1 := constantI S_ 1 1#1
  let main_v6 : IVec S32768x512 1 := broadcastInDim S32768x512 ![] bcast_S_S32768x512 main_c_3
  (main_v0, main_v3, main_v4, main_v5, main_v6)
-- ==== On_modulation_rows.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S24x6144 : Shape := ⟨2, ![24, 6144]⟩
abbrev S_ : Shape := ⟨0, ![]⟩

class Facts : Prop where
  bcast_S_S24x6144 : S_.BroadcastsInDim S24x6144 (![] : Fin 0 → Fin S24x6144.rank)

variable [Facts]

def fn {F : FTy → Type} [FloatOps F] (main_arg0 : FVec F S16x1024 .f32) (main_arg1 : FVec F S1024 .f32) (main_arg2 : FVec F S1024x6144 .f32) (main_arg3 : FVec F S6144 .f32) : IVec S24x6144 1 :=
  let main_v0 : IVec S24x6144 32 := iotaInDim S24x6144 32 0
  let main_c : IVec S_ 32 := constantI S_ 32 17#32
  let main_v1 : IVec S24x6144 32 := broadcastInDim S24x6144 ![] bcast_S_S24x6144 main_c
  let main_v2 : IVec S24x6144 1 := cmpi .slt main_v0 main_v1
  main_v2
-- ==== On_without_scores.lean ====
abbrev S32768x512 : Shape := ⟨2, ![32768, 512]⟩
abbrev S16x2048x1024 : Shape := ⟨3, ![16, 2048, 1024]⟩
abbrev S16x1x1024 : Shape := ⟨3, ![16, 1, 1024]⟩
abbrev S128 : Shape := ⟨1, ![128]⟩
abbrev S1024x1024 : Shape := ⟨2, ![1024, 1024]⟩
abbrev S1024 : Shape := ⟨1, ![1024]⟩
abbrev S1024x64 : Shape := ⟨2, ![1024, 64]⟩
abbrev S1024x256 : Shape := ⟨2, ![1024, 256]⟩
abbrev S256x1024 : Shape := ⟨2, ![256, 1024]⟩
abbrev S_ : Shape := ⟨0, ![]⟩
abbrev S32768x1024 : Shape := ⟨2, ![32768, 1024]⟩
abbrev S64x32768 : Shape := ⟨2, ![64, 32768]⟩

class Facts : Prop where
  bcast_S_S32768x1024 : S_.BroadcastsInDim S32768x1024 (![] : Fin 0 → Fin S32768x1024.rank)
  bcast_S_S64x32768 : S_.BroadcastsInDim S64x32768 (![] : Fin 0 → Fin S64x32768.rank)

variable [Facts]

def fn {F : FTy → Type} [FloatOps F] (main_arg0 : FVec F S32768x512 .f32) (main_arg1 : FVec F S32768x512 .f32) (main_arg2 : FVec F S32768x512 .f32) (main_arg3 : FVec F S32768x512 .f32) (main_arg4 : FVec F S16x2048x1024 .f32) (main_arg5 : FVec F S16x1x1024 .f32) (main_arg6 : FVec F S16x1x1024 .f32) (main_arg7 : FVec F S16x1x1024 .f32) (main_arg8 : FVec F S16x1x1024 .f32) (main_arg9 : FVec F S128 .f32) (main_arg10 : FVec F S1024x1024 .f32) (main_arg11 : FVec F S1024 .f32) (main_arg12 : FVec F S1024x64 .f32) (main_arg13 : FVec F S1024x256 .f32) (main_arg14 : FVec F S1024x256 .f32) (main_arg15 : FVec F S256x1024 .f32) : IVec S32768x1024 1 × IVec S32768x1024 1 × IVec S64x32768 1 :=
  let main_c : IVec S_ 1 := constantI S_ 1 1#1
  let main_v0 : IVec S32768x1024 1 := broadcastInDim S32768x1024 ![] bcast_S_S32768x1024 main_c
  let main_c_0 : IVec S_ 1 := constantI S_ 1 1#1
  let main_v1 : IVec S32768x1024 1 := broadcastInDim S32768x1024 ![] bcast_S_S32768x1024 main_c_0
  let main_c_1 : IVec S_ 1 := constantI S_ 1 0#1
  let main_v2 : IVec S64x32768 1 := broadcastInDim S64x32768 ![] bcast_S_S64x32768 main_c_1
  (main_v0, main_v1, main_v2)
-- ==== Pre_finite.lean ====
abbrev S32768x512 : Shape := ⟨2, ![32768, 512]⟩
abbrev S16x2048x1024 : Shape := ⟨3, ![16, 2048, 1024]⟩
abbrev S16x1x1024 : Shape := ⟨3, ![16, 1, 1024]⟩
abbrev S128 : Shape := ⟨1, ![128]⟩
abbrev S1024x1024 : Shape := ⟨2, ![1024, 1024]⟩
abbrev S1024 : Shape := ⟨1, ![1024]⟩
abbrev S1024x64 : Shape := ⟨2, ![1024, 64]⟩
abbrev S1024x256 : Shape := ⟨2, ![1024, 256]⟩
abbrev S256x1024 : Shape := ⟨2, ![256, 1024]⟩
abbrev S_ : Shape := ⟨0, ![]⟩

class Facts : Prop where
  bcast_S_S32768x512 : S_.BroadcastsInDim S32768x512 (![] : Fin 0 → Fin S32768x512.rank)
  bcast_S_S16x2048x1024 : S_.BroadcastsInDim S16x2048x1024 (![] : Fin 0 → Fin S16x2048x1024.rank)
  bcast_S_S16x1x1024 : S_.BroadcastsInDim S16x1x1024 (![] : Fin 0 → Fin S16x1x1024.rank)
  bcast_S_S128 : S_.BroadcastsInDim S128 (![] : Fin 0 → Fin S128.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x64 : S_.BroadcastsInDim S1024x64 (![] : Fin 0 → Fin S1024x64.rank)

variable [Facts]

def fn_part1 {F : FTy → Type} [FloatOps F] (main_arg6 : FVec F S16x1x1024 .f32) (main_arg7 : FVec F S16x1x1024 .f32) (main_arg9 : FVec F S128 .f32) (main_arg10 : FVec F S1024x1024 .f32) (main_arg11 : FVec F S1024 .f32) (main_arg12 : FVec F S1024x64 .f32) (main_v2 : IVec S32768x512 1) (main_v5 : IVec S32768x512 1) (main_v8 : IVec S32768x512 1) (main_v11 : IVec S32768x512 1) (main_v14 : IVec S16x2048x1024 1) (main_v17 : IVec S16x1x1024 1) : IVec S32768x512 1 × IVec S32768x512 1 × IVec S32768x512 1 × IVec S32768x512 1 × IVec S16x2048x1024 1 × IVec S16x1x1024 1 × IVec S16x1x1024 1 × IVec S16x1x1024 1 × IVec S128 1 × IVec S1024x1024 1 × IVec S1024 1 × IVec S1024x64 1 :=
  let main_v18 : FVec F S16x1x1024 .f32 := Host.absf main_arg6
  let main_cst_5 : FVec F S_ .f32 := constant S_ .f32 0x7F800000#32
  let main_v19 : FVec F S16x1x1024 .f32 := broadcastInDim S16x1x1024 ![] bcast_S_S16x1x1024 main_cst_5
  let main_v20 : IVec S16x1x1024 1 := cmpf .olt main_v18 main_v19
  let main_v21 : FVec F S16x1x1024 .f32 := Host.absf main_arg7
  let main_cst_6 : FVec F S_ .f32 := constant S_ .f32 0x7F800000#32
  let main_v22 : FVec F S16x1x1024 .f32 := broadcastInDim S16x1x1024 ![] bcast_S_S16x1x1024 main_cst_6
  let main_v23 : IVec S16x1x1024 1 := cmpf .olt main_v21 main_v22
  let main_v24 : FVec F S128 .f32 := Host.absf main_arg9
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S1024x1024 .f32 := Host.absf main_arg10
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S1024 .f32 := Host.absf main_arg11
  let main_cst_9 : FVec F S_ .f32 := constant S_ .f32 0x7F800000#32
  let main_v31 : FVec F S1024 .f32 := broadcastInDim S1024 ![] bcast_S_S1024 main_cst_9
  let main_v32 : IVec S1024 1 := cmpf .olt main_v30 main_v31
  let main_v33 : FVec F S1024x64 .f32 := Host.absf main_arg12
  let main_cst_10 : FVec F S_ .f32 := constant S_ .f32 0x7F800000#32
  let main_v34 : FVec F S1024x64 .f32 := broadcastInDim S1024x64 ![] bcast_S_S1024x64 main_cst_10
  let main_v35 : IVec S1024x64 1 := cmpf .olt main_v33 main_v34
  (main_v2, main_v5, main_v8, main_v11, main_v14, main_v17, main_v20, main_v23, main_v26, main_v29, main_v32, main_v35)

def fn {F : FTy → Type} [FloatOps F] (main_arg0 : FVec F S32768x512 .f32) (main_arg1 : FVec F S32768x512 .f32) (main_arg2 : FVec F S32768x512 .f32) (main_arg3 : FVec F S32768x512 .f32) (main_arg4 : FVec F S16x2048x1024 .f32) (main_arg5 : FVec F S16x1x1024 .f32) (main_arg6 : FVec F S16x1x1024 .f32) (main_arg7 : FVec F S16x1x1024 .f32) (main_arg8 : FVec F S16x1x1024 .f32) (main_arg9 : FVec F S128 .f32) (main_arg10 : FVec F S1024x1024 .f32) (main_arg11 : FVec F S1024 .f32) (main_arg12 : FVec F S1024x64 .f32) (main_arg13 : FVec F S1024x256 .f32) (main_arg14 : FVec F S1024x256 .f32) (main_arg15 : FVec F S256x1024 .f32) : IVec S32768x512 1 × IVec S32768x512 1 × IVec S32768x512 1 × IVec S32768x512 1 × IVec S16x2048x1024 1 × IVec S16x1x1024 1 × IVec S16x1x1024 1 × IVec S16x1x1024 1 × IVec S128 1 × IVec S1024x1024 1 × IVec S1024 1 × IVec S1024x64 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S32768x512 .f32 := Host.absf main_arg2
  let main_cst_1 : FVec F S_ .f32 := constant S_ .f32 0x7F800000#32
  let main_v7 : FVec F S32768x512 .f32 := broadcastInDim S32768x512 ![] bcast_S_S32768x512 main_cst_1
  let main_v8 : IVec S32768x512 1 := cmpf .olt main_v6 main_v7
  let main_v9 : FVec F S32768x512 .f32 := Host.absf main_arg3
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_v12 : FVec F S16x2048x1024 .f32 := Host.absf main_arg4
  let main_cst_3 : FVec F S_ .f32 := constant S_ .f32 0x7F800000#32
  let main_v13 : FVec F S16x2048x1024 .f32 := broadcastInDim S16x2048x1024 ![] bcast_S_S16x2048x1024 main_cst_3
  let main_v14 : IVec S16x2048x1024 1 := cmpf .olt main_v12 main_v13
  let main_v15 : FVec F S16x1x1024 .f32 := Host.absf main_arg5
  let main_cst_4 : FVec F S_ .f32 := constant S_ .f32 0x7F800000#32
  let main_v16 : FVec F S16x1x1024 .f32 := broadcastInDim S16x1x1024 ![] bcast_S_S16x1x1024 main_cst_4
  let main_v17 : IVec S16x1x1024 1 := cmpf .olt main_v15 main_v16
  fn_part1 (F := F) main_arg6 main_arg7 main_arg9 main_arg10 main_arg11 main_arg12 main_v2 main_v5 main_v8 main_v11 main_v14 main_v17
-- ==== Pre_tables_in_bounds.lean ====
abbrev S449 : Shape := ⟨1, ![449]⟩
abbrev S1 : Shape := ⟨1, ![1]⟩
abbrev S229888x512 : Shape := ⟨2, ![229888, 512]⟩
abbrev S64x1024x256 : Shape := ⟨3, ![64, 1024, 256]⟩
abbrev S64x256x1024 : Shape := ⟨3, ![64, 256, 1024]⟩
abbrev S_ : Shape := ⟨0, ![]⟩

class Facts : Prop where
  bcast_S_S449 : S_.BroadcastsInDim S449 (![] : Fin 0 → Fin S449.rank)

variable [Facts]

def fn {F : FTy → Type} [FloatOps F] (main_arg0 : IVec S449 32) (main_arg1 : IVec S449 32) (main_arg2 : IVec S1 32) (main_arg3 : IVec S229888x512 32) (main_arg4 : FVec F S64x1024x256 .f32) (main_arg5 : FVec F S64x1024x256 .f32) (main_arg6 : FVec F S64x256x1024 .f32) : IVec S449 1 :=
  let main_c : IVec S_ 32 := constantI S_ 32 0#32
  let main_v0 : IVec S449 32 := broadcastInDim S449 ![] bcast_S_S449 main_c
  let main_v1 : IVec S449 1 := cmpi .sge main_arg0 main_v0
  let main_c_0 : IVec S_ 32 := constantI S_ 32 64#32
  let main_v2 : IVec S449 32 := broadcastInDim S449 ![] bcast_S_S449 main_c_0
  let main_v3 : IVec S449 1 := cmpi .slt main_arg0 main_v2
  let main_v4 : IVec S449 1 := andi main_v1 main_v3
  let main_c_1 : IVec S_ 32 := constantI S_ 32 0#32
  let main_v5 : IVec S449 32 := broadcastInDim S449 ![] bcast_S_S449 main_c_1
  let main_v6 : IVec S449 1 := cmpi .sge main_arg1 main_v5
  let main_v7 : IVec S449 1 := andi main_v4 main_v6
  let main_c_2 : IVec S_ 32 := constantI S_ 32 449#32
  let main_v8 : IVec S449 32 := broadcastInDim S449 ![] bcast_S_S449 main_c_2
  let main_v9 : IVec S449 1 := cmpi .slt main_arg1 main_v8
  let main_v10 : IVec S449 1 := andi main_v7 main_v9
  main_v10
-- ==== Conv.lean ====
abbrev S16x2048x512 : Shape := ⟨3, ![16, 2048, 512]⟩
abbrev S31x512 : Shape := ⟨2, ![31, 512]⟩
abbrev S512 : Shape := ⟨1, ![512]⟩
abbrev S32768x512 : Shape := ⟨2, ![32768, 512]⟩
abbrev S1x512 : Shape := ⟨2, ![1, 512]⟩
abbrev S2048x512 : Shape := ⟨2, ![2048, 512]⟩
abbrev S3968x512 : Shape := ⟨2, ![3968, 512]⟩
abbrev S960x512 : Shape := ⟨2, ![960, 512]⟩
abbrev S32x512 : Shape := ⟨2, ![32, 512]⟩
abbrev S32 : Shape := ⟨1, ![32]⟩
abbrev S32x1 : Shape := ⟨2, ![32, 1]⟩

abbrev nBuf : Space → Nat
  | .hbm => 10
  | .vmem => 9
  | .smem => 0
  | _ => 0

abbrev bufTy : (tb : Table) → Fin (tcTables nBuf tb) → BufTy
  | .hbm, ⟨0, _⟩ => ⟨S16x2048x512, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S32768x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S3968x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v13 : BitVec 32 := Scalar.addi c0_i32 c64_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  v14
def k0_off1 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v18 : BitVec 32 := Scalar.addi v15 c0_i32_10
  let v19 : Index := Scalar.indexCast v18
  let c0_11 : Index := 0#32
  ![v19.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v264 : Index := Scalar.indexCast v15
  let c0_84 : Index := 0#32
  ![v264.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvRefIdeal.lean ====
abbrev S16x2048x512 : Shape := ⟨3, ![16, 2048, 512]⟩
abbrev S31x512 : Shape := ⟨2, ![31, 512]⟩
abbrev S512 : Shape := ⟨1, ![512]⟩
abbrev S16x32x64x512 : Shape := ⟨4, ![16, 32, 64, 512]⟩
abbrev S_ : Shape := ⟨0, ![]⟩
abbrev S16x62x64x512 : Shape := ⟨4, ![16, 62, 64, 512]⟩
abbrev S1x512 : Shape := ⟨2, ![1, 512]⟩
abbrev S1x1x1x512 : Shape := ⟨4, ![1, 1, 1, 512]⟩
abbrev S1x1x512 : Shape := ⟨3, ![1, 1, 512]⟩
abbrev S16x2048 : Shape := ⟨2, ![16, 2048]⟩
abbrev S16x2048x1 : Shape := ⟨3, ![16, 2048, 1]⟩
abbrev S32768x512 : Shape := ⟨2, ![32768, 512]⟩

abbrev nBuf : Space → Nat
  | .hbm => 271
  | .vmem => 0
  | .smem => 0
  | _ => 0

abbrev hbmTy0_0 (i : Nat) : BufTy := match i % 128 with
  | 0 => ⟨S16x2048x512, .f32⟩
  | 1 => ⟨S31x512, .f32⟩
  | 2 => ⟨S512, .f32⟩
  | 3 => ⟨S512, .f32⟩
  | 4 => ⟨S512, .f32⟩
  | 5 => ⟨S16x32x64x512, .f32⟩
  | 6 => ⟨S_, .i32⟩
  | 7 => ⟨S_, .f32⟩
  | 8 => ⟨S16x62x64x512, .f32⟩
  | 9 => ⟨S_, .f32⟩
  | 10 => ⟨S16x32x64x512, .f32⟩
  | 11 => ⟨S16x32x64x512, .f32⟩
  | 12 => ⟨S1x512, .f32⟩
  | 13 => ⟨S512, .f32⟩
  | 14 => ⟨S1x1x1x512, .f32⟩
  | 15 => ⟨S16x32x64x512, .f32⟩
  | 16 => ⟨S16x32x64x512, .f32⟩
  | 17 => ⟨S16x32x64x512, .f32⟩
  | 18 => ⟨S16x32x64x512, .f32⟩
  | 19 => ⟨S1x512, .f32⟩
  | 20 => ⟨S512, .f32⟩
  | 21 => ⟨S1x1x1x512, .f32⟩
  | 22 => ⟨S16x32x64x512, .f32⟩
  | 23 => ⟨S16x32x64x512, .f32⟩
  | 24 => ⟨S16x32x64x512, .f32⟩
  | 25 => ⟨S16x32x64x512, .f32⟩
  | 26 => ⟨S1x512, .f32⟩
  | 27 => ⟨S512, .f32⟩
  | 28 => ⟨S1x1x1x512, .f32⟩
  | 29 => ⟨S16x32x64x512, .f32⟩
  | 30 => ⟨S16x32x64x512, .f32⟩
  | 31 => ⟨S16x32x64x512, .f32⟩
  | 32 => ⟨S16x32x64x512, .f32⟩
  | 33 => ⟨S1x512, .f32⟩
  | 34 => ⟨S512, .f32⟩
  | 35 => ⟨S1x1x1x512, .f32⟩
  | 36 => ⟨S16x32x64x512, .f32⟩
  | 37 => ⟨S16x32x64x512, .f32⟩
  | 38 => ⟨S16x32x64x512, .f32⟩
  | 39 => ⟨S16x32x64x512, .f32⟩
  | 40 => ⟨S1x512, .f32⟩
  | 41 => ⟨S512, .f32⟩
  | 42 => ⟨S1x1x1x512, .f32⟩
  | 43 => ⟨S16x32x64x512, .f32⟩
  | 44 => ⟨S16x32x64x512, .f32⟩
  | 45 => ⟨S16x32x64x512, .f32⟩
  | 46 => ⟨S16x32x64x512, .f32⟩
  | 47 => ⟨S1x512, .f32⟩
  | 48 => ⟨S512, .f32⟩
  | 49 => ⟨S1x1x1x512, .f32⟩
  | 50 => ⟨S16x32x64x512, .f32⟩
  | 51 => ⟨S16x32x64x512, .f32⟩
  | 52 => ⟨S16x32x64x512, .f32⟩
  | 53 => ⟨S16x32x64x512, .f32⟩
  | 54 => ⟨S1x512, .f32⟩
  | 55 => ⟨S512, .f32⟩
  | 56 => ⟨S1x1x1x512, .f32⟩
  | 57 => ⟨S16x32x64x512, .f32⟩
  | 58 => ⟨S16x32x64x512, .f32⟩
  | 59 => ⟨S16x32x64x512, .f32⟩
  | 60 => ⟨S16x32x64x512, .f32⟩
  | 61 => ⟨S1x512, .f32⟩
  | 62 => ⟨S512, .f32⟩
  | 63 => ⟨S1x1x1x512, .f32⟩
  | 64 => ⟨S16x32x64x512, .f32⟩
  | 65 => ⟨S16x32x64x512, .f32⟩
  | 66 => ⟨S16x32x64x512, .f32⟩
  | 67 => ⟨S16x32x64x512, .f32⟩
  | 68 => ⟨S1x512, .f32⟩
  | 69 => ⟨S512, .f32⟩
  | 70 => ⟨S1x1x1x512, .f32⟩
  | 71 => ⟨S16x32x64x512, .f32⟩
  | 72 => ⟨S16x32x64x512, .f32⟩
  | 73 => ⟨S16x32x64x512, .f32⟩
  | 74 => ⟨S16x32x64x512, .f32⟩
  | 75 => ⟨S1x512, .f32⟩
  | 76 => ⟨S512, .f32⟩
  | 77 => ⟨S1x1x1x512, .f32⟩
  | 78 => ⟨S16x32x64x512, .f32⟩
  | 79 => ⟨S16x32x64x512, .f32⟩
  | 80 => ⟨S16x32x64x512, .f32⟩
  | 81 => ⟨S16x32x64x512, .f32⟩
  | 82 => ⟨S1x512, .f32⟩
  | 83 => ⟨S512, .f32⟩
  | 84 => ⟨S1x1x1x512, .f32⟩
  | 85 => ⟨S16x32x64x512, .f32⟩
  | 86 => ⟨S16x32x64x512, .f32⟩
  | 87 => ⟨S16x32x64x512, .f32⟩
  | 88 => ⟨S16x32x64x512, .f32⟩
  | 89 => ⟨S1x512, .f32⟩
  | 90 => ⟨S512, .f32⟩
  | 91 => ⟨S1x1x1x512, .f32⟩
  | 92 => ⟨S16x32x64x512, .f32⟩
  | 93 => ⟨S16x32x64x512, .f32⟩
  | 94 => ⟨S16x32x64x512, .f32⟩
  | 95 => ⟨S16x32x64x512, .f32⟩
  | 96 => ⟨S1x512, .f32⟩
  | 97 => ⟨S512, .f32⟩
  | 98 => ⟨S1x1x1x512, .f32⟩
  | 99 => ⟨S16x32x64x512, .f32⟩
  | 100 => ⟨S16x32x64x512, .f32⟩
  | 101 => ⟨S16x32x64x512, .f32⟩
  | 102 => ⟨S16x32x64x512, .f32⟩
  | 103 => ⟨S1x512, .f32⟩
  | 104 => ⟨S512, .f32⟩
  | 105 => ⟨S1x1x1x512, .f32⟩
  | 106 => ⟨S16x32x64x512, .f32⟩
  | 107 => ⟨S16x32x64x512, .f32⟩
  | 108 => ⟨S16x32x64x512, .f32⟩
  | 109 => ⟨S16x32x64x512, .f32⟩
  | 110 => ⟨S1x512, .f32⟩
  | 111 => ⟨S512, .f32⟩
  | 112 => ⟨S1x1x1x512, .f32⟩
  | 113 => ⟨S16x32x64x512, .f32⟩
  | 114 => ⟨S16x32x64x512, .f32⟩
  | 115 => ⟨S16x32x64x512, .f32⟩
  | 116 => ⟨S16x32x64x512, .f32⟩
  | 117 => ⟨S1x512, .f32⟩
  | 118 => ⟨S512, .f32⟩
  | 119 => ⟨S1x1x1x512, .f32⟩
  | 120 => ⟨S16x32x64x512, .f32⟩
  | 121 => ⟨S16x32x64x512, .f32⟩
  | 122 => ⟨S16x32x64x512, .f32⟩
  | 123 => ⟨S16x32x64x512, .f32⟩
  | 124 => ⟨S1x512, .f32⟩
  | 125 => ⟨S512, .f32⟩
  | 126 => ⟨S1x1x1x512, .f32⟩
  | 127 => ⟨S16x32x64x512, .f32⟩
  | _ => ⟨S16x2048x512, .f32⟩

abbrev hbmTy0_1 (i : Nat) : BufTy := match i % 128 with
  | 0 => ⟨S16x32x64x512, .f32⟩
  | 1 => ⟨S16x32x64x512, .f32⟩
  | 2 => ⟨S16x32x64x512, .f32⟩
  | 3 => ⟨S1x512, .f32⟩
  | 4 => ⟨S512, .f32⟩
  | 5 => ⟨S1x1x1x512, .f32⟩
  | 6 => ⟨S16x32x64x512, .f32⟩
  | 7 => ⟨S16x32x64x512, .f32⟩
  | 8 => ⟨S16x32x64x512, .f32⟩
  | 9 => ⟨S16x32x64x512, .f32⟩
  | 10 => ⟨S1x512, .f32⟩
  | 11 => ⟨S512, .f32⟩
  | 12 => ⟨S1x1x1x512, .f32⟩
  | 13 => ⟨S16x32x64x512, .f32⟩
  | 14 => ⟨S16x32x64x512, .f32⟩
  | 15 => ⟨S16x32x64x512, .f32⟩
  | 16 => ⟨S16x32x64x512, .f32⟩
  | 17 => ⟨S1x512, .f32⟩
  | 18 => ⟨S512, .f32⟩
  | 19 => ⟨S1x1x1x512, .f32⟩
  | 20 => ⟨S16x32x64x512, .f32⟩
  | 21 => ⟨S16x32x64x512, .f32⟩
  | 22 => ⟨S16x32x64x512, .f32⟩
  | 23 => ⟨S16x32x64x512, .f32⟩
  | 24 => ⟨S1x512, .f32⟩
  | 25 => ⟨S512, .f32⟩
  | 26 => ⟨S1x1x1x512, .f32⟩
  | 27 => ⟨S16x32x64x512, .f32⟩
  | 28 => ⟨S16x32x64x512, .f32⟩
  | 29 => ⟨S16x32x64x512, .f32⟩
  | 30 => ⟨S16x32x64x512, .f32⟩
  | 31 => ⟨S1x512, .f32⟩
  | 32 => ⟨S512, .f32⟩
  | 33 => ⟨S1x1x1x512, .f32⟩
  | 34 => ⟨S16x32x64x512, .f32⟩
  | 35 => ⟨S16x32x64x512, .f32⟩
  | 36 => ⟨S16x32x64x512, .f32⟩
  | 37 => ⟨S16x32x64x512, .f32⟩
  | 38 => ⟨S1x512, .f32⟩
  | 39 => ⟨S512, .f32⟩
  | 40 => ⟨S1x1x1x512, .f32⟩
  | 41 => ⟨S16x32x64x512, .f32⟩
  | 42 => ⟨S16x32x64x512, .f32⟩
  | 43 => ⟨S16x32x64x512, .f32⟩
  | 44 => ⟨S16x32x64x512, .f32⟩
  | 45 => ⟨S1x512, .f32⟩
  | 46 => ⟨S512, .f32⟩
  | 47 => ⟨S1x1x1x512, .f32⟩
  | 48 => ⟨S16x32x64x512, .f32⟩
  | 49 => ⟨S16x32x64x512, .f32⟩
  | 50 => ⟨S16x32x64x512, .f32⟩
  | 51 => ⟨S16x32x64x512, .f32⟩
  | 52 => ⟨S1x512, .f32⟩
  | 53 => ⟨S512, .f32⟩
  | 54 => ⟨S1x1x1x512, .f32⟩
  | 55 => ⟨S16x32x64x512, .f32⟩
  | 56 => ⟨S16x32x64x512, .f32⟩
  | 57 => ⟨S16x32x64x512, .f32⟩
  | 58 => ⟨S16x32x64x512, .f32⟩
  | 59 => ⟨S1x512, .f32⟩
  | 60 => ⟨S512, .f32⟩
  | 61 => ⟨S1x1x1x512, .f32⟩
  | 62 => ⟨S16x32x64x512, .f32⟩
  | 63 => ⟨S16x32x64x512, .f32⟩
  | 64 => ⟨S16x32x64x512, .f32⟩
  | 65 => ⟨S16x32x64x512, .f32⟩
  | 66 => ⟨S1x512, .f32⟩
  | 67 => ⟨S512, .f32⟩
  | 68 => ⟨S1x1x1x512, .f32⟩
  | 69 => ⟨S16x32x64x512, .f32⟩
  | 70 => ⟨S16x32x64x512, .f32⟩
  | 71 => ⟨S16x32x64x512, .f32⟩
  | 72 => ⟨S16x32x64x512, .f32⟩
  | 73 => ⟨S1x512, .f32⟩
  | 74 => ⟨S512, .f32⟩
  | 75 => ⟨S1x1x1x512, .f32⟩
  | 76 => ⟨S16x32x64x512, .f32⟩
  | 77 => ⟨S16x32x64x512, .f32⟩
  | 78 => ⟨S16x32x64x512, .f32⟩
  | 79 => ⟨S16x32x64x512, .f32⟩
  | 80 => ⟨S1x512, .f32⟩
  | 81 => ⟨S512, .f32⟩
  | 82 => ⟨S1x1x1x512, .f32⟩
  | 83 => ⟨S16x32x64x512, .f32⟩
  | 84 => ⟨S16x32x64x512, .f32⟩
  | 85 => ⟨S16x32x64x512, .f32⟩
  | 86 => ⟨S16x32x64x512, .f32⟩
  | 87 => ⟨S1x512, .f32⟩
  | 88 => ⟨S512, .f32⟩
  | 89 => ⟨S1x1x1x512, .f32⟩
  | 90 => ⟨S16x32x64x512, .f32⟩
  | 91 => ⟨S16x32x64x512, .f32⟩
  | 92 => ⟨S16x32x64x512, .f32⟩
  | 93 => ⟨S16x32x64x512, .f32⟩
  | 94 => ⟨S1x512, .f32⟩
  | 95 => ⟨S512, .f32⟩
  | 96 => ⟨S1x1x1x512, .f32⟩
  | 97 => ⟨S16x32x64x512, .f32⟩
  | 98 => ⟨S16x32x64x512, .f32⟩
  | 99 => ⟨S16x32x64x512, .f32⟩
  | 100 => ⟨S16x2048x512, .f32⟩
  | 101 => ⟨S1x1x512, .f32⟩
  | 102 => ⟨S16x2048x512, .f32⟩
  | 103 => ⟨S16x2048x512, .f32⟩
  | 104 => ⟨S_, .f32⟩
  | 105 => ⟨S16x2048, .f32⟩
  | 106 => ⟨S16x2048x1, .f32⟩
  | 107 => ⟨S_, .f32⟩
  | 108 => ⟨S16x2048x1, .f32⟩
  | 109 => ⟨S16x2048x1, .f32⟩
  | 110 => ⟨S16x2048x512, .f32⟩
  | 111 => ⟨S16x2048x512, .f32⟩
  | 112 => ⟨S16x2048x512, .f32⟩
  | 113 => ⟨S_, .f32⟩
  | 114 => ⟨S16x2048, .f32⟩
  | 115 => ⟨S16x2048x1, .f32⟩
  | 116 => ⟨S_, .f32⟩
  | 117 => ⟨S16x2048x1, .f32⟩
  | 118 => ⟨S16x2048x1, .f32⟩
  | 119 => ⟨S16x2048x512, .f32⟩
  | 120 => ⟨S16x2048x512, .f32⟩
  | 121 => ⟨S_, .f32⟩
  | 122 => ⟨S16x2048x1, .f32⟩
  | 123 => ⟨S16x2048x1, .f32⟩
  | 124 => ⟨S16x2048x1, .f32⟩
  | 125 => ⟨S16x2048x512, .f32⟩
  | 126 => ⟨S16x2048x512, .f32⟩
  | 127 => ⟨S1x1x512, .f32⟩
  | _ => ⟨S16x2048x512, .f32⟩

abbrev hbmTy0_2 (i : Nat) : BufTy := match i % 128 with
  | 0 => ⟨S16x2048x512, .f32⟩
  | 1 => ⟨S16x2048x512, .f32⟩
  | 2 => ⟨S1x1x512, .f32⟩
  | 3 => ⟨S16x2048x512, .f32⟩
  | 4 => ⟨S16x2048x512, .f32⟩
  | 5 => ⟨S16x2048x512, .f32⟩
  | 6 => ⟨S16x2048x512, .f32⟩
  | 7 => ⟨S_, .f32⟩
  | 8 => ⟨S16x2048x512, .f32⟩
  | 9 => ⟨S16x2048x512, .f32⟩
  | 10 => ⟨S_, .f32⟩
  | 11 => ⟨S16x2048x512, .f32⟩
  | 12 => ⟨S16x2048x512, .f32⟩
  | 13 => ⟨S16x2048x512, .f32⟩
  | 14 => ⟨S32768x512, .f32⟩
  | _ => ⟨S16x2048x512, .f32⟩

abbrev hbmTy (i : Nat) : BufTy := match i / 128 with
  | 0 => hbmTy0_0 i
  | 1 => hbmTy0_1 i
  | 2 => hbmTy0_2 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_cst_0 : Ref sig .tc := ⟨.hbm, 232, rfl⟩
abbrev main_v224 : Ref sig .tc := ⟨.hbm, 233, rfl⟩
abbrev main_v225 : Ref sig .tc := ⟨.hbm, 234, rfl⟩
abbrev main_cst_1 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_cst_4 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_call1_v0 : Ref sig .tc := ⟨.hbm, 261, rfl⟩
abbrev main_call1_v1 : Ref sig .tc := ⟨.hbm, 262, rfl⟩
abbrev main_call1_cst : Ref sig .tc := ⟨.hbm, 263, rfl⟩
abbrev main_call1_v2 : Ref sig .tc := ⟨.hbm, 264, rfl⟩
abbrev main_call1_v3 : Ref sig .tc := ⟨.hbm, 265, rfl⟩
abbrev main_call1_cst_0 : Ref sig .tc := ⟨.hbm, 266, rfl⟩
abbrev main_call1_v4 : Ref sig .tc := ⟨.hbm, 267, rfl⟩
abbrev main_call1_v5 : Ref sig .tc := ⟨.hbm, 268, rfl⟩
abbrev main_v248 : Ref sig .tc := ⟨.hbm, 269, rfl⟩
abbrev main_v249 : Ref sig .tc := ⟨.hbm, 270, rfl⟩

abbrev nD : Nat := 1
abbrev τ : Topo := Topo.v7x

variable {F : FTy → Type} [FloatOps F]
-- ==== Proj.lean ====
abbrev S16x2048x1024 : Shape := ⟨3, ![16, 2048, 1024]⟩
abbrev S16x1x1024 : Shape := ⟨3, ![16, 1, 1024]⟩
abbrev S1024 : Shape := ⟨1, ![1024]⟩
abbrev S1024x3088 : Shape := ⟨2, ![1024, 3088]⟩
abbrev S2x4 : Shape := ⟨2, ![2, 4]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1024x1024 : Shape := ⟨2, ![1024, 1024]⟩
abbrev S2x8 : Shape := ⟨2, ![2, 8]⟩
abbrev S1x16 : Shape := ⟨2, ![1, 16]⟩
abbrev S1x128 : Shape := ⟨2, ![1, 128]⟩
abbrev S1x1024 : Shape := ⟨2, ![1, 1024]⟩
abbrev S32768x1024 : Shape := ⟨2, ![32768, 1024]⟩
abbrev S32768x1536 : Shape := ⟨2, ![32768, 1536]⟩
abbrev S32768x128 : Shape := ⟨2, ![32768, 128]⟩
abbrev S512x16x64 : Shape := ⟨3, ![512, 16, 64]⟩
abbrev S32768x512 : Shape := ⟨2, ![32768, 512]⟩
abbrev S512x1024 : Shape := ⟨2, ![512, 1024]⟩
abbrev S1x1x1024 : Shape := ⟨3, ![1, 1, 1024]⟩
abbrev S512x1536 : Shape := ⟨2, ![512, 1536]⟩
abbrev S512x128 : Shape := ⟨2, ![512, 128]⟩
abbrev S8x16x64 : Shape := ⟨3, ![8, 16, 64]⟩
abbrev S512x512 : Shape := ⟨2, ![512, 512]⟩
abbrev S512 : Shape := ⟨1, ![512]⟩
abbrev S512x1 : Shape := ⟨2, ![512, 1]⟩
abbrev S64x128 : Shape := ⟨2, ![64, 128]⟩
abbrev S128x64 : Shape := ⟨2, ![128, 64]⟩
abbrev S16x64 : Shape := ⟨2, ![16, 64]⟩
abbrev S1x16x64 : Shape := ⟨3, ![1, 16, 64]⟩

abbrev nBuf : Space → Nat
  | .hbm => 37
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024, .f32⟩
  | .hbm, ⟨4, _⟩ => ⟨S1024x3088, .f32⟩
  | .hbm, ⟨5, _⟩ => ⟨S2x4, .f32⟩
  | .hbm, ⟨6, _⟩ => ⟨S2x4, .f32⟩
  | .hbm, ⟨7, _⟩ => ⟨S1024x1536, .f32⟩
  | .hbm, ⟨8, _⟩ => ⟨S1024x1536, .bf16⟩
  | .hbm, ⟨9, _⟩ => ⟨S1024x512, .f32⟩
  | .hbm, ⟨10, _⟩ => ⟨S1024x512, .bf16⟩
  | .hbm, ⟨11, _⟩ => ⟨S1024x16, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1024x1024, .f32⟩
  | .hbm, ⟨17, _⟩ => ⟨S1024x1024, .bf16⟩
  | .hbm, ⟨18, _⟩ => ⟨S_, .f32⟩
  | .hbm, ⟨19, _⟩ => ⟨S2x4, .f32⟩
  | .hbm, ⟨20, _⟩ => ⟨S2x8, .f32⟩
  | .hbm, ⟨21, _⟩ => ⟨S1x16, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S2x8, .f32⟩
  | .hbm, ⟨26, _⟩ => ⟨S1x16, .f32⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S1x1024, .f32⟩
  | .hbm, ⟨31, _⟩ => ⟨S32768x1024, .f32⟩
  | .hbm, ⟨32, _⟩ => ⟨S32768x1536, .f32⟩
  | .hbm, ⟨33, _⟩ => ⟨S32768x128, .f32⟩
  | .hbm, ⟨34, _⟩ => ⟨S512x16x64, .f32⟩
  | .hbm, ⟨35, _⟩ => ⟨S32768x512, .f32⟩
  | .hbm, ⟨36, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x128, .bf16⟩
  | .local _ .vmem, ⟨9, _⟩ => ⟨S1x128, .f32⟩
  | .local _ .vmem, ⟨10, _⟩ => ⟨S1x128, .f32⟩
  | .local _ .vmem, ⟨11, _⟩ => ⟨S1024x512, .bf16⟩
  | .local _ .vmem, ⟨12, _⟩ => ⟨S1024x1024, .bf16⟩
  | .local _ .vmem, ⟨13, _⟩ => ⟨S512x1536, .f32⟩
  | .local _ .vmem, ⟨14, _⟩ => ⟨S512x1536, .f32⟩
  | .local _ .vmem, ⟨15, _⟩ => ⟨S512x128, .f32⟩
  | .local _ .vmem, ⟨16, _⟩ => ⟨S512x128, .f32⟩
  | .local _ .vmem, ⟨17, _⟩ => ⟨S8x16x64, .f32⟩
  | .local _ .vmem, ⟨18, _⟩ => ⟨S8x16x64, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x16x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjRefIdeal.lean ====
abbrev S16x2048x1024 : Shape := ⟨3, ![16, 2048, 1024]⟩
abbrev S16x1x1024 : Shape := ⟨3, ![16, 1, 1024]⟩
abbrev S1024 : Shape := ⟨1, ![1024]⟩
abbrev S1024x3088 : Shape := ⟨2, ![1024, 3088]⟩
abbrev S2x4 : Shape := ⟨2, ![2, 4]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3088 : Shape := ⟨3, ![16, 2048, 3088]⟩
abbrev S16x2048x1536 : Shape := ⟨3, ![16, 2048, 1536]⟩
abbrev S16x2048x512 : Shape := ⟨3, ![16, 2048, 512]⟩
abbrev S16x2048x16 : Shape := ⟨3, ![16, 2048, 16]⟩
abbrev S16x2048x2x2x4 : Shape := ⟨5, ![16, 2048, 2, 2, 4]⟩
abbrev S16x2048x2x1x4 : Shape := ⟨5, ![16, 2048, 2, 1, 4]⟩
abbrev S16x2048x2x4 : Shape := ⟨4, ![16, 2048, 2, 4]⟩
abbrev S1x1x2x4 : Shape := ⟨4, ![1, 1, 2, 4]⟩
abbrev S16x2048x1x4 : Shape := ⟨4, ![16, 2048, 1, 4]⟩
abbrev S16x2048x4 : Shape := ⟨3, ![16, 2048, 4]⟩
abbrev S16x32x64x4 : Shape := ⟨4, ![16, 32, 64, 4]⟩
abbrev S32768x1536 : Shape := ⟨2, ![32768, 1536]⟩
abbrev S32768x16 : Shape := ⟨2, ![32768, 16]⟩
abbrev S32768x128 : Shape := ⟨2, ![32768, 128]⟩
abbrev S512x64x16 : Shape := ⟨3, ![512, 64, 16]⟩
abbrev S512x16x64 : Shape := ⟨3, ![512, 16, 64]⟩
abbrev S32768x512 : Shape := ⟨2, ![32768, 512]⟩

abbrev nBuf : Space → Nat
  | .hbm => 120
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024, .f32⟩
  | .hbm, ⟨4, _⟩ => ⟨S1024x3088, .f32⟩
  | .hbm, ⟨5, _⟩ => ⟨S2x4, .f32⟩
  | .hbm, ⟨6, _⟩ => ⟨S2x4, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x3088, .f32⟩
  | .hbm, ⟨31, _⟩ => ⟨S16x2048x1536, .f32⟩
  | .hbm, ⟨32, _⟩ => ⟨S16x2048x512, .f32⟩
  | .hbm, ⟨33, _⟩ => ⟨S16x2048x16, .f32⟩
  | .hbm, ⟨34, _⟩ => ⟨S16x2048x1024, .f32⟩
  | .hbm, ⟨35, _⟩ => ⟨S16x2048x2x2x4, .f32⟩
  | .hbm, ⟨36, _⟩ => ⟨S16x2048x2x1x4, .f32⟩
  | .hbm, ⟨37, _⟩ => ⟨S16x2048x2x4, .f32⟩
  | .hbm, ⟨38, _⟩ => ⟨S16x2048x2x4, .f32⟩
  | .hbm, ⟨39, _⟩ => ⟨S16x2048x2x4, .f32⟩
  | .hbm, ⟨40, _⟩ => ⟨S_, .f32⟩
  | .hbm, ⟨41, _⟩ => ⟨S16x2048x2x4, .f32⟩
  | .hbm, ⟨42, _⟩ => ⟨S16x2048x2x4, .f32⟩
  | .hbm, ⟨43, _⟩ => ⟨S_, .f32⟩
  | .hbm, ⟨44, _⟩ => ⟨S16x2048x2x4, .f32⟩
  | .hbm, ⟨45, _⟩ => ⟨S16x2048x2x4, .f32⟩
  | .hbm, ⟨46, _⟩ => ⟨S2x4, .f32⟩
  | .hbm, ⟨47, _⟩ => ⟨S2x4, .f32⟩
  | .hbm, ⟨48, _⟩ => ⟨S16x2048x2x1x4, .f32⟩
  | .hbm, ⟨49, _⟩ => ⟨S16x2048x2x4, .f32⟩
  | .hbm, ⟨50, _⟩ => ⟨S1x1x2x4, .f32⟩
  | .hbm, ⟨51, _⟩ => ⟨S16x2048x2x4, .f32⟩
  | .hbm, ⟨52, _⟩ => ⟨S16x2048x2x4, .f32⟩
  | .hbm, ⟨53, _⟩ => ⟨S_, .f32⟩
  | .hbm, ⟨54, _⟩ => ⟨S16x2048x2x4, .f32⟩
  | .hbm, ⟨55, _⟩ => ⟨S16x2048x2x4, .f32⟩
  | .hbm, ⟨56, _⟩ => ⟨S16x2048x2x4, .f32⟩
  | .hbm, ⟨57, _⟩ => ⟨S16x2048x2x4, .f32⟩
  | .hbm, ⟨58, _⟩ => ⟨S16x2048x2x4, .i1⟩
  | .hbm, ⟨59, _⟩ => ⟨S16x2048x2x4, .f32⟩
  | .hbm, ⟨60, _⟩ => ⟨S16x2048x2x4, .f32⟩
  | .hbm, ⟨61, _⟩ => ⟨S16x2048x2x4, .f32⟩
  | .hbm, ⟨62, _⟩ => ⟨S16x2048x2x4, .f32⟩
  | .hbm, ⟨63, _⟩ => ⟨S16x2048x2x4, .f32⟩
  | .hbm, ⟨64, _⟩ => ⟨S16x2048x2x4, .f32⟩
  | .hbm, ⟨65, _⟩ => ⟨S16x2048x2x4, .f32⟩
  | .hbm, ⟨66, _⟩ => ⟨S16x2048x2x4, .f32⟩
  | .hbm, ⟨67, _⟩ => ⟨S1x1x2x4, .f32⟩
  | .hbm, ⟨68, _⟩ => ⟨S16x2048x2x4, .f32⟩
  | .hbm, ⟨69, _⟩ => ⟨S16x2048x2x4, .f32⟩
  | .hbm, ⟨70, _⟩ => ⟨S16x2048x1x4, .f32⟩
  | .hbm, ⟨71, _⟩ => ⟨S16x2048x4, .f32⟩
  | .hbm, ⟨72, _⟩ => ⟨S16x32x64x4, .f32⟩
  | .hbm, ⟨73, _⟩ => ⟨S_, .f32⟩
  | .hbm, ⟨74, _⟩ => ⟨S_, .f32⟩
  | .hbm, ⟨75, _⟩ => ⟨S16x32x64x4, .f32⟩
  | .hbm, ⟨76, _⟩ => ⟨S16x2048x4, .f32⟩
  | .hbm, ⟨77, _⟩ => ⟨S16x2048x1x4, .f32⟩
  | .hbm, ⟨78, _⟩ => ⟨S16x2048x4, .f32⟩
  | .hbm, ⟨79, _⟩ => ⟨S16x2048x4, .f32⟩
  | .hbm, ⟨80, _⟩ => ⟨S16x32x64x4, .f32⟩
  | .hbm, ⟨81, _⟩ => ⟨S_, .f32⟩
  | .hbm, ⟨82, _⟩ => ⟨S_, .f32⟩
  | .hbm, ⟨83, _⟩ => ⟨S16x32x64x4, .f32⟩
  | .hbm, ⟨84, _⟩ => ⟨S16x2048x4, .f32⟩
  | .hbm, ⟨85, _⟩ => ⟨S16x2048x4, .f32⟩
  | .hbm, ⟨86, _⟩ => ⟨S16x2048x1x4, .f32⟩
  | .hbm, ⟨87, _⟩ => ⟨S16x2048x4, .f32⟩
  | .hbm, ⟨88, _⟩ => ⟨S16x2048x1x4, .f32⟩
  | .hbm, ⟨89, _⟩ => ⟨S16x2048x4, .f32⟩
  | .hbm, ⟨90, _⟩ => ⟨S16x2048x16, .f32⟩
  | .hbm, ⟨91, _⟩ => ⟨S16x2048x512, .f32⟩
  | .hbm, ⟨92, _⟩ => ⟨S16x2048x512, .f32⟩
  | .hbm, ⟨93, _⟩ => ⟨S16x2048x512, .f32⟩
  | .hbm, ⟨94, _⟩ => ⟨S16x2048x512, .f32⟩
  | .hbm, ⟨95, _⟩ => ⟨S_, .f32⟩
  | .hbm, ⟨96, _⟩ => ⟨S16x2048x512, .f32⟩
  | .hbm, ⟨97, _⟩ => ⟨S16x2048x512, .f32⟩
  | .hbm, ⟨98, _⟩ => ⟨S_, .f32⟩
  | .hbm, ⟨99, _⟩ => ⟨S16x2048x512, .f32⟩
  | .hbm, ⟨100, _⟩ => ⟨S16x2048x512, .f32⟩
  | .hbm, ⟨101, _⟩ => ⟨S16x2048x512, .f32⟩
  | .hbm, ⟨102, _⟩ => ⟨S32768x1536, .f32⟩
  | .hbm, ⟨103, _⟩ => ⟨S32768x16, .f32⟩
  | .hbm, ⟨104, _⟩ => ⟨S_, .i32⟩
  | .hbm, ⟨105, _⟩ => ⟨S_, .f32⟩
  | .hbm, ⟨106, _⟩ => ⟨S32768x128, .f32⟩
  | .hbm, ⟨107, _⟩ => ⟨S512x64x16, .f32⟩
  | .hbm, ⟨108, _⟩ => ⟨S512x16x64, .f32⟩
  | .hbm, ⟨109, _⟩ => ⟨S16x2048x512, .f32⟩
  | .hbm, ⟨110, _⟩ => ⟨S16x2048x512, .f32⟩
  | .hbm, ⟨111, _⟩ => ⟨S_, .f32⟩
  | .hbm, ⟨112, _⟩ => ⟨S16x2048x512, .f32⟩
  | .hbm, ⟨113, _⟩ => ⟨S16x2048x512, .f32⟩
  | .hbm, ⟨114, _⟩ => ⟨S_, .f32⟩
  | .hbm, ⟨115, _⟩ => ⟨S16x2048x512, .f32⟩
  | .hbm, ⟨116, _⟩ => ⟨S16x2048x512, .f32⟩
  | .hbm, ⟨117, _⟩ => ⟨S16x2048x512, .f32⟩
  | .hbm, ⟨118, _⟩ => ⟨S32768x512, .f32⟩
  | .hbm, ⟨119, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_call0_cst : Ref sig .tc := ⟨.hbm, 73, rfl⟩
abbrev main_call1_call0_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call3_call0_cst : Ref sig .tc := ⟨.hbm, 81, rfl⟩
abbrev main_call3_call0_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_5 : Ref sig .tc := ⟨.hbm, 95, rfl⟩
abbrev main_v65 : Ref sig .tc := ⟨.hbm, 96, rfl⟩
abbrev main_v66 : Ref sig .tc := ⟨.hbm, 97, rfl⟩
abbrev main_cst_6 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c : Ref sig .tc := ⟨.hbm, 104, rfl⟩
abbrev main_call5_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call6_v0 : Ref sig .tc := ⟨.hbm, 109, rfl⟩
abbrev main_call6_v1 : Ref sig .tc := ⟨.hbm, 110, rfl⟩
abbrev main_call6_cst : Ref sig .tc := ⟨.hbm, 111, rfl⟩
abbrev main_call6_v2 : Ref sig .tc := ⟨.hbm, 112, rfl⟩
abbrev main_call6_v3 : Ref sig .tc := ⟨.hbm, 113, rfl⟩
abbrev main_call6_cst_0 : Ref sig .tc := ⟨.hbm, 114, rfl⟩
abbrev main_call6_v4 : Ref sig .tc := ⟨.hbm, 115, rfl⟩
abbrev main_call6_v5 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩

abbrev nD : Nat := 1
abbrev τ : Topo := Topo.v7x

variable {F : FTy → Type} [FloatOps F]
-- ==== Experts.lean ====
abbrev S449 : Shape := ⟨1, ![449]⟩
abbrev S1 : Shape := ⟨1, ![1]⟩
abbrev S229888x512 : Shape := ⟨2, ![229888, 512]⟩
abbrev S64x1024x256 : Shape := ⟨3, ![64, 1024, 256]⟩
abbrev S64x256x1024 : Shape := ⟨3, ![64, 256, 1024]⟩
abbrev S229888x1024 : Shape := ⟨2, ![229888, 1024]⟩
abbrev S512x512 : Shape := ⟨2, ![512, 512]⟩
abbrev S1x1024x256 : Shape := ⟨3, ![1, 1024, 256]⟩
abbrev S1x256x1024 : Shape := ⟨3, ![1, 256, 1024]⟩
abbrev S512x1024 : Shape := ⟨2, ![512, 1024]⟩
abbrev S1024x256 : Shape := ⟨2, ![1024, 256]⟩
abbrev S256x1024 : Shape := ⟨2, ![256, 1024]⟩
abbrev S256x512 : Shape := ⟨2, ![256, 512]⟩
abbrev S256x256 : Shape := ⟨2, ![256, 256]⟩

abbrev nBuf : Space → Nat
  | .hbm => 5
  | .vmem => 10
  | .smem => 3
  | _ => 0

abbrev bufTy : (tb : Table) → Fin (tcTables nBuf tb) → BufTy
  | .hbm, ⟨0, _⟩ => ⟨S229888x512, .i32⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S229888x1024, .bf16⟩
  | .local _ .vmem, ⟨0, _⟩ => ⟨S512x512, .i32⟩
  | .local _ .vmem, ⟨1, _⟩ => ⟨S512x512, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .bf16⟩
  | .local _ .vmem, ⟨9, _⟩ => ⟨S512x1024, .bf16⟩
  | .local _ .smem, ⟨0, _⟩ => ⟨S449, .i32⟩
  | .local _ .smem, ⟨1, _⟩ => ⟨S449, .i32⟩
  | .local _ .smem, ⟨2, _⟩ => ⟨S1, .i32⟩
  | _, _ => ⟨S229888x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![449], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S449.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S449) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S449.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S449) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S449.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S449) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S449.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S449) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S449 : Shape := ⟨1, ![449]⟩
abbrev S1 : Shape := ⟨1, ![1]⟩
abbrev S229888x512 : Shape := ⟨2, ![229888, 512]⟩
abbrev S64x1024x256 : Shape := ⟨3, ![64, 1024, 256]⟩
abbrev S64x256x1024 : Shape := ⟨3, ![64, 256, 1024]⟩
abbrev S_ : Shape := ⟨0, ![]⟩
abbrev S229888x1024 : Shape := ⟨2, ![229888, 1024]⟩
abbrev S449x512x1024 : Shape := ⟨3, ![449, 512, 1024]⟩
abbrev S449x1 : Shape := ⟨2, ![449, 1]⟩
abbrev S449x1024x256 : Shape := ⟨3, ![449, 1024, 256]⟩
abbrev S449x256x1024 : Shape := ⟨3, ![449, 256, 1024]⟩
abbrev S449x512x256 : Shape := ⟨3, ![449, 512, 256]⟩
abbrev S449x1x1 : Shape := ⟨3, ![449, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S449, .i32⟩
  | .hbm, ⟨1, _⟩ => ⟨S449, .i32⟩
  | .hbm, ⟨2, _⟩ => ⟨S1, .i32⟩
  | .hbm, ⟨3, _⟩ => ⟨S229888x512, .i32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S_, .i32⟩
  | .hbm, ⟨8, _⟩ => ⟨S229888x512, .i32⟩
  | .hbm, ⟨9, _⟩ => ⟨S229888x512, .i32⟩
  | .hbm, ⟨10, _⟩ => ⟨S229888x512, .f32⟩
  | .hbm, ⟨11, _⟩ => ⟨S_, .i32⟩
  | .hbm, ⟨12, _⟩ => ⟨S229888x512, .i32⟩
  | .hbm, ⟨13, _⟩ => ⟨S229888x512, .i32⟩
  | .hbm, ⟨14, _⟩ => ⟨S229888x512, .f32⟩
  | .hbm, ⟨15, _⟩ => ⟨S229888x1024, .f32⟩
  | .hbm, ⟨16, _⟩ => ⟨S449x512x1024, .f32⟩
  | .hbm, ⟨17, _⟩ => ⟨S449x1, .i32⟩
  | .hbm, ⟨18, _⟩ => ⟨S449x512x1024, .f32⟩
  | .hbm, ⟨19, _⟩ => ⟨S449x1, .i32⟩
  | .hbm, ⟨20, _⟩ => ⟨S449x1024x256, .f32⟩
  | .hbm, ⟨21, _⟩ => ⟨S449x1, .i32⟩
  | .hbm, ⟨22, _⟩ => ⟨S449x1024x256, .f32⟩
  | .hbm, ⟨23, _⟩ => ⟨S449x1, .i32⟩
  | .hbm, ⟨24, _⟩ => ⟨S449x256x1024, .f32⟩
  | .hbm, ⟨25, _⟩ => ⟨S449x512x256, .f32⟩
  | .hbm, ⟨26, _⟩ => ⟨S449x512x256, .f32⟩
  | .hbm, ⟨27, _⟩ => ⟨S449x512x256, .f32⟩
  | .hbm, ⟨28, _⟩ => ⟨S_, .f32⟩
  | .hbm, ⟨29, _⟩ => ⟨S449x512x256, .f32⟩
  | .hbm, ⟨30, _⟩ => ⟨S449x512x256, .f32⟩
  | .hbm, ⟨31, _⟩ => ⟨S_, .f32⟩
  | .hbm, ⟨32, _⟩ => ⟨S449x512x256, .f32⟩
  | .hbm, ⟨33, _⟩ => ⟨S449x512x256, .f32⟩
  | .hbm, ⟨34, _⟩ => ⟨S449x512x256, .f32⟩
  | .hbm, ⟨35, _⟩ => ⟨S449x512x256, .f32⟩
  | .hbm, ⟨36, _⟩ => ⟨S449x512x256, .f32⟩
  | .hbm, ⟨37, _⟩ => ⟨S449x512x1024, .f32⟩
  | .hbm, ⟨38, _⟩ => ⟨S449, .i32⟩
  | .hbm, ⟨39, _⟩ => ⟨S449, .i32⟩
  | .hbm, ⟨40, _⟩ => ⟨S449, .i1⟩
  | .hbm, ⟨41, _⟩ => ⟨S449x1x1, .i1⟩
  | .hbm, ⟨42, _⟩ => ⟨S_, .f32⟩
  | .hbm, ⟨43, _⟩ => ⟨S_, .f32⟩
  | .hbm, ⟨44, _⟩ => ⟨S449x512x1024, .i1⟩
  | .hbm, ⟨45, _⟩ => ⟨S449x512x1024, .f32⟩
  | .hbm, ⟨46, _⟩ => ⟨S449x512x1024, .f32⟩
  | .hbm, ⟨47, _⟩ => ⟨S449x512x1024, .bf16⟩
  | .hbm, ⟨48, _⟩ => ⟨S229888x1024, .bf16⟩
  | _, _ => ⟨S449, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_v8 : Ref sig .tc := ⟨.hbm, 18, rfl⟩
abbrev main_call1_v0 : Ref sig .tc := ⟨.hbm, 19, rfl⟩
abbrev main_v9 : Ref sig .tc := ⟨.hbm, 20, rfl⟩
abbrev main_call2_v0 : Ref sig .tc := ⟨.hbm, 21, rfl⟩
abbrev main_v10 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_call4_v0 : Ref sig .tc := ⟨.hbm, 26, rfl⟩
abbrev main_call4_v1 : Ref sig .tc := ⟨.hbm, 27, rfl⟩
abbrev main_call4_cst : Ref sig .tc := ⟨.hbm, 28, rfl⟩
abbrev main_call4_v2 : Ref sig .tc := ⟨.hbm, 29, rfl⟩
abbrev main_call4_v3 : Ref sig .tc := ⟨.hbm, 30, rfl⟩
abbrev main_call4_cst_0 : Ref sig .tc := ⟨.hbm, 31, rfl⟩
abbrev main_call4_v4 : Ref sig .tc := ⟨.hbm, 32, rfl⟩
abbrev main_call4_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩

abbrev nD : Nat := 1
abbrev τ : Topo := Topo.v7x

variable {F : FTy → Type} [FloatOps F]
-- ==== Mix.lean ====
abbrev S32768x512 : Shape := ⟨2, ![32768, 512]⟩
abbrev S16x2048x1024 : Shape := ⟨3, ![16, 2048, 1024]⟩
abbrev S16x1x1024 : Shape := ⟨3, ![16, 1, 1024]⟩
abbrev S128 : Shape := ⟨1, ![128]⟩
abbrev S1024x1024 : Shape := ⟨2, ![1024, 1024]⟩
abbrev S1024 : Shape := ⟨1, ![1024]⟩
abbrev S1024x64 : Shape := ⟨2, ![1024, 64]⟩
abbrev S1024x256 : Shape := ⟨2, ![1024, 256]⟩
abbrev S256x1024 : Shape := ⟨2, ![256, 1024]⟩
abbrev S1024x512 : Shape := ⟨2, ![1024, 512]⟩
abbrev S32768x1024 : Shape := ⟨2, ![32768, 1024]⟩
abbrev S1x128 : Shape := ⟨2, ![1, 128]⟩
abbrev S1x1024 : Shape := ⟨2, ![1, 1024]⟩
abbrev S64x1024 : Shape := ⟨2, ![64, 1024]⟩
abbrev S64x32768 : Shape := ⟨2, ![64, 32768]⟩
abbrev S512x512 : Shape := ⟨2, ![512, 512]⟩
abbrev S512x1024 : Shape := ⟨2, ![512, 1024]⟩
abbrev S1x1x1024 : Shape := ⟨3, ![1, 1, 1024]⟩
abbrev S64x512 : Shape := ⟨2, ![64, 512]⟩
abbrev S128x1024 : Shape := ⟨2, ![128, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S64x256 : Shape := ⟨2, ![64, 256]⟩
abbrev S256x256 : Shape := ⟨2, ![256, 256]⟩

abbrev nBuf : Space → Nat
  | .hbm => 27
  | .vmem => 30
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S16x2048x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S128, .f32⟩
  | .hbm, ⟨10, _⟩ => ⟨S1024x1024, .f32⟩
  | .hbm, ⟨11, _⟩ => ⟨S1024, .f32⟩
  | .hbm, ⟨12, _⟩ => ⟨S1024x64, .f32⟩
  | .hbm, ⟨13, _⟩ => ⟨S1024x256, .f32⟩
  | .hbm, ⟨14, _⟩ => ⟨S1024x256, .f32⟩
  | .hbm, ⟨15, _⟩ => ⟨S256x1024, .f32⟩
  | .hbm, ⟨16, _⟩ => ⟨S1024x512, .f32⟩
  | .hbm, ⟨17, _⟩ => ⟨S1024x512, .bf16⟩
  | .hbm, ⟨18, _⟩ => ⟨S32768x1024, .f32⟩
  | .hbm, ⟨19, _⟩ => ⟨S1x128, .f32⟩
  | .hbm, ⟨20, _⟩ => ⟨S1024x1024, .bf16⟩
  | .hbm, ⟨21, _⟩ => ⟨S1x1024, .f32⟩
  | .hbm, ⟨22, _⟩ => ⟨S64x1024, .f32⟩
  | .hbm, ⟨23, _⟩ => ⟨S256x1024, .bf16⟩
  | .hbm, ⟨24, _⟩ => ⟨S32768x1024, .f32⟩
  | .hbm, ⟨25, _⟩ => ⟨S32768x1024, .bf16⟩
  | .hbm, ⟨26, _⟩ => ⟨S64x32768, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x128, .f32⟩
  | .local _ .vmem, ⟨19, _⟩ => ⟨S1024x1024, .bf16⟩
  | .local _ .vmem, ⟨20, _⟩ => ⟨S1x1024, .f32⟩
  | .local _ .vmem, ⟨21, _⟩ => ⟨S64x1024, .f32⟩
  | .local _ .vmem, ⟨22, _⟩ => ⟨S1024x512, .bf16⟩
  | .local _ .vmem, ⟨23, _⟩ => ⟨S256x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S64x512, .f32⟩
  | .local _ .vmem, ⟨29, _⟩ => ⟨S64x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixRefIdeal.lean ====
abbrev S32768x512 : Shape := ⟨2, ![32768, 512]⟩
abbrev S16x2048x1024 : Shape := ⟨3, ![16, 2048, 1024]⟩
abbrev S16x1x1024 : Shape := ⟨3, ![16, 1, 1024]⟩
abbrev S128 : Shape := ⟨1, ![128]⟩
abbrev S1024x1024 : Shape := ⟨2, ![1024, 1024]⟩
abbrev S1024 : Shape := ⟨1, ![1024]⟩
abbrev S1024x64 : Shape := ⟨2, ![1024, 64]⟩
abbrev S1024x256 : Shape := ⟨2, ![1024, 256]⟩
abbrev S256x1024 : Shape := ⟨2, ![256, 1024]⟩
abbrev S16x2048x4x128 : Shape := ⟨4, ![16, 2048, 4, 128]⟩
abbrev S_ : Shape := ⟨0, ![]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x2048x512 : Shape := ⟨3, ![16, 2048, 512]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩
abbrev S32768x256 : Shape := ⟨2, ![32768, 256]⟩
abbrev S32768x64 : Shape := ⟨2, ![32768, 64]⟩
abbrev S64x32768 : Shape := ⟨2, ![64, 32768]⟩

abbrev nBuf : Space → Nat
  | .hbm => 88
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S16x2048x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S128, .f32⟩
  | .hbm, ⟨10, _⟩ => ⟨S1024x1024, .f32⟩
  | .hbm, ⟨11, _⟩ => ⟨S1024, .f32⟩
  | .hbm, ⟨12, _⟩ => ⟨S1024x64, .f32⟩
  | .hbm, ⟨13, _⟩ => ⟨S1024x256, .f32⟩
  | .hbm, ⟨14, _⟩ => ⟨S1024x256, .f32⟩
  | .hbm, ⟨15, _⟩ => ⟨S256x1024, .f32⟩
  | .hbm, ⟨16, _⟩ => ⟨S32768x512, .f32⟩
  | .hbm, ⟨17, _⟩ => ⟨S16x2048x4x128, .f32⟩
  | .hbm, ⟨18, _⟩ => ⟨S16x2048x4x128, .f32⟩
  | .hbm, ⟨19, _⟩ => ⟨S_, .f32⟩
  | .hbm, ⟨20, _⟩ => ⟨S16x2048x4, .f32⟩
  | .hbm, ⟨21, _⟩ => ⟨S16x2048x4x1, .f32⟩
  | .hbm, ⟨22, _⟩ => ⟨S_, .f32⟩
  | .hbm, ⟨23, _⟩ => ⟨S16x2048x4x1, .f32⟩
  | .hbm, ⟨24, _⟩ => ⟨S16x2048x4x1, .f32⟩
  | .hbm, ⟨25, _⟩ => ⟨S_, .f32⟩
  | .hbm, ⟨26, _⟩ => ⟨S16x2048x4x1, .f32⟩
  | .hbm, ⟨27, _⟩ => ⟨S16x2048x4x1, .f32⟩
  | .hbm, ⟨28, _⟩ => ⟨S16x2048x4x1, .f32⟩
  | .hbm, ⟨29, _⟩ => ⟨S16x2048x4x128, .f32⟩
  | .hbm, ⟨30, _⟩ => ⟨S16x2048x4x128, .f32⟩
  | .hbm, ⟨31, _⟩ => ⟨S1x1x1x128, .f32⟩
  | .hbm, ⟨32, _⟩ => ⟨S16x2048x4x128, .f32⟩
  | .hbm, ⟨33, _⟩ => ⟨S16x2048x4x128, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | .hbm, ⟨59, _⟩ => ⟨S_, .f32⟩
  | .hbm, ⟨60, _⟩ => ⟨S16x1x1024, .f32⟩
  | .hbm, ⟨61, _⟩ => ⟨S16x1x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S32768x1024, .f32⟩
  | .hbm, ⟨67, _⟩ => ⟨S32768x256, .f32⟩
  | .hbm, ⟨68, _⟩ => ⟨S32768x256, .f32⟩
  | .hbm, ⟨69, _⟩ => ⟨S32768x256, .f32⟩
  | .hbm, ⟨70, _⟩ => ⟨S_, .f32⟩
  | .hbm, ⟨71, _⟩ => ⟨S32768x256, .f32⟩
  | .hbm, ⟨72, _⟩ => ⟨S32768x256, .f32⟩
  | .hbm, ⟨73, _⟩ => ⟨S_, .f32⟩
  | .hbm, ⟨74, _⟩ => ⟨S32768x256, .f32⟩
  | .hbm, ⟨75, _⟩ => ⟨S32768x256, .f32⟩
  | .hbm, ⟨76, _⟩ => ⟨S32768x256, .f32⟩
  | .hbm, ⟨77, _⟩ => ⟨S32768x256, .f32⟩
  | .hbm, ⟨78, _⟩ => ⟨S32768x256, .f32⟩
  | .hbm, ⟨79, _⟩ => ⟨S32768x1024, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S32768x1024, .f32⟩
  | .hbm, ⟨85, _⟩ => ⟨S32768x1024, .bf16⟩
  | .hbm, ⟨86, _⟩ => ⟨S32768x64, .f32⟩
  | .hbm, ⟨87, _⟩ => ⟨S64x32768, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Ctx.lean ====
abbrev S16x256x1024 : Shape := ⟨3, ![16, 256, 1024]⟩
abbrev S1x1x1024 : Shape := ⟨3, ![1, 1, 1024]⟩
abbrev S1024 : Shape := ⟨1, ![1024]⟩
abbrev S1024x3088 : Shape := ⟨2, ![1024, 3088]⟩
abbrev S2x4 : Shape := ⟨2, ![2, 4]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S2x8 : Shape := ⟨2, ![2, 8]⟩
abbrev S1x16 : Shape := ⟨2, ![1, 16]⟩
abbrev S1x128 : Shape := ⟨2, ![1, 128]⟩
abbrev S1x1024 : Shape := ⟨2, ![1, 1024]⟩
abbrev S4096x1024 : Shape := ⟨2, ![4096, 1024]⟩
abbrev S4096x1536 : Shape := ⟨2, ![4096, 1536]⟩
abbrev S4096x128 : Shape := ⟨2, ![4096, 128]⟩
abbrev S64x16x64 : Shape := ⟨3, ![64, 16, 64]⟩
abbrev S256x1024 : Shape := ⟨2, ![256, 1024]⟩
abbrev S256x1536 : Shape := ⟨2, ![256, 1536]⟩
abbrev S256x128 : Shape := ⟨2, ![256, 128]⟩
abbrev S4x16x64 : Shape := ⟨3, ![4, 16, 64]⟩
abbrev S256 : Shape := ⟨1, ![256]⟩
abbrev S256x1 : Shape := ⟨2, ![256, 1]⟩
abbrev S64x128 : Shape := ⟨2, ![64, 128]⟩
abbrev S128x64 : Shape := ⟨2, ![128, 64]⟩
abbrev S16x64 : Shape := ⟨2, ![16, 64]⟩
abbrev S1x16x64 : Shape := ⟨3, ![1, 16, 64]⟩

abbrev nBuf : Space → Nat
  | .hbm => 31
  | .vmem => 17
  | .smem => 0
  | _ => 0

abbrev bufTy : (tb : Table) → Fin (tcTables nBuf tb) → BufTy
  | .hbm, ⟨0, _⟩ => ⟨S16x256x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x3088, .f32⟩
  | .hbm, ⟨5, _⟩ => ⟨S2x4, .f32⟩
  | .hbm, ⟨6, _⟩ => ⟨S2x4, .f32⟩
  | .hbm, ⟨7, _⟩ => ⟨S1024x1536, .f32⟩
  | .hbm, ⟨8, _⟩ => ⟨S1024x1536, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .f32⟩
  | .hbm, ⟨15, _⟩ => ⟨S2x4, .f32⟩
  | .hbm, ⟨16, _⟩ => ⟨S2x8, .f32⟩
  | .hbm, ⟨17, _⟩ => ⟨S1x16, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S2x8, .f32⟩
  | .hbm, ⟨22, _⟩ => ⟨S1x16, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S1x1024, .f32⟩
  | .hbm, ⟨27, _⟩ => ⟨S4096x1024, .f32⟩
  | .hbm, ⟨28, _⟩ => ⟨S4096x1536, .f32⟩
  | .hbm, ⟨29, _⟩ => ⟨S4096x128, .f32⟩
  | .hbm, ⟨30, _⟩ => ⟨S64x16x64, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x128, .bf16⟩
  | .local _ .vmem, ⟨9, _⟩ => ⟨S1x128, .f32⟩
  | .local _ .vmem, ⟨10, _⟩ => ⟨S1x128, .f32⟩
  | .local _ .vmem, ⟨11, _⟩ => ⟨S256x1536, .f32⟩
  | .local _ .vmem, ⟨12, _⟩ => ⟨S256x1536, .f32⟩
  | .local _ .vmem, ⟨13, _⟩ => ⟨S256x128, .f32⟩
  | .local _ .vmem, ⟨14, _⟩ => ⟨S256x128, .f32⟩
  | .local _ .vmem, ⟨15, _⟩ => ⟨S4x16x64, .f32⟩
  | .local _ .vmem, ⟨16, _⟩ => ⟨S4x16x64, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CtxRefIdeal.lean ====
abbrev S16x256x1024 : Shape := ⟨3, ![16, 256, 1024]⟩
abbrev S1x1x1024 : Shape := ⟨3, ![1, 1, 1024]⟩
abbrev S1024 : Shape := ⟨1, ![1024]⟩
abbrev S1024x3088 : Shape := ⟨2, ![1024, 3088]⟩
abbrev S2x4 : Shape := ⟨2, ![2, 4]⟩
abbrev S_ : Shape := ⟨0, ![]⟩
abbrev S16x256 : Shape := ⟨2, ![16, 256]⟩
abbrev S16x256x1 : Shape := ⟨3, ![16, 256, 1]⟩
abbrev S16x256x3088 : Shape := ⟨3, ![16, 256, 3088]⟩
abbrev S16x256x1536 : Shape := ⟨3, ![16, 256, 1536]⟩
abbrev S16x256x16 : Shape := ⟨3, ![16, 256, 16]⟩
abbrev S16x256x2x2x4 : Shape := ⟨5, ![16, 256, 2, 2, 4]⟩
abbrev S16x256x2x1x4 : Shape := ⟨5, ![16, 256, 2, 1, 4]⟩
abbrev S16x256x2x4 : Shape := ⟨4, ![16, 256, 2, 4]⟩
abbrev S1x1x2x4 : Shape := ⟨4, ![1, 1, 2, 4]⟩
abbrev S16x256x1x4 : Shape := ⟨4, ![16, 256, 1, 4]⟩
abbrev S16x256x4 : Shape := ⟨3, ![16, 256, 4]⟩
abbrev S16x4x64x4 : Shape := ⟨4, ![16, 4, 64, 4]⟩
abbrev S4096x1536 : Shape := ⟨2, ![4096, 1536]⟩
abbrev S4096x16 : Shape := ⟨2, ![4096, 16]⟩
abbrev S4096x128 : Shape := ⟨2, ![4096, 128]⟩
abbrev S64x64x16 : Shape := ⟨3, ![64, 64, 16]⟩
abbrev S64x16x64 : Shape := ⟨3, ![64, 16, 64]⟩

abbrev nBuf : Space → Nat
  | .hbm => 96
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x3088, .f32⟩
  | .hbm, ⟨5, _⟩ => ⟨S2x4, .f32⟩
  | .hbm, ⟨6, _⟩ => ⟨S2x4, .f32⟩
  | .hbm, ⟨7, _⟩ => ⟨S16x256x1024, .f32⟩
  | .hbm, ⟨8, _⟩ => ⟨S_, .f32⟩
  | .hbm, ⟨9, _⟩ => ⟨S16x256, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S16x256x1, .f32⟩
  | .hbm, ⟨18, _⟩ => ⟨S16x256x1024, .f32⟩
  | .hbm, ⟨19, _⟩ => ⟨S16x256x1024, .f32⟩
  | .hbm, ⟨20, _⟩ => ⟨S1x1x1024, .f32⟩
  | .hbm, ⟨21, _⟩ => ⟨S16x256x1024, .f32⟩
  | .hbm, ⟨22, _⟩ => ⟨S16x256x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S16x256x1024, .f32⟩
  | .hbm, ⟨29, _⟩ => ⟨S16x256x1024, .f32⟩
  | .hbm, ⟨30, _⟩ => ⟨S16x256x3088, .f32⟩
  | .hbm, ⟨31, _⟩ => ⟨S16x256x1536, .f32⟩
  | .hbm, ⟨32, _⟩ => ⟨S16x256x16, .f32⟩
  | .hbm, ⟨33, _⟩ => ⟨S16x256x2x2x4, .f32⟩
  | .hbm, ⟨34, _⟩ => ⟨S16x256x2x1x4, .f32⟩
  | .hbm, ⟨35, _⟩ => ⟨S16x256x2x4, .f32⟩
  | .hbm, ⟨36, _⟩ => ⟨S16x256x2x4, .f32⟩
  | .hbm, ⟨37, _⟩ => ⟨S16x256x2x4, .f32⟩
  | .hbm, ⟨38, _⟩ => ⟨S_, .f32⟩
  | .hbm, ⟨39, _⟩ => ⟨S16x256x2x4, .f32⟩
  | .hbm, ⟨40, _⟩ => ⟨S16x256x2x4, .f32⟩
  | .hbm, ⟨41, _⟩ => ⟨S_, .f32⟩
  | .hbm, ⟨42, _⟩ => ⟨S16x256x2x4, .f32⟩
  | .hbm, ⟨43, _⟩ => ⟨S16x256x2x4, .f32⟩
  | .hbm, ⟨44, _⟩ => ⟨S2x4, .f32⟩
  | .hbm, ⟨45, _⟩ => ⟨S2x4, .f32⟩
  | .hbm, ⟨46, _⟩ => ⟨S16x256x2x1x4, .f32⟩
  | .hbm, ⟨47, _⟩ => ⟨S16x256x2x4, .f32⟩
  | .hbm, ⟨48, _⟩ => ⟨S1x1x2x4, .f32⟩
  | .hbm, ⟨49, _⟩ => ⟨S16x256x2x4, .f32⟩
  | .hbm, ⟨50, _⟩ => ⟨S16x256x2x4, .f32⟩
  | .hbm, ⟨51, _⟩ => ⟨S_, .f32⟩
  | .hbm, ⟨52, _⟩ => ⟨S16x256x2x4, .f32⟩
  | .hbm, ⟨53, _⟩ => ⟨S16x256x2x4, .f32⟩
  | .hbm, ⟨54, _⟩ => ⟨S16x256x2x4, .f32⟩
  | .hbm, ⟨55, _⟩ => ⟨S16x256x2x4, .f32⟩
  | .hbm, ⟨56, _⟩ => ⟨S16x256x2x4, .i1⟩
  | .hbm, ⟨57, _⟩ => ⟨S16x256x2x4, .f32⟩
  | .hbm, ⟨58, _⟩ => ⟨S16x256x2x4, .f32⟩
  | .hbm, ⟨59, _⟩ => ⟨S16x256x2x4, .f32⟩
  | .hbm, ⟨60, _⟩ => ⟨S16x256x2x4, .f32⟩
  | .hbm, ⟨61, _⟩ => ⟨S16x256x2x4, .f32⟩
  | .hbm, ⟨62, _⟩ => ⟨S16x256x2x4, .f32⟩
  | .hbm, ⟨63, _⟩ => ⟨S16x256x2x4, .f32⟩
  | .hbm, ⟨64, _⟩ => ⟨S16x256x2x4, .f32⟩
  | .hbm, ⟨65, _⟩ => ⟨S1x1x2x4, .f32⟩
  | .hbm, ⟨66, _⟩ => ⟨S16x256x2x4, .f32⟩
  | .hbm, ⟨67, _⟩ => ⟨S16x256x2x4, .f32⟩
  | .hbm, ⟨68, _⟩ => ⟨S16x256x1x4, .f32⟩
  | .hbm, ⟨69, _⟩ => ⟨S16x256x4, .f32⟩
  | .hbm, ⟨70, _⟩ => ⟨S16x4x64x4, .f32⟩
  | .hbm, ⟨71, _⟩ => ⟨S_, .f32⟩
  | .hbm, ⟨72, _⟩ => ⟨S_, .f32⟩
  | .hbm, ⟨73, _⟩ => ⟨S16x4x64x4, .f32⟩
  | .hbm, ⟨74, _⟩ => ⟨S16x256x4, .f32⟩
  | .hbm, ⟨75, _⟩ => ⟨S16x256x1x4, .f32⟩
  | .hbm, ⟨76, _⟩ => ⟨S16x256x4, .f32⟩
  | .hbm, ⟨77, _⟩ => ⟨S16x256x4, .f32⟩
  | .hbm, ⟨78, _⟩ => ⟨S16x4x64x4, .f32⟩
  | .hbm, ⟨79, _⟩ => ⟨S_, .f32⟩
  | .hbm, ⟨80, _⟩ => ⟨S_, .f32⟩
  | .hbm, ⟨81, _⟩ => ⟨S16x4x64x4, .f32⟩
  | .hbm, ⟨82, _⟩ => ⟨S16x256x4, .f32⟩
  | .hbm, ⟨83, _⟩ => ⟨S16x256x4, .f32⟩
  | .hbm, ⟨84, _⟩ => ⟨S16x256x1x4, .f32⟩
  | .hbm, ⟨85, _⟩ => ⟨S16x256x4, .f32⟩
  | .hbm, ⟨86, _⟩ => ⟨S16x256x1x4, .f32⟩
  | .hbm, ⟨87, _⟩ => ⟨S16x256x4, .f32⟩
  | .hbm, ⟨88, _⟩ => ⟨S16x256x16, .f32⟩
  | .hbm, ⟨89, _⟩ => ⟨S4096x1536, .f32⟩
  | .hbm, ⟨90, _⟩ => ⟨S4096x16, .f32⟩
  | .hbm, ⟨91, _⟩ => ⟨S_, .i32⟩
  | .hbm, ⟨92, _⟩ => ⟨S_, .f32⟩
  | .hbm, ⟨93, _⟩ => ⟨S4096x128, .f32⟩
  | .hbm, ⟨94, _⟩ => ⟨S64x64x16, .f32⟩
  | .hbm, ⟨95, _⟩ => ⟨S64x16x64, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call1_call0_cst : Ref sig .tc := ⟨.hbm, 71, rfl⟩
abbrev main_call1_call0_v0 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call3_call0_cst : Ref sig .tc := ⟨.hbm, 79, rfl⟩
abbrev main_call3_call0_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c : Ref sig .tc := ⟨.hbm, 91, rfl⟩
abbrev main_call5_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== Mod.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S17x1024 : Shape := ⟨2, ![17, 1024]⟩
abbrev S_ : Shape := ⟨0, ![]⟩
abbrev S24x1024 : Shape := ⟨2, ![24, 1024]⟩
abbrev S1x6144 : Shape := ⟨2, ![1, 6144]⟩
abbrev S24x6144 : Shape := ⟨2, ![24, 6144]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S17x1024, .f32⟩
  | .hbm, ⟨6, _⟩ => ⟨S_, .i32⟩
  | .hbm, ⟨7, _⟩ => ⟨S_, .f32⟩
  | .hbm, ⟨8, _⟩ => ⟨S24x1024, .f32⟩
  | .hbm, ⟨9, _⟩ => ⟨S1x6144, .f32⟩
  | .hbm, ⟨10, _⟩ => ⟨S24x6144, .f32⟩
  | .local _ .vmem, ⟨0, _⟩ => ⟨S24x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S24x1024, .f32⟩
  | .local _ .vmem, ⟨6, _⟩ => ⟨S24x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩
abbrev S17x6144 : Shape := ⟨2, ![17, 6144]⟩
abbrev S24x6144 : Shape := ⟨2, ![24, 6144]⟩

abbrev nBuf : Space → Nat
  | .hbm => 33
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x6144, .f32⟩
  | .hbm, ⟨14, _⟩ => ⟨S1x6144, .f32⟩
  | .hbm, ⟨15, _⟩ => ⟨S16x6144, .f32⟩
  | .hbm, ⟨16, _⟩ => ⟨S16x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S17x6144, .f32⟩
  | .hbm, ⟨30, _⟩ => ⟨S_, .i32⟩
  | .hbm, ⟨31, _⟩ => ⟨S_, .f32⟩
  | .hbm, ⟨32, _⟩ => ⟨S24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_call2_v0 : Ref sig .tc := ⟨.hbm, 31, rfl⟩
abbrev main_v10 : Ref sig .tc := ⟨.hbm, 32, rfl⟩

abbrev nD : Nat := 1
abbrev τ : Topo := Topo.v7x

variable {F : FTy → Type} [FloatOps F]
-- ==== Short.lean ====
abbrev S4096x1536 : Shape := ⟨2, ![4096, 1536]⟩
abbrev S7x1536 : Shape := ⟨2, ![7, 1536]⟩
abbrev S8x1536 : Shape := ⟨2, ![8, 1536]⟩
abbrev S256x1536 : Shape := ⟨2, ![256, 1536]⟩
abbrev S272x1536 : Shape := ⟨2, ![272, 1536]⟩
abbrev S64x128 : Shape := ⟨2, ![64, 128]⟩
abbrev S1x128 : Shape := ⟨2, ![1, 128]⟩
abbrev S64 : Shape := ⟨1, ![64]⟩
abbrev S64x1 : Shape := ⟨2, ![64, 1]⟩

abbrev nBuf : Space → Nat
  | .hbm => 3
  | .vmem => 10
  | .smem => 0
  | _ => 0

abbrev bufTy : (tb : Table) → Fin (tcTables nBuf tb) → BufTy
  | .hbm, ⟨0, _⟩ => ⟨S4096x1536, .f32⟩
  | .hbm, ⟨1, _⟩ => ⟨S7x1536, .f32⟩
  | .hbm, ⟨2, _⟩ => ⟨S4096x1536, .f32⟩
  | .local _ .vmem, ⟨0, _⟩ => ⟨S8x1536, .f32⟩
  | .local _ .vmem, ⟨1, _⟩ => ⟨S8x1536, .f32⟩
  | .local _ .vmem, ⟨2, _⟩ => ⟨S256x1536, .f32⟩
  | .local _ .vmem, ⟨3, _⟩ => ⟨S256x1536, .f32⟩
  | .local _ .vmem, ⟨4, _⟩ => ⟨S8x1536, .f32⟩
  | .local _ .vmem, ⟨5, _⟩ => ⟨S8x1536, .f32⟩
  | .local _ .vmem, ⟨6, _⟩ => ⟨S7x1536, .f32⟩
  | .local _ .vmem, ⟨7, _⟩ => ⟨S256x1536, .f32⟩
  | .local _ .vmem, ⟨8, _⟩ => ⟨S256x1536, .f32⟩
  | .local _ .vmem, ⟨9, _⟩ => ⟨S272x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ShortRefIdeal.lean ====
abbrev S4096x1536 : Shape := ⟨2, ![4096, 1536]⟩
abbrev S7x1536 : Shape := ⟨2, ![7, 1536]⟩
abbrev S16x256x1536 : Shape := ⟨3, ![16, 256, 1536]⟩
abbrev S_ : Shape := ⟨0, ![]⟩
abbrev S16x262x1536 : Shape := ⟨3, ![16, 262, 1536]⟩
abbrev S1x1536 : Shape := ⟨2, ![1, 1536]⟩
abbrev S1536 : Shape := ⟨1, ![1536]⟩
abbrev S1x1x1536 : Shape := ⟨3, ![1, 1, 1536]⟩
abbrev S4096x12x128 : Shape := ⟨3, ![4096, 12, 128]⟩
abbrev S4096x4x128 : Shape := ⟨3, ![4096, 4, 128]⟩
abbrev S4096x4 : Shape := ⟨2, ![4096, 4]⟩
abbrev S4096x4x1 : Shape := ⟨3, ![4096, 4, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S7x1536, .f32⟩
  | .hbm, ⟨2, _⟩ => ⟨S16x256x1536, .f32⟩
  | .hbm, ⟨3, _⟩ => ⟨S_, .i32⟩
  | .hbm, ⟨4, _⟩ => ⟨S_, .f32⟩
  | .hbm, ⟨5, _⟩ => ⟨S16x262x1536, .f32⟩
  | .hbm, ⟨6, _⟩ => ⟨S_, .f32⟩
  | .hbm, ⟨7, _⟩ => ⟨S16x256x1536, .f32⟩
  | .hbm, ⟨8, _⟩ => ⟨S16x256x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S16x256x1536, .f32⟩
  | .hbm, ⟨13, _⟩ => ⟨S16x256x1536, .f32⟩
  | .hbm, ⟨14, _⟩ => ⟨S16x256x1536, .f32⟩
  | .hbm, ⟨15, _⟩ => ⟨S16x256x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S16x256x1536, .f32⟩
  | .hbm, ⟨20, _⟩ => ⟨S16x256x1536, .f32⟩
  | .hbm, ⟨21, _⟩ => ⟨S16x256x1536, .f32⟩
  | .hbm, ⟨22, _⟩ => ⟨S16x256x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S16x256x1536, .f32⟩
  | .hbm, ⟨27, _⟩ => ⟨S16x256x1536, .f32⟩
  | .hbm, ⟨28, _⟩ => ⟨S16x256x1536, .f32⟩
  | .hbm, ⟨29, _⟩ => ⟨S16x256x1536, .f32⟩
  | .hbm, ⟨30, _⟩ => ⟨S1x1536, .f32⟩
  | .hbm, ⟨31, _⟩ => ⟨S1536, .f32⟩
  | .hbm, ⟨32, _⟩ => ⟨S1x1x1536, .f32⟩
  | .hbm, ⟨33, _⟩ => ⟨S16x256x1536, .f32⟩
  | .hbm, ⟨34, _⟩ => ⟨S16x256x1536, .f32⟩
  | .hbm, ⟨35, _⟩ => ⟨S16x256x1536, .f32⟩
  | .hbm, ⟨36, _⟩ => ⟨S16x256x1536, .f32⟩
  | .hbm, ⟨37, _⟩ => ⟨S1x1536, .f32⟩
  | .hbm, ⟨38, _⟩ => ⟨S1536, .f32⟩
  | .hbm, ⟨39, _⟩ => ⟨S1x1x1536, .f32⟩
  | .hbm, ⟨40, _⟩ => ⟨S16x256x1536, .f32⟩
  | .hbm, ⟨41, _⟩ => ⟨S16x256x1536, .f32⟩
  | .hbm, ⟨42, _⟩ => ⟨S16x256x1536, .f32⟩
  | .hbm, ⟨43, _⟩ => ⟨S16x256x1536, .f32⟩
  | .hbm, ⟨44, _⟩ => ⟨S1x1536, .f32⟩
  | .hbm, ⟨45, _⟩ => ⟨S1536, .f32⟩
  | .hbm, ⟨46, _⟩ => ⟨S1x1x1536, .f32⟩
  | .hbm, ⟨47, _⟩ => ⟨S16x256x1536, .f32⟩
  | .hbm, ⟨48, _⟩ => ⟨S16x256x1536, .f32⟩
  | .hbm, ⟨49, _⟩ => ⟨S16x256x1536, .f32⟩
  | .hbm, ⟨50, _⟩ => ⟨S16x256x1536, .f32⟩
  | .hbm, ⟨51, _⟩ => ⟨S1x1536, .f32⟩
  | .hbm, ⟨52, _⟩ => ⟨S1536, .f32⟩
  | .hbm, ⟨53, _⟩ => ⟨S1x1x1536, .f32⟩
  | .hbm, ⟨54, _⟩ => ⟨S16x256x1536, .f32⟩
  | .hbm, ⟨55, _⟩ => ⟨S16x256x1536, .f32⟩
  | .hbm, ⟨56, _⟩ => ⟨S16x256x1536, .f32⟩
  | .hbm, ⟨57, _⟩ => ⟨S16x256x1536, .f32⟩
  | .hbm, ⟨58, _⟩ => ⟨S16x256x1536, .f32⟩
  | .hbm, ⟨59, _⟩ => ⟨S_, .f32⟩
  | .hbm, ⟨60, _⟩ => ⟨S16x256x1536, .f32⟩
  | .hbm, ⟨61, _⟩ => ⟨S16x256x1536, .f32⟩
  | .hbm, ⟨62, _⟩ => ⟨S_, .f32⟩
  | .hbm, ⟨63, _⟩ => ⟨S16x256x1536, .f32⟩
  | .hbm, ⟨64, _⟩ => ⟨S16x256x1536, .f32⟩
  | .hbm, ⟨65, _⟩ => ⟨S16x256x1536, .f32⟩
  | .hbm, ⟨66, _⟩ => ⟨S4096x12x128, .f32⟩
  | .hbm, ⟨67, _⟩ => ⟨S4096x4x128, .f32⟩
  | .hbm, ⟨68, _⟩ => ⟨S4096x4x128, .f32⟩
  | .hbm, ⟨69, _⟩ => ⟨S4096x4x128, .f32⟩
  | .hbm, ⟨70, _⟩ => ⟨S4096x4x128, .f32⟩
  | .hbm, ⟨71, _⟩ => ⟨S_, .f32⟩
  | .hbm, ⟨72, _⟩ => ⟨S4096x4, .f32⟩
  | .hbm, ⟨73, _⟩ => ⟨S4096x4x1, .f32⟩
  | .hbm, ⟨74, _⟩ => ⟨S_, .f32⟩
  | .hbm, ⟨75, _⟩ => ⟨S4096x4x1, .f32⟩
  | .hbm, ⟨76, _⟩ => ⟨S4096x4x1, .f32⟩
  | .hbm, ⟨77, _⟩ => ⟨S4096x4x1, .f32⟩
  | .hbm, ⟨78, _⟩ => ⟨S4096x4x128, .f32⟩
  | .hbm, ⟨79, _⟩ => ⟨S4096x4x128, .f32⟩
  | .hbm, ⟨80, _⟩ => ⟨S_, .f32⟩
  | .hbm, ⟨81, _⟩ => ⟨S4096x4x128, .f32⟩
  | .hbm, ⟨82, _⟩ => ⟨S4096x4x128, .f32⟩
  | .hbm, ⟨83, _⟩ => ⟨S4096x4x128, .f32⟩
  | .hbm, ⟨84, _⟩ => ⟨S_, .f32⟩
  | .hbm, ⟨85, _⟩ => ⟨S4096x4, .f32⟩
  | .hbm, ⟨86, _⟩ => ⟨S4096x4x1, .f32⟩
  | .hbm, ⟨87, _⟩ => ⟨S_, .f32⟩
  | .hbm, ⟨88, _⟩ => ⟨S4096x4x1, .f32⟩
  | .hbm, ⟨89, _⟩ => ⟨S4096x4x1, .f32⟩
  | .hbm, ⟨90, _⟩ => ⟨S4096x4x1, .f32⟩
  | .hbm, ⟨91, _⟩ => ⟨S4096x4x128, .f32⟩
  | .hbm, ⟨92, _⟩ => ⟨S4096x4x128, .f32⟩
  | .hbm, ⟨93, _⟩ => ⟨S4096x12x128, .f32⟩
  | .hbm, ⟨94, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_0 : Ref sig .tc := ⟨.hbm, 71, rfl⟩
abbrev main_v58 : Ref sig .tc := ⟨.hbm, 72, rfl⟩
abbrev main_v59 : Ref sig .tc := ⟨.hbm, 73, rfl⟩
abbrev main_cst_1 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_2 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_3 : Ref sig .tc := ⟨.hbm, 84, rfl⟩
abbrev main_v68 : Ref sig .tc := ⟨.hbm, 85, rfl⟩
abbrev main_v69 : Ref sig .tc := ⟨.hbm, 86, rfl⟩
abbrev main_cst_4 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Proof.Conv.Spec.lean ====
module

public import Idealize.ShloMosaic.Lib.Pointwise

@[expose] public section

noncomputable section

/-! # One row of the Conformer convolution, as a formula

Thirty-one taps along the sequence (stride 64 rows) over the row padded with zeros, the bias, a layer norm over
the channels and SiLU. -/

namespace Cert.ConvSpec

open Idealize.ShloMosaic

/-- The sum of the first `n` taps, added in order to zero. -/
def taps (w f : ℕ → EReal) : ℕ → EReal
  | 0 => 0
  | n + 1 => taps w f n + w n * f n

/-- Row `p` of an array of `n` rows, zero past its end. -/
def rowOf {n : ℕ} (R : (⟨2, ![n, 512]⟩ : Shape).Idx → EReal) (p : ℕ) (ch : Fin 512) : EReal :=
  if h : p < n then R (ix2 ⟨p, h⟩ ch) else 0

theorem eq_rowOf {n : ℕ} (R : (⟨2, ![n, 512]⟩ : Shape).Idx → EReal) (a : Fin n) (b ch : Fin 512) (p : ℕ)
    (ha : a.val = p) (hb : b.val = ch.val) : R (ix2 a b) = rowOf R p ch := by
  obtain rfl : b = ch := Fin.ext hb
  subst ha
  unfold rowOf
  rw [dif_pos a.isLt]

/-- Row `q` of batch `b` with 960 rows of zeros before and after its 2048 rows. -/
def padRow (Y : (⟨3, ![16, 2048, 512]⟩ : Shape).Idx → EReal) (b : Fin 16) (q : ℕ) (ch : Fin 512) : EReal :=
  if h : 960 ≤ q ∧ q < 3008 then Y (ix3 b ⟨q - 960, by omega⟩ ch) else 0

/-- The mean of a row of 512 channels. -/
def mean (U : Fin 512 → EReal) : EReal := Ideal.div (∑ x, U x) (Ideal.ofBits .f32 1140850688#32)

/-- The layer norm of a row with scale `g` and offset `b`. -/
def norm (U g b : Fin 512 → EReal) (ch : Fin 512) : EReal :=
  (U ch - mean U) * Ideal.rsqrt (mean (fun x => (U x - mean U) * (U x - mean U)) + Ideal.ofBits .f32 897988541#32)
    * g ch + b ch

/-- … and SiLU of it. -/
def act (U g b : Fin 512 → EReal) (ch : Fin 512) : EReal := norm U g b ch * Ideal.logistic (norm U g b ch)

/-- The convolution's row before the layer norm. -/
def conv (W : (⟨2, ![31, 512]⟩ : Shape).Idx → EReal) (f : ℕ → Fin 512 → EReal) (bias : Fin 512 → EReal) (p : ℕ)
    (ch : Fin 512) : EReal :=
  taps (fun j => rowOf W j ch) (fun j => f (p + 64 * j) ch) 31 + bias ch

end Cert.ConvSpec

end
-- ==== Proof.Conv.KernelRows.lean ====
module

public import proofs.«01_k».proof.Proof.Gen.ConvIdeal.Value
public import proofs.«01_k».proof.Proof.Conv.Spec
public import Idealize.ShloMosaic.Lib.Pipeline.ValueKit
public import Idealize.ShloMosaic.Lib.Pointwise

@[expose] public section

set_option maxRecDepth 16384

noncomputable section

/-! # The kernel of the Conformer convolution: the rows it leaves -/

namespace Cert.ConvIdeal.ConvValue

open Cert.ConvIdeal Cert.ConvIdeal.Gen Idealize.ShloMosaic Idealize.ShloMosaic.TcCoe Idealize.SL.Sem Cert.ConvSpec
open Idealize.ShloMosaic.Pipeline (Dat)

/-- One product of the sum over the taps: tap `j`'s weights times the row 64 `j` rows further down. -/
theorem prod_at (k : Fin k0_t1_loop.trips) (j : Fin 31) (r : Fin 32) (ch : Fin 512)
    (W : S31x512.Idx → EReal) (Y : S3968x512.Idx → EReal)
    (h : k0_off1 k (BitVec.ofNat 32 (64 * j.val)) 0 + r.val < 3968)
    (h' : k0_off1 k (BitVec.ofNat 32 (64 * j.val)) 1 + ch.val < 512) :
    W (ix2 j ch) * Y (ix2 ⟨k0_off1 k (BitVec.ofNat 32 (64 * j.val)) 0 + r.val, h⟩
        ⟨k0_off1 k (BitVec.ofNat 32 (64 * j.val)) 1 + ch.val, h'⟩)
      = rowOf W j.val ch * rowOf Y (32 * k.val + r.val + 64 * j.val) ch := by
  have h0 := congrFun (k0_off1_eq k j) 0
  have h1 := congrFun (k0_off1_eq k j) 1
  refine congrArg₂ HMul.hMul (eq_rowOf W j ch ch _ rfl rfl) (eq_rowOf Y _ _ ch _ ?_ ?_)
  · show k0_off1 k (BitVec.ofNat 32 (64 * j.val)) 0 + r.val = _
    rw [h0]
    show 32 * k.val + 64 * j.val + r.val = _
    omega
  · show k0_off1 k (BitVec.ofNat 32 (64 * j.val)) 1 + ch.val = _
    rw [h1]
    show 0 + ch.val = _
    omega

/-- The layer norm and SiLU of a row, once the sum over the taps is known. -/
theorem act_row (U : FVec Ideal S32x512 .f32) (V : FVec Ideal S32x512 .f32) (g b : FVec Ideal S1x512 .f32)
    (r : Fin 32) (hV : ∀ ch : Fin 512, V (ix2 r ch) = mean (fun x => U (ix2 r x))) (ch : Fin 512) :
    k0_pay4 (F := Ideal) U V g b (ix2 r ch)
      = act (fun ch => U (ix2 r ch)) (fun ch => g (ix2 0 ch)) (fun ch => b (ix2 0 ch)) ch := by
  pointwise [k0_pay4]
  simp only [hV]
  rfl

variable (c : Dev nD) (bd : Option Variants.none.V) (i : grid0.Coords)
    (arg1 : Memref sig .tc .vmem S2048x512 .f32) (harg1 : arg1.IsWhole)
    (arg2 : Memref sig .tc .vmem S31x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S2048x512 .f32) (harg6 : arg6.IsWhole)
    (arg7 : Memref sig .tc .vmem S3968x512 .f32) (harg7 : arg7.IsWhole)

/-- Trip `k` writes rows `32 k … 32 k + 31` of `H`. -/
theorem trip_pieces (c : Dev nD) (bd : Option Variants.none.V) (i : grid0.Coords)
    (arg1 : Memref sig .tc .vmem S2048x512 .f32) (harg1 : arg1.IsWhole)
    (arg2 : Memref sig .tc .vmem S31x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S2048x512 .f32) (harg6 : arg6.IsWhole)
    (arg7 : Memref sig .tc .vmem S3968x512 .f32) (harg7 : arg7.IsWhole)
    (X2) (X3) (X4) (X5) (X7) (k : Fin k0_t1_loop.trips) (H : S2048x512.Idx → EReal)
    (hH : ∀ (q : Fin 2048) (ch : Fin 512), H (ix2 q ch)
      = act (fun ch => conv (View.read (Elt Ideal) arg2.view X2) (fun p ch => rowOf (View.read (Elt Ideal) arg7.view X7) p ch)
          (fun ch => View.read (Elt Ideal) arg3.view X3 (ix2 0 ch)) q.val ch)
        (fun ch => View.read (Elt Ideal) arg4.view X4 (ix2 0 ch)) (fun ch => View.read (Elt Ideal) arg5.view X5 (ix2 0 ch)) ch) :
    ∀ p ∈ tripL_k0_t1 (F := Ideal) Variants.none c bd i arg1 harg1 arg2 harg2 arg3 harg3 arg4 harg4 arg5 harg5 arg6 harg6
        arg7 harg7 X2 X3 X4 X5 X7 k, ∀ x : p.1.shape.Idx, p.2 x = H (p.1.emb x) := by
  unfold tripL_k0_t1 trip_k0_t1
  dsimp only
  sl_unfold_run_names
  rw [List.forall_mem_singleton]
  intro x
  dsimp only at x ⊢
  unfold k0_pay13
  generalize hU : k0_pay12 (F := Ideal) _ _ _ _ _ _ _ _ _ _ _ _ = U
  have hU' : ∀ (r : Fin 32) (ch : Fin 512), U (ix2 r ch)
      = conv (View.read (Elt Ideal) arg2.view X2) (fun p ch => rowOf (View.read (Elt Ideal) arg7.view X7) p ch)
          (fun ch => View.read (Elt Ideal) arg3.view X3 (ix2 0 ch)) (32 * k.val + r.val) ch := by
    intro r ch
    rw [← hU]
    pointwise [k0_pay12, k0_pay11, k0_pay10, k0_pay9, k0_pay8, k0_pay7, k0_pay6, k0_pay5, View.readAt_eq_ld]
    unfold conv
    refine congrArg₂ HAdd.hAdd ?_ rfl
    exact (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd ((prod_at k 0 r ch _ _ _ _).trans (zero_add _).symm)
      (prod_at k 1 r ch _ _ _ _))
      (prod_at k 2 r ch _ _ _ _))
      (prod_at k 3 r ch _ _ _ _))
      (prod_at k 4 r ch _ _ _ _))
      (prod_at k 5 r ch _ _ _ _))
      (prod_at k 6 r ch _ _ _ _))
      (prod_at k 7 r ch _ _ _ _))
      (prod_at k 8 r ch _ _ _ _))
      (prod_at k 9 r ch _ _ _ _))
      (prod_at k 10 r ch _ _ _ _))
      (prod_at k 11 r ch _ _ _ _))
      (prod_at k 12 r ch _ _ _ _))
      (prod_at k 13 r ch _ _ _ _))
      (prod_at k 14 r ch _ _ _ _))
      (prod_at k 15 r ch _ _ _ _))
      (prod_at k 16 r ch _ _ _ _))
      (prod_at k 17 r ch _ _ _ _))
      (prod_at k 18 r ch _ _ _ _))
      (prod_at k 19 r ch _ _ _ _))
      (prod_at k 20 r ch _ _ _ _))
      (prod_at k 21 r ch _ _ _ _))
      (prod_at k 22 r ch _ _ _ _))
      (prod_at k 23 r ch _ _ _ _))
      (prod_at k 24 r ch _ _ _ _))
      (prod_at k 25 r ch _ _ _ _))
      (prod_at k 26 r ch _ _ _ _))
      (prod_at k 27 r ch _ _ _ _))
      (prod_at k 28 r ch _ _ _ _))
      (prod_at k 29 r ch _ _ _ _))
      (prod_at k 30 r ch _ _ _ _))
  idx_vars x
  refine (act_row _ _ _ _ x0 ?_ x1).trans ?_
  · intro ch
    pointwise
    rfl
  · simp only [hU', View.readAt_eq_ld]
    have hk : k.val < 64 := k.isLt
    have hx := x0.isLt
    have he : (Rect.unit (k0_off2 k) ![32, 512] (k0_off2_inb k)).emb (ix2 x0 x1)
        = (ix2 ⟨32 * k.val + x0.val, by omega⟩ x1 : S2048x512.Idx) := by
      refine (eq_ix2 _).trans ?_
      congr 1
      · exact Fin.ext ((ValueKit.rect_emb_unit_val _ _ _ _ _).trans
          (congrArg (· + x0.val) (congrFun (k0_off2_eq k) 0)))
      · exact Fin.ext ((ValueKit.rect_emb_unit_val _ _ _ _ _).trans
          ((congrArg (· + x1.val) (congrFun (k0_off2_eq k) 1)).trans (Nat.zero_add _)))
    refine Eq.trans ?_ ((hH _ x1).symm.trans (congrArg H he.symm))
    pointwise

/-- The pieces of all trips agree with `H`. -/
theorem loop_pieces (c : Dev nD) (bd : Option Variants.none.V) (i : grid0.Coords)
    (arg1 : Memref sig .tc .vmem S2048x512 .f32) (harg1 : arg1.IsWhole)
    (arg2 : Memref sig .tc .vmem S31x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S2048x512 .f32) (harg6 : arg6.IsWhole)
    (arg7 : Memref sig .tc .vmem S3968x512 .f32) (harg7 : arg7.IsWhole)
    (X2) (X3) (X4) (X5) (X7) (H : S2048x512.Idx → EReal)
    (hH : ∀ (q : Fin 2048) (ch : Fin 512), H (ix2 q ch)
      = act (fun ch => conv (View.read (Elt Ideal) arg2.view X2) (fun p ch => rowOf (View.read (Elt Ideal) arg7.view X7) p ch)
          (fun ch => View.read (Elt Ideal) arg3.view X3 (ix2 0 ch)) q.val ch)
        (fun ch => View.read (Elt Ideal) arg4.view X4 (ix2 0 ch)) (fun ch => View.read (Elt Ideal) arg5.view X5 (ix2 0 ch)) ch) :
    ∀ n : ℕ, n ≤ k0_t1_loop.trips →
    ∀ p ∈ pb_k0_t1 (F := Ideal) Variants.none c bd i arg1 harg1 arg2 harg2 arg3 harg3 arg4 harg4 arg5 harg5 arg6 harg6
        arg7 harg7 X2 X3 X4 X5 X7 n, ∀ x : p.1.shape.Idx, p.2 x = H (p.1.emb x) := by
  intro n
  induction n with
  | zero => intro _ p hp; exact absurd hp (by rw [pb_k0_t1]; exact List.not_mem_nil)
  | succ n ih =>
    intro hn p hp
    rw [pb_k0_t1_succ (k := ⟨n, hn⟩)] at hp
    rcases List.mem_append.mp hp with h | h
    · exact trip_pieces c bd i arg1 harg1 arg2 harg2 arg3 harg3 arg4 harg4 arg5 harg5 arg6 harg6 arg7 harg7
        X2 X3 X4 X5 X7 ⟨n, hn⟩ H hH p h
    · exact ih (Nat.le_of_succ_le hn) p h

/-- Row `q` of the padded block: zeros, the block's 2048 rows, zeros. -/
def padded (Y : S2048x512.Idx → EReal) (z : S3968x512.Idx) : EReal :=
  if h : 960 ≤ (z 0).val ∧ (z 0).val < 3008 then Y (ix2 ⟨(z 0).val - 960, by omega⟩ ⟨(z 1).val, (z 1).isLt⟩) else 0

theorem padded_out (Y : S2048x512.Idx → EReal) (z : S3968x512.Idx) (h : ¬(960 ≤ (z 0).val ∧ (z 0).val < 3008)) :
    padded Y z = 0 := dif_neg h

theorem padded_in (Y : S2048x512.Idx → EReal) (z : S3968x512.Idx) (a : Fin 2048) (b : Fin 512)
    (ha : (z 0).val = 960 + a.val) (hb : (z 1).val = b.val) : padded Y z = Y (ix2 a b) := by
  have := a.isLt
  unfold padded
  rw [dif_pos (by omega)]
  refine congrArg Y ?_
  congr 1
  · exact Fin.ext (by show (z 0).val - 960 = a.val; omega)
  · exact Fin.ext hb

/-- The scratch buffer after the three stores, read at an index. -/
theorem scratch_at (v : View sig .tc .vmem S3968x512 .f32) (f) (Y : FVec Ideal S2048x512 .f32) (h1 h2 h3)
    (z : S3968x512.Idx) :
    v.read (Elt Ideal) (v.writes (Elt Ideal) f
      [⟨Rect.unit (s := S3968x512) ![3008, 0] ![960, 512] h1, k0_pay3 (F := Ideal)⟩,
       ⟨Rect.unit (s := S3968x512) ![960, 0] ![2048, 512] h2, k0_pay2 (F := Ideal) Y⟩,
       ⟨Rect.unit (s := S3968x512) ![0, 0] ![960, 512] h3, k0_pay1 (F := Ideal)⟩]) z = padded Y z := by
  have hcov : ∀ y : S3968x512.Idx, ∃ p ∈ ([⟨Rect.unit (s := S3968x512) ![3008, 0] ![960, 512] h1, k0_pay3 (F := Ideal)⟩,
       ⟨Rect.unit (s := S3968x512) ![960, 0] ![2048, 512] h2, k0_pay2 (F := Ideal) Y⟩,
       ⟨Rect.unit (s := S3968x512) ![0, 0] ![960, 512] h3, k0_pay1 (F := Ideal)⟩] : List (View.Piece (Elt Ideal) S3968x512 .f32)),
       y ∈ p.1.set := by
    intro y
    have hy0 : (y 0).val < 3968 := (y 0).isLt
    have hy1 : (y 1).val < 512 := (y 1).isLt
    by_cases ha : (y 0).val < 960
    · exact ⟨_, .tail _ (.tail _ (.head _)), (Rect.mem_set_unit (inb := h3)).mpr (Fin.forall_fin_two.mpr
        ⟨⟨Nat.zero_le _, by show (y 0).val < 0 + 960; omega⟩, Nat.zero_le _, by show (y 1).val < 0 + 512; omega⟩)⟩
    · by_cases hb : (y 0).val < 3008
      · exact ⟨_, .tail _ (.head _), (Rect.mem_set_unit (inb := h2)).mpr (Fin.forall_fin_two.mpr
          ⟨⟨by show 960 ≤ (y 0).val; omega, by show (y 0).val < 960 + 2048; omega⟩, Nat.zero_le _,
            by show (y 1).val < 0 + 512; omega⟩)⟩
      · exact ⟨_, .head _, (Rect.mem_set_unit (inb := h1)).mpr (Fin.forall_fin_two.mpr
          ⟨⟨by show 3008 ≤ (y 0).val; omega, by show (y 0).val < 3008 + 960; omega⟩, Nat.zero_le _,
            by show (y 1).val < 0 + 512; omega⟩)⟩
  rw [View.read_writes_eq_canon v f _ hcov]
  refine View.canon_apply_of_pieces (padded Y) _ ?_ z (hcov z)
  simp only [List.forall_mem_cons, List.not_mem_nil, false_implies, implies_true, and_true]
  refine ⟨fun x => ?_, fun x => ?_, fun x => ?_⟩
  · have hx : (x 0).val < 960 := (x 0).isLt
    have he : (((Rect.unit (s := S3968x512) ![3008, 0] ![960, 512] h1).emb x) 0 : ℕ) = 3008 + (x 0).val :=
      ValueKit.rect_emb_unit_val _ _ _ _ _
    refine Eq.trans ?_ (padded_out Y _ (by omega)).symm
    clear he hx
    idx_vars x
    pointwise [k0_pay3]
  · have he : (((Rect.unit (s := S3968x512) ![960, 0] ![2048, 512] h2).emb x) 0 : ℕ) = 960 + (x 0).val :=
      ValueKit.rect_emb_unit_val _ _ _ _ _
    have he' : (((Rect.unit (s := S3968x512) ![960, 0] ![2048, 512] h2).emb x) 1 : ℕ) = (x 1).val :=
      (ValueKit.rect_emb_unit_val _ _ _ _ _).trans (Nat.zero_add _)
    refine Eq.trans ?_ (padded_in Y _ (x 0) (x 1) he he').symm
    clear he he'
    idx_vars x
    pointwise [k0_pay2]
  · have hx : (x 0).val < 960 := (x 0).isLt
    have he : (((Rect.unit (s := S3968x512) ![0, 0] ![960, 512] h3).emb x) 0 : ℕ) = (x 0).val :=
      (ValueKit.rect_emb_unit_val _ _ _ _ _).trans (Nat.zero_add _)
    refine Eq.trans ?_ (padded_out Y _ (by omega)).symm
    clear he hx
    idx_vars x
    pointwise [k0_pay1]

/-- The array the kernel computes, from its arguments. -/
def result (Y : S16x2048x512.Idx → EReal) (W : S31x512.Idx → EReal) (b g h : S512.Idx → EReal) (z : S32768x512.Idx) : EReal :=
  act (fun ch => conv W (fun q ch => padRow Y ⟨(z 0).val / 2048, by have : (z 0).val < 32768 := (z 0).isLt; omega⟩ q ch)
      (fun ch => b (ix1 ch)) ((z 0).val % 2048) ch)
    (fun ch => g (ix1 ch)) (fun ch => h (ix1 ch)) ⟨(z 1).val, (z 1).isLt⟩

variable (m : (ℓ : Loc nD τ sig) → Buf (Elt Ideal) ℓ)

/-- The windows' index maps. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

theorem rows_block (c : Dev nD) (t : Fin cfg0.N) (q : Fin 2048) (ch : Fin 512) :
    (show FVec Ideal S2048x512 .f32 from iblk m c 0 t) (ix2 q ch)
      = (m ((c : Thread nD τ).loc main_arg0) : S16x2048x512.Idx → EReal) (ix3 ⟨t.val, t.isLt⟩ q ch) := by
  blk_point [iblk, V, idx t]

theorem taps_block (c : Dev nD) (t : Fin cfg0.N) :
    (show FVec Ideal S31x512 .f32 from iblk m c 1 t) = (m ((c : Thread nD τ).loc main_arg1) : S31x512.Idx → EReal) := by
  blk_ext! [iblk, V, idx t]

theorem bias_block (c : Dev nD) (t : Fin cfg0.N) (ch : Fin 512) :
    (show FVec Ideal S1x512 .f32 from iblk m c 2 t) (ix2 0 ch)
      = (m ((c : Thread nD τ).loc main_arg2) : S512.Idx → EReal) (ix1 ch) := by
  blk_point [iblk, V, idx t]

theorem scale_block (c : Dev nD) (t : Fin cfg0.N) (ch : Fin 512) :
    (show FVec Ideal S1x512 .f32 from iblk m c 3 t) (ix2 0 ch)
      = (m ((c : Thread nD τ).loc main_arg3) : S512.Idx → EReal) (ix1 ch) := by
  blk_point [iblk, V, idx t]

theorem offset_block (c : Dev nD) (t : Fin cfg0.N) (ch : Fin 512) :
    (show FVec Ideal S1x512 .f32 from iblk m c 4 t) (ix2 0 ch)
      = (m ((c : Thread nD τ).loc main_arg4) : S512.Idx → EReal) (ix1 ch) := by
  blk_point [iblk, V, idx t]

theorem final (c : Dev nD) : (dats m 0 c).arrAt 5 cfg0.N
    = result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  generalize hG : result (m ((c : Thread nD τ).loc main_arg0)) (m ((c : Thread nD τ).loc main_arg1))
        (m ((c : Thread nD τ).loc main_arg2)) (m ((c : Thread nD τ).loc main_arg3)) (m ((c : Thread nD τ).loc main_arg4)) = G
  blk_simp
  rw [after0_5]
  unfold outsAt0
  unfold out0_A_5 kernelRun0_A
  frame_out
  refine View.canon_apply_of_pieces (Val := Elt Ideal) (e := .f32) (S := S2048x512) (fun z => G (((View.whole main_v4).slice (win0_5.rect t)).emb z)) _ ?_ y ?_
  · refine loop_pieces c none (grid0.coords t)  (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)  _ _ _ _ _ (fun z => G (((View.whole main_v4).slice (win0_5.rect t)).emb z)) ?_ _ (by decide)
    intro q ch
    subst hG
    have ht : t.val < 16 := t.isLt
    have he : (((View.whole main_v4).slice (win0_5.rect t)).emb (ix2 q ch) : S32768x512.Idx)
        = ix2 ⟨2048 * t.val + q.val, by omega⟩ ch := by
      blk_ext [idx t]
    simp only [Memref.IsWhole.read_unread]
    have hs : ∀ (p : ℕ) (ch : Fin 512), rowOf (View.read (Elt Ideal) (View.whole cc0_scratch0)
          ((View.whole cc0_scratch0).writes (Elt Ideal) (View.whole cc0_scratch0).junk
            [⟨Rect.unit (s := S3968x512) ![3008, 0] ![960, 512] inb_S3968x512_S960x512_3008_0, k0_pay3 (F := Ideal)⟩,
              ⟨Rect.unit (s := S3968x512) ![960, 0] ![2048, 512] inb_S3968x512_S2048x512_960_0,
                k0_pay2 (F := Ideal) (iblk m c 0 t)⟩,
              ⟨Rect.unit (s := S3968x512) ![0, 0] ![960, 512] inb_S3968x512_S960x512_0_0, k0_pay1 (F := Ideal)⟩])) p ch
        = padRow (m ((c : Thread nD τ).loc main_arg0)) ⟨t.val, ht⟩ p ch := by
      intro p ch
      unfold rowOf padRow
      by_cases hp : p < 3968
      · rw [dif_pos hp, scratch_at (View.whole cc0_scratch0)]
        by_cases h : 960 ≤ p ∧ p < 3008
        · rw [dif_pos h]
          exact (padded_in _ _ ⟨p - 960, by omega⟩ ch (by show p = 960 + (p - 960); omega) rfl).trans
            (rows_block m c t _ ch)
        · rw [dif_neg h]
          exact padded_out _ _ h
      · rw [dif_neg hp, dif_neg (by omega)]
    simp only [hs, he]
    have e1 : (iblk m c 1 t : S31x512.Idx → EReal) = m ((c : Thread nD τ).loc main_arg1) := taps_block m c t
    have e2 : ∀ ch : Fin 512, (iblk m c 2 t : S1x512.Idx → EReal) (ix2 0 ch) = m ((c : Thread nD τ).loc main_arg2) (ix1 ch) :=
      bias_block m c t
    have e3 : ∀ ch : Fin 512, (iblk m c 3 t : S1x512.Idx → EReal) (ix2 0 ch) = m ((c : Thread nD τ).loc main_arg3) (ix1 ch) :=
      scale_block m c t
    have e4 : ∀ ch : Fin 512, (iblk m c 4 t : S1x512.Idx → EReal) (ix2 0 ch) = m ((c : Thread nD τ).loc main_arg4) (ix1 ch) :=
      offset_block m c t
    simp only [e2, e3, e4]
    rw [e1]
    have hd : (2048 * t.val + q.val) / 2048 = t.val := by omega
    have hm : (2048 * t.val + q.val) % 2048 = q.val := by omega
    show act (fun ch => conv _ (fun p ch => padRow _ ⟨(2048 * t.val + q.val) / 2048, _⟩ p ch) _
      ((2048 * t.val + q.val) % 2048) ch) _ _ ch = _
    simp only [hd, hm]
  · exact View.cover_of_tiledL (s := S2048x512) _ S32x512.size (by sl_kernel_rfl) y

end Cert.ConvIdeal.ConvValue

end
-- ==== Proof.Conv.RefTaps.lean ====
module

public import proofs.«01_k».proof.Proof.Gen.ConvRefIdeal.Read
public import proofs.«01_k».proof.Proof.Conv.Spec
public import Idealize.ShloMosaic.Lib.Pointwise

@[expose] public section

set_option maxRecDepth 16384

noncomputable section

/-! # The taps of the reference of the Conformer convolution -/

namespace Cert.ConvRefIdeal.ConvValue

open Cert.ConvRefIdeal Cert.ConvRefIdeal.Gen Cert.ConvRefIdeal.Read Idealize.ShloMosaic Cert.ConvSpec

section

variable (x0 : FVec Ideal S16x2048x512 .f32) (x1 : FVec Ideal S31x512 .f32) (b : Fin 16) (q : Fin 32) (s : Fin 64)
  (ch : Fin 512)

/-- The padded array, block `q'` of 64 rows, row `s`: the padded row `64 q' + s`. -/
theorem pad_at (q' : Fin 62) : val_main_v1 (F := Ideal) x0 (ix4 b q' s ch) = padRow x0 b (64 * q'.val + s.val) ch := by
  pointwise [val_main_v1, val_main_v0, val_main_call0_v0, val_main_c]
  unfold padRow
  have hs := s.isLt
  by_cases h : 15 ≤ q'.val ∧ q'.val - 15 < 32
  · rw [dif_pos h, dif_pos (by omega)]
    congr 3
    omega
  · rw [dif_neg h, dif_neg (by omega)]
    simp [FloatOps.sitofp]

/-- One product of the sum: the tap's weights times the shifted row. -/
theorem tap_eq (q' : Fin 62) (n : ℕ) (hq : q'.val = n + q.val) (j : Fin 31) (hj : j.val = n) (a : EReal) :
    a + val_main_v1 (F := Ideal) x0 (ix4 b q' s ch) * x1 (ix2 j ch)
      = a + rowOf x1 n ch * padRow x0 b (64 * q.val + s.val + 64 * n) ch := by
  rw [pad_at, mul_comm, eq_rowOf x1 j ch ch n hj rfl, hq]
  congr 3
  omega

theorem tap0 : val_main_v9 (F := Ideal) x0 x1 (ix4 b q s ch)
    = val_main_v2 (F := Ideal) (ix4 b q s ch) + rowOf x1 0 ch * padRow x0 b (64 * q.val + s.val + 64 * 0) ch := by
  pointwise [val_main_v3, val_main_v4, val_main_v5, val_main_v6, val_main_v7, val_main_v8, val_main_v9]
  exact tap_eq x0 x1 b q s ch _ 0 (by simp) _ rfl _

theorem tap1 : val_main_v16 (F := Ideal) x0 x1 (ix4 b q s ch)
    = val_main_v9 (F := Ideal) x0 x1 (ix4 b q s ch) + rowOf x1 1 ch * padRow x0 b (64 * q.val + s.val + 64 * 1) ch := by
  pointwise [val_main_v10, val_main_v11, val_main_v12, val_main_v13, val_main_v14, val_main_v15, val_main_v16]
  exact tap_eq x0 x1 b q s ch _ 1 (by rfl) _ rfl _

theorem tap2 : val_main_v23 (F := Ideal) x0 x1 (ix4 b q s ch)
    = val_main_v16 (F := Ideal) x0 x1 (ix4 b q s ch) + rowOf x1 2 ch * padRow x0 b (64 * q.val + s.val + 64 * 2) ch := by
  pointwise [val_main_v17, val_main_v18, val_main_v19, val_main_v20, val_main_v21, val_main_v22, val_main_v23]
  exact tap_eq x0 x1 b q s ch _ 2 (by rfl) _ rfl _

theorem tap3 : val_main_v30 (F := Ideal) x0 x1 (ix4 b q s ch)
    = val_main_v23 (F := Ideal) x0 x1 (ix4 b q s ch) + rowOf x1 3 ch * padRow x0 b (64 * q.val + s.val + 64 * 3) ch := by
  pointwise [val_main_v24, val_main_v25, val_main_v26, val_main_v27, val_main_v28, val_main_v29, val_main_v30]
  exact tap_eq x0 x1 b q s ch _ 3 (by rfl) _ rfl _

theorem tap4 : val_main_v37 (F := Ideal) x0 x1 (ix4 b q s ch)
    = val_main_v30 (F := Ideal) x0 x1 (ix4 b q s ch) + rowOf x1 4 ch * padRow x0 b (64 * q.val + s.val + 64 * 4) ch := by
  pointwise [val_main_v31, val_main_v32, val_main_v33, val_main_v34, val_main_v35, val_main_v36, val_main_v37]
  exact tap_eq x0 x1 b q s ch _ 4 (by rfl) _ rfl _

theorem tap5 : val_main_v44 (F := Ideal) x0 x1 (ix4 b q s ch)
    = val_main_v37 (F := Ideal) x0 x1 (ix4 b q s ch) + rowOf x1 5 ch * padRow x0 b (64 * q.val + s.val + 64 * 5) ch := by
  pointwise [val_main_v38, val_main_v39, val_main_v40, val_main_v41, val_main_v42, val_main_v43, val_main_v44]
  exact tap_eq x0 x1 b q s ch _ 5 (by rfl) _ rfl _

theorem tap6 : val_main_v51 (F := Ideal) x0 x1 (ix4 b q s ch)
    = val_main_v44 (F := Ideal) x0 x1 (ix4 b q s ch) + rowOf x1 6 ch * padRow x0 b (64 * q.val + s.val + 64 * 6) ch := by
  pointwise [val_main_v45, val_main_v46, val_main_v47, val_main_v48, val_main_v49, val_main_v50, val_main_v51]
  exact tap_eq x0 x1 b q s ch _ 6 (by rfl) _ rfl _

theorem tap7 : val_main_v58 (F := Ideal) x0 x1 (ix4 b q s ch)
    = val_main_v51 (F := Ideal) x0 x1 (ix4 b q s ch) + rowOf x1 7 ch * padRow x0 b (64 * q.val + s.val + 64 * 7) ch := by
  pointwise [val_main_v52, val_main_v53, val_main_v54, val_main_v55, val_main_v56, val_main_v57, val_main_v58]
  exact tap_eq x0 x1 b q s ch _ 7 (by rfl) _ rfl _

theorem tap8 : val_main_v65 (F := Ideal) x0 x1 (ix4 b q s ch)
    = val_main_v58 (F := Ideal) x0 x1 (ix4 b q s ch) + rowOf x1 8 ch * padRow x0 b (64 * q.val + s.val + 64 * 8) ch := by
  pointwise [val_main_v59, val_main_v60, val_main_v61, val_main_v62, val_main_v63, val_main_v64, val_main_v65]
  exact tap_eq x0 x1 b q s ch _ 8 (by rfl) _ rfl _

theorem tap9 : val_main_v72 (F := Ideal) x0 x1 (ix4 b q s ch)
    = val_main_v65 (F := Ideal) x0 x1 (ix4 b q s ch) + rowOf x1 9 ch * padRow x0 b (64 * q.val + s.val + 64 * 9) ch := by
  pointwise [val_main_v66, val_main_v67, val_main_v68, val_main_v69, val_main_v70, val_main_v71, val_main_v72]
  exact tap_eq x0 x1 b q s ch _ 9 (by rfl) _ rfl _

theorem tap10 : val_main_v79 (F := Ideal) x0 x1 (ix4 b q s ch)
    = val_main_v72 (F := Ideal) x0 x1 (ix4 b q s ch) + rowOf x1 10 ch * padRow x0 b (64 * q.val + s.val + 64 * 10) ch := by
  pointwise [val_main_v73, val_main_v74, val_main_v75, val_main_v76, val_main_v77, val_main_v78, val_main_v79]
  exact tap_eq x0 x1 b q s ch _ 10 (by rfl) _ rfl _

theorem tap11 : val_main_v86 (F := Ideal) x0 x1 (ix4 b q s ch)
    = val_main_v79 (F := Ideal) x0 x1 (ix4 b q s ch) + rowOf x1 11 ch * padRow x0 b (64 * q.val + s.val + 64 * 11) ch := by
  pointwise [val_main_v80, val_main_v81, val_main_v82, val_main_v83, val_main_v84, val_main_v85, val_main_v86]
  exact tap_eq x0 x1 b q s ch _ 11 (by rfl) _ rfl _

theorem tap12 : val_main_v93 (F := Ideal) x0 x1 (ix4 b q s ch)
    = val_main_v86 (F := Ideal) x0 x1 (ix4 b q s ch) + rowOf x1 12 ch * padRow x0 b (64 * q.val + s.val + 64 * 12) ch := by
  pointwise [val_main_v87, val_main_v88, val_main_v89, val_main_v90, val_main_v91, val_main_v92, val_main_v93]
  exact tap_eq x0 x1 b q s ch _ 12 (by rfl) _ rfl _

theorem tap13 : val_main_v100 (F := Ideal) x0 x1 (ix4 b q s ch)
    = val_main_v93 (F := Ideal) x0 x1 (ix4 b q s ch) + rowOf x1 13 ch * padRow x0 b (64 * q.val + s.val + 64 * 13) ch := by
  pointwise [val_main_v94, val_main_v95, val_main_v96, val_main_v97, val_main_v98, val_main_v99, val_main_v100]
  exact tap_eq x0 x1 b q s ch _ 13 (by rfl) _ rfl _

theorem tap14 : val_main_v107 (F := Ideal) x0 x1 (ix4 b q s ch)
    = val_main_v100 (F := Ideal) x0 x1 (ix4 b q s ch) + rowOf x1 14 ch * padRow x0 b (64 * q.val + s.val + 64 * 14) ch := by
  pointwise [val_main_v101, val_main_v102, val_main_v103, val_main_v104, val_main_v105, val_main_v106, val_main_v107]
  exact tap_eq x0 x1 b q s ch _ 14 (by rfl) _ rfl _

theorem tap15 : val_main_v114 (F := Ideal) x0 x1 (ix4 b q s ch)
    = val_main_v107 (F := Ideal) x0 x1 (ix4 b q s ch) + rowOf x1 15 ch * padRow x0 b (64 * q.val + s.val + 64 * 15) ch := by
  pointwise [val_main_v108, val_main_v109, val_main_v110, val_main_v111, val_main_v112, val_main_v113, val_main_v114]
  exact tap_eq x0 x1 b q s ch _ 15 (by rfl) _ rfl _

theorem tap16 : val_main_v121 (F := Ideal) x0 x1 (ix4 b q s ch)
    = val_main_v114 (F := Ideal) x0 x1 (ix4 b q s ch) + rowOf x1 16 ch * padRow x0 b (64 * q.val + s.val + 64 * 16) ch := by
  pointwise [val_main_v115, val_main_v116, val_main_v117, val_main_v118, val_main_v119, val_main_v120, val_main_v121]
  exact tap_eq x0 x1 b q s ch _ 16 (by rfl) _ rfl _

theorem tap17 : val_main_v128 (F := Ideal) x0 x1 (ix4 b q s ch)
    = val_main_v121 (F := Ideal) x0 x1 (ix4 b q s ch) + rowOf x1 17 ch * padRow x0 b (64 * q.val + s.val + 64 * 17) ch := by
  pointwise [val_main_v122, val_main_v123, val_main_v124, val_main_v125, val_main_v126, val_main_v127, val_main_v128]
  exact tap_eq x0 x1 b q s ch _ 17 (by rfl) _ rfl _

theorem tap18 : val_main_v135 (F := Ideal) x0 x1 (ix4 b q s ch)
    = val_main_v128 (F := Ideal) x0 x1 (ix4 b q s ch) + rowOf x1 18 ch * padRow x0 b (64 * q.val + s.val + 64 * 18) ch := by
  pointwise [val_main_v129, val_main_v130, val_main_v131, val_main_v132, val_main_v133, val_main_v134, val_main_v135]
  exact tap_eq x0 x1 b q s ch _ 18 (by rfl) _ rfl _

theorem tap19 : val_main_v142 (F := Ideal) x0 x1 (ix4 b q s ch)
    = val_main_v135 (F := Ideal) x0 x1 (ix4 b q s ch) + rowOf x1 19 ch * padRow x0 b (64 * q.val + s.val + 64 * 19) ch := by
  pointwise [val_main_v136, val_main_v137, val_main_v138, val_main_v139, val_main_v140, val_main_v141, val_main_v142]
  exact tap_eq x0 x1 b q s ch _ 19 (by rfl) _ rfl _

theorem tap20 : val_main_v149 (F := Ideal) x0 x1 (ix4 b q s ch)
    = val_main_v142 (F := Ideal) x0 x1 (ix4 b q s ch) + rowOf x1 20 ch * padRow x0 b (64 * q.val + s.val + 64 * 20) ch := by
  pointwise [val_main_v143, val_main_v144, val_main_v145, val_main_v146, val_main_v147, val_main_v148, val_main_v149]
  exact tap_eq x0 x1 b q s ch _ 20 (by rfl) _ rfl _

theorem tap21 : val_main_v156 (F := Ideal) x0 x1 (ix4 b q s ch)
    = val_main_v149 (F := Ideal) x0 x1 (ix4 b q s ch) + rowOf x1 21 ch * padRow x0 b (64 * q.val + s.val + 64 * 21) ch := by
  pointwise [val_main_v150, val_main_v151, val_main_v152, val_main_v153, val_main_v154, val_main_v155, val_main_v156]
  exact tap_eq x0 x1 b q s ch _ 21 (by rfl) _ rfl _

theorem tap22 : val_main_v163 (F := Ideal) x0 x1 (ix4 b q s ch)
    = val_main_v156 (F := Ideal) x0 x1 (ix4 b q s ch) + rowOf x1 22 ch * padRow x0 b (64 * q.val + s.val + 64 * 22) ch := by
  pointwise [val_main_v157, val_main_v158, val_main_v159, val_main_v160, val_main_v161, val_main_v162, val_main_v163]
  exact tap_eq x0 x1 b q s ch _ 22 (by rfl) _ rfl _

theorem tap23 : val_main_v170 (F := Ideal) x0 x1 (ix4 b q s ch)
    = val_main_v163 (F := Ideal) x0 x1 (ix4 b q s ch) + rowOf x1 23 ch * padRow x0 b (64 * q.val + s.val + 64 * 23) ch := by
  pointwise [val_main_v164, val_main_v165, val_main_v166, val_main_v167, val_main_v168, val_main_v169, val_main_v170]
  exact tap_eq x0 x1 b q s ch _ 23 (by rfl) _ rfl _

theorem tap24 : val_main_v177 (F := Ideal) x0 x1 (ix4 b q s ch)
    = val_main_v170 (F := Ideal) x0 x1 (ix4 b q s ch) + rowOf x1 24 ch * padRow x0 b (64 * q.val + s.val + 64 * 24) ch := by
  pointwise [val_main_v171, val_main_v172, val_main_v173, val_main_v174, val_main_v175, val_main_v176, val_main_v177]
  exact tap_eq x0 x1 b q s ch _ 24 (by rfl) _ rfl _

theorem tap25 : val_main_v184 (F := Ideal) x0 x1 (ix4 b q s ch)
    = val_main_v177 (F := Ideal) x0 x1 (ix4 b q s ch) + rowOf x1 25 ch * padRow x0 b (64 * q.val + s.val + 64 * 25) ch := by
  pointwise [val_main_v178, val_main_v179, val_main_v180, val_main_v181, val_main_v182, val_main_v183, val_main_v184]
  exact tap_eq x0 x1 b q s ch _ 25 (by rfl) _ rfl _

theorem tap26 : val_main_v191 (F := Ideal) x0 x1 (ix4 b q s ch)
    = val_main_v184 (F := Ideal) x0 x1 (ix4 b q s ch) + rowOf x1 26 ch * padRow x0 b (64 * q.val + s.val + 64 * 26) ch := by
  pointwise [val_main_v185, val_main_v186, val_main_v187, val_main_v188, val_main_v189, val_main_v190, val_main_v191]
  exact tap_eq x0 x1 b q s ch _ 26 (by rfl) _ rfl _

theorem tap27 : val_main_v198 (F := Ideal) x0 x1 (ix4 b q s ch)
    = val_main_v191 (F := Ideal) x0 x1 (ix4 b q s ch) + rowOf x1 27 ch * padRow x0 b (64 * q.val + s.val + 64 * 27) ch := by
  pointwise [val_main_v192, val_main_v193, val_main_v194, val_main_v195, val_main_v196, val_main_v197, val_main_v198]
  exact tap_eq x0 x1 b q s ch _ 27 (by rfl) _ rfl _

theorem tap28 : val_main_v205 (F := Ideal) x0 x1 (ix4 b q s ch)
    = val_main_v198 (F := Ideal) x0 x1 (ix4 b q s ch) + rowOf x1 28 ch * padRow x0 b (64 * q.val + s.val + 64 * 28) ch := by
  pointwise [val_main_v199, val_main_v200, val_main_v201, val_main_v202, val_main_v203, val_main_v204, val_main_v205]
  exact tap_eq x0 x1 b q s ch _ 28 (by rfl) _ rfl _

theorem tap29 : val_main_v212 (F := Ideal) x0 x1 (ix4 b q s ch)
    = val_main_v205 (F := Ideal) x0 x1 (ix4 b q s ch) + rowOf x1 29 ch * padRow x0 b (64 * q.val + s.val + 64 * 29) ch := by
  pointwise [val_main_v206, val_main_v207, val_main_v208, val_main_v209, val_main_v210, val_main_v211, val_main_v212]
  exact tap_eq x0 x1 b q s ch _ 29 (by rfl) _ rfl _

theorem tap30 : val_main_v219 (F := Ideal) x0 x1 (ix4 b q s ch)
    = val_main_v212 (F := Ideal) x0 x1 (ix4 b q s ch) + rowOf x1 30 ch * padRow x0 b (64 * q.val + s.val + 64 * 30) ch := by
  pointwise [val_main_v213, val_main_v214, val_main_v215, val_main_v216, val_main_v217, val_main_v218, val_main_v219]
  exact tap_eq x0 x1 b q s ch _ 30 (by rfl) _ rfl _

/-- The thirty-one shifted products, added in order, are the taps over the padded row. -/
theorem conv_at :
    val_main_v219 (F := Ideal) x0 x1 (ix4 b q s ch)
      = taps (fun j => rowOf x1 j ch) (fun j => padRow x0 b (64 * q.val + s.val + 64 * j) ch) 31 := by
  have h0 : val_main_v2 (F := Ideal) (ix4 b q s ch) = 0 := by
    pointwise [val_main_v2, val_main_cst]
  rw [tap30, tap29, tap28, tap27, tap26, tap25, tap24, tap23, tap22, tap21, tap20, tap19, tap18, tap17, tap16, tap15, tap14, tap13, tap12, tap11, tap10, tap9, tap8, tap7, tap6, tap5, tap4, tap3, tap2, tap1, tap0, h0]
  rfl

end

end Cert.ConvRefIdeal.ConvValue

end
-- ==== Proof.Conv.Ref.lean ====
module

public import proofs.«01_k».proof.Proof.Gen.ConvRefIdeal.Read
public import proofs.«01_k».proof.Proof.Conv.Spec
public import Idealize.ShloMosaic.Lib.Pointwise

@[expose] public section

set_option maxRecDepth 16384

noncomputable section

/-! # The reference of the Conformer convolution, read at an index -/

namespace Cert.ConvRefIdeal.ConvValue

open Cert.ConvRefIdeal Cert.ConvRefIdeal.Gen Cert.ConvRefIdeal.Read Idealize.ShloMosaic Cert.ConvSpec

section

variable (x0 : FVec Ideal S16x2048x512 .f32) (x1 : FVec Ideal S31x512 .f32) (x2 x3 x4 : FVec Ideal S512 .f32)
  (b : Fin 16) (p : Fin 2048) (ch : Fin 512)

theorem bias_at : val_main_v223 (F := Ideal) x0 x1 x2 (ix3 b p ch)
    = val_main_v220 (F := Ideal) x0 x1 (ix3 b p ch) + x2 (ix1 ch) := by
  pointwise [val_main_v223, val_main_v222, val_main_v221]

theorem mean_at : val_main_v227 (F := Ideal) x0 x1 x2 (ix3 b p 0)
    = mean (fun ch => val_main_v223 (F := Ideal) x0 x1 x2 (ix3 b p ch)) := by
  pointwise [val_main_v227, val_main_v226, val_main_cst_1, val_main_v225, val_main_v224, val_main_cst_0]
  rfl

theorem square_at : val_main_v230 (F := Ideal) x0 x1 x2 (ix3 b p ch)
    = (val_main_v223 (F := Ideal) x0 x1 x2 (ix3 b p ch) - val_main_v227 (F := Ideal) x0 x1 x2 (ix3 b p 0))
      * (val_main_v223 (F := Ideal) x0 x1 x2 (ix3 b p ch) - val_main_v227 (F := Ideal) x0 x1 x2 (ix3 b p 0)) := by
  pointwise [val_main_v230, val_main_v229, val_main_v228]

theorem var_at : val_main_v234 (F := Ideal) x0 x1 x2 (ix3 b p 0)
    = mean (fun ch => val_main_v230 (F := Ideal) x0 x1 x2 (ix3 b p ch)) := by
  pointwise [val_main_v234, val_main_v233, val_main_cst_3, val_main_v232, val_main_v231, val_main_cst_2]
  rfl

theorem norm_at : val_main_v247 (F := Ideal) x0 x1 x2 x3 x4 (ix3 b p ch)
    = norm (fun ch => val_main_v223 (F := Ideal) x0 x1 x2 (ix3 b p ch)) (fun ch => x3 (ix1 ch)) (fun ch => x4 (ix1 ch))
        ch := by
  pointwise [val_main_v247, val_main_v246, val_main_v245, val_main_v244, val_main_v243, val_main_v242, val_main_v241,
    val_main_v240, val_main_v239, val_main_v238, val_main_v237, val_main_cst_4, val_main_v236, val_main_v235]
  rw [var_at, mean_at]
  simp only [square_at, mean_at]
  rfl

theorem act_at (r : Fin 32768) : val_main_v249 (F := Ideal) x0 x1 x2 x3 x4 (ix2 r ch)
    = act (fun ch => val_main_v220 (F := Ideal) x0 x1 (ix3 (⟨r.val / 2048, by omega⟩ : Fin 16)
          (⟨r.val % 2048, Nat.mod_lt _ (by decide)⟩ : Fin 2048) ch) + x2 (ix1 ch))
        (fun ch => x3 (ix1 ch)) (fun ch => x4 (ix1 ch)) ch := by
  have h : ∀ (b : Fin 16) (p : Fin 2048), val_main_v248 (F := Ideal) x0 x1 x2 x3 x4 (ix3 b p ch)
      = val_main_v247 (F := Ideal) x0 x1 x2 x3 x4 (ix3 b p ch)
        * Ideal.logistic (val_main_v247 (F := Ideal) x0 x1 x2 x3 x4 (ix3 b p ch)) := by
    intro b p
    pointwise [val_main_v248, val_main_call1_v5, val_main_call1_v4, val_main_call1_cst_0, val_main_call1_v3,
      val_main_call1_cst, val_main_call1_v2, val_main_call1_v1, val_main_call1_v0]
    rfl
  pointwise [val_main_v249]
  rw [h, norm_at]
  simp only [bias_at]
  rfl

end

end Cert.ConvRefIdeal.ConvValue

end
-- ==== Proof.Conv.Pair.lean ====
module

public import proofs.«01_k».proof.Defs
public import proofs.«01_k».proof.Proof.Conv.KernelRows
public import proofs.«01_k».proof.Proof.Conv.RefTaps
public import proofs.«01_k».proof.Proof.Conv.Ref
public import proofs.«01_k».proof.Proof.Gen.ConvRefIdeal.Run

@[expose] public section

set_option maxRecDepth 16384

noncomputable section

/-! # The Conformer convolution: kernel against reference -/

namespace Cert.ConvPair

open Idealize.ShloMosaic Idealize.ShloMosaic.TcCoe Idealize.SL.Sem Cert.ConvSpec

/-- The reference's array is the kernel's. -/
theorem ref_eq (Y : FVec Ideal ConvRefIdeal.S16x2048x512 .f32) (W : FVec Ideal ConvRefIdeal.S31x512 .f32)
    (b g h : FVec Ideal ConvRefIdeal.S512 .f32) :
    ConvRefIdeal.Read.val_main_v249 (F := Ideal) Y W b g h = ConvIdeal.ConvValue.result Y W b g h := by
  have hc : ∀ (i : Fin 16) (p : Fin 2048) (ch : Fin 512), ConvRefIdeal.Read.val_main_v220 (F := Ideal) Y W (ix3 i p ch)
      = taps (fun j => rowOf W j ch) (fun j => padRow Y i (p.val + 64 * j) ch) 31 := by
    intro i p ch
    pointwise [ConvRefIdeal.Read.val_main_v220]
    rw [ConvRefIdeal.ConvValue.conv_at]
    refine congrArg (fun n => taps _ (fun j => padRow Y i (n + 64 * j) ch) 31) ?_
    show 64 * (p.val / 64) + p.val % 64 = p.val
    omega
  funext z
  idx_vars z
  refine (ConvRefIdeal.ConvValue.act_at Y W b g h z1 z0).trans ?_
  simp only [hc]
  rfl

/-- Every run of the reference ends, leaves its arguments as they were, and it declares no semaphore. -/
theorem reference_frame : Cert.quiescent_ConvRefIdeal := fun m ρ _ =>
  (θ_run ConvRefIdeal.defs _ _).mono
    (fun r h => ⟨fun c => (h c).2, Idealize.ShloMosaic.sem_eq_zero_of_no_sems (by decide) r.2⟩)
    (ConvRefIdeal.Value.run (F := Ideal) m ρ)

/-- The value claim of the Conformer convolution. -/
theorem algebraic [hK : Cert.ConvIdeal.Facts] [hR : Cert.ConvRefIdeal.Facts] :
    Cert.algebraic_ConvIdeal_ConvRefIdeal (hConvIdeal := hK) (hConvRefIdeal := hR) := by
  intro m g m' g' _ hagree
  refine ⟨fun c => ConvIdeal.ConvValue.result (m ((c.tc : Thread ConvIdeal.nD ConvIdeal.τ).loc ConvIdeal.main_arg0))
    (m ((c.tc : Thread ConvIdeal.nD ConvIdeal.τ).loc ConvIdeal.main_arg1))
    (m ((c.tc : Thread ConvIdeal.nD ConvIdeal.τ).loc ConvIdeal.main_arg2))
    (m ((c.tc : Thread ConvIdeal.nD ConvIdeal.τ).loc ConvIdeal.main_arg3))
    (m ((c.tc : Thread ConvIdeal.nD ConvIdeal.τ).loc ConvIdeal.main_arg4)), ?_, ?_⟩
  · refine (θ_run _ _ _).mono (fun r h c => ⟨(h c).1.trans (ConvIdeal.ConvValue.final m c), (h c).2⟩)
      (ConvIdeal.Value.run_blocks m g)
  · refine (θ_run _ _ _).mono (fun r h c => ⟨(h c).1.trans ?_, (h c).2⟩) (ConvRefIdeal.Value.run m' g')
    obtain ⟨a0, a1, a2, a3, a4⟩ := hagree c
    refine ((ConvRefIdeal.Read.val_main_v249_eq (F := Ideal) (StableHlo.launchContents m' c)).trans
      (ref_eq _ _ _ _ _)).trans ?_
    exact congr (congr (congr (congr (congrArg ConvIdeal.ConvValue.result a0) a1) a2) a3) a4

end Cert.ConvPair

end
-- ==== Proof.Proj.Spec.lean ====
module

public import Idealize.ShloMosaic.Lib.Pointwise
public import Mathlib.Algebra.BigOperators.Intervals

@[expose] public section

noncomputable section

/-! # The input projection of a row, and the running sums inside a chunk of 64 rows -/

namespace Cert.ProjSpec

open Idealize.ShloMosaic

/-- The sum of the last `s` values up to row `r`, as far as they lie in `r`'s chunk of 64. -/
def back (f : ℕ → EReal) (s r : ℕ) : EReal := ∑ k ∈ Finset.range (min s (r % 64 + 1)), f (r - k)

/-- The sum of the first `s` values from row `r` on, as far as they lie in `r`'s chunk of 64. -/
def ahead (f : ℕ → EReal) (s r : ℕ) : EReal := ∑ k ∈ Finset.range (min s (64 - r % 64)), f (r + k)

theorem back_one (f : ℕ → EReal) (r : ℕ) : back f 1 r = f r := by
  have h : min 1 (r % 64 + 1) = 1 := by omega
  rw [back, h, Finset.sum_range_one, Nat.sub_zero]

theorem ahead_one (f : ℕ → EReal) (r : ℕ) : ahead f 1 r = f r := by
  have h : min 1 (64 - r % 64) = 1 := by omega
  rw [ahead, h, Finset.sum_range_one, Nat.add_zero]

theorem back_double (f : ℕ → EReal) (s r : ℕ) :
    back f (s + s) r = back f s r + (if s ≤ r % 64 then back f s (r - s) else 0) := by
  unfold back
  by_cases h : s ≤ r % 64
  · have h1 : min s (r % 64 + 1) = s := by omega
    have h2 : min (s + s) (r % 64 + 1) = s + min s ((r - s) % 64 + 1) := by omega
    rw [if_pos h, h1, h2, Finset.sum_range_add]
    exact congrArg (_ + ·) (Finset.sum_congr rfl fun k _ => congrArg f (by omega))
  · have h1 : min (s + s) (r % 64 + 1) = min s (r % 64 + 1) := by omega
    rw [if_neg h, h1, add_zero]

theorem ahead_double (f : ℕ → EReal) (s r : ℕ) (h64 : s ≤ 64) :
    ahead f (s + s) r = ahead f s r + (if r % 64 < 64 - s then ahead f s (r + s) else 0) := by
  unfold ahead
  by_cases h : r % 64 < 64 - s
  · have h1 : min s (64 - r % 64) = s := by omega
    have h2 : min (s + s) (64 - r % 64) = s + min s (64 - (r + s) % 64) := by omega
    rw [if_pos h, h1, h2, Finset.sum_range_add]
    exact congrArg (_ + ·) (Finset.sum_congr rfl fun k _ => congrArg f (by omega))
  · have h1 : min (s + s) (64 - r % 64) = min s (64 - r % 64) := by omega
    rw [if_neg h, h1, add_zero]

theorem back_shift (f g : ℕ → EReal) (t s r R : ℕ) (hR : R = 64 * t + r) (h : ∀ n, n ≤ r → f n = g (64 * t + n)) :
    back f s r = back g s R := by
  subst hR
  have hm : (64 * t + r) % 64 = r % 64 := by omega
  unfold back
  rw [hm]
  refine Finset.sum_congr rfl fun k hk => ?_
  have := Finset.mem_range.mp hk
  rw [h _ (by omega)]
  exact congrArg g (by omega)

theorem ahead_shift (f g : ℕ → EReal) (t s r R N : ℕ) (hR : R = 64 * t + r) (hN : N % 64 = 0) (hr : r < N)
    (h : ∀ n, n < N → f n = g (64 * t + n)) : ahead f s r = ahead g s R := by
  subst hR
  have hm : (64 * t + r) % 64 = r % 64 := by omega
  unfold ahead
  rw [hm]
  refine Finset.sum_congr rfl fun k hk => ?_
  have := Finset.mem_range.mp hk
  rw [h _ (by omega)]
  exact congrArg g (by omega)

/-- The window sum of 64 values that ends at `p` is the sum back from `p`. -/
theorem window_back (h : ℕ → EReal) (p : ℕ) (hp : p < 64) :
    ∑ n : Fin 64, (if 63 ≤ p + n.val then h (p + n.val - 63) else 0) = ∑ k ∈ Finset.range (p + 1), h (p - k) := by
  rw [Fin.sum_univ_eq_sum_range (fun n => if 63 ≤ p + n then h (p + n - 63) else 0) 64, ← Finset.sum_range_reflect]
  refine Eq.symm ((Finset.sum_congr rfl fun k hk => ?_).trans
    (Finset.sum_subset (Finset.range_subset_range.mpr (by omega)) fun k hk hk' => ?_))
  · have := Finset.mem_range.mp hk
    rw [if_pos (by omega)]
    exact congrArg h (by omega)
  · have := Finset.mem_range.mp hk
    have : ¬ k < p + 1 := fun q => hk' (Finset.mem_range.mpr q)
    rw [if_neg (by omega)]

/-- A row's modulated RMS norm. -/
def rowH (x g sc sh : Fin 1024 → EReal) (d : Fin 1024) : EReal :=
  x d * Ideal.rsqrt (Ideal.div (∑ e, x e * x e) (Ideal.ofBits .f32 0x44800000#32) + Ideal.ofBits .f32 0x358637BD#32) * g d
    * (1 + sc d) + sh d

/-- A row times a column of the weights. -/
def proj (h w : Fin 1024 → EReal) : EReal := ∑ d, h d * w d

/-- A gate before its running sum. -/
def decay (alog dtb a : EReal) : EReal :=
  -(Ideal.exp alog) * (max (a + dtb) 0 + Ideal.log1p (Ideal.exp (-(max (a + dtb) (-(a + dtb))))))

/-- Column `j` of the projection of row `p` of sample `i`. -/
def entry (x : (⟨3, ![16, 2048, 1024]⟩ : Shape).Idx → EReal) (sh sc : (⟨3, ![16, 1, 1024]⟩ : Shape).Idx → EReal)
    (g : (⟨1, ![1024]⟩ : Shape).Idx → EReal) (w : (⟨2, ![1024, 3088]⟩ : Shape).Idx → EReal)
    (i : Fin 16) (p : Fin 2048) (j : Fin 3088) : EReal :=
  proj (rowH (fun e => x (ix3 i p e)) (fun e => g (ix1 e)) (fun e => sc (ix3 i 0 e)) (fun e => sh (ix3 i 0 e)))
    (fun d => w (ix2 d j))

/-- The addends of lane `c` of the gates, down the rows of a sample. -/
def addend (u : Fin 2048 → Fin 3088 → EReal) (al dt : (⟨2, ![2, 4]⟩ : Shape).Idx → EReal) (c : Fin 16) (n : ℕ) : EReal :=
  if h : n < 2048 then
    decay (al (ix2 ⟨c.val / 8, by omega⟩ ⟨c.val % 4, Nat.mod_lt _ (by decide)⟩))
      (dt (ix2 ⟨c.val / 8, by omega⟩ ⟨c.val % 4, Nat.mod_lt _ (by decide)⟩)) (u ⟨n, h⟩ ⟨2048 + c.val, by omega⟩)
  else 0

/-- Lane `c` of the gates of row `p`: a rate, or the running sum in its chunk, forward in the first eight lanes and
    backward in the last eight. -/
def gate (u : Fin 2048 → Fin 3088 → EReal) (al dt : (⟨2, ![2, 4]⟩ : Shape).Idx → EReal) (p : Fin 2048) (c : Fin 16) : EReal :=
  if c.val % 8 < 4 then Ideal.logistic (u p ⟨2048 + c.val, by omega⟩)
  else if c.val < 8 then back (addend u al dt c) 64 p.val else ahead (addend u al dt c) 64 p.val

end Cert.ProjSpec

end
-- ==== Proof.Proj.Rows.lean ====
module

public import proofs.«01_k».proof.Proof.Gen.ProjIdeal.Value
public import proofs.«01_k».proof.Proof.Proj.Spec
public import Idealize.ShloMosaic.Lib.Pipeline.ValueKit
public import Idealize.ShloMosaic.Lib.KernelVsHost
public import Idealize.ShloMosaic.Lib.Pointwise

@[expose] public section

set_option maxRecDepth 16384

noncomputable section

/-! # The kernel of the input projection, read at an index -/

namespace Cert.ProjIdeal.ProjValue

open Cert.ProjIdeal Cert.ProjIdeal.Gen Idealize.ShloMosaic Idealize.ShloMosaic.TcCoe Idealize.SL.Sem Cert.ProjSpec

section

variable (X : FVec Ideal S512x1024 .f32) (G : FVec Ideal S1x1024 .f32) (C H : FVec Ideal S1x1x1024 .f32)

theorem row_at (r : Fin 512) (d : Fin 1024) : k0_pay4 (F := Ideal) X G C H (ix2 r d)
    = rowH (fun e => X (ix2 r e)) (fun e => G (ix2 0 e)) (fun e => C (ix3 0 0 e)) (fun e => H (ix3 0 0 e)) d := by
  pointwise [k0_pay4]
  rfl

theorem qkv_at (W : FVec Ideal S1024x1536 .bf16) (r : Fin 512) (j : Fin 1536) :
    k0_pay5 (F := Ideal) X G C H W (ix2 r j)
      = proj (fun d => k0_pay4 (F := Ideal) X G C H (ix2 r d)) (fun d => W (ix2 d j)) := by
  pointwise [k0_pay5]
  rfl

theorem ba_at (W : FVec Ideal S1024x128 .bf16) (r : Fin 512) (j : Fin 128) :
    k0_pay6 (F := Ideal) X G C H W (ix2 r j)
      = proj (fun d => k0_pay4 (F := Ideal) X G C H (ix2 r d)) (fun d => W (ix2 d j)) := by
  pointwise [k0_pay6]
  rfl

theorem silu_at (h : FVec Ideal S512x1024 .bf16) (W : FVec Ideal S1024x512 .bf16) (r : Fin 512) (j : Fin 512) :
    k0_pay2 (F := Ideal) h W (ix2 r j)
      = proj (fun d => h (ix2 r d)) (fun d => W (ix2 d j))
        * Ideal.logistic (proj (fun d => h (ix2 r d)) (fun d => W (ix2 d j))) := by
  pointwise [k0_pay2]
  rfl

theorem glu_at (h : FVec Ideal S512x1024 .bf16) (W : FVec Ideal S1024x1024 .bf16) (r : Fin 512) (j : Fin 512) :
    k0_pay3 (F := Ideal) h W (ix2 r j)
      = proj (fun d => h (ix2 r d)) (fun d => W (ix2 d ⟨j.val, by omega⟩))
        * Ideal.logistic (proj (fun d => h (ix2 r d)) (fun d => W (ix2 d ⟨512 + j.val, by omega⟩))) := by
  pointwise [k0_pay3]
  rfl

end

end Cert.ProjIdeal.ProjValue

end
-- ==== Proof.Proj.Scan.lean ====
module

public import proofs.«01_k».proof.Proof.Gen.ProjIdeal.Value
public import proofs.«01_k».proof.Proof.Proj.Spec
public import Idealize.ShloMosaic.Lib.KernelVsHost
public import Idealize.ShloMosaic.Lib.Pointwise

@[expose] public section

set_option maxRecDepth 16384

noncomputable section

/-! # The kernel's running sums of the gates -/

namespace Cert.ProjIdeal.ProjValue

open Cert.ProjIdeal Cert.ProjIdeal.Gen Idealize.ShloMosaic Idealize.ShloMosaic.TcCoe Idealize.SL.Sem Cert.ProjSpec

/-- A row's place in its chunk. -/
theorem place_at (r : Fin 512) (c : Fin 128) : k0_pay10 (ix2 r c) = BitVec.ofNat 32 (r.val % 64) := by
  pointwise [k0_pay10]
  revert r
  decide +kernel

theorem place_at' (r : Fin 512) (c : Fin 128) : k0_pay14 (ix2 r c) = BitVec.ofNat 32 (r.val % 64) := by
  pointwise [k0_pay14]
  revert r
  decide +kernel

/-- Lanes 0–3 and 8–11 of the first sixteen hold the rates `beta`. -/
theorem rate_lane (r : Fin 512) (c : Fin 128) : k0_pay7 (iota .tc S512x128 32 [1] iota_S512x128_d1_w32) 8#32 (ix2 r c)
    = (if c.val % 8 < 4 then 1#1 else 0#1) := by
  pointwise [k0_pay7]
  revert c
  decide +kernel

theorem low_lane (r : Fin 512) (c : Fin 128) : k0_pay9 (iota .tc S512x128 32 [1] iota_S512x128_d1_w32) 8#32 (ix2 r c)
    = (if c.val < 8 then 1#1 else 0#1) := by
  pointwise [k0_pay9]
  revert c
  decide +kernel

/-- Column `c` of the rows, zero past the end. -/
def col (x : FVec Ideal S512x128 .f32) (c : Fin 128) (n : ℕ) : EReal := if h : n < 512 then x (ix2 ⟨n, h⟩ c) else 0

theorem sge_word : ∀ s < 64, ∀ p < 64,
    IntOp.cmpi .sge (BitVec.ofNat 32 p) (BitVec.ofNat 32 s) = if s ≤ p then 1#1 else 0#1 := by decide +kernel

theorem slt_word : ∀ s < 64, ∀ p < 64,
    IntOp.cmpi .slt (BitVec.ofNat 32 p) (BitVec.ofNat 32 s) = if p < s then 1#1 else 0#1 := by decide +kernel

/-- One doubling of the sums that run forward. -/
theorem back_step (x y : FVec Ideal S512x128 .f32) (P : IVec S512x128 32) (s : ℕ) (hs : s < 64) (w : BitVec 32)
    (hw : w = BitVec.ofNat 32 s) (hP : ∀ r c, P (ix2 r c) = BitVec.ofNat 32 (r.val % 64))
    (hx : ∀ (r : Fin 512) (c : Fin 128), x (ix2 r c) = back (col y c) s r.val) (r : Fin 512) (c : Fin 128) :
    addf x (select (cmpi .sge P (broadcast S512x128 w)) (dynamicRotate 0 w none x rotates_S512x128_d0)
      (broadcast S512x128 (Scalar.ofBits (F := Ideal) .f32 0x00000000#32))) (ix2 r c) = back (col y c) (s + s) r.val := by
  have hwn : w.toNat = s := by rw [hw, BitVec.toNat_ofNat]; omega
  have hrot : dynamicRotate 0 w none x rotates_S512x128_d0 (ix2 r c)
      = x (ix2 ⟨(r.val + 512 - s) % 512, Nat.mod_lt _ (by decide)⟩ c) := by
    refine dynamicRotate_apply (0 : Fin 2) w x _ _ _ fun b => ?_
    fin_cases b
    · show (r.val + 512 - s) % 512 = (r.val + 512 - w.toNat % 512) % 512
      rw [hwn, Nat.mod_eq_of_lt (by omega : s < 512)]
    · rfl
  have hc : (cmpi .sge P (broadcast S512x128 w)) (ix2 r c) = if s ≤ r.val % 64 then 1#1 else 0#1 := by
    show IntOp.cmpi .sge (P (ix2 r c)) w = _
    rw [hP, hw]
    exact sge_word s hs _ (Nat.mod_lt _ (by decide))
  show x (ix2 r c) + Scalar.select ((cmpi .sge P (broadcast S512x128 w)) (ix2 r c))
    (dynamicRotate 0 w none x rotates_S512x128_d0 (ix2 r c)) (Scalar.ofBits (F := Ideal) .f32 0x00000000#32) = _
  rw [hrot, hc, hx, hx, back_double]
  refine congrArg (_ + ·) ?_
  by_cases h : s ≤ r.val % 64
  · rw [if_pos h, if_pos h]
    refine congrArg (back (col y c) s) ?_
    have := r.isLt
    show (r.val + 512 - s) % 512 = r.val - s
    omega
  · rw [if_neg h, if_neg h]
    exact Ideal.ofBits_zero_f32

/-- One doubling of the sums that run backward: a rotation by `512 - s` brings row `r + s` to row `r`. -/
theorem ahead_step (x y : FVec Ideal S512x128 .f32) (P : IVec S512x128 32) (s : ℕ) (hs : s < 64) (hs0 : 0 < s)
    (w v : BitVec 32) (hw : w = BitVec.ofNat 32 (512 - s)) (hv : v = BitVec.ofNat 32 (64 - s))
    (hP : ∀ r c, P (ix2 r c) = BitVec.ofNat 32 (r.val % 64))
    (hx : ∀ (r : Fin 512) (c : Fin 128), x (ix2 r c) = ahead (col y c) s r.val) (r : Fin 512) (c : Fin 128) :
    addf x (select (cmpi .slt P (broadcast S512x128 v)) (dynamicRotate 0 w none x rotates_S512x128_d0)
      (broadcast S512x128 (Scalar.ofBits (F := Ideal) .f32 0x00000000#32))) (ix2 r c) = ahead (col y c) (s + s) r.val := by
  have hwn : w.toNat = 512 - s := by rw [hw, BitVec.toNat_ofNat]; omega
  have hrot : dynamicRotate 0 w none x rotates_S512x128_d0 (ix2 r c)
      = x (ix2 ⟨(r.val + s) % 512, Nat.mod_lt _ (by decide)⟩ c) := by
    refine dynamicRotate_apply (0 : Fin 2) w x _ _ _ fun b => ?_
    fin_cases b
    · show (r.val + s) % 512 = (r.val + 512 - w.toNat % 512) % 512
      rw [hwn, Nat.mod_eq_of_lt (by omega : 512 - s < 512)]
      congr 1
      omega
    · rfl
  have hc : (cmpi .slt P (broadcast S512x128 v)) (ix2 r c) = if r.val % 64 < 64 - s then 1#1 else 0#1 := by
    show IntOp.cmpi .slt (P (ix2 r c)) v = _
    rw [hP, hv]
    exact slt_word (64 - s) (by omega) _ (Nat.mod_lt _ (by decide))
  show x (ix2 r c) + Scalar.select ((cmpi .slt P (broadcast S512x128 v)) (ix2 r c))
    (dynamicRotate 0 w none x rotates_S512x128_d0 (ix2 r c)) (Scalar.ofBits (F := Ideal) .f32 0x00000000#32) = _
  rw [hrot, hc, hx, hx, ahead_double _ _ _ (by omega)]
  refine congrArg (_ + ·) ?_
  by_cases h : r.val % 64 < 64 - s
  · rw [if_pos h, if_pos h]
    refine congrArg (ahead (col y c) s) ?_
    have := r.isLt
    show (r.val + s) % 512 = r.val + s
    omega
  · rw [if_neg h, if_neg h]
    exact Ideal.ofBits_zero_f32

theorem col_at (y : FVec Ideal S512x128 .f32) (r : Fin 512) (c : Fin 128) : y (ix2 r c) = col y c r.val := by
  unfold col
  rw [dif_pos r.isLt]

/-- The three first doublings. -/
theorem back8 (y : FVec Ideal S512x128 .f32) (r : Fin 512) (c : Fin 128) :
    k0_pay11 (F := Ideal) y (ix2 r c) = back (col y c) 8 r.val :=
  back_step _ y k0_pay10 4 (by decide) 4#32 rfl place_at
    (back_step _ y k0_pay10 2 (by decide) 2#32 rfl place_at
      (back_step _ y k0_pay10 1 (by decide) 1#32 rfl place_at
        (fun r c => (col_at y r c).trans (back_one _ _).symm))) r c

theorem back64 (y : FVec Ideal S512x128 .f32) (r : Fin 512) (c : Fin 128) :
    k0_pay13 (F := Ideal) k0_pay10 (k0_pay11 (F := Ideal) y) (k0_pay12 (F := Ideal) y) (ix2 r c)
      = back (col y c) 64 r.val :=
  back_step _ y k0_pay10 32 (by decide) 32#32 rfl place_at
    (back_step _ y k0_pay10 16 (by decide) 16#32 rfl place_at
      (back_step _ y k0_pay10 8 (by decide) 8#32 rfl place_at (back8 y))) r c

theorem ahead4 (y : FVec Ideal S512x128 .f32) (r : Fin 512) (c : Fin 128) :
    k0_pay15 (F := Ideal) y (ix2 r c) = ahead (col y c) 4 r.val :=
  ahead_step _ y k0_pay14 2 (by decide) (by decide) 510#32 62#32 rfl rfl place_at'
    (ahead_step _ y k0_pay14 1 (by decide) (by decide) 511#32 63#32 rfl rfl place_at'
      (fun r c => (col_at y r c).trans (ahead_one _ _).symm)) r c

/-- The gates as the kernel stores them. -/
theorem gates_at (a y : FVec Ideal S512x128 .f32) (r : Fin 512) (c : Fin 128) :
    k0_pay16 (F := Ideal) a (k0_pay7 (iota .tc S512x128 32 [1] iota_S512x128_d1_w32) 8#32)
      (k0_pay9 (iota .tc S512x128 32 [1] iota_S512x128_d1_w32) 8#32)
      (k0_pay13 (F := Ideal) k0_pay10 (k0_pay11 (F := Ideal) y) (k0_pay12 (F := Ideal) y)) k0_pay14
      (k0_pay15 (F := Ideal) y) (ix2 r c)
    = if c.val % 8 < 4 then Ideal.logistic (a (ix2 r c))
      else if c.val < 8 then back (col y c) 64 r.val else ahead (col y c) 64 r.val := by
  have h64 : ∀ (r : Fin 512) (c : Fin 128), _ = ahead (col y c) 64 r.val :=
    ahead_step _ y k0_pay14 32 (by decide) (by decide) 480#32 32#32 rfl rfl place_at'
      (ahead_step _ y k0_pay14 16 (by decide) (by decide) 496#32 48#32 rfl rfl place_at'
        (ahead_step _ y k0_pay14 8 (by decide) (by decide) 504#32 56#32 rfl rfl place_at'
          (ahead_step _ y k0_pay14 4 (by decide) (by decide) 508#32 60#32 rfl rfl place_at' (ahead4 y))))
  show Scalar.select (k0_pay7 (iota .tc S512x128 32 [1] iota_S512x128_d1_w32) 8#32 (ix2 r c)) (Ideal.logistic (a (ix2 r c)))
    (Scalar.select (k0_pay9 (iota .tc S512x128 32 [1] iota_S512x128_d1_w32) 8#32 (ix2 r c)) _ _) = _
  rw [rate_lane, low_lane, back64]
  refine (congrArg (fun q => Scalar.select _ _ (Scalar.select _ _ q)) (h64 r c)).trans ?_
  by_cases h : c.val % 8 < 4
  · rw [if_pos h, if_pos h]; rfl
  · rw [if_neg h, if_neg h]
    by_cases h' : c.val < 8
    · rw [if_pos h', if_pos h']; rfl
    · rw [if_neg h', if_neg h']; rfl

/-- The gate's addend on the lanes that hold one. -/
theorem decay_at (a : FVec Ideal S512x128 .f32) (A D : FVec Ideal S1x128 .f32) (r : Fin 512) (c : Fin 128)
    (h : ¬ c.val % 8 < 4) :
    k0_pay8 (F := Ideal) a (iota .tc S512x128 32 [1] iota_S512x128_d1_w32) 8#32 A D (ix2 r c)
      = decay (A (ix2 0 c)) (D (ix2 0 c)) (a (ix2 r c)) := by
  have hl := rate_lane r c
  rw [if_neg h] at hl
  generalize hk : k0_pay7 (iota .tc S512x128 32 [1] iota_S512x128_d1_w32) 8#32 = K at hl
  unfold k0_pay8
  rw [hk]
  pointwise
  rw [hl]
  unfold decay
  show (0 - Ideal.exp (A (ix2 0 c))) * _ = _
  rw [if_neg (not_not.mpr rfl), zero_sub, zero_sub]
  rfl

end Cert.ProjIdeal.ProjValue

end
-- ==== Proof.Proj.Blocks.lean ====
module

public import proofs.«01_k».proof.Proof.Gen.ProjIdeal.Value
public import proofs.«01_k».proof.Proof.Proj.Spec
public import Idealize.ShloMosaic.Lib.Pipeline.ValueKit
public import Idealize.ShloMosaic.Lib.KernelVsHost
public import Idealize.ShloMosaic.Lib.Pointwise
public import Idealize.ShloMosaic.Lib.StableHlo.ReadAt

@[expose] public section

set_option maxRecDepth 16384

noncomputable section

/-! # The blocks of the arguments that a tile of the input projection reads -/

namespace Cert.ProjIdeal.ProjValue

open Cert.ProjIdeal Cert.ProjIdeal.Gen Idealize.ShloMosaic Idealize.ShloMosaic.TcCoe Idealize.SL.Sem Cert.ProjSpec

variable (m : (ℓ : Loc nD τ sig) → Buf (Elt Ideal) ℓ)

/-- The windows' index maps. -/
theorem idx : ∀ t : Fin cfg0.N, win0_0.index t = ![t.val, 0] ∧ win0_1.index t = ![t.val / 4, 0, 0]
    ∧ win0_2.index t = ![t.val / 4, 0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0]
    ∧ win0_12.index t = ![t.val, 0, 0] ∧ win0_13.index t = ![t.val, 0] ∧ win0_14.index t = ![t.val, 0] :=
  (by decide +kernel : ∀ t : Fin grid0.N, _)

/-- The sample a tile lies in. -/
abbrev sample (t : Fin cfg0.N) : Fin 16 := ⟨t.val / 4, by have : t.val < 64 := t.isLt; omega⟩

/-- The row of its sample that a tile's row `r` is. -/
abbrev place (t : Fin cfg0.N) (r : Fin 512) : Fin 2048 := ⟨512 * (t.val % 4) + r.val, by omega⟩

theorem x_entry (c : Dev nD) (R : Fin 32768) (e : Fin 1024) :
    (V m c main_v17 : S32768x1024.Idx → EReal) (ix2 R e) = (m ((c : Thread nD τ).loc main_arg0) : S16x2048x1024.Idx → EReal)
      (ix3 ⟨R.val / 2048, by omega⟩ ⟨R.val % 2048, Nat.mod_lt _ (by decide)⟩ e) := by
  unfold V
  after_reads_at

theorem gain_entry (c : Dev nD) (e : Fin 1024) :
    (V m c main_v16 : S1x1024.Idx → EReal) (ix2 0 e) = (m ((c : Thread nD τ).loc main_arg3) : S1024.Idx → EReal) (ix1 e) := by
  unfold V
  after_reads_at

theorem qkv_entry (c : Dev nD) (d : Fin 1024) (j : Fin 1536) :
    (V m c main_v1 : S1024x1536.Idx → EReal) (ix2 d j)
      = (m ((c : Thread nD τ).loc main_arg4) : S1024x3088.Idx → EReal) (ix2 d ⟨j.val, by omega⟩) := by
  unfold V
  after_reads_at

theorem z_entry (c : Dev nD) (d : Fin 1024) (j : Fin 512) :
    (V m c main_v3 : S1024x512.Idx → EReal) (ix2 d j)
      = (m ((c : Thread nD τ).loc main_arg4) : S1024x3088.Idx → EReal) (ix2 d ⟨1536 + j.val, by omega⟩) := by
  unfold V
  after_reads_at

theorem cf_entry (c : Dev nD) (d : Fin 1024) (j : Fin 1024) :
    (V m c main_v8 : S1024x1024.Idx → EReal) (ix2 d j)
      = (m ((c : Thread nD τ).loc main_arg4) : S1024x3088.Idx → EReal) (ix2 d ⟨2064 + j.val, by omega⟩) := by
  unfold V
  after_reads_at

theorem ba_entry (c : Dev nD) (d : Fin 1024) (j : Fin 16) :
    (V m c main_v6 : S1024x128.Idx → EReal) (ix2 d ⟨j.val, by omega⟩)
      = (m ((c : Thread nD τ).loc main_arg4) : S1024x3088.Idx → EReal) (ix2 d ⟨2048 + j.val, by omega⟩) := by
  unfold V
  after_reads_at

theorem alog_entry (c : Dev nD) (j : Fin 16) (h : ¬ j.val % 8 < 4) :
    (V m c main_v12 : S1x128.Idx → EReal) (ix2 0 ⟨j.val, by omega⟩)
      = (m ((c : Thread nD τ).loc main_arg5) : S2x4.Idx → EReal)
          (ix2 ⟨j.val / 8, by omega⟩ ⟨j.val % 4, Nat.mod_lt _ (by decide)⟩) := by
  unfold V
  after_reads_at
  rw [dif_neg h]
  after_reads_simp
  exact congrArg _ (congrArg (ix2 _) (Fin.ext (by show j.val % 8 - 4 = j.val % 4; omega)))

theorem dtb_entry (c : Dev nD) (j : Fin 16) (h : ¬ j.val % 8 < 4) :
    (V m c main_v15 : S1x128.Idx → EReal) (ix2 0 ⟨j.val, by omega⟩)
      = (m ((c : Thread nD τ).loc main_arg6) : S2x4.Idx → EReal)
          (ix2 ⟨j.val / 8, by omega⟩ ⟨j.val % 4, Nat.mod_lt _ (by decide)⟩) := by
  unfold V
  after_reads_at
  rw [dif_neg h]
  after_reads_simp
  exact congrArg _ (congrArg (ix2 _) (Fin.ext (by show j.val % 8 - 4 = j.val % 4; omega)))

theorem x_block (c : Dev nD) (t : Fin cfg0.N) (r : Fin 512) (e : Fin 1024) :
    (show FVec Ideal S512x1024 .f32 from iblk m c 0 t) (ix2 r e)
      = (m ((c : Thread nD τ).loc main_arg0) : S16x2048x1024.Idx → EReal) (ix3 (sample t) (place t r) e) := by
  have ht : t.val < 64 := t.isLt
  have h : (show FVec Ideal S512x1024 .f32 from iblk m c 0 t) (ix2 r e)
      = (V m c main_v17 : S32768x1024.Idx → EReal) (ix2 ⟨512 * t.val + r.val, by omega⟩ e) := by
    blk_point [iblk, idx t]
  rw [h, x_entry]
  exact congrArg _ (congrArg₂ (fun a b => ix3 a b e) (Fin.ext (by show (512 * t.val + r.val) / 2048 = t.val / 4; omega))
    (Fin.ext (by show (512 * t.val + r.val) % 2048 = 512 * (t.val % 4) + r.val; omega)))

theorem shift_block (c : Dev nD) (t : Fin cfg0.N) (e : Fin 1024) :
    (show FVec Ideal S1x1x1024 .f32 from iblk m c 1 t) (ix3 0 0 e)
      = (m ((c : Thread nD τ).loc main_arg1) : S16x1x1024.Idx → EReal) (ix3 (sample t) 0 e) := by
  blk_point [iblk, V, idx t]

theorem scale_block (c : Dev nD) (t : Fin cfg0.N) (e : Fin 1024) :
    (show FVec Ideal S1x1x1024 .f32 from iblk m c 2 t) (ix3 0 0 e)
      = (m ((c : Thread nD τ).loc main_arg2) : S16x1x1024.Idx → EReal) (ix3 (sample t) 0 e) := by
  blk_point [iblk, V, idx t]

theorem gain_block (c : Dev nD) (t : Fin cfg0.N) (e : Fin 1024) :
    (show FVec Ideal S1x1024 .f32 from iblk m c 3 t) (ix2 0 e)
      = (m ((c : Thread nD τ).loc main_arg3) : S1024.Idx → EReal) (ix1 e) := by
  have e1 : (show FVec Ideal S1x1024 .f32 from iblk m c 3 t) (ix2 0 e)
      = (V m c main_v16 : S1x1024.Idx → EReal) (ix2 0 e) := by
    blk_point [iblk, idx t]
  exact e1.trans (gain_entry m c e)

theorem qkv_block (c : Dev nD) (t : Fin cfg0.N) (d : Fin 1024) (j : Fin 1536) :
    (show FVec Ideal S1024x1536 .bf16 from iblk m c 4 t) (ix2 d j)
      = (m ((c : Thread nD τ).loc main_arg4) : S1024x3088.Idx → EReal) (ix2 d ⟨j.val, by omega⟩) := by
  have e1 : (show FVec Ideal S1024x1536 .bf16 from iblk m c 4 t) (ix2 d j)
      = (V m c main_v1 : S1024x1536.Idx → EReal) (ix2 d j) := by
    blk_point [iblk, idx t]
  exact e1.trans (qkv_entry m c d j)

theorem z_block (c : Dev nD) (t : Fin cfg0.N) (d : Fin 1024) (j : Fin 512) :
    (show FVec Ideal S1024x512 .bf16 from iblk m c 8 t) (ix2 d j)
      = (m ((c : Thread nD τ).loc main_arg4) : S1024x3088.Idx → EReal) (ix2 d ⟨1536 + j.val, by omega⟩) := by
  have e1 : (show FVec Ideal S1024x512 .bf16 from iblk m c 8 t) (ix2 d j)
      = (V m c main_v3 : S1024x512.Idx → EReal) (ix2 d j) := by
    blk_point [iblk, idx t]
  exact e1.trans (z_entry m c d j)

theorem cf_block (c : Dev nD) (t : Fin cfg0.N) (d : Fin 1024) (j : Fin 1024) :
    (show FVec Ideal S1024x1024 .bf16 from iblk m c 9 t) (ix2 d j)
      = (m ((c : Thread nD τ).loc main_arg4) : S1024x3088.Idx → EReal) (ix2 d ⟨2064 + j.val, by omega⟩) := by
  have e1 : (show FVec Ideal S1024x1024 .bf16 from iblk m c 9 t) (ix2 d j)
      = (V m c main_v8 : S1024x1024.Idx → EReal) (ix2 d j) := by
    blk_point [iblk, idx t]
  exact e1.trans (cf_entry m c d j)

theorem ba_block (c : Dev nD) (t : Fin cfg0.N) (d : Fin 1024) (j : Fin 16) :
    (show FVec Ideal S1024x128 .bf16 from iblk m c 5 t) (ix2 d ⟨j.val, by omega⟩)
      = (m ((c : Thread nD τ).loc main_arg4) : S1024x3088.Idx → EReal) (ix2 d ⟨2048 + j.val, by omega⟩) := by
  have e1 : (show FVec Ideal S1024x128 .bf16 from iblk m c 5 t) (ix2 d ⟨j.val, by omega⟩)
      = (V m c main_v6 : S1024x128.Idx → EReal) (ix2 d ⟨j.val, by omega⟩) := by
    blk_point [iblk, idx t]
  exact e1.trans (ba_entry m c d j)

theorem alog_block (c : Dev nD) (t : Fin cfg0.N) (j : Fin 16) (h : ¬ j.val % 8 < 4) :
    (show FVec Ideal S1x128 .f32 from iblk m c 6 t) (ix2 0 ⟨j.val, by omega⟩)
      = (m ((c : Thread nD τ).loc main_arg5) : S2x4.Idx → EReal)
          (ix2 ⟨j.val / 8, by omega⟩ ⟨j.val % 4, Nat.mod_lt _ (by decide)⟩) := by
  have e1 : (show FVec Ideal S1x128 .f32 from iblk m c 6 t) (ix2 0 ⟨j.val, by omega⟩)
      = (V m c main_v12 : S1x128.Idx → EReal) (ix2 0 ⟨j.val, by omega⟩) := by
    blk_point [iblk, idx t]
  exact e1.trans (alog_entry m c j h)

theorem dtb_block (c : Dev nD) (t : Fin cfg0.N) (j : Fin 16) (h : ¬ j.val % 8 < 4) :
    (show FVec Ideal S1x128 .f32 from iblk m c 7 t) (ix2 0 ⟨j.val, by omega⟩)
      = (m ((c : Thread nD τ).loc main_arg6) : S2x4.Idx → EReal)
          (ix2 ⟨j.val / 8, by omega⟩ ⟨j.val % 4, Nat.mod_lt _ (by decide)⟩) := by
  have e1 : (show FVec Ideal S1x128 .f32 from iblk m c 7 t) (ix2 0 ⟨j.val, by omega⟩)
      = (V m c main_v15 : S1x128.Idx → EReal) (ix2 0 ⟨j.val, by omega⟩) := by
    blk_point [iblk, idx t]
  exact e1.trans (dtb_entry m c j h)

end Cert.ProjIdeal.ProjValue

end
-- ==== Proof.Proj.Final.lean ====
module

public import proofs.«01_k».proof.Proof.Proj.Rows
public import proofs.«01_k».proof.Proof.Proj.Scan
public import proofs.«01_k».proof.Proof.Proj.Blocks

@[expose] public section

set_option maxRecDepth 16384

noncomputable section

/-! # The arrays the input projection leaves -/

namespace Cert.ProjIdeal.ProjValue

open Cert.ProjIdeal Cert.ProjIdeal.Gen Idealize.ShloMosaic Idealize.ShloMosaic.TcCoe Idealize.SL.Sem Cert.ProjSpec

section

variable (x : S16x2048x1024.Idx → EReal) (sh sc : S16x1x1024.Idx → EReal) (g : S1024.Idx → EReal)
  (w : S1024x3088.Idx → EReal) (al dt : S2x4.Idx → EReal)

/-- The sample and the row in it of a row of all samples. -/
abbrev smp (R : Fin 32768) : Fin 16 := ⟨R.val / 2048, by omega⟩
abbrev pos (R : Fin 32768) : Fin 2048 := ⟨R.val % 2048, Nat.mod_lt _ (by decide)⟩

/-- The five arrays, from the arguments. -/
def qkv (z : S32768x1536.Idx) : EReal :=
  entry x sh sc g w (smp (z 0)) (pos (z 0)) ⟨(z 1).val, by have : (z 1).val < 1536 := (z 1).isLt; omega⟩

def gates (z : S32768x128.Idx) : EReal :=
  if h : (z 1).val < 16 then gate (entry x sh sc g w (smp (z 0))) al dt (pos (z 0)) ⟨(z 1).val, h⟩ else 0

theorem gates_of_lt (z : S32768x128.Idx) (h : (z 1).val < 16) : gates x sh sc g w al dt z
    = gate (entry x sh sc g w (smp (z 0))) al dt (pos (z 0)) ⟨(z 1).val, h⟩ := dif_pos h

def chunks (z : S512x16x64.Idx) : EReal :=
  gate (entry x sh sc g w ⟨(z 0).val / 32, by have : (z 0).val < 512 := (z 0).isLt; omega⟩) al dt
    ⟨64 * ((z 0).val % 32) + (z 2).val, by have : (z 2).val < 64 := (z 2).isLt; omega⟩ (z 1)

def silu (z : S32768x512.Idx) : EReal :=
  entry x sh sc g w (smp (z 0)) (pos (z 0)) ⟨1536 + (z 1).val, by have : (z 1).val < 512 := (z 1).isLt; omega⟩
  * Ideal.logistic (entry x sh sc g w (smp (z 0)) (pos (z 0))
      ⟨1536 + (z 1).val, by have : (z 1).val < 512 := (z 1).isLt; omega⟩)

def glu (z : S32768x512.Idx) : EReal :=
  entry x sh sc g w (smp (z 0)) (pos (z 0)) ⟨2064 + (z 1).val, by have : (z 1).val < 512 := (z 1).isLt; omega⟩
  * Ideal.logistic (entry x sh sc g w (smp (z 0)) (pos (z 0))
      ⟨2576 + (z 1).val, by have : (z 1).val < 512 := (z 1).isLt; omega⟩)

end

variable (m : (ℓ : Loc nD τ sig) → Buf (Elt Ideal) ℓ)

/-- The arguments of a launch, as arrays. -/
abbrev ent (c : Dev nD) : Fin 16 → Fin 2048 → Fin 3088 → EReal :=
  entry (m ((c : Thread nD τ).loc main_arg0)) (m ((c : Thread nD τ).loc main_arg1)) (m ((c : Thread nD τ).loc main_arg2))
    (m ((c : Thread nD τ).loc main_arg3)) (m ((c : Thread nD τ).loc main_arg4))

/-- The tile's rows, normalised and modulated. -/
abbrev tile (c : Dev nD) (t : Fin cfg0.N) : FVec Ideal S512x1024 .bf16 :=
  k0_pay4 (F := Ideal) (show FVec Ideal S512x1024 .f32 from iblk m c 0 t) (show FVec Ideal S1x1024 .f32 from iblk m c 3 t)
    (show FVec Ideal S1x1x1024 .f32 from iblk m c 2 t) (show FVec Ideal S1x1x1024 .f32 from iblk m c 1 t)

/-- A tile's row times a column of a block of the weights. -/
theorem ent_at (c : Dev nD) (t : Fin cfg0.N) (r : Fin 512) (J : Fin 3088) (W : Fin 1024 → EReal)
    (hW : ∀ d, W d = (m ((c : Thread nD τ).loc main_arg4) : S1024x3088.Idx → EReal) (ix2 d J)) :
    proj (fun d => tile m c t (ix2 r d)) W = ent m c (sample t) (place t r) J := by
  have h : ∀ d, tile m c t (ix2 r d) = _ := fun d => row_at _ _ _ _ r d
  unfold ent entry
  refine congrArg₂ proj (funext fun d => (h d).trans ?_) (funext hW)
  rw [funext (x_block m c t r), funext (gain_block m c t), funext (scale_block m c t), funext (shift_block m c t)]

theorem rows (t : Fin cfg0.N) (r : Fin 512) : 512 * t.val + r.val < 32768 := by
  have : t.val < 64 := t.isLt
  omega

theorem smp_eq (t : Fin cfg0.N) (r : Fin 512) : smp ⟨512 * t.val + r.val, rows t r⟩ = sample t :=
  Fin.ext (by show (512 * t.val + r.val) / 2048 = t.val / 4; omega)

theorem pos_eq (t : Fin cfg0.N) (r : Fin 512) : pos ⟨512 * t.val + r.val, rows t r⟩ = place t r :=
  Fin.ext (by show (512 * t.val + r.val) % 2048 = 512 * (t.val % 4) + r.val; omega)

theorem final10 (c : Dev nD) : (dats m 0 c).arrAt 10 cfg0.N
    = qkv (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  generalize hG : qkv (m ((c : Thread nD τ).loc main_arg0)) (m ((c : Thread nD τ).loc main_arg1)) (m ((c : Thread nD τ).loc main_arg2)) (m ((c : Thread nD τ).loc main_arg3)) (m ((c : Thread nD τ).loc main_arg4)) = G
  blk_simp
  rw [after0_10]
  unfold out0_10
  frame_out
  idx_vars y
  subst hG
  have he : (((View.whole main_v18_0).slice (win0_10.rect t)).emb (ix2 y0 y1) : S32768x1536.Idx)
      = ix2 ⟨512 * t.val + y0.val, rows t y0⟩ y1 := by
    blk_ext [idx t]
  rw [he]
  refine ((qkv_at _ _ _ _ _ y0 y1).trans
    (ent_at m c t y0 ⟨y1.val, by omega⟩ _ fun d => qkv_block m c t d y1)).trans ?_
  rw [← smp_eq t y0, ← pos_eq t y0]
  rfl

theorem final13 (c : Dev nD) : (dats m 0 c).arrAt 13 cfg0.N
    = silu (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  generalize hG : silu (m ((c : Thread nD τ).loc main_arg0)) (m ((c : Thread nD τ).loc main_arg1)) (m ((c : Thread nD τ).loc main_arg2)) (m ((c : Thread nD τ).loc main_arg3)) (m ((c : Thread nD τ).loc main_arg4)) = G
  blk_simp
  rw [after0_13]
  unfold out0_13 k0_pay27
  frame_out
  idx_vars y
  subst hG
  have he : (((View.whole main_v18_3).slice (win0_13.rect t)).emb (ix2 y0 y1) : S32768x512.Idx)
      = ix2 ⟨512 * t.val + y0.val, rows t y0⟩ y1 := by
    blk_ext [idx t]
  rw [he]
  refine (silu_at _ _ y0 y1).trans ?_
  have h := ent_at m c t y0 ⟨1536 + y1.val, by omega⟩ _ fun d => z_block m c t d y1
  rw [← smp_eq t y0, ← pos_eq t y0] at h
  exact congrArg (fun q => q * Ideal.logistic q) h

theorem final14 (c : Dev nD) : (dats m 0 c).arrAt 14 cfg0.N
    = glu (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  generalize hG : glu (m ((c : Thread nD τ).loc main_arg0)) (m ((c : Thread nD τ).loc main_arg1)) (m ((c : Thread nD τ).loc main_arg2)) (m ((c : Thread nD τ).loc main_arg3)) (m ((c : Thread nD τ).loc main_arg4)) = G
  blk_simp
  rw [after0_14]
  unfold out0_14 k0_pay27
  frame_out
  idx_vars y
  subst hG
  have he : (((View.whole main_v18_4).slice (win0_14.rect t)).emb (ix2 y0 y1) : S32768x512.Idx)
      = ix2 ⟨512 * t.val + y0.val, rows t y0⟩ y1 := by
    blk_ext [idx t]
  rw [he]
  refine (glu_at _ _ y0 y1).trans ?_
  have h := ent_at m c t y0 ⟨2064 + y1.val, by omega⟩ _ fun d => cf_block m c t d ⟨y1.val, by omega⟩
  have h' := ent_at m c t y0 ⟨2576 + y1.val, by omega⟩ _ fun d => (cf_block m c t d ⟨512 + y1.val, by omega⟩).trans
    (congrArg _ (congrArg (ix2 d) (Fin.ext (by show 2064 + (512 + y1.val) = 2576 + y1.val; omega))))
  rw [← smp_eq t y0, ← pos_eq t y0] at h h'
  exact congrArg₂ (fun p q => p * Ideal.logistic q) h h'

/-- The gates of a tile, all 128 lanes. -/
abbrev lanes (c : Dev nD) (t : Fin cfg0.N) : FVec Ideal S512x128 .f32 :=
  k0_pay16 (F := Ideal) (k0_pay6 (F := Ideal) (iblk m c 0 t) (iblk m c 3 t) (iblk m c 2 t) (iblk m c 1 t) (iblk m c 5 t))
    (k0_pay7 (iota .tc S512x128 32 [1] iota_S512x128_d1_w32) 8#32)
    (k0_pay9 (iota .tc S512x128 32 [1] iota_S512x128_d1_w32) 8#32)
    (k0_pay13 (F := Ideal) k0_pay10
      (k0_pay11 (F := Ideal) (k0_pay8 (F := Ideal)
        (k0_pay6 (F := Ideal) (iblk m c 0 t) (iblk m c 3 t) (iblk m c 2 t) (iblk m c 1 t) (iblk m c 5 t))
        (iota .tc S512x128 32 [1] iota_S512x128_d1_w32) 8#32 (iblk m c 6 t) (iblk m c 7 t)))
      (k0_pay12 (F := Ideal) (k0_pay8 (F := Ideal)
        (k0_pay6 (F := Ideal) (iblk m c 0 t) (iblk m c 3 t) (iblk m c 2 t) (iblk m c 1 t) (iblk m c 5 t))
        (iota .tc S512x128 32 [1] iota_S512x128_d1_w32) 8#32 (iblk m c 6 t) (iblk m c 7 t))))
    k0_pay14
    (k0_pay15 (F := Ideal) (k0_pay8 (F := Ideal)
      (k0_pay6 (F := Ideal) (iblk m c 0 t) (iblk m c 3 t) (iblk m c 2 t) (iblk m c 1 t) (iblk m c 5 t))
      (iota .tc S512x128 32 [1] iota_S512x128_d1_w32) 8#32 (iblk m c 6 t) (iblk m c 7 t)))

theorem ba_ent (c : Dev nD) (t : Fin cfg0.N) (r : Fin 512) (k : Fin 16) :
    k0_pay6 (F := Ideal) (iblk m c 0 t) (iblk m c 3 t) (iblk m c 2 t) (iblk m c 1 t) (iblk m c 5 t)
      (ix2 r ⟨k.val, by omega⟩) = ent m c (sample t) (place t r) ⟨2048 + k.val, by omega⟩ :=
  (ba_at _ _ _ _ _ r _).trans (ent_at m c t r ⟨2048 + k.val, by omega⟩ _ fun d => ba_block m c t d k)

theorem addend_at (c : Dev nD) (t : Fin cfg0.N) (k : Fin 16) (hk : ¬ k.val % 8 < 4) (n : ℕ) (hn : n < 512) :
    col (k0_pay8 (F := Ideal)
        (k0_pay6 (F := Ideal) (iblk m c 0 t) (iblk m c 3 t) (iblk m c 2 t) (iblk m c 1 t) (iblk m c 5 t))
        (iota .tc S512x128 32 [1] iota_S512x128_d1_w32) 8#32 (iblk m c 6 t) (iblk m c 7 t)) ⟨k.val, by omega⟩ n
      = addend (ent m c (sample t)) (m ((c : Thread nD τ).loc main_arg5)) (m ((c : Thread nD τ).loc main_arg6)) k
          (64 * (8 * (t.val % 4)) + n) := by
  have e : (⟨64 * (8 * (t.val % 4)) + n, by omega⟩ : Fin 2048) = place t ⟨n, hn⟩ :=
    Fin.ext (by show 64 * (8 * (t.val % 4)) + n = 512 * (t.val % 4) + n; omega)
  unfold col addend
  rw [dif_pos hn, dif_pos (by omega : 64 * (8 * (t.val % 4)) + n < 2048), e]
  refine (decay_at _ _ _ _ ⟨k.val, by omega⟩ hk).trans ?_
  rw [← ba_ent m c t ⟨n, hn⟩ k]
  have h1 : (iblk m c 6 t : S1x128.Idx → EReal) (ix2 0 ⟨k.val, by omega⟩) = _ := alog_block m c t k hk
  have h2 : (iblk m c 7 t : S1x128.Idx → EReal) (ix2 0 ⟨k.val, by omega⟩) = _ := dtb_block m c t k hk
  exact congrArg₂ (fun p q => decay p q _) h1 h2

theorem lanes_at (c : Dev nD) (t : Fin cfg0.N) (r : Fin 512) (k : Fin 16) :
    lanes m c t (ix2 r ⟨k.val, by omega⟩)
      = gate (ent m c (sample t)) (m ((c : Thread nD τ).loc main_arg5)) (m ((c : Thread nD τ).loc main_arg6)) (place t r) k := by
  refine (gates_at _ _ r ⟨k.val, by omega⟩).trans ?_
  have hp : (place t r).val = 64 * (8 * (t.val % 4)) + r.val := by
    show 512 * (t.val % 4) + r.val = _
    omega
  unfold gate
  by_cases h : k.val % 8 < 4
  · rw [if_pos h, if_pos h, ba_ent]
  · rw [if_neg h, if_neg h]
    by_cases h8 : k.val < 8
    · rw [if_pos h8, if_pos h8]
      exact back_shift _ _ _ _ _ _ hp fun n hn => addend_at m c t k h n (by have := r.isLt; omega)
    · rw [if_neg h8, if_neg h8]
      exact ahead_shift _ _ _ _ _ _ 512 hp (by decide) r.isLt fun n hn => addend_at m c t k h n hn

/-- The second array on all its lanes. -/
def allLanes (c : Dev nD) (z : S32768x128.Idx) : EReal :=
  lanes m c ⟨(z 0).val / 512, by have : (z 0).val < 32768 := (z 0).isLt; show _ < 64; omega⟩
    (ix2 ⟨(z 0).val % 512, Nat.mod_lt _ (by decide)⟩ (z 1))

theorem final11 (c : Dev nD) : (dats m 0 c).arrAt 11 cfg0.N = allLanes m c := by
  refine (dats m 0 c).arrAt_eq_of_covers 11 _ (by decide +kernel) fun t hf y => ?_
  generalize hG : allLanes m c = G
  blk_simp
  rw [after0_11]
  unfold_out out0_11
  frame_out
  idx_vars y
  subst hG
  have he : (((View.whole main_v18_1).slice (win0_11.rect t)).emb (ix2 y0 y1) : S32768x128.Idx)
      = ix2 ⟨512 * t.val + y0.val, rows t y0⟩ y1 := by
    blk_ext [idx t]
  rw [he]
  have e1 : (⟨(512 * t.val + y0.val) / 512, by have : t.val < 64 := t.isLt; show _ < 64; omega⟩ : Fin cfg0.N) = t :=
    Fin.ext (by show (512 * t.val + y0.val) / 512 = t.val; omega)
  have e2 : (⟨(512 * t.val + y0.val) % 512, Nat.mod_lt _ (by decide)⟩ : Fin 512) = y0 :=
    Fin.ext (by show (512 * t.val + y0.val) % 512 = y0.val; omega)
  exact (congrArg₂ (fun a b => lanes m c a (ix2 b y1)) e1 e2).symm

theorem lanes_gate (c : Dev nD) (z : S32768x128.Idx) (h : (z 1).val < 16) : allLanes m c z
    = (gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) z := by
  have hz : (z 0).val < 32768 := (z 0).isLt
  refine (lanes_at m c _ _ ⟨(z 1).val, h⟩).trans ?_
  unfold gates
  rw [dif_pos h]
  have e1 : sample ⟨(z 0).val / 512, by show _ < 64; omega⟩ = smp (z 0) :=
    Fin.ext (by show (z 0).val / 512 / 4 = (z 0).val / 2048; omega)
  have e2 : place ⟨(z 0).val / 512, by show _ < 64; omega⟩ ⟨(z 0).val % 512, Nat.mod_lt _ (by decide)⟩ = pos (z 0) :=
    Fin.ext (by show 512 * ((z 0).val / 512 % 4) + (z 0).val % 512 = (z 0).val % 2048; omega)
  rw [e1, e2]

theorem chunk0 (a b c d e f) (j : Fin 16) (k : Fin 64) : k0_pay17 (F := Ideal) a b c d e f (ix3 0 j k)
    = k0_pay16 (F := Ideal) a b c d e f (ix2 ⟨k.val, by omega⟩ ⟨j.val, by omega⟩) := by
  unfold k0_pay17
  generalize k0_pay16 (F := Ideal) a b c d e f = L
  pointwise

theorem chunk1 (a b c d e f) (j : Fin 16) (k : Fin 64) : k0_pay19 (F := Ideal) (k0_pay18 (F := Ideal) a b c d e f) (ix3 0 j k)
    = k0_pay16 (F := Ideal) a b c d e f (ix2 ⟨64 + k.val, by omega⟩ ⟨j.val, by omega⟩) := by
  unfold k0_pay19 k0_pay18
  generalize k0_pay16 (F := Ideal) a b c d e f = L
  pointwise

theorem chunk2 (L : FVec Ideal S512x128 .f32) (j : Fin 16) (k : Fin 64) : k0_pay20 (F := Ideal) L (ix3 0 j k)
    = L (ix2 ⟨128 + k.val, by omega⟩ ⟨j.val, by omega⟩) := by
  pointwise [k0_pay20]

theorem chunk3 (L : FVec Ideal S512x128 .f32) (j : Fin 16) (k : Fin 64) : k0_pay21 (F := Ideal) L (ix3 0 j k)
    = L (ix2 ⟨192 + k.val, by omega⟩ ⟨j.val, by omega⟩) := by
  pointwise [k0_pay21]

theorem chunk4 (L : FVec Ideal S512x128 .f32) (j : Fin 16) (k : Fin 64) : k0_pay22 (F := Ideal) L (ix3 0 j k)
    = L (ix2 ⟨256 + k.val, by omega⟩ ⟨j.val, by omega⟩) := by
  pointwise [k0_pay22]

theorem chunk5 (L : FVec Ideal S512x128 .f32) (j : Fin 16) (k : Fin 64) : k0_pay23 (F := Ideal) L (ix3 0 j k)
    = L (ix2 ⟨320 + k.val, by omega⟩ ⟨j.val, by omega⟩) := by
  pointwise [k0_pay23]

theorem chunk6 (L : FVec Ideal S512x128 .f32) (j : Fin 16) (k : Fin 64) : k0_pay24 (F := Ideal) L (ix3 0 j k)
    = L (ix2 ⟨384 + k.val, by omega⟩ ⟨j.val, by omega⟩) := by
  pointwise [k0_pay24]

theorem chunk7 (L : FVec Ideal S512x128 .f32) (j : Fin 16) (k : Fin 64) : k0_pay1 (F := Ideal) (k0_pay25 (F := Ideal) L) (ix3 0 j k)
    = L (ix2 ⟨448 + k.val, by omega⟩ ⟨j.val, by omega⟩) := by
  pointwise [k0_pay1, k0_pay25]

theorem chunk_eq (c : Dev nD) (t : Fin cfg0.N) (q : Fin 8) (j : Fin 16) (k : Fin 64) (r : Fin 512) (z : S512x16x64.Idx)
    (hr : r.val = 64 * q.val + k.val) (h0 : (z 0).val = 8 * t.val + q.val) (h1 : (z 1).val = j.val) (h2 : (z 2).val = k.val) :
    lanes m c t (ix2 r ⟨j.val, by omega⟩) = chunks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z := by
  have ht : t.val < 64 := t.isLt
  have hz0 : (z 0).val < 512 := (z 0).isLt
  have hz2 : (z 2).val < 64 := (z 2).isLt
  refine (lanes_at m c t r j).trans ?_
  unfold chunks
  have e1 : sample t = ⟨(z 0).val / 32, by omega⟩ := Fin.ext (by show t.val / 4 = (z 0).val / 32; omega)
  have e2 : place t r = ⟨64 * ((z 0).val % 32) + (z 2).val, by omega⟩ :=
    Fin.ext (by show 512 * (t.val % 4) + r.val = 64 * ((z 0).val % 32) + (z 2).val; omega)
  have e3 : j = z 1 := Fin.ext h1.symm
  rw [e1, e2]
  exact congrArg _ e3

theorem final12 (c : Dev nD) : (dats m 0 c).arrAt 12 cfg0.N
    = chunks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  generalize hG : chunks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G
  blk_simp
  rw [after0_12]
  unfold_out out0_12
  frame_out
  have he : (((View.whole main_v18_2).slice (win0_12.rect t)).emb y : S512x16x64.Idx)
      = ix3 ⟨8 * t.val + (y 0).val, by have h1 : t.val < 64 := t.isLt; have h2 : (y 0).val < 8 := (y 0).isLt; omega⟩ (y 1) (y 2) := by
    idx_vars y
    blk_ext [idx t]
  have g0 := congrArg (fun z : S512x16x64.Idx => (z 0).val) he
  have g1 := congrArg (fun z : S512x16x64.Idx => (z 1).val) he
  have g2 := congrArg (fun z : S512x16x64.Idx => (z 2).val) he
  replace g0 : _ = 8 * t.val + (y 0).val := g0
  replace g1 : _ = (y 1).val := g1
  replace g2 : _ = (y 2).val := g2
  clear he
  generalize ((View.whole main_v18_2).slice (win0_12.rect t)).emb y = z at g0 g1 g2 ⊢
  subst hG
  canon_tiles x h
  · have hx : x = ix3 0 (x 1) (x 2) := by
      refine (eq_ix3 x).trans (congrArg (fun a => ix3 a (x 1) (x 2)) (Fin.ext ?_))
      show (x 0).val = 0
      omega
    rw [hx]
    exact (chunk7 _ (x 1) (x 2)).trans (chunk_eq m c t 7 (x 1) (x 2) _ z (by rfl) (by show _ = 8 * t.val + 7; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk6 _ (x 1) (x 2)).trans (chunk_eq m c t 6 (x 1) (x 2) _ z (by rfl) (by show _ = 8 * t.val + 6; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk5 _ (x 1) (x 2)).trans (chunk_eq m c t 5 (x 1) (x 2) _ z (by rfl) (by show _ = 8 * t.val + 5; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk4 _ (x 1) (x 2)).trans (chunk_eq m c t 4 (x 1) (x 2) _ z (by rfl) (by show _ = 8 * t.val + 4; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk3 _ (x 1) (x 2)).trans (chunk_eq m c t 3 (x 1) (x 2) _ z (by rfl) (by show _ = 8 * t.val + 3; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk2 _ (x 1) (x 2)).trans (chunk_eq m c t 2 (x 1) (x 2) _ z (by rfl) (by show _ = 8 * t.val + 2; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk1 _ _ _ _ _ _ (x 1) (x 2)).trans (chunk_eq m c t 1 (x 1) (x 2) _ z (by rfl) (by show _ = 8 * t.val + 1; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk0 _ _ _ _ _ _ (x 1) (x 2)).trans (chunk_eq m c t 0 (x 1) (x 2) _ z (by show (x 2).val = 64 * 0 + (x 2).val; omega) (by show _ = 8 * t.val + 0; omega) (by omega) (by omega))

end Cert.ProjIdeal.ProjValue

end
-- ==== Proof.Proj.Ref.lean ====
module

public import proofs.«01_k».proof.Proof.Gen.ProjRefIdeal.Read
public import proofs.«01_k».proof.Proof.Proj.Spec
public import Idealize.ShloMosaic.Lib.Pointwise

@[expose] public section

set_option maxRecDepth 16384

noncomputable section

/-! # The reference of the input projection, read at an index -/

namespace Cert.ProjRefIdeal.ProjValue

open Cert.ProjRefIdeal Cert.ProjRefIdeal.Gen Cert.ProjRefIdeal.Read Idealize.ShloMosaic Cert.ProjSpec

theorem foldl_add {α : Type} (f : α → EReal) : ∀ (l : List α) (z : EReal), l.foldl (fun r n => r + f n) z = z + (l.map f).sum
  | [], z => (add_zero z).symm
  | a :: l, z => by
    rw [List.foldl_cons, foldl_add f l, List.map_cons, List.sum_cons, add_assoc]

/-- A window of 64 that ends at row `q` of a chunk, summed. -/
theorem window_at (v : FVec Ideal S16x32x64x4 .f32) (init : FVec Ideal S_ .f32) (hi : init (Shape.Idx.first h_S_) = 0)
    (i : Fin 16) (a : Fin 32) (q : Fin 64) (h : Fin 4) :
    Host.reduceWindowAdd (F := Ideal) ![1, 1, 64, 1] ![1, 1, 1, 1] ![0, 0, 63, 0] ![0, 0, 0, 0] v init
      reduceWindows_S16x32x64x4_S16x32x64x4_w1s1p0_0_w1s1p0_0_w64s1p63_0_w1s1p0_0 h_S_ (ix4 i a q h)
    = ∑ n : Fin 64, (if 63 ≤ q.val + n.val then
        (if h' : q.val + n.val - 63 < 64 then v (ix4 i a ⟨q.val + n.val - 63, h'⟩ h) else 0) else 0) := by
  simp only [Host.reduceWindowAdd, Ideal.hostReduceWindowAdd_def, Ideal.hostReduceWindowAdd, Host.reduceWindow, hi]
  rw [foldl_add, zero_add, ← Fin.sum_univ_def]
  refine (Equiv.sum_comp (Shape.rowMajor ⟨4, ![1, 1, 64, 1]⟩).symm (fun y : (⟨4, ![1, 1, 64, 1]⟩ : Shape).Idx =>
    if hin : ∀ b : Fin 4, (![0, 0, 63, 0] : Fin 4 → ℕ) b ≤ (ix4 i a q h b).val * (![1, 1, 1, 1] : Fin 4 → ℕ) b + (y b).val
        ∧ (ix4 i a q h b).val * (![1, 1, 1, 1] : Fin 4 → ℕ) b + (y b).val - (![0, 0, 63, 0] : Fin 4 → ℕ) b < S16x32x64x4.size b
      then v (fun b => ⟨(ix4 i a q h b).val * (![1, 1, 1, 1] : Fin 4 → ℕ) b + (y b).val - (![0, 0, 63, 0] : Fin 4 → ℕ) b, (hin b).2⟩)
      else (0 : EReal))).trans ?_
  rw [sum_idx4]
  simp only [Finset.univ_unique, Finset.sum_singleton]
  refine Finset.sum_congr rfl fun n _ => ?_
  have hn := n.isLt
  have hq := q.isLt
  by_cases hc : 63 ≤ q.val + n.val
  · rw [if_pos hc, dif_pos (by omega : q.val + n.val - 63 < 64)]
    rw [dif_pos]
    · refine congrArg v (funext fun b => Fin.ext ?_)
      fin_cases b
      · show i.val * 1 + 0 - 0 = i.val
        omega
      · show a.val * 1 + 0 - 0 = a.val
        omega
      · show q.val * 1 + n.val - 63 = q.val + n.val - 63
        omega
      · show h.val * 1 + 0 - 0 = h.val
        omega
    · intro b
      fin_cases b
      · exact ⟨Nat.zero_le _, by show i.val * 1 + 0 - 0 < 16; omega⟩
      · exact ⟨Nat.zero_le _, by show a.val * 1 + 0 - 0 < 32; omega⟩
      · exact ⟨by show 63 ≤ q.val * 1 + n.val; omega, by show q.val * 1 + n.val - 63 < 64; omega⟩
      · exact ⟨Nat.zero_le _, by show h.val * 1 + 0 - 0 < 4; omega⟩
  · rw [if_neg hc, dif_neg]
    intro hin
    have h2 := (hin 2).1
    have h3 : 63 ≤ q.val * 1 + n.val := h2
    omega

section

variable (x0 : FVec Ideal S16x2048x1024 .f32) (x1 x2 : FVec Ideal S16x1x1024 .f32) (x3 : FVec Ideal S1024 .f32)
  (x4 : FVec Ideal S1024x3088 .f32) (x5 x6 : FVec Ideal S2x4 .f32)

theorem mean_at (i : Fin 16) (p : Fin 2048) : val_main_v4 (F := Ideal) x0 (ix3 i p 0)
    = Ideal.div (∑ e, x0 (ix3 i p e) * x0 (ix3 i p e)) (Ideal.ofBits .f32 0x44800000#32) := by
  pointwise [val_main_v4, val_main_v3, val_main_cst_0, val_main_v2, val_main_v1, val_main_cst, val_main_v0]

theorem row_at (i : Fin 16) (p : Fin 2048) (d : Fin 1024) : val_main_v18 (F := Ideal) x0 x1 x2 x3 (ix3 i p d)
    = rowH (fun e => x0 (ix3 i p e)) (fun e => x3 (ix1 e)) (fun e => x2 (ix3 i 0 e)) (fun e => x1 (ix3 i 0 e)) d := by
  pointwise [val_main_v18, val_main_v17, val_main_v16, val_main_v15, val_main_v14, val_main_v13, val_main_cst_2,
    val_main_v12, val_main_v11, val_main_v10, val_main_v9, val_main_v8, val_main_v7, val_main_v6, val_main_v5,
    val_main_cst_1]
  rw [mean_at]
  rfl

theorem ent_at (i : Fin 16) (p : Fin 2048) (j : Fin 3088) : val_main_v19 (F := Ideal) x0 x1 x2 x3 x4 (ix3 i p j)
    = entry x0 x1 x2 x3 x4 i p j := by
  have h : val_main_v19 (F := Ideal) x0 x1 x2 x3 x4 (ix3 i p j)
      = ∑ d, val_main_v18 (F := Ideal) x0 x1 x2 x3 (ix3 i p d) * x4 (ix2 d j) := by
    unfold val_main_v19
    generalize val_main_v18 (F := Ideal) x0 x1 x2 x3 = v
    pointwise
  rw [h]
  simp only [row_at]
  rfl

theorem qkv_at (R : Fin 32768) (j : Fin 1536) : val_main_v70 (F := Ideal) x0 x1 x2 x3 x4 (ix2 R j)
    = entry x0 x1 x2 x3 x4 ⟨R.val / 2048, by omega⟩ ⟨R.val % 2048, Nat.mod_lt _ (by decide)⟩ ⟨j.val, by omega⟩ := by
  pointwise [val_main_v70, val_main_v20]
  rw [ent_at]

theorem silu_at (R : Fin 32768) (j : Fin 512) : val_main_v76 (F := Ideal) x0 x1 x2 x3 x4 (ix2 R j)
    = entry x0 x1 x2 x3 x4 ⟨R.val / 2048, by omega⟩ ⟨R.val % 2048, Nat.mod_lt _ (by decide)⟩ ⟨1536 + j.val, by omega⟩
      * Ideal.logistic (entry x0 x1 x2 x3 x4 ⟨R.val / 2048, by omega⟩ ⟨R.val % 2048, Nat.mod_lt _ (by decide)⟩
          ⟨1536 + j.val, by omega⟩) := by
  pointwise [val_main_v76, val_main_v75, val_main_call6_v5, val_main_call6_v4, val_main_call6_cst_0, val_main_call6_v3,
    val_main_call6_v2, val_main_call6_cst, val_main_call6_v1, val_main_call6_v0, val_main_v21]
  rw [ent_at]
  rfl

theorem glu_at (R : Fin 32768) (j : Fin 512) : val_main_v77 (F := Ideal) x0 x1 x2 x3 x4 (ix2 R j)
    = entry x0 x1 x2 x3 x4 ⟨R.val / 2048, by omega⟩ ⟨R.val % 2048, Nat.mod_lt _ (by decide)⟩ ⟨2064 + j.val, by omega⟩
      * Ideal.logistic (entry x0 x1 x2 x3 x4 ⟨R.val / 2048, by omega⟩ ⟨R.val % 2048, Nat.mod_lt _ (by decide)⟩
          ⟨2576 + j.val, by omega⟩) := by
  pointwise [val_main_v77, val_main_v69, val_main_v68, val_main_v67, val_main_cst_6, val_main_v66, val_main_v65,
    val_main_cst_5, val_main_v64, val_main_v63, val_main_v62, val_main_v61, val_main_v23]
  rw [ent_at, ent_at]
  have e : (⟨2064 + (512 + j.val), by omega⟩ : Fin 3088) = ⟨2576 + j.val, by omega⟩ :=
    Fin.ext (by show 2064 + (512 + j.val) = 2576 + j.val; omega)
  rw [e]
  rfl

theorem rate_at (i : Fin 16) (p : Fin 2048) (s : Fin 2) (h : Fin 4) :
    val_main_v32 (F := Ideal) x0 x1 x2 x3 x4 (ix4 i p s h)
      = Ideal.logistic (entry x0 x1 x2 x3 x4 i p ⟨2048 + (s.val * 8 + h.val), by omega⟩) := by
  pointwise [val_main_v32, val_main_v31, val_main_cst_4, val_main_v30, val_main_v29, val_main_cst_3, val_main_v28,
    val_main_v27, val_main_v26, val_main_v25, val_main_v24, val_main_v22]
  rw [ent_at]
  rfl

theorem shifted_at (i : Fin 16) (p : Fin 2048) (s : Fin 2) (h : Fin 4) :
    val_main_v39 (F := Ideal) x0 x1 x2 x3 x4 x6 (ix4 i p s h)
      = entry x0 x1 x2 x3 x4 i p ⟨2048 + (s.val * 8 + 4 + h.val), by omega⟩ + x6 (ix2 s h) := by
  pointwise [val_main_v39, val_main_v38, val_main_v37, val_main_v36, val_main_v35, val_main_v24, val_main_v22]
  rw [ent_at]

theorem soft_at (i : Fin 16) (p : Fin 2048) (s : Fin 2) (h : Fin 4) (a : EReal)
    (ha : val_main_v39 (F := Ideal) x0 x1 x2 x3 x4 x6 (ix4 i p s h) = a) :
    val_main_v40 (F := Ideal) x0 x1 x2 x3 x4 x6 (ix4 i p s h) = max a 0 + Ideal.log1p (Ideal.exp (-(max a (-a)))) := by
  pointwise [val_main_v40, val_main_call0_v11, val_main_call0_v10, val_main_call0_v9, val_main_call0_v8,
    val_main_call0_v7, val_main_call0_v6, val_main_call0_v5, val_main_call0_v4, val_main_call0_v3, val_main_call0_v2,
    val_main_call0_v1, val_main_call0_v0, val_main_call0_cst]
  rw [ha]
  exact if_neg (not_not.mpr rfl)

theorem decay_at (i : Fin 16) (p : Fin 2048) (s : Fin 2) (h : Fin 4) :
    val_main_v43 (F := Ideal) x0 x1 x2 x3 x4 x5 x6 (ix4 i p s h)
      = decay (x5 (ix2 s h)) (x6 (ix2 s h)) (entry x0 x1 x2 x3 x4 i p ⟨2048 + (s.val * 8 + 4 + h.val), by omega⟩) := by
  pointwise [val_main_v43, val_main_v42, val_main_v41, val_main_v34, val_main_v33]
  rw [soft_at x0 x1 x2 x3 x4 x6 i p s h _ (shifted_at x0 x1 x2 x3 x4 x6 i p s h)]
  rfl

/-- The addend of direction `s`, head `h` at row `n`. -/
theorem addend_at (i : Fin 16) (p : Fin 2048) (s : Fin 2) (h : Fin 4) (c : Fin 16) (hc : c.val = s.val * 8 + 4 + h.val) :
    val_main_v43 (F := Ideal) x0 x1 x2 x3 x4 x5 x6 (ix4 i p s h) = addend (entry x0 x1 x2 x3 x4 i) x5 x6 c p.val := by
  refine (decay_at x0 x1 x2 x3 x4 x5 x6 i p s h).trans ?_
  unfold addend
  rw [dif_pos p.isLt]
  have e1 : (⟨c.val / 8, by omega⟩ : Fin 2) = s := Fin.ext (by show c.val / 8 = s.val; omega)
  have e2 : (⟨c.val % 4, Nat.mod_lt _ (by decide)⟩ : Fin 4) = h := Fin.ext (by show c.val % 4 = h.val; omega)
  have e3 : (⟨2048 + c.val, by omega⟩ : Fin 3088) = ⟨2048 + (s.val * 8 + 4 + h.val), by omega⟩ := Fin.ext (by show 2048 + c.val = 2048 + (s.val * 8 + 4 + h.val); omega)
  rw [e3, e1, e2]

theorem forward_tile (i : Fin 16) (a : Fin 32) (q : Fin 64) (h : Fin 4) :
    val_main_v46 (F := Ideal) x0 x1 x2 x3 x4 x5 x6 (ix4 i a q h)
      = val_main_v43 (F := Ideal) x0 x1 x2 x3 x4 x5 x6 (ix4 i ⟨64 * a.val + q.val, by omega⟩ 0 h) := by
  pointwise [val_main_v46, val_main_v45, val_main_v44]
  exact congrArg (fun n => val_main_v43 (F := Ideal) x0 x1 x2 x3 x4 x5 x6 (ix4 i n 0 h))
    (Fin.ext (by show a.val * 64 + q.val = 64 * a.val + q.val; omega))

theorem backward_tile (i : Fin 16) (a : Fin 32) (q : Fin 64) (h : Fin 4) :
    val_main_v52 (F := Ideal) x0 x1 x2 x3 x4 x5 x6 (ix4 i a q h)
      = val_main_v43 (F := Ideal) x0 x1 x2 x3 x4 x5 x6 (ix4 i ⟨2047 - (64 * a.val + q.val), by omega⟩ 1 h) := by
  pointwise [val_main_v52, val_main_v51, val_main_v50, val_main_v49]
  exact congrArg (fun n => val_main_v43 (F := Ideal) x0 x1 x2 x3 x4 x5 x6 (ix4 i n 1 h))
    (Fin.ext (by show 2048 - (a.val * 64 + q.val + 1) = 2047 - (64 * a.val + q.val); omega))

/-- The window of 64 ending at row `q` of chunk `a`, of any column whose rows are `f`. -/
theorem window_rows (v : FVec Ideal S16x32x64x4 .f32) (init : FVec Ideal S_ .f32) (hi : init (Shape.Idx.first h_S_) = 0)
    (i : Fin 16) (a : Fin 32) (q : Fin 64) (h : Fin 4) (f : ℕ → EReal) (hf : ∀ r : Fin 64, v (ix4 i a r h) = f r.val) :
    Host.reduceWindowAdd (F := Ideal) ![1, 1, 64, 1] ![1, 1, 1, 1] ![0, 0, 63, 0] ![0, 0, 0, 0] v init
      reduceWindows_S16x32x64x4_S16x32x64x4_w1s1p0_0_w1s1p0_0_w64s1p63_0_w1s1p0_0 h_S_ (ix4 i a q h)
    = ∑ k ∈ Finset.range (q.val + 1), f (q.val - k) := by
  rw [window_at v init hi i a q h, ← window_back f q.val q.isLt]
  refine Finset.sum_congr rfl fun n _ => ?_
  by_cases hc : 63 ≤ q.val + n.val
  · have hn := n.isLt
    have hq := q.isLt
    rw [if_pos hc, if_pos hc, dif_pos (by omega : q.val + n.val - 63 < 64), hf]
  · rw [if_neg hc, if_neg hc]

theorem forward_at (i : Fin 16) (p : Fin 2048) (h : Fin 4) (c : Fin 16) (hc : c.val = 4 + h.val) :
    val_main_v48 (F := Ideal) x0 x1 x2 x3 x4 x5 x6 (ix3 i p h) = back (addend (entry x0 x1 x2 x3 x4 i) x5 x6 c) 64 p.val := by
  have e : val_main_v48 (F := Ideal) x0 x1 x2 x3 x4 x5 x6 (ix3 i p h)
      = val_main_v47 (F := Ideal) x0 x1 x2 x3 x4 x5 x6 (ix4 i ⟨p.val / 64, by omega⟩ ⟨p.val % 64, Nat.mod_lt _ (by decide)⟩ h) := by
    unfold val_main_v48
    generalize val_main_v47 (F := Ideal) x0 x1 x2 x3 x4 x5 x6 = v
    pointwise
  rw [e]
  unfold val_main_v47
  refine (window_rows _ _ (by pointwise [val_main_call1_call0_v0, val_main_call1_call0_cst]) i _ _ h
    (fun r => addend (entry x0 x1 x2 x3 x4 i) x5 x6 c (64 * (p.val / 64) + r)) fun r =>
    (forward_tile x0 x1 x2 x3 x4 x5 x6 i _ r h).trans (addend_at x0 x1 x2 x3 x4 x5 x6 i _ 0 h c (by rw [hc]; rfl))).trans ?_
  unfold back
  have hm : min 64 (p.val % 64 + 1) = p.val % 64 + 1 := by omega
  rw [hm]
  refine Finset.sum_congr rfl fun k hk => ?_
  rw [Finset.mem_range] at hk
  exact congrArg _ (by show 64 * (p.val / 64) + (p.val % 64 - k) = p.val - k; omega)

theorem backward_at (i : Fin 16) (p : Fin 2048) (h : Fin 4) (c : Fin 16) (hc : c.val = 12 + h.val) :
    val_main_v55 (F := Ideal) x0 x1 x2 x3 x4 x5 x6 (ix3 i p h) = ahead (addend (entry x0 x1 x2 x3 x4 i) x5 x6 c) 64 p.val := by
  have e : val_main_v55 (F := Ideal) x0 x1 x2 x3 x4 x5 x6 (ix3 i p h)
      = val_main_v53 (F := Ideal) x0 x1 x2 x3 x4 x5 x6 (ix4 i ⟨(2047 - p.val) / 64, by omega⟩ ⟨(2047 - p.val) % 64, Nat.mod_lt _ (by decide)⟩ h) := by
    unfold val_main_v55 val_main_v54
    generalize val_main_v53 (F := Ideal) x0 x1 x2 x3 x4 x5 x6 = v
    pointwise
    have e : Fin.rev p = ⟨2047 - p.val, by omega⟩ := Fin.ext (by show 2048 - (p.val + 1) = 2047 - p.val; omega)
    show v (ix4 i ⟨(Fin.rev p).val / 64, _⟩ ⟨(Fin.rev p).val % 64, _⟩ h) = _
    simp only [e]
  rw [e]
  unfold val_main_v53
  refine (window_rows _ _ (by pointwise [val_main_call3_call0_v0, val_main_call3_call0_cst]) i _ _ h
    (fun r => addend (entry x0 x1 x2 x3 x4 i) x5 x6 c (2047 - (64 * ((2047 - p.val) / 64) + r))) fun r =>
    (backward_tile x0 x1 x2 x3 x4 x5 x6 i _ r h).trans (addend_at x0 x1 x2 x3 x4 x5 x6 i _ 1 h c (by rw [hc]; show _ = 1 * 8 + 4 + h.val; omega))).trans ?_
  unfold ahead
  have hp := p.isLt
  have hm : min 64 (64 - p.val % 64) = (2047 - p.val) % 64 + 1 := by omega
  rw [hm]
  refine Finset.sum_congr rfl fun k hk => ?_
  rw [Finset.mem_range] at hk
  exact congrArg _ (by
    show 2047 - (64 * ((2047 - p.val) / 64) + ((2047 - p.val) % 64 - k)) = p.val + k
    omega)

theorem rates0_at (i : Fin 16) (p : Fin 2048) (h : Fin 4) : val_main_v57 (F := Ideal) x0 x1 x2 x3 x4 (ix3 i p h)
    = val_main_v32 (F := Ideal) x0 x1 x2 x3 x4 (ix4 i p 0 h) := by
  pointwise [val_main_v57, val_main_v56]

theorem rates1_at (i : Fin 16) (p : Fin 2048) (h : Fin 4) : val_main_v59 (F := Ideal) x0 x1 x2 x3 x4 (ix3 i p h)
    = val_main_v32 (F := Ideal) x0 x1 x2 x3 x4 (ix4 i p 1 h) := by
  pointwise [val_main_v59, val_main_v58]

theorem gate_at (i : Fin 16) (p : Fin 2048) (c : Fin 16) : val_main_v60 (F := Ideal) x0 x1 x2 x3 x4 x5 x6 (ix3 i p c)
    = gate (entry x0 x1 x2 x3 x4 i) x5 x6 p c := by
  have e : val_main_v60 (F := Ideal) x0 x1 x2 x3 x4 x5 x6 (ix3 i p c)
      = if h : c.val < 4 then val_main_v57 (F := Ideal) x0 x1 x2 x3 x4 (ix3 i p ⟨c.val, h⟩)
        else if h' : c.val - 4 < 4 then val_main_v48 (F := Ideal) x0 x1 x2 x3 x4 x5 x6 (ix3 i p ⟨c.val - 4, by omega⟩)
        else if h'' : c.val - 4 - 4 < 4 then val_main_v59 (F := Ideal) x0 x1 x2 x3 x4 (ix3 i p ⟨c.val - 4 - 4, by omega⟩)
        else val_main_v55 (F := Ideal) x0 x1 x2 x3 x4 x5 x6 (ix3 i p ⟨c.val - 4 - 4 - 4, by omega⟩) := by
    unfold val_main_v60
    generalize val_main_v57 (F := Ideal) x0 x1 x2 x3 x4 = A
    generalize val_main_v48 (F := Ideal) x0 x1 x2 x3 x4 x5 x6 = B
    generalize val_main_v59 (F := Ideal) x0 x1 x2 x3 x4 = C
    generalize val_main_v55 (F := Ideal) x0 x1 x2 x3 x4 x5 x6 = D
    pointwise
  rw [e]
  unfold gate
  by_cases h1 : c.val < 4
  · rw [dif_pos h1, if_pos (by omega), rates0_at, rate_at]
    exact congrArg (fun j => Ideal.logistic (entry x0 x1 x2 x3 x4 i p j)) (Fin.ext (by show 2048 + (0 * 8 + c.val) = 2048 + c.val; omega))
  · rw [dif_neg h1]
    by_cases h2 : c.val - 4 < 4
    · rw [dif_pos h2, if_neg (by omega), if_pos (by omega)]
      exact forward_at x0 x1 x2 x3 x4 x5 x6 i p _ c (by show c.val = 4 + (c.val - 4); omega)
    · rw [dif_neg (by omega)]
      by_cases h3 : c.val - 4 - 4 < 4
      · rw [dif_pos h3, if_pos (by omega), rates1_at, rate_at]
        exact congrArg (fun j => Ideal.logistic (entry x0 x1 x2 x3 x4 i p j))
          (Fin.ext (by show 2048 + (1 * 8 + (c.val - 4 - 4)) = 2048 + c.val; omega))
      · rw [dif_neg h3, if_neg (by omega), if_neg (by omega)]
        exact backward_at x0 x1 x2 x3 x4 x5 x6 i p _ c (by show c.val = 12 + (c.val - 4 - 4 - 4); omega)

theorem gates_at (R : Fin 32768) (j : Fin 128) (h : j.val < 16) : val_main_v72 (F := Ideal) x0 x1 x2 x3 x4 x5 x6 (ix2 R j)
    = gate (entry x0 x1 x2 x3 x4 ⟨R.val / 2048, by omega⟩) x5 x6 ⟨R.val % 2048, Nat.mod_lt _ (by decide)⟩ ⟨j.val, h⟩ := by
  rw [← gate_at]
  unfold val_main_v72 val_main_v71
  generalize val_main_v60 (F := Ideal) x0 x1 x2 x3 x4 x5 x6 = v
  pointwise
  rw [dif_pos h]

theorem chunks_at (n : Fin 512) (c : Fin 16) (k : Fin 64) : val_main_v74 (F := Ideal) x0 x1 x2 x3 x4 x5 x6 (ix3 n c k)
    = gate (entry x0 x1 x2 x3 x4 ⟨n.val / 32, by omega⟩) x5 x6 ⟨64 * (n.val % 32) + k.val, by omega⟩ c := by
  rw [← gate_at]
  unfold val_main_v74 val_main_v73
  generalize val_main_v60 (F := Ideal) x0 x1 x2 x3 x4 x5 x6 = v
  pointwise
  exact congrArg (fun p => v (ix3 _ p c)) (Fin.ext (by show n.val % 32 * 64 + k.val = 64 * (n.val % 32) + k.val; omega))

end

end Cert.ProjRefIdeal.ProjValue

end
-- ==== Proof.Proj.Pair.lean ====
module

public import proofs.«01_k».proof.Defs
public import proofs.«01_k».proof.Proof.Proj.Final
public import proofs.«01_k».proof.Proof.Proj.Ref
public import proofs.«01_k».proof.Proof.Gen.On_gate_columns
public import proofs.«01_k».proof.Proof.Gen.ProjRefIdeal.Run

@[expose] public section

set_option maxRecDepth 16384

noncomputable section

/-! # The input projection: kernel against reference -/

namespace Cert.ProjPair

open Idealize.ShloMosaic Idealize.ShloMosaic.TcCoe Idealize.SL.Sem Cert.ProjSpec
open Cert.ProjIdeal.ProjValue (qkv gates chunks silu glu)

section

variable (x0 : FVec Ideal ProjRefIdeal.S16x2048x1024 .f32) (x1 x2 : FVec Ideal ProjRefIdeal.S16x1x1024 .f32)
  (x3 : FVec Ideal ProjRefIdeal.S1024 .f32) (x4 : FVec Ideal ProjRefIdeal.S1024x3088 .f32)
  (x5 x6 : FVec Ideal ProjRefIdeal.S2x4 .f32)

theorem qkv_eq : ProjRefIdeal.Read.val_main_v70 (F := Ideal) x0 x1 x2 x3 x4 = qkv x0 x1 x2 x3 x4 := by
  funext z
  idx_vars z
  exact ProjRefIdeal.ProjValue.qkv_at x0 x1 x2 x3 x4 z0 z1

theorem silu_eq : ProjRefIdeal.Read.val_main_v76 (F := Ideal) x0 x1 x2 x3 x4 = silu x0 x1 x2 x3 x4 := by
  funext z
  idx_vars z
  exact ProjRefIdeal.ProjValue.silu_at x0 x1 x2 x3 x4 z0 z1

theorem glu_eq : ProjRefIdeal.Read.val_main_v77 (F := Ideal) x0 x1 x2 x3 x4 = glu x0 x1 x2 x3 x4 := by
  funext z
  idx_vars z
  exact ProjRefIdeal.ProjValue.glu_at x0 x1 x2 x3 x4 z0 z1

theorem chunks_eq : ProjRefIdeal.Read.val_main_v74 (F := Ideal) x0 x1 x2 x3 x4 x5 x6 = chunks x0 x1 x2 x3 x4 x5 x6 := by
  funext z
  idx_vars z
  exact ProjRefIdeal.ProjValue.chunks_at x0 x1 x2 x3 x4 x5 x6 z0 z1 z2

theorem gates_eq (z : ProjRefIdeal.S32768x128.Idx) (h : (z 1).val < 16) :
    ProjRefIdeal.Read.val_main_v72 (F := Ideal) x0 x1 x2 x3 x4 x5 x6 z = gates x0 x1 x2 x3 x4 x5 x6 z := by
  idx_vars z
  refine (ProjRefIdeal.ProjValue.gates_at x0 x1 x2 x3 x4 x5 x6 z0 z1 h).trans ?_
  exact (ProjIdeal.ProjValue.gates_of_lt x0 x1 x2 x3 x4 x5 x6 (ix2 z0 z1) h).symm

end

theorem lane_word : ∀ n : Fin 128, IntOp.cmpi .slt (BitVec.ofNat 32 n.val) 16#32 = 1#1 → n.val < 16 := by decide +kernel

/-- The lanes the value is claimed on are the first sixteen. -/
theorem lane_lt {a0 a1 a2 a3 a4 a5 a6} (i : (⟨2, ![32768, 128]⟩ : Shape).Idx)
    (h : (On_gate_columns.fn (F := Ideal) a0 a1 a2 a3 a4 a5 a6).2.1 i = 1#1) : (i 1).val < 16 := by
  idx_vars i
  revert h
  pointwise [On_gate_columns.fn]
  exact lane_word i1

theorem algebraic : Cert.algebraic_ProjIdeal_ProjRefIdeal_on_gate_columns := by
  intro m g m' g' _ hagree
  refine ⟨fun c => qkv (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg3)) (m ((c.tc : Thread ProjIdeal.nD ProjIdeal.τ).loc ProjIdeal.main_arg4)),
    fun c => gates (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg3)) (m ((c.tc : Thread ProjIdeal.nD ProjIdeal.τ).loc ProjIdeal.main_arg4)) (m ((c.tc : Thread ProjIdeal.nD ProjIdeal.τ).loc ProjIdeal.main_arg5)) (m ((c.tc : Thread ProjIdeal.nD ProjIdeal.τ).loc ProjIdeal.main_arg6)),
    fun c => chunks (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg3)) (m ((c.tc : Thread ProjIdeal.nD ProjIdeal.τ).loc ProjIdeal.main_arg4)) (m ((c.tc : Thread ProjIdeal.nD ProjIdeal.τ).loc ProjIdeal.main_arg5)) (m ((c.tc : Thread ProjIdeal.nD ProjIdeal.τ).loc ProjIdeal.main_arg6)),
    fun c => silu (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg3)) (m ((c.tc : Thread ProjIdeal.nD ProjIdeal.τ).loc ProjIdeal.main_arg4)),
    fun c => glu (m ((c.tc : Thread ProjIdeal.nD ProjIdeal.τ).loc ProjIdeal.main_arg0)) (m ((c.tc : Thread ProjIdeal.nD ProjIdeal.τ).loc ProjIdeal.main_arg1)) (m ((c.tc : Thread ProjIdeal.nD ProjIdeal.τ).loc ProjIdeal.main_arg2)) (m ((c.tc : Thread ProjIdeal.nD ProjIdeal.τ).loc ProjIdeal.main_arg3)) (m ((c.tc : Thread ProjIdeal.nD ProjIdeal.τ).loc ProjIdeal.main_arg4)), ?_, ?_⟩
  · refine (θ_run _ _ _).mono (fun r h c => ?_) (ProjIdeal.Value.run_blocks m g)
    replace h := h c
    refine ⟨?_, ?_, ?_, ?_, ?_, h.2.2.2.2.2⟩
    · intro i _
      exact congrFun (h.1.trans (ProjIdeal.ProjValue.final10 m c)) i
    · intro i hi
      exact (congrFun (h.2.1.trans (ProjIdeal.ProjValue.final11 m c)) i).trans
        (ProjIdeal.ProjValue.lanes_gate m c i (lane_lt i hi))
    · intro i _
      exact congrFun (h.2.2.1.trans (ProjIdeal.ProjValue.final12 m c)) i
    · intro i _
      exact congrFun (h.2.2.2.1.trans (ProjIdeal.ProjValue.final13 m c)) i
    · intro i _
      exact congrFun (h.2.2.2.2.1.trans (ProjIdeal.ProjValue.final14 m c)) i
  · refine (θ_run _ _ _).mono (fun r h c => ?_) (ProjRefIdeal.Value.run m' g')
    replace h := h c
    obtain ⟨a0, a1, a2, a3, a4, a5, a6⟩ := hagree c
    refine ⟨?_, ?_, ?_, ?_, ?_, h.2.2.2.2.2⟩
    · intro i _
      exact congrFun ((h.1.trans (ProjRefIdeal.Read.val_main_v70_eq (F := Ideal) _ _ _ _ _)).trans ((qkv_eq _ _ _ _ _ ).trans (congr (congr (congr (congr (congrArg qkv a0) a1) a2) a3) a4))) i
    · intro i hi
      refine (congrFun (h.2.1.trans (ProjRefIdeal.Read.val_main_v72_eq (F := Ideal) m' c)) i).trans ((gates_eq _ _ _ _ _ _ _ i (lane_lt i hi)).trans ?_)
      exact congrFun (congr (congr (congr (congr (congr (congr (congrArg gates a0) a1) a2) a3) a4) a5) a6) i
    · intro i _
      exact congrFun ((h.2.2.1.trans (ProjRefIdeal.Read.val_main_v74_eq (F := Ideal) m' c)).trans ((chunks_eq _ _ _ _ _ _ _ ).trans (congr (congr (congr (congr (congr (congr (congrArg chunks a0) a1) a2) a3) a4) a5) a6))) i
    · intro i _
      exact congrFun ((h.2.2.2.1.trans (ProjRefIdeal.Read.val_main_v76_eq (F := Ideal) _ _ _ _ _)).trans ((silu_eq _ _ _ _ _ ).trans (congr (congr (congr (congr (congrArg silu a0) a1) a2) a3) a4))) i
    · intro i _
      exact congrFun ((h.2.2.2.2.1.trans (ProjRefIdeal.Read.val_main_v77_eq (F := Ideal) _ _ _ _ _)).trans ((glu_eq _ _ _ _ _ ).trans (congr (congr (congr (congr (congrArg glu a0) a1) a2) a3) a4))) i

theorem reference_frame : Cert.quiescent_ProjRefIdeal := fun m ρ _ =>
  (θ_run ProjRefIdeal.defs _ _).mono
    (fun r h => ⟨fun c => (h c).2.2.2.2.2, Idealize.ShloMosaic.sem_eq_zero_of_no_sems (by decide) r.2⟩)
    (ProjRefIdeal.Value.run (F := Ideal) m ρ)

end Cert.ProjPair

end
-- ==== Proof.Experts.Bounds.lean ====
module

public import proofs.«01_k».proof.Pre_tables_in_bounds
public import proofs.«01_k».proof.Proof.Gen.Pre_tables_in_bounds

@[expose] public section

/-! # What the precondition says of the two tables

Every word of the table of experts is below 64, and every word of the table of source blocks below 449. -/

namespace Cert.ExpertsSpec

open Idealize.ShloMosaic Cert.Pre_tables_in_bounds

theorem both (p q : Bool) : IntOp.andi (BitVec.ofBool p) (BitVec.ofBool q) = BitVec.ofBool (p && q) := by
  cases p <;> cases q <;> decide

theorem holds_iff (p : Bool) : BitVec.ofBool p = 1#1 ↔ p = true := by cases p <;> decide

theorem below (v u : BitVec 32) (e : IntOp.andi (IntOp.andi (IntOp.andi (IntOp.cmpi .sge v 0#32) (IntOp.cmpi .slt v 64#32))
    (IntOp.cmpi .sge u 0#32)) (IntOp.cmpi .slt u 449#32) = 1#1) : v.toNat < 64 ∧ u.toNat < 449 := by
  simp only [IntOp.cmpi, both, holds_iff, Bool.and_eq_true, BitVec.sle_eq_decide, BitVec.slt_eq_decide, decide_eq_true_eq,
    BitVec.toInt_eq_toNat_cond, BitVec.toNat_ofNat, Nat.reducePow, Nat.reduceMod] at e
  omega

theorem bounds {F : FTy → Type} [FloatOps F] (a0 a1 : IVec S449 32) (a2 : IVec S1 32) (a3 : IVec S229888x512 32)
    (a4 a5 : FVec F S64x1024x256 .f32) (a6 : FVec F S64x256x1024 .f32)
    (h : fn (F := F) a0 a1 a2 a3 a4 a5 a6 = fun _ => 1#1) (x : S449.Idx) : (a0 x).toNat < 64 ∧ (a1 x).toNat < 449 := by
  have e := congrFun h x
  simp only [fn, andi, cmpi, broadcastInDim, constantI] at e
  exact below _ _ e

end Cert.ExpertsSpec
-- ==== Proof.Experts.IdealBody.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Claim
public import Idealize.ShloMosaic.Lib.Tactic
public import Idealize.ShloMosaic.Lib.WordCmp
public import proofs.«01_k».proof.Proof.Experts.Body

@[expose] public section

set_option maxRecDepth 16384

noncomputable section

/-! # The experts: what one grid point does

Point `i` of the grid reads the count of used blocks. Below it, the point computes its block of 512 rows in two halves
of 256; from it on, the point writes zeros. Both ways every row of the output block is written. -/

namespace Cert.ExpertsIdeal.Blockwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.ExpertsIdeal.Gen

variable {F : FTy → Type} [FloatOps F]

/-- The resources a triple of this program is stated over. -/
abbrev Mach (F : FTy → Type) [FloatOps F] := MT nD τ sig Unit (Elt F) ℕ (UR sig nD τ) ℕ

/-! ## What the body writes -/

/-- A whole block of one expert's gate or up matrix, and of its down matrix. -/
abbrev atUp : Rect S1x1024x256 := Rect.unit (s := S1x1024x256) ![0, 0, 0] S1x1024x256.size inb_S1x1024x256_S1x1024x256_0_0_0
abbrev atDown : Rect S1x256x1024 := Rect.unit (s := S1x256x1024) ![0, 0, 0] S1x256x1024.size inb_S1x256x1024_S1x256x1024_0_0_0
/-- The upper and the lower 256 rows of a block of words, and of the output's block; and all of the latter. -/
abbrev inTop : Rect S512x512 := Rect.unit (s := S512x512) ![0, 0] S256x512.size inb_S512x512_S256x512_0_0
abbrev inBottom : Rect S512x512 := Rect.unit (s := S512x512) ![256, 0] S256x512.size inb_S512x512_S256x512_256_0
abbrev outTop : Rect S512x1024 := Rect.unit (s := S512x1024) ![0, 0] S256x1024.size inb_S512x1024_S256x1024_0_0
abbrev outBottom : Rect S512x1024 := Rect.unit (s := S512x1024) ![256, 0] S256x1024.size inb_S512x1024_S256x1024_256_0
abbrev outAll : Rect S512x1024 := Rect.unit (s := S512x1024) ![0, 0] S512x1024.size inb_S512x1024_S512x1024_0_0

/-- The output's block at a used point. -/
def computed (x0 : Vec F S512x512 .i32) (x1 : Vec F S1x1024x256 .f32) (x2 : Vec F S1x1024x256 .f32) (x3 : Vec F S1x256x1024 .f32) : Vec F S512x1024 .bf16 :=
  View.canon [⟨outBottom, k0_pay1 (k0_pay3 (View.ld x1 atUp)) (k0_pay4 (View.ld x2 atUp)) (k0_pay5 (View.ld x3 atDown))
      (k0_pay7 (View.ld x0 inBottom)) (constant S256x256 .f32 0x00000000#32)⟩,
    ⟨outTop, k0_pay6 (View.ld x1 atUp) (View.ld x2 atUp) (View.ld x3 atDown) (View.ld x0 inTop)⟩]

/-- The output's block at a point past the used ones. -/
def cleared : Vec F S512x1024 .bf16 := View.canon [⟨outAll, k0_pay2 (F := F)⟩]

theorem halves_cover (p q : Vec F S256x1024 .bf16) (y : S512x1024.Idx) :
    ∃ pc ∈ ([⟨outBottom, p⟩, ⟨outTop, q⟩] : List (View.Piece (Elt F) S512x1024 .bf16)), y ∈ pc.1.set :=
  View.cover_of_tiled [⟨outBottom, p⟩, ⟨outTop, q⟩] S256x1024.size (by rfl) y

theorem whole_covers (p : Vec F S512x1024 .bf16) (y : S512x1024.Idx) :
    ∃ pc ∈ ([⟨outAll, p⟩] : List (View.Piece (Elt F) S512x1024 .bf16)), y ∈ pc.1.set :=
  View.cover_of_tiled [⟨outAll, p⟩] S512x1024.size (by rfl) y

/-! ## The tables as the body sees them -/

abbrev expertTable : Memref sig .tc .smem S449 .i32 := Memref.whole main_arg0
abbrev sourceTable : Memref sig .tc .smem S449 .i32 := Memref.whole main_arg1
abbrev countTable : Memref sig .tc .smem S1 .i32 := Memref.whole main_arg2

/-- The contents of a table's buffer on core `c`. -/
abbrev Table (F : FTy → Type) [FloatOps F] (c : Dev nD) {S : Shape} {e : EltTy} (M : Memref sig .tc .smem S e) : Type :=
  Buf (Elt F) (M.view.loc (c : Thread nD τ))

/-- A table held for reading: half of its share, the pipeline keeping the other. -/
abbrev holds (c : Dev nD) {S : Shape} {e : EltTy} (M : Memref sig .tc .smem S e) (f : Table F c M) : sProp (Mach F) :=
  M.view.loc (c : Thread nD τ) ↦{fullShare.right} f

/-- The count the body reads. -/
abbrev countOf (c : Dev nD) (u : Table F c countTable) : BitVec 32 :=
  countTable.view.readAt (Elt F) (Rect.unit (s := S1) ![0] S1.size inb_S1_S1_0).toLoadRect u
    (Shape.Idx.first (numel1_S1.symm ▸ Nat.one_pos))

theorem conds (i : grid0.Coords) (v : BitVec 32) : k0_cond2 i v = 1#1 ↔ ¬ k0_cond1 i v = 1#1 := by
  have a : k0_cond1 i v = 1#1 ↔ (BitVec.ofNat 32 (i 0).val).toInt < v.toInt := by
    show IntOp.cmpi .ne (BitVec.setWidth 32 (BitVec.ofBool ((BitVec.ofNat 32 (i 0).val).slt v))) 0#32 = 1#1 ↔ _
    rw [BitVec.slt_eq_decide]
    by_cases h : (BitVec.ofNat 32 (i 0).val).toInt < v.toInt
    · simp only [h, decide_true, iff_true]; decide
    · simp only [h, decide_false, iff_false]; decide
  have b : k0_cond2 i v = 1#1 ↔ v.toInt ≤ (BitVec.ofNat 32 (i 0).val).toInt := by
    show IntOp.cmpi .ne (BitVec.setWidth 32 (BitVec.ofBool (v.sle (BitVec.ofNat 32 (i 0).val)))) 0#32 = 1#1 ↔ _
    rw [BitVec.sle_eq_decide]
    by_cases h : v.toInt ≤ (BitVec.ofNat 32 (i 0).val).toInt
    · simp only [h, decide_true, iff_true]; decide
    · simp only [h, decide_false, iff_false]; decide
  rw [a, b]; exact not_lt.symm

/-! ## The body's triples -/

section

variable (c : Dev nD) (i : grid0.Coords)
  (arg4 : Memref sig .tc .vmem S512x512 .i32) (harg4 : arg4.IsWhole)
  (arg5 : Memref sig .tc .vmem S1x1024x256 .f32) (harg5 : arg5.IsWhole)
  (arg6 : Memref sig .tc .vmem S1x1024x256 .f32) (harg6 : arg6.IsWhole)
  (arg7 : Memref sig .tc .vmem S1x256x1024 .f32) (harg7 : arg7.IsWhole)
  (arg8 : Memref sig .tc .vmem S512x1024 .bf16) (harg8 : arg8.IsWhole)
  (x0 : Vec F S512x512 .i32) (x1 : Vec F S1x1024x256 .f32) (x2 : Vec F S1x1024x256 .f32) (x3 : Vec F S1x256x1024 .f32)
  (t0 : Table F c expertTable) (t1 : Table F c sourceTable) (t2 : Table F c countTable)

set_option maxHeartbeats 1000000 in
/-- At a used point the body leaves the operands as they were and the output's block at `computed`. -/
theorem run_used (h1 : k0_cond1 i (countOf c t2) = 1#1) (h2 : ¬ k0_cond2 i (countOf c t2) = 1#1)
    (E : Set ℕ) (K : PUnit → sProp (Mach F)) :
    iprop(owns (c : Thread nD τ) arg4 fullShare x0 ∗ owns (c : Thread nD τ) arg5 fullShare x1
        ∗ owns (c : Thread nD τ) arg6 fullShare x2 ∗ owns (c : Thread nD τ) arg7 fullShare x3
        ∗ (∃ d, owns (c : Thread nD τ) arg8 fullShare d)
        ∗ holds c expertTable t0 ∗ holds c sourceTable t1 ∗ holds c countTable t2
        ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare (computed x0 x1 x2 x3)
            ∗ holds c expertTable t0 ∗ holds c sourceTable t1 ∗ holds c countTable t2) -∗ K ⟨⟩))
      ⊢ wp frame (wpE (defs₀ (F := F)) Variants.none c none) E
          (cc0_experts i expertTable (Memref.isWhole_whole _) sourceTable (Memref.isWhole_whole _) countTable
            (Memref.isWhole_whole _) arg4 harg4 arg5 harg5 arg6 harg6 arg7 harg7 arg8 harg8) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, HT2, Hk⟩
  subst hf0 hf1 hf2 hf3
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (halves_cover _ _)).trans rfl
  isplitl [HT0]; · iexact HT0
  isplitl [HT1]; · iexact HT1
  iexact HT2

set_option maxHeartbeats 1000000 in
/-- Past the used points the body leaves the operands as they were and the output's block at `cleared`. -/
theorem run_unused (h1 : ¬ k0_cond1 i (countOf c t2) = 1#1) (h2 : k0_cond2 i (countOf c t2) = 1#1)
    (E : Set ℕ) (K : PUnit → sProp (Mach F)) :
    iprop(owns (c : Thread nD τ) arg4 fullShare x0 ∗ owns (c : Thread nD τ) arg5 fullShare x1
        ∗ owns (c : Thread nD τ) arg6 fullShare x2 ∗ owns (c : Thread nD τ) arg7 fullShare x3
        ∗ (∃ d, owns (c : Thread nD τ) arg8 fullShare d)
        ∗ holds c expertTable t0 ∗ holds c sourceTable t1 ∗ holds c countTable t2
        ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare (cleared (F := F))
            ∗ holds c expertTable t0 ∗ holds c sourceTable t1 ∗ holds c countTable t2) -∗ K ⟨⟩))
      ⊢ wp frame (wpE (defs₀ (F := F)) Variants.none c none) E
          (cc0_experts i expertTable (Memref.isWhole_whole _) sourceTable (Memref.isWhole_whole _) countTable
            (Memref.isWhole_whole _) arg4 harg4 arg5 harg5 arg6 harg6 arg7 harg7 arg8 harg8) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, HT2, Hk⟩
  subst hf0 hf1 hf2 hf3
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (whole_covers _)).trans rfl
  isplitl [HT0]; · iexact HT0
  isplitl [HT1]; · iexact HT1
  iexact HT2

end

end Cert.ExpertsIdeal.Blockwise
-- ==== Proof.Experts.IdealRun.lean ====
module

public import proofs.«01_k».proof.Proof.Experts.IdealBody

@[expose] public section

set_option maxRecDepth 16384

noncomputable section

/-! # The experts: the run over the whole grid

Given tables whose words are in bounds, every point's body does what its triple says, so that the launch ends with the
output array put together from the points' blocks and with everything else as it was. -/

namespace Cert.ExpertsIdeal.Blockwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.ExpertsIdeal.Gen

variable {F : FTy → Type} [FloatOps F]
variable (m : (ℓ : Loc nD τ sig) → Buf (Elt F) ℓ) (ρ : Dev nD → PrngReg)

/-! ## The memory at launch -/

/-- The buffers when the region is entered: as launched. -/
abbrev V (c : Dev nD) (b : Ref sig .tc) : Buf (Elt F) ((c : Thread nD τ).loc b) := m ((c : Thread nD τ).loc b)

set_option maxHeartbeats 800000 in
/-- The program is its one region. -/
theorem entry (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables as launched. -/
def tables : pre0.Contents (Elt F) := fun j => V m (0 : Dev nD) (pre0.ref j)

theorem V_tables (c : Dev nD) (j : Fin 3) : V m c (pre0.ref j) = tables m j := by
  obtain rfl : c = 0 := Subsingleton.elim _ _; rfl

/-- The tables send every block inside its array. -/
abbrev InBounds : Prop := ok0 (F := F) (tables m)
abbrev admitted (hO : InBounds m) : (pcfg0 (F := F)).Adm := ⟨tables m, hO⟩
abbrev cfgAt (hO : InBounds m) : Pipeline.Cfg sig Λ₀ := cfg0 (admitted m hO)

/-- The tables' halves, one by one. -/
theorem tables_held (c : Dev nD) : (Pipeline.ΦT pre0 (tables m) c : sProp (Mach F))
    = iprop(holds c expertTable (tables m 0) ∗ holds c sourceTable (tables m 1) ∗ holds c countTable (tables m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows -/

/-- Window `w`'s block at point `t`. -/
def iblk (hO : InBounds m) (c : Dev nD) (w : Fin (cfgAt m hO).W) (t : Fin (cfgAt m hO).N) :
    (((cfgAt m hO).win w).xblock ((cfgAt m hO).grid.coords t)).Idx → Elt F ((cfgAt m hO).win w).elt :=
  (((cfgAt m hO).win w).blk t).view.read (Elt F) (V m c (Pipeline.arrRef spec0 w))

/-- The output is written back at every point. -/
theorem flushes (a : (pcfg0 (F := F)).Adm) : ∀ t : Fin (cfg0 a).N, ((cfg0 a).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
      ∀ t : Fin grid0.N, Pipeline.Window.flushOf grid0 true cc0_transform_4 t = true)

/-- The staging buffers at point `t`. -/
abbrev st_0 (hO : InBounds m) (t : Fin (cfgAt m hO).N) : Memref sig .tc .vmem S512x512 .i32 := spec0_0.stage ((cfgAt m hO).slots t 0)
abbrev st_1 (hO : InBounds m) (t : Fin (cfgAt m hO).N) : Memref sig .tc .vmem S1x1024x256 .f32 := spec0_1.stage ((cfgAt m hO).slots t 1)
abbrev st_2 (hO : InBounds m) (t : Fin (cfgAt m hO).N) : Memref sig .tc .vmem S1x1024x256 .f32 := spec0_2.stage ((cfgAt m hO).slots t 2)
abbrev st_3 (hO : InBounds m) (t : Fin (cfgAt m hO).N) : Memref sig .tc .vmem S1x256x1024 .f32 := spec0_3.stage ((cfgAt m hO).slots t 3)
abbrev st_4 (hO : InBounds m) (t : Fin (cfgAt m hO).N) : Memref sig .tc .vmem S512x1024 .bf16 := spec0_4.stage ((cfgAt m hO).slots t 4)

/-- The body as the pipeline calls it at point `t`. -/
abbrev bodyAt (a : (pcfg0 (F := F)).Adm) (t : Fin (cfg0 a).N) : Prog (TpuEff nD τ sig (Elt F) Λ₀ .tc) PUnit :=
  cc0_experts (grid0.coords t) expertTable (Memref.isWhole_whole _) sourceTable (Memref.isWhole_whole _) countTable (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

/-- The output's block at point `t`: computed below the count, cleared from it on. -/
def blockAt (hO : InBounds m) (c : Dev nD) (t : Fin (cfgAt m hO).N) : Vec F S512x1024 .bf16 :=
  if k0_cond1 (grid0.coords t) (countOf c (tables m 2)) = 1#1 then
    computed (iblk m hO c 0 t) (iblk m hO c 1 t) (iblk m hO c 2 t) (iblk m hO c 3 t)
  else cleared

/-- What is known of the pipeline on core `c`. -/
def dats (hO : InBounds m) (_ : Fin 1) (c : Dev nD) : Dat τ (Elt F) Unit ℕ (UR sig nD τ) ℕ (cfgAt m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => blockAt m hO c t
  Φ _ := iprop(Pipeline.ΦA spec0 c ∗ Pipeline.ΦT pre0 (tables m) c)
  q _ := fullShare
  owed _ := 0

theorem A_eq (hO : InBounds m) (c : Dev nD) (w : Fin (cfgAt m hO).W) : (dats m hO 0 c).A w = V m c (Pipeline.arrRef spec0 w) := by
  dsimp only [dats]; try rfl

theorem after_0 (hO : InBounds m) (c : Dev nD) (t : Fin (cfgAt m hO).N) : (dats m hO 0 c).after 0 t = iblk m hO c 0 t := by
  dsimp only [dats]; try rfl
theorem after_1 (hO : InBounds m) (c : Dev nD) (t : Fin (cfgAt m hO).N) : (dats m hO 0 c).after 1 t = iblk m hO c 1 t := by
  dsimp only [dats]; try rfl
theorem after_2 (hO : InBounds m) (c : Dev nD) (t : Fin (cfgAt m hO).N) : (dats m hO 0 c).after 2 t = iblk m hO c 2 t := by
  dsimp only [dats]; try rfl
theorem after_3 (hO : InBounds m) (c : Dev nD) (t : Fin (cfgAt m hO).N) : (dats m hO 0 c).after 3 t = iblk m hO c 3 t := by
  dsimp only [dats]; try rfl

theorem after_out (hO : InBounds m) (c : Dev nD) (t : Fin (cfgAt m hO).N) : (dats m hO 0 c).after 4 t = blockAt m hO c t := by
  dsimp only [dats]; try rfl

/-! An operand's staging buffer holds its block at every point, fetched there or not. -/

theorem before_0 (hO : InBounds m) (c : Dev nD) (t : Fin (cfgAt m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (hO : InBounds m) (c : Dev nD) (t : Fin (cfgAt m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem before_2 (hO : InBounds m) (c : Dev nD) (t : Fin (cfgAt m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem before_3 (hO : InBounds m) (c : Dev nD) (t : Fin (cfgAt m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## Every point -/

def bodyPre (hO : InBounds m) (c : Dev nD) (t : Fin (cfgAt m hO).N) : sProp (Mach F) :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d))
    ∗ (∃ d, owns (c : Thread nD τ) (st_4 m hO t) fullShare ((dats m hO 0 c).before 4 t d)))

def bodyPost (hO : InBounds m) (c : Dev nD) (t : Fin (cfgAt m hO).N) : sProp (Mach F) :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t)
    ∗ owns (c : Thread nD τ) (st_3 m hO t) fullShare ((dats m hO 0 c).after 3 t)
    ∗ owns (c : Thread nD τ) (st_4 m hO t) fullShare ((dats m hO 0 c).after 4 t))

set_option maxHeartbeats 800000 in
theorem sound_body (hO : InBounds m) (c : Dev nD) (t : Fin (cfgAt m hO).N) :
    bodyPre m hO c t ⊢ wp frame (wpE (defs₀ (F := F)) Variants.none c none) Set.univ (bodyAt (admitted m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_out]
  rw [show (dats m hO 0 c).Φ t.castSucc = iprop(Pipeline.ΦA spec0 c ∗ Pipeline.ΦT pre0 (tables m) c) from rfl, tables_held]
  unfold blockAt
  by_cases h : k0_cond1 (grid0.coords t) (countOf c (tables m 2)) = 1#1
  · rw [if_pos h]
    iintro ⟨⟨HΦ, ⟨HT0, HT1, HT2⟩⟩, Ho, ⟨%d0, H0⟩, ⟨%d1, H1⟩, ⟨%d2, H2⟩, ⟨%d3, H3⟩, ⟨%d4, H4⟩⟩
    iapply (run_used c (grid0.coords t) _ _ _ _ _ _ _ _ _ _ (iblk m hO c 0 t) (iblk m hO c 1 t) (iblk m hO c 2 t) (iblk m hO c 3 t)
      (tables m 0) (tables m 1) (tables m 2) h (fun h2 => (conds _ _).mp h2 h) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, H4, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · rw [if_neg h]
    iintro ⟨⟨HΦ, ⟨HT0, HT1, HT2⟩⟩, Ho, ⟨%d0, H0⟩, ⟨%d1, H1⟩, ⟨%d2, H2⟩, ⟨%d3, H3⟩, ⟨%d4, H4⟩⟩
    iapply (run_unused c (grid0.coords t) _ _ _ _ _ _ _ _ _ _ (iblk m hO c 0 t) (iblk m hO c 1 t) (iblk m hO c 2 t) (iblk m hO c 3 t)
      (tables m 0) (tables m 1) (tables m 2) h ((conds _ _).mpr h) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, H4, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

theorem row (hO : InBounds m) (t : Fin (cfgAt m hO).N) :
    defs₀ (F := F) .tc (cfgAt m hO).body ((cfgAt m hO).bodyArgs t ((cfgAt m hO).slots t)) = bodyAt (admitted m hO) t := by
  unfold defs₀; rw [Defs.onTc_tc]

/-- The output's staging buffer is left at its block, the window being written back at every point. -/
theorem leaves_out (hO : InBounds m) (c : Dev nD) (t : Fin (cfgAt m hO).N) :
    (owns (c : Thread nD τ) (st_4 m hO t) fullShare ((dats m hO 0 c).after 4 t) : sProp (Mach F)) ⊢
      (match (cfgAt m hO).idle 4 ((cfgAt m hO).grid.coords t) with
        | true =>
          match ((cfgAt m hO).win 4).flush t with
          | false => iprop(∃ d, owns c (((cfgAt m hO).win 4).stage ((cfgAt m hO).slots t 4)) fullShare ((dats m hO 0 c).before 4 t d))
          | true => owns c (((cfgAt m hO).win 4).stage ((cfgAt m hO).slots t 4)) fullShare ((dats m hO 0 c).after 4 t)
        | false => owns c (((cfgAt m hO).win 4).stage ((cfgAt m hO).slots t 4)) fullShare ((dats m hO 0 c).after 4 t)) := by
  rw [flushes (admitted m hO) t]
  cases (cfgAt m hO).idle 4 ((cfgAt m hO).grid.coords t)
  · exact .rfl
  · exact .rfl

theorem body_obligation (hO : InBounds m) (c : Dev nD) : BodyObligation (dats (F := F) m hO 0 c) (defs₀ (F := F)) Variants.none () Set.univ := fun t => by
  rw [bigSep_W0, bigSep_W0, row m hO]
  exact triple_restated (sound_body m hO c t) rfl .rfl fun _ =>
    sep_mono .rfl (sep_mono .rfl (sep_mono .rfl (sep_mono .rfl (sep_mono .rfl (sep_mono .rfl (leaves_out m hO c t))))))

/-! ## The launch -/

set_option backward.isDefEq.respectTransparency.types false in
/-- The launch ends with the arrays as the pipeline leaves them, every other buffer as it was, and every counter at zero. -/
theorem run (hO : InBounds m) : θ_run defs (onTc (τ := τ) (main (F := F))) ⟨m, fun _ => 0, ρ⟩ (fun r =>
    (Pipeline.FramePost (Pipeline.pin pcfgs fun _ => admitted m hO) (dats m hO) 0 (V m)) r ∧ r.2.sem = fun _ => 0) :=
  Pipeline.θ_run_frameP (Q' := _) pcfgs (fun _ => admitted m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := entry m Variants.none) (hA := A_eq m hO) (hpf := V_tables m) (hΦ := fun _ _ => rfl)

/-- The same, stating the output array's contents, the arguments' and the counters. -/
theorem ends (hO : InBounds m) : θ_run defs (onTc (τ := τ) (main (F := F))) ⟨m, fun _ => 0, ρ⟩ (fun r =>
    ((∀ c : Dev nD, r.2.mem ((c.tc : Thread nD τ).loc main_v0) = (dats m hO 0 c).arrAt 4 (cfgAt m hO).N)
    ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)))
    ∧ r.2.sem = fun _ => 0) :=
  (θ_run defs _ _).mono (fun r h => ⟨⟨fun c => (h.1 c).1 4, fun c => ⟨
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩⟩, h.2⟩) (run m ρ hO)

/-- The frame: the arguments end as they were, and every counter at zero. -/
theorem frame_holds (hO : InBounds m) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨h.1.2, h.2⟩) (ends m ρ hO)

end Cert.ExpertsIdeal.Blockwise
-- ==== Proof.Experts.IdealTables.lean ====
module

public import proofs.«01_k».proof.Proof.Experts.Bounds
public import proofs.«01_k».proof.Proof.Experts.IdealRun
public import Idealize.ShloMosaic.Lib.Pointwise

@[expose] public section

set_option maxRecDepth 16384

noncomputable section

/-! # The experts: tables within bounds send every block inside its array -/

namespace Cert.ExpertsIdeal.Blockwise

open Idealize.ShloMosaic Idealize.ShloMosaic.TcCoe Idealize.SL.Sem
open Cert.ExpertsIdeal Cert.ExpertsIdeal.Gen

variable {F : FTy → Type} [FloatOps F]
variable (m : (ℓ : Loc nD τ sig) → Buf (Elt F) ℓ)

/-- The expert and the source block of grid point `i`. -/
abbrev expertOf (i : Fin 449) : ℕ := (show BitVec 32 from m ((0 : Dev nD).tc.loc main_arg0) (ix1 i)).toNat
abbrev sourceOf (i : Fin 449) : ℕ := (show BitVec 32 from m ((0 : Dev nD).tc.loc main_arg1) (ix1 i)).toNat

theorem place (i : grid0.Coords) : (Rect.unit (s := S449) ![(Scalar.indexCast (BitVec.ofNat 32 (i 0).val) : Index).toNat] S1.size
    (k0_off1_inb i)).emb (Shape.Idx.first (numel1_S1.symm ▸ Nat.one_pos)) = ix1 (i 0) := by
  funext a
  obtain rfl : a = 0 := Subsingleton.elim _ _
  refine Fin.ext ?_
  have hi : (i 0).val < 449 := (i 0).isLt
  show (BitVec.ofNat 32 (i 0).val).toNat + 1 * 0 = (i 0).val
  rw [BitVec.toNat_ofNat]
  omega

theorem source_index (i : grid0.Coords) : cc0_transform_0 k0_off1_inb numel1_S1 (tables m) i = ![sourceOf m (i 0), 0] := by
  show ![(show BitVec 32 from tables m 1 _).toNat, 0] = _
  exact congrArg (fun z => ![(show BitVec 32 from tables m 1 z).toNat, 0]) (place i)

theorem gate_index (i : grid0.Coords) : cc0_transform_1 k0_off1_inb numel1_S1 (tables m) i = ![expertOf m (i 0), 0, 0] := by
  show ![(show BitVec 32 from tables m 0 _).toNat, 0, 0] = _
  exact congrArg (fun z => ![(show BitVec 32 from tables m 0 z).toNat, 0, 0]) (place i)

theorem up_index (i : grid0.Coords) : cc0_transform_2 k0_off1_inb numel1_S1 (tables m) i = ![expertOf m (i 0), 0, 0] := by
  show ![(show BitVec 32 from tables m 0 _).toNat, 0, 0] = _
  exact congrArg (fun z => ![(show BitVec 32 from tables m 0 z).toNat, 0, 0]) (place i)

theorem down_index (i : grid0.Coords) : cc0_transform_3 k0_off1_inb numel1_S1 (tables m) i = ![expertOf m (i 0), 0, 0] := by
  show ![(show BitVec 32 from tables m 0 _).toNat, 0, 0] = _
  exact congrArg (fun z => ![(show BitVec 32 from tables m 0 z).toNat, 0, 0]) (place i)

theorem in_bounds (h : ∀ i : Fin 449, expertOf m i < 64 ∧ sourceOf m i < 449) : InBounds m := by
  refine ⟨fun i => ⟨?_, .inl rfl⟩, fun i => ⟨?_, .inl rfl⟩, fun i => ⟨?_, .inl rfl⟩, fun i => ⟨?_, .inl rfl⟩⟩
  · rw [source_index]
    have hs := (h (i 0)).2
    intro a
    fin_cases a
    · show (sourceOf m (i 0) + 1) * 512 ≤ 229888
      omega
    · show (0 + 1) * 512 ≤ 512
      omega
  · rw [gate_index]
    have hs := (h (i 0)).1
    intro a
    fin_cases a
    · show (expertOf m (i 0) + 1) * 1 ≤ 64
      omega
    · show (0 + 1) * 1024 ≤ 1024
      omega
    · show (0 + 1) * 256 ≤ 256
      omega
  · rw [up_index]
    have hs := (h (i 0)).1
    intro a
    fin_cases a
    · show (expertOf m (i 0) + 1) * 1 ≤ 64
      omega
    · show (0 + 1) * 1024 ≤ 1024
      omega
    · show (0 + 1) * 256 ≤ 256
      omega
  · rw [down_index]
    have hs := (h (i 0)).1
    intro a
    fin_cases a
    · show (expertOf m (i 0) + 1) * 1 ≤ 64
      omega
    · show (0 + 1) * 256 ≤ 256
      omega
    · show (0 + 1) * 1024 ≤ 1024
      omega

end Cert.ExpertsIdeal.Blockwise

end
-- ==== Proof.Experts.Spec.lean ====
module

public import Idealize.ShloMosaic.Lib.Pointwise

@[expose] public section

noncomputable section

/-! # One expert on one row

A row of 1024 channels comes as 512 words: channel `d` below 512 is the lower half of word `d`, channel `512 + d` its upper
half, each half a bfloat16 number. -/

namespace Cert.ExpertsSpec

open Idealize.ShloMosaic

/-- Channel `d` of a row of words. -/
def channel (w : Fin 512 → BitVec 32) (d : Fin 1024) : EReal :=
  if h : d.val < 512 then Ideal.ofBits .f32 (w ⟨d.val, h⟩ <<< 16#32)
  else Ideal.ofBits .f32 (w ⟨d.val - 512, by omega⟩ &&& 4294901760#32)

/-- A row times a column. -/
def dot {n : ℕ} (x y : Fin n → EReal) : EReal := ∑ d, x d * y d

/-- What an expert makes of a row: gate and up projections, the gate through the SiLU, and the down projection. -/
def expert (x : Fin 1024 → EReal) (g u : Fin 1024 → Fin 256 → EReal) (dn : Fin 256 → Fin 1024 → EReal) (j : Fin 1024) : EReal :=
  dot (fun k => dot x (fun d => g d k) * Ideal.logistic (dot x (fun d => g d k)) * dot x (fun d => u d k)) (fun k => dn k j)

/-- Row `r` of block `b` of the result: below the count `n`, what expert `ex b` makes of row `r` of block `so b` of the words;
from the count on, zero. Words past the last expert or block are read as the last. -/
def slot (ex so : Fin 449 → BitVec 32) (n : BitVec 32) (xs : Fin 229888 → Fin 512 → BitVec 32)
    (wg wu : Fin 64 → Fin 1024 → Fin 256 → EReal) (wd : Fin 64 → Fin 256 → Fin 1024 → EReal) (b : Fin 449) (r : Fin 512)
    (j : Fin 1024) : EReal :=
  if (BitVec.ofNat 32 b.val).toInt < n.toInt then
    expert (channel (xs ⟨512 * min (so b).toNat 448 + r.val, by omega⟩)) (wg ⟨min (ex b).toNat 63, by omega⟩)
      (wu ⟨min (ex b).toNat 63, by omega⟩) (wd ⟨min (ex b).toNat 63, by omega⟩) j
  else 0

section

variable (ex so : Fin 449 → BitVec 32) (n : BitVec 32) (xs : Fin 229888 → Fin 512 → BitVec 32)
  (wg wu : Fin 64 → Fin 1024 → Fin 256 → EReal) (wd : Fin 64 → Fin 256 → Fin 1024 → EReal) (b : Fin 449) (r : Fin 512) (j : Fin 1024)

theorem slot_used (hn : (BitVec.ofNat 32 b.val).toInt < n.toInt) (he : (ex b).toNat < 64) (hs : (so b).toNat < 449) :
    slot ex so n xs wg wu wd b r j = expert (channel (xs ⟨512 * (so b).toNat + r.val, by omega⟩)) (wg ⟨(ex b).toNat, he⟩)
      (wu ⟨(ex b).toNat, he⟩) (wd ⟨(ex b).toNat, he⟩) j := by
  have e1 : min (so b).toNat 448 = (so b).toNat := by omega
  have e2 : min (ex b).toNat 63 = (ex b).toNat := by omega
  unfold slot
  rw [if_pos hn]
  simp only [e1, e2]

theorem slot_unused (hn : ¬ (BitVec.ofNat 32 b.val).toInt < n.toInt) : slot ex so n xs wg wu wd b r j = 0 := if_neg hn

end

end Cert.ExpertsSpec

end
-- ==== Proof.Experts.Rows.lean ====
module

public import proofs.«01_k».proof.Proof.Experts.IdealTables
public import proofs.«01_k».proof.Proof.Experts.Spec
public import Idealize.ShloMosaic.Lib.Pipeline.ValueKit
public import Idealize.ShloMosaic.Lib.KernelVsHost
public import Idealize.ShloMosaic.Lib.Pointwise

@[expose] public section

set_option maxRecDepth 16384

noncomputable section

/-! # The experts' kernel: a half block, read at an index -/

namespace Cert.ExpertsIdeal.Blockwise

open Cert.ExpertsIdeal Cert.ExpertsIdeal.Gen Idealize.ShloMosaic Idealize.ShloMosaic.TcCoe Idealize.SL.Sem Cert.ExpertsSpec

theorem channels_at (v : Vec Ideal S256x512 .i32) (r : Fin 256) (d : Fin 1024) :
    k0_pay7 (F := Ideal) v (ix2 r d) = channel (fun q => (v (ix2 r q) : BitVec 32)) d := by
  pointwise [k0_pay7]
  unfold channel
  split
  · rfl
  · rfl

theorem gate_at (v : Vec Ideal S1x1024x256 .f32) (d : Fin 1024) (k : Fin 256) : k0_pay3 (F := Ideal) v (ix2 d k) = v (ix3 0 d k) := by
  pointwise [k0_pay3]

theorem up_at (v : Vec Ideal S1x1024x256 .f32) (d : Fin 1024) (k : Fin 256) : k0_pay4 (F := Ideal) v (ix2 d k) = v (ix3 0 d k) := by
  pointwise [k0_pay4]

theorem down_at (v : Vec Ideal S1x256x1024 .f32) (k : Fin 256) (j : Fin 1024) : k0_pay5 (F := Ideal) v (ix2 k j) = v (ix3 0 k j) := by
  pointwise [k0_pay5]

theorem expert_at (g u : FVec Ideal S1024x256 .bf16) (dn h : FVec Ideal S256x1024 .bf16) (r : Fin 256) (j : Fin 1024) :
    k0_pay1 (F := Ideal) g u dn h (constant S256x256 .f32 0x00000000#32) (ix2 r j)
      = expert (fun d => h (ix2 r d)) (fun d k => g (ix2 d k)) (fun d k => u (ix2 d k)) (fun k j => dn (ix2 k j)) j := by
  pointwise [k0_pay1]
  rfl

theorem same_halves (a b : Vec Ideal S1x1024x256 .f32) (d : Vec Ideal S1x256x1024 .f32) (w : Vec Ideal S256x512 .i32) :
    k0_pay6 (F := Ideal) a b d w = k0_pay1 (k0_pay3 a) (k0_pay4 b) (k0_pay5 d) (k0_pay7 w) (constant S256x256 .f32 0x00000000#32) := rfl

/-- Either half, from the words it is given. -/
theorem half_at (a b : Vec Ideal S1x1024x256 .f32) (d : Vec Ideal S1x256x1024 .f32) (w : Vec Ideal S256x512 .i32) (r : Fin 256) (j : Fin 1024) :
    k0_pay1 (F := Ideal) (k0_pay3 a) (k0_pay4 b) (k0_pay5 d) (k0_pay7 w) (constant S256x256 .f32 0x00000000#32) (ix2 r j)
      = expert (channel fun q => (w (ix2 r q) : BitVec 32)) (fun d k => a (ix3 0 d k)) (fun d k => b (ix3 0 d k))
          (fun k j => d (ix3 0 k j)) j := by
  rw [expert_at]
  simp only [channels_at, gate_at, up_at, down_at]

theorem cleared_at (z : S512x1024.Idx) : k0_pay2 (F := Ideal) z = 0 := by
  pointwise [k0_pay2]

end Cert.ExpertsIdeal.Blockwise

end
-- ==== Proof.Experts.Final.lean ====
module

public import proofs.«01_k».proof.Proof.Experts.Rows
public import Idealize.ShloMosaic.Lib.Pipeline.Covers

@[expose] public section

set_option maxRecDepth 16384

noncomputable section

/-! # The array the experts' kernel leaves -/

namespace Cert.ExpertsIdeal.Blockwise

open Cert.ExpertsIdeal Cert.ExpertsIdeal.Gen Idealize.ShloMosaic Idealize.ShloMosaic.TcCoe Idealize.SL.Sem Cert.ExpertsSpec

/-- The result from the arguments. -/
def result (a0 a1 : S449.Idx → BitVec 32) (a2 : S1.Idx → BitVec 32) (xs : S229888x512.Idx → BitVec 32)
    (wg wu : S64x1024x256.Idx → EReal) (wd : S64x256x1024.Idx → EReal) (z : S229888x1024.Idx) : EReal :=
  slot (fun b => a0 (ix1 b)) (fun b => a1 (ix1 b)) (a2 (ix1 0)) (fun R q => xs (ix2 R q)) (fun e d k => wg (ix3 e d k))
    (fun e d k => wu (ix3 e d k)) (fun e k j => wd (ix3 e k j))
    ⟨(z 0).val / 512, by have : (z 0).val < 229888 := (z 0).isLt; omega⟩ ⟨(z 0).val % 512, Nat.mod_lt _ (by decide)⟩ (z 1)

variable (m : (ℓ : Loc nD τ sig) → Buf (Elt Ideal) ℓ) (hO : InBounds m)

/-- The block of the result a grid point writes. -/
abbrev blockOf (t : Fin (cfgAt m hO).N) : Fin 449 := grid0.coords t 0

theorem out_index (i : grid0.Coords) : cc0_transform_4 i = ![(i 0).val, 0] := by
  have hi : (i 0).val < 449 := (i 0).isLt
  show ![(BitVec.ofNat 32 (i 0).val).toNat, 0] = _
  rw [BitVec.toNat_ofNat, Nat.mod_eq_of_lt (by omega)]

theorem word_place (t : Fin (cfgAt m hO).N) (h : sourceOf m (blockOf m hO t) < 449) (r q : Fin 512) :
    ((((cfgAt m hO).win 0).blk t).view.emb (ix2 r q) : S229888x512.Idx)
      = ix2 ⟨512 * sourceOf m (blockOf m hO t) + r.val, by omega⟩ q := by
  funext a
  refine Fin.ext ?_
  refine (Pipeline.Window.rect_emb_val ((cfgAt m hO).win 0) t (ix2 r q) a).trans ?_
  refine (congrArg (fun f : Fin 2 → ℕ => f a * S512x512.size a + (ix2 r q a).val) (source_index m (grid0.coords t))).trans ?_
  fin_cases a
  · show sourceOf m (blockOf m hO t) * 512 + r.val = 512 * sourceOf m (blockOf m hO t) + r.val
    omega
  · show 0 * 512 + q.val = q.val
    omega

theorem gate_place (t : Fin (cfgAt m hO).N) (h : expertOf m (blockOf m hO t) < 64) (d : Fin 1024) (k : Fin 256) :
    ((((cfgAt m hO).win 1).blk t).view.emb (ix3 0 d k) : S64x1024x256.Idx) = ix3 ⟨expertOf m (blockOf m hO t), h⟩ d k := by
  funext a
  refine Fin.ext ?_
  refine (Pipeline.Window.rect_emb_val ((cfgAt m hO).win 1) t (ix3 0 d k) a).trans ?_
  refine (congrArg (fun f : Fin 3 → ℕ => f a * S1x1024x256.size a + (ix3 (0 : Fin 1) d k a).val) (gate_index m (grid0.coords t))).trans ?_
  fin_cases a
  · show expertOf m (blockOf m hO t) * 1 + 0 = expertOf m (blockOf m hO t)
    omega
  · show 0 * 1024 + d.val = d.val
    omega
  · show 0 * 256 + k.val = k.val
    omega

theorem up_place (t : Fin (cfgAt m hO).N) (h : expertOf m (blockOf m hO t) < 64) (d : Fin 1024) (k : Fin 256) :
    ((((cfgAt m hO).win 2).blk t).view.emb (ix3 0 d k) : S64x1024x256.Idx) = ix3 ⟨expertOf m (blockOf m hO t), h⟩ d k := by
  funext a
  refine Fin.ext ?_
  refine (Pipeline.Window.rect_emb_val ((cfgAt m hO).win 2) t (ix3 0 d k) a).trans ?_
  refine (congrArg (fun f : Fin 3 → ℕ => f a * S1x1024x256.size a + (ix3 (0 : Fin 1) d k a).val) (up_index m (grid0.coords t))).trans ?_
  fin_cases a
  · show expertOf m (blockOf m hO t) * 1 + 0 = expertOf m (blockOf m hO t)
    omega
  · show 0 * 1024 + d.val = d.val
    omega
  · show 0 * 256 + k.val = k.val
    omega

theorem down_place (t : Fin (cfgAt m hO).N) (h : expertOf m (blockOf m hO t) < 64) (k : Fin 256) (j : Fin 1024) :
    ((((cfgAt m hO).win 3).blk t).view.emb (ix3 0 k j) : S64x256x1024.Idx) = ix3 ⟨expertOf m (blockOf m hO t), h⟩ k j := by
  funext a
  refine Fin.ext ?_
  refine (Pipeline.Window.rect_emb_val ((cfgAt m hO).win 3) t (ix3 0 k j) a).trans ?_
  refine (congrArg (fun f : Fin 3 → ℕ => f a * S1x256x1024.size a + (ix3 (0 : Fin 1) k j a).val) (down_index m (grid0.coords t))).trans ?_
  fin_cases a
  · show expertOf m (blockOf m hO t) * 1 + 0 = expertOf m (blockOf m hO t)
    omega
  · show 0 * 256 + k.val = k.val
    omega
  · show 0 * 1024 + j.val = j.val
    omega

theorem out_place (t : Fin (cfgAt m hO).N) (r : Fin 512) (j : Fin 1024) :
    ((((cfgAt m hO).win 4).blk t).view.emb (ix2 r j) : S229888x1024.Idx)
      = ix2 ⟨512 * (blockOf m hO t).val + r.val, by omega⟩ j := by
  funext a
  refine Fin.ext ?_
  refine (Pipeline.Window.rect_emb_val ((cfgAt m hO).win 4) t (ix2 r j) a).trans ?_
  refine (congrArg (fun f : Fin 2 → ℕ => f a * S512x1024.size a + (ix2 r j a).val) (out_index (grid0.coords t))).trans ?_
  fin_cases a
  · show (blockOf m hO t).val * 512 + r.val = 512 * (blockOf m hO t).val + r.val
    omega
  · show 0 * 1024 + j.val = j.val
    omega

theorem all_covered : ((cfgAt m hO).win 4).Covers :=
  ((cfgAt m hO).win 4).covers_of_indexMap_surj rfl
    (show ∀ a : Fin 2, 0 < S512x1024.size a from by decide)
    (show ∀ β : (a : Fin 2) → Fin (((cfgAt m hO).win 4).nblk a), ∃ i : grid0.Coords, ∀ a : Fin 2, cc0_transform_4 i a = (β a).val from fun β =>
      ⟨fun d : Fin 1 => ⟨(β 0).val, by
        obtain rfl : d = 0 := Subsingleton.elim _ _
        exact lt_of_lt_of_eq (β 0).isLt (show (229888 + 512 - 1) / 512 = 449 from rfl)⟩, fun a => by
        refine (congrFun (out_index _) a).trans ?_
        fin_cases a
        · rfl
        · have h : (β 1).val < 1 := lt_of_lt_of_eq (β 1).isLt (show (1024 + 1024 - 1) / 1024 = 1 from rfl)
          show 0 = (β 1).val
          omega⟩)

theorem used_iff (i : grid0.Coords) (v : BitVec 32) : k0_cond1 i v = 1#1 ↔ (BitVec.ofNat 32 (i 0).val).toInt < v.toInt := by
  show IntOp.cmpi .ne (BitVec.setWidth 32 (BitVec.ofBool ((BitVec.ofNat 32 (i 0).val).slt v))) 0#32 = 1#1 ↔ _
  rw [BitVec.slt_eq_decide]
  by_cases h : (BitVec.ofNat 32 (i 0).val).toInt < v.toInt
  · simp only [h, decide_true, iff_true]; decide
  · simp only [h, decide_false, iff_false]; decide

theorem count_eq (c : Dev nD) : countOf c (tables m 2) = (show BitVec 32 from m ((c : Thread nD τ).loc main_arg2) (ix1 0)) := by
  obtain rfl : c = 0 := Subsingleton.elim _ _
  show (show BitVec 32 from m (((0 : Dev nD) : Thread nD τ).loc main_arg2) _) = _
  exact congrArg (fun z : S1.Idx => (show BitVec 32 from m (((0 : Dev nD) : Thread nD τ).loc main_arg2) z))
    (funext fun a : Fin 1 => Fin.ext (by
      obtain rfl : a = 0 := Subsingleton.elim _ _
      rfl))

/-- Either half of a used block at an element: the expert's row. -/
theorem half_eq (x0 : Vec Ideal S512x512 .i32) (x1 x2 : Vec Ideal S1x1024x256 .f32) (x3 : Vec Ideal S1x256x1024 .f32)
    (r : Fin 512) (j : Fin 1024) (o : ℕ) (inb : ∀ a, (![o, 0] : Fin 2 → ℕ) a + S256x512.size a ≤ S512x512.size a)
    (z : S256x1024.Idx) (h0 : r.val = o + (z 0).val) (h1 : j.val = (z 1).val) :
    k0_pay1 (F := Ideal) (k0_pay3 x1) (k0_pay4 x2) (k0_pay5 x3)
        (k0_pay7 (View.ld x0 (Rect.unit (s := S512x512) ![o, 0] S256x512.size inb))) (constant S256x256 .f32 0x00000000#32) z
      = expert (channel fun q => (x0 (ix2 r q) : BitVec 32)) (fun d k => x1 (ix3 0 d k)) (fun d k => x2 (ix3 0 d k))
          (fun k j => x3 (ix3 0 k j)) j := by
  idx_vars z
  obtain rfl : j = z1 := Fin.ext h1
  refine (half_at _ _ _ _ z0 j).trans ?_
  refine congrArg (fun w => expert (channel w) (fun d k => x1 (ix3 0 d k)) (fun d k => x2 (ix3 0 d k)) (fun k j => x3 (ix3 0 k j)) j)
    (funext fun q => ?_)
  refine View.ld_unit_apply_of x0 ![o, 0] S256x512.size inb (ix2 z0 q) (ix2 r q) fun a => ?_
  fin_cases a
  · exact h0
  · exact (Nat.zero_add _).symm

/-- A used block at an element: the expert's row. -/
theorem computed_at (x0 : Vec Ideal S512x512 .i32) (x1 x2 : Vec Ideal S1x1024x256 .f32) (x3 : Vec Ideal S1x256x1024 .f32)
    (r : Fin 512) (j : Fin 1024) : computed (F := Ideal) x0 x1 x2 x3 (ix2 r j)
      = expert (channel fun q => (x0 (ix2 r q) : BitVec 32)) (fun d k => x1 (ix3 0 d k)) (fun d k => x2 (ix3 0 d k))
          (fun k j => x3 (ix3 0 k j)) j := by
  unfold computed
  rw [show View.ld x1 atUp = x1 from View.ld_unit_lit _ x1 (by decide), show View.ld x2 atUp = x2 from View.ld_unit_lit _ x2 (by decide),
    show View.ld x3 atDown = x3 from View.ld_unit_lit _ x3 (by decide), same_halves]
  canon_tiles x h
  · exact half_eq x0 x1 x2 x3 r j 256 inb_S512x512_S256x512_256_0 x h0 h1
  · exact half_eq x0 x1 x2 x3 r j 0 inb_S512x512_S256x512_0_0 x (h0.trans (Nat.zero_add _).symm) h1

theorem cleared_block (y : S512x1024.Idx) : cleared (F := Ideal) y = 0 := by
  unfold cleared
  rw [View.canon_cons_unit_lit _ _ _ (by decide)]
  exact cleared_at y

section

variable (t : Fin (cfgAt m hO).N)

theorem words_block (h : sourceOf m (blockOf m hO t) < 449) (r q : Fin 512) :
    (show Vec Ideal S512x512 .i32 from iblk m hO 0 0 t) (ix2 r q)
      = (show S229888x512.Idx → BitVec 32 from m (((0 : Dev nD) : Thread nD τ).loc main_arg3))
          (ix2 ⟨512 * sourceOf m (blockOf m hO t) + r.val, by omega⟩ q) :=
  congrArg (show S229888x512.Idx → BitVec 32 from m (((0 : Dev nD) : Thread nD τ).loc main_arg3)) (word_place m hO t h r q)

theorem gate_block (h : expertOf m (blockOf m hO t) < 64) (d : Fin 1024) (k : Fin 256) :
    (show Vec Ideal S1x1024x256 .f32 from iblk m hO 0 1 t) (ix3 0 d k)
      = (show S64x1024x256.Idx → EReal from m (((0 : Dev nD) : Thread nD τ).loc main_arg4)) (ix3 ⟨expertOf m (blockOf m hO t), h⟩ d k) :=
  congrArg (show S64x1024x256.Idx → EReal from m (((0 : Dev nD) : Thread nD τ).loc main_arg4)) (gate_place m hO t h d k)

theorem up_block (h : expertOf m (blockOf m hO t) < 64) (d : Fin 1024) (k : Fin 256) :
    (show Vec Ideal S1x1024x256 .f32 from iblk m hO 0 2 t) (ix3 0 d k)
      = (show S64x1024x256.Idx → EReal from m (((0 : Dev nD) : Thread nD τ).loc main_arg5)) (ix3 ⟨expertOf m (blockOf m hO t), h⟩ d k) :=
  congrArg (show S64x1024x256.Idx → EReal from m (((0 : Dev nD) : Thread nD τ).loc main_arg5)) (up_place m hO t h d k)

theorem down_block (h : expertOf m (blockOf m hO t) < 64) (k : Fin 256) (j : Fin 1024) :
    (show Vec Ideal S1x256x1024 .f32 from iblk m hO 0 3 t) (ix3 0 k j)
      = (show S64x256x1024.Idx → EReal from m (((0 : Dev nD) : Thread nD τ).loc main_arg6)) (ix3 ⟨expertOf m (blockOf m hO t), h⟩ k j) :=
  congrArg (show S64x256x1024.Idx → EReal from m (((0 : Dev nD) : Thread nD τ).loc main_arg6)) (down_place m hO t h k j)

end

theorem point (h : ∀ i : Fin 449, expertOf m i < 64 ∧ sourceOf m i < 449) (c : Dev nD) (t : Fin (cfgAt m hO).N) (y : S512x1024.Idx) :
    blockAt m hO c t y = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) ((((cfgAt m hO).win 4).blk t).view.emb y) := by
  idx_vars y
  rw [out_place]
  obtain rfl : c = 0 := Subsingleton.elim _ _
  obtain ⟨he, hs⟩ := h (blockOf m hO t)
  unfold result
  rw [show (⟨((ix2 (⟨512 * (blockOf m hO t).val + y0.val, by omega⟩ : Fin 229888) y1 : S229888x1024.Idx) 0).val / 512, by
        show (512 * (blockOf m hO t).val + y0.val) / 512 < 449; omega⟩ : Fin 449) = blockOf m hO t from
      Fin.ext (by show (512 * (blockOf m hO t).val + y0.val) / 512 = (blockOf m hO t).val; omega),
    show (⟨((ix2 (⟨512 * (blockOf m hO t).val + y0.val, by omega⟩ : Fin 229888) y1 : S229888x1024.Idx) 0).val % 512, Nat.mod_lt _ (by decide)⟩ : Fin 512) = y0 from
      Fin.ext (by show (512 * (blockOf m hO t).val + y0.val) % 512 = y0.val; omega)]
  unfold blockAt
  by_cases hc : k0_cond1 (grid0.coords t) (countOf (0 : Dev nD) (tables m 2)) = 1#1
  · rw [if_pos hc]
    rw [used_iff, count_eq] at hc
    refine (computed_at _ _ _ _ y0 y1).trans ?_
    refine Eq.trans ?_ (slot_used _ _ _ _ _ _ _ (blockOf m hO t) y0 y1 hc he hs).symm
    rw [show (fun q => ((iblk m hO 0 0 t) (ix2 y0 q) : BitVec 32)) = _ from funext fun q => words_block m hO t hs y0 q,
      show (fun d k => (iblk m hO 0 1 t) (ix3 0 d k)) = _ from funext fun d => funext fun k => gate_block m hO t he d k,
      show (fun d k => (iblk m hO 0 2 t) (ix3 0 d k)) = _ from funext fun d => funext fun k => up_block m hO t he d k,
      show (fun k j => (iblk m hO 0 3 t) (ix3 0 k j)) = _ from funext fun k => funext fun j => down_block m hO t he k j]
  · rw [if_neg hc]
    rw [used_iff, count_eq] at hc
    exact (cleared_block _).trans (slot_unused _ _ _ _ _ _ _ (blockOf m hO t) y0 y1 hc).symm

theorem final (h : ∀ i : Fin 449, expertOf m i < 64 ∧ sourceOf m i < 449) (c : Dev nD) : (dats m hO 0 c).arrAt 4 (cfgAt m hO).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m hO 0 c).arrAt_eq_of_covers 4 _ (all_covered m hO) fun t hf y => ?_
  generalize hG : result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G
  refine (point m hO h c t y).trans ?_
  rw [hG]

end Cert.ExpertsIdeal.Blockwise

end
-- ==== Proof.Experts.Ref.lean ====
module

public import proofs.«01_k».proof.Proof.Gen.ExpertsRefIdeal.Read
public import proofs.«01_k».proof.Proof.Experts.Spec
public import Idealize.ShloMosaic.Lib.Pointwise

@[expose] public section

set_option maxRecDepth 16384

noncomputable section

/-! # The experts' reference, read at an index -/

namespace Cert.ExpertsRefIdeal.ExpertsValue

open Cert.ExpertsRefIdeal Cert.ExpertsRefIdeal.Gen Cert.ExpertsRefIdeal.Read Idealize.ShloMosaic Cert.ExpertsSpec
open Idealize.ShloMosaic.ValueIdx hiding ix0 ix1 ix2 ix3

section

variable {α : Type}

theorem not_first_1 : (1 : Fin 3) ∉ [(0 : Fin 3)] := by decide

theorem not_first_2 : (2 : Fin 3) ∉ [(0 : Fin 3)] := by decide

/-- Whole slices of the leading axis of `[N, A, B]`, one per word of a column of `K`. -/
abbrev pickDims (N A B K : ℕ)
    (wf : GatherDims.WF ⟨3, ![N, A, B]⟩ ⟨2, ![K, 1]⟩ ⟨3, ![K, A, B]⟩ [1, 2] [0] [] [0] [] 1 ![1, A, B]) :
    GatherDims ⟨3, ![N, A, B]⟩ ⟨2, ![K, 1]⟩ ⟨3, ![K, A, B]⟩ where
  offsetDims := [1, 2]
  collapsedSliceDims := [0]
  operandBatchingDims := []
  startIndicesBatchingDims := []
  startIndexMap := [0]
  indexVectorDim := 1
  sliceSizes := ![1, A, B]
  wf := wf

/-- Slice `n` of what is picked is the slice its word names, the word read signed and brought into range. -/
theorem pick_at {N A B K w : ℕ} (hN : 0 < N)
    (wf : GatherDims.WF ⟨3, ![N, A, B]⟩ ⟨2, ![K, 1]⟩ ⟨3, ![K, A, B]⟩ [1, 2] [0] [] [0] [] 1 ![1, A, B])
    (v : (⟨3, ![N, A, B]⟩ : Shape).Idx → α) (words : IVec ⟨2, ![K, 1]⟩ w) (n : Fin K) (p : Fin A) (q : Fin B) :
    Host.gather (pickDims N A B K wf) v words (ix3 n p q)
      = v (ix3 ⟨min (words (ix2 n 0)).toInt.toNat (N - 1), by omega⟩ p q) := by
  unfold Host.gather
  congr 1
  funext a
  refine Fin.ext ?_
  show (pickDims N A B K wf).start (ix3 n p q) words a + (pickDims N A B K wf).batchCoord (ix3 n p q) a
      + (pickDims N A B K wf).offCoord (ix3 n p q) a = _
  rw [GatherDims.batchCoord_eq_zero _ _ _ List.not_mem_nil]
  unfold GatherDims.start GatherDims.offCoord
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [dif_pos (show (0 : Fin 3) ∈ (pickDims N A B K wf).startIndexMap from List.mem_singleton.mpr rfl),
      dif_neg (fun h => ((GatherDims.mem_sKept _ _).mp h).1 (List.mem_singleton.mpr rfl))]
    have hsi : (pickDims N A B K wf).siIdx (ix3 n p q) ⟨List.idxOf (0 : Fin 3) (pickDims N A B K wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  · rw [dif_neg (show (1 : Fin 3) ∉ (pickDims N A B K wf).startIndexMap from not_first_1),
      dif_pos ((GatherDims.mem_sKept _ _).mpr ⟨(show (1 : Fin 3) ∉ [(0 : Fin 3)] from not_first_1), List.not_mem_nil⟩)]
    exact Nat.zero_add _
  · rw [dif_neg (show (2 : Fin 3) ∉ (pickDims N A B K wf).startIndexMap from not_first_2),
      dif_pos ((GatherDims.mem_sKept _ _).mpr ⟨(show (2 : Fin 3) ∉ [(0 : Fin 3)] from not_first_2), List.not_mem_nil⟩)]
    exact Nat.zero_add _

end

/-- A word in range picks the slice of its number. -/
theorem picked_word {N : ℕ} (v u : BitVec 32) (e : v = u) (h : u.toNat < N) (hN : N ≤ 1000) (p : min v.toInt.toNat (N - 1) < N) :
    (⟨min v.toInt.toNat (N - 1), p⟩ : Fin N) = ⟨u.toNat, h⟩ := by
  subst e
  refine Fin.ext ?_
  show min v.toInt.toNat (N - 1) = v.toNat
  rw [BitVec.toInt_eq_toNat_cond]
  split <;> omega

section

variable (x0 x1 : IVec S449 32) (x2 : IVec S1 32) (x3 : IVec S229888x512 32) (x4 x5 : FVec Ideal S64x1024x256 .f32)
  (x6 : FVec Ideal S64x256x1024 .f32)

theorem channels_at (R : Fin 229888) (d : Fin 1024) :
    val_main_v6 (F := Ideal) x3 (ix2 R d) = channel (fun q => x3 (ix2 R q)) d := by
  pointwise [val_main_v6, val_main_v5, val_main_v4, val_main_v3, val_main_c_0, val_main_v2, val_main_v1, val_main_v0, val_main_c]
  unfold channel
  split
  · rfl
  · rfl

theorem blocks_at (b : Fin 449) (r : Fin 512) (d : Fin 1024) :
    val_main_v7 (F := Ideal) x3 (ix3 b r d) = channel (fun q => x3 (ix2 ⟨512 * b.val + r.val, by omega⟩ q)) d := by
  have h : val_main_v7 (F := Ideal) x3 (ix3 b r d) = val_main_v6 (F := Ideal) x3 (ix2 ⟨512 * b.val + r.val, by omega⟩ d) := by
    unfold val_main_v7
    generalize val_main_v6 (F := Ideal) x3 = v
    pointwise
    exact congrArg v (congrArg (fun R => ix2 R d) (Fin.ext (by show b.val * 512 + r.val = 512 * b.val + r.val; omega)))
  rw [h, channels_at]

theorem picked_block (b : Fin 449) (hb : (x1 (ix1 b)).toNat < 449) (r : Fin 512) (d : Fin 1024) :
    val_main_v8 (F := Ideal) x1 x3 (ix3 b r d) = channel (fun q => x3 (ix2 ⟨512 * (x1 (ix1 b)).toNat + r.val, by omega⟩ q)) d := by
  have hw : val_main_call0_v0 (F := Ideal) x1 (ix2 b 0) = x1 (ix1 b) := by pointwise [val_main_call0_v0]
  refine (pick_at (N := 449) (by decide) gather_S449x512x1024_S449x1_S449x512x1024_12_0_n_n_0_1_15121024_wf
    (val_main_v7 (F := Ideal) x3) (val_main_call0_v0 (F := Ideal) x1) b r d).trans ?_
  exact (congrArg (fun s => val_main_v7 (F := Ideal) x3 (ix3 s r d)) (picked_word _ _ hw hb (by decide) _)).trans (blocks_at x3 _ r d)

theorem picked_gate (b : Fin 449) (hb : (x0 (ix1 b)).toNat < 64) (d : Fin 1024) (k : Fin 256) :
    val_main_v9 (F := Ideal) x0 x4 (ix3 b d k) = x4 (ix3 ⟨(x0 (ix1 b)).toNat, hb⟩ d k) := by
  have hw : val_main_call1_v0 (F := Ideal) x0 (ix2 b 0) = x0 (ix1 b) := by pointwise [val_main_call1_v0]
  refine (pick_at (N := 64) (by decide) gather_S64x1024x256_S449x1_S449x1024x256_12_0_n_n_0_1_11024256_wf
    x4 (val_main_call1_v0 (F := Ideal) x0) b d k).trans ?_
  exact congrArg (fun s => x4 (ix3 s d k)) (picked_word _ _ hw hb (by decide) _)

theorem picked_up (b : Fin 449) (hb : (x0 (ix1 b)).toNat < 64) (d : Fin 1024) (k : Fin 256) :
    val_main_v10 (F := Ideal) x0 x5 (ix3 b d k) = x5 (ix3 ⟨(x0 (ix1 b)).toNat, hb⟩ d k) := by
  have hw : val_main_call2_v0 (F := Ideal) x0 (ix2 b 0) = x0 (ix1 b) := by pointwise [val_main_call2_v0]
  refine (pick_at (N := 64) (by decide) gather_S64x1024x256_S449x1_S449x1024x256_12_0_n_n_0_1_11024256_wf
    x5 (val_main_call2_v0 (F := Ideal) x0) b d k).trans ?_
  exact congrArg (fun s => x5 (ix3 s d k)) (picked_word _ _ hw hb (by decide) _)

theorem picked_down (b : Fin 449) (hb : (x0 (ix1 b)).toNat < 64) (k : Fin 256) (j : Fin 1024) :
    val_main_v11 (F := Ideal) x0 x6 (ix3 b k j) = x6 (ix3 ⟨(x0 (ix1 b)).toNat, hb⟩ k j) := by
  have hw : val_main_call3_v0 (F := Ideal) x0 (ix2 b 0) = x0 (ix1 b) := by pointwise [val_main_call3_v0]
  refine (pick_at (N := 64) (by decide) gather_S64x256x1024_S449x1_S449x256x1024_12_0_n_n_0_1_12561024_wf
    x6 (val_main_call3_v0 (F := Ideal) x0) b k j).trans ?_
  exact congrArg (fun s => x6 (ix3 s k j)) (picked_word _ _ hw hb (by decide) _)

theorem gate_at (b : Fin 449) (r : Fin 512) (k : Fin 256) : val_main_v12 (F := Ideal) x0 x1 x3 x4 (ix3 b r k)
    = dot (fun d => val_main_v8 (F := Ideal) x1 x3 (ix3 b r d)) (fun d => val_main_v9 (F := Ideal) x0 x4 (ix3 b d k)) := by
  unfold val_main_v12
  generalize val_main_v8 (F := Ideal) x1 x3 = v
  generalize val_main_v9 (F := Ideal) x0 x4 = w
  pointwise
  rfl

theorem up_at (b : Fin 449) (r : Fin 512) (k : Fin 256) : val_main_v14 (F := Ideal) x0 x1 x3 x5 (ix3 b r k)
    = dot (fun d => val_main_v8 (F := Ideal) x1 x3 (ix3 b r d)) (fun d => val_main_v10 (F := Ideal) x0 x5 (ix3 b d k)) := by
  unfold val_main_v14
  generalize val_main_v8 (F := Ideal) x1 x3 = v
  generalize val_main_v10 (F := Ideal) x0 x5 = w
  pointwise
  rfl

theorem act_at (b : Fin 449) (r : Fin 512) (k : Fin 256) (g : EReal) (hg : val_main_v12 (F := Ideal) x0 x1 x3 x4 (ix3 b r k) = g) :
    val_main_v15 (F := Ideal) x0 x1 x3 x4 x5 (ix3 b r k) = g * Ideal.logistic g * val_main_v14 (F := Ideal) x0 x1 x3 x5 (ix3 b r k) := by
  subst hg
  unfold val_main_v15 val_main_v13 val_main_call4_v5 val_main_call4_v4 val_main_call4_cst_0 val_main_call4_v3 val_main_call4_v2
    val_main_call4_cst val_main_call4_v1 val_main_call4_v0
  generalize val_main_v12 (F := Ideal) x0 x1 x3 x4 = v
  generalize val_main_v14 (F := Ideal) x0 x1 x3 x5 = w
  pointwise
  rfl

theorem out_at (b : Fin 449) (r : Fin 512) (j : Fin 1024) : val_main_v16 (F := Ideal) x0 x1 x3 x4 x5 x6 (ix3 b r j)
    = dot (fun k => val_main_v15 (F := Ideal) x0 x1 x3 x4 x5 (ix3 b r k)) (fun k => val_main_v11 (F := Ideal) x0 x6 (ix3 b k j)) := by
  unfold val_main_v16
  generalize val_main_v15 (F := Ideal) x0 x1 x3 x4 x5 = v
  generalize val_main_v11 (F := Ideal) x0 x6 = w
  pointwise
  rfl

theorem expert_at (b : Fin 449) (he : (x0 (ix1 b)).toNat < 64) (hs : (x1 (ix1 b)).toNat < 449) (r : Fin 512) (j : Fin 1024) :
    val_main_v16 (F := Ideal) x0 x1 x3 x4 x5 x6 (ix3 b r j)
      = expert (channel fun q => x3 (ix2 ⟨512 * (x1 (ix1 b)).toNat + r.val, by omega⟩ q))
          (fun d k => x4 (ix3 ⟨(x0 (ix1 b)).toNat, he⟩ d k)) (fun d k => x5 (ix3 ⟨(x0 (ix1 b)).toNat, he⟩ d k))
          (fun k j => x6 (ix3 ⟨(x0 (ix1 b)).toNat, he⟩ k j)) j := by
  rw [out_at]
  simp only [act_at x0 x1 x3 x4 x5 b r _ _ (gate_at x0 x1 x3 x4 b r _), up_at, picked_block x1 x3 b hs, picked_gate x0 x4 b he,
    picked_up x0 x5 b he, picked_down x0 x6 b he]
  rfl

theorem mask_at (b : Fin 449) (r : Fin 512) (j : Fin 1024) : val_main_call5_v1 (F := Ideal) x2 (ix3 b r j)
    = IntOp.cmpi .slt (BitVec.ofNat 32 b.val) (x2 (ix1 0)) := by
  pointwise [val_main_call5_v1, val_main_v20, val_main_v19, val_main_v18, val_main_v17]

theorem mask_iff (u v : BitVec 32) : IntOp.cmpi .slt u v = 1#1 ↔ u.toInt < v.toInt := by
  show BitVec.ofBool (u.slt v) = 1#1 ↔ _
  rw [BitVec.slt_eq_decide]
  by_cases h : u.toInt < v.toInt
  · simp only [h, decide_true, iff_true]; decide
  · simp only [h, decide_false, iff_false]; decide

theorem zero_at : constant (F := Ideal) S_ .f32 0#32 ix0 = 0 := by pointwise

theorem masked_at (b : Fin 449) (r : Fin 512) (j : Fin 1024) : val_main_v22 (F := Ideal) x0 x1 x2 x3 x4 x5 x6 (ix3 b r j)
    = if IntOp.cmpi .slt (BitVec.ofNat 32 b.val) (x2 (ix1 0)) = 1#1 then val_main_v16 (F := Ideal) x0 x1 x3 x4 x5 x6 (ix3 b r j) else 0 := by
  rw [← mask_at x2 b r j]
  unfold val_main_v22 val_main_v21 val_main_call5_v2 val_main_call5_v0 val_main_cst
  generalize val_main_v16 (F := Ideal) x0 x1 x3 x4 x5 x6 = v
  generalize val_main_call5_v1 (F := Ideal) x2 = w
  pointwise
  exact if_congr Iff.rfl rfl zero_at

theorem row_at (b : Fin 449) (he : (x0 (ix1 b)).toNat < 64) (hs : (x1 (ix1 b)).toNat < 449) (r : Fin 512) (j : Fin 1024) :
    (if IntOp.cmpi .slt (BitVec.ofNat 32 b.val) (x2 (ix1 0)) = 1#1 then val_main_v16 (F := Ideal) x0 x1 x3 x4 x5 x6 (ix3 b r j) else 0)
      = slot (fun b => x0 (ix1 b)) (fun b => x1 (ix1 b)) (x2 (ix1 0)) (fun R q => x3 (ix2 R q)) (fun e d k => x4 (ix3 e d k))
          (fun e d k => x5 (ix3 e d k)) (fun e k j => x6 (ix3 e k j)) b r j := by
  by_cases hc : (BitVec.ofNat 32 b.val).toInt < (x2 (ix1 0)).toInt
  · rw [if_pos ((mask_iff _ _).mpr hc), expert_at x0 x1 x3 x4 x5 x6 b he hs r j,
      slot_used (fun b => x0 (ix1 b)) (fun b => x1 (ix1 b)) (x2 (ix1 0)) (fun R q => x3 (ix2 R q)) (fun e d k => x4 (ix3 e d k))
      (fun e d k => x5 (ix3 e d k)) (fun e k j => x6 (ix3 e k j)) b r j hc he hs]
  · rw [if_neg (fun h => hc ((mask_iff _ _).mp h)),
      slot_unused (fun b => x0 (ix1 b)) (fun b => x1 (ix1 b)) (x2 (ix1 0)) (fun R q => x3 (ix2 R q)) (fun e d k => x4 (ix3 e d k))
      (fun e d k => x5 (ix3 e d k)) (fun e k j => x6 (ix3 e k j)) b r j hc]

/-- The reference's result, row by row of its blocks. -/
theorem result_at (hb : ∀ b : Fin 449, (x0 (ix1 b)).toNat < 64 ∧ (x1 (ix1 b)).toNat < 449) (R : Fin 229888) (j : Fin 1024) :
    val_main_v23 (F := Ideal) x0 x1 x2 x3 x4 x5 x6 (ix2 R j)
      = slot (fun b => x0 (ix1 b)) (fun b => x1 (ix1 b)) (x2 (ix1 0)) (fun R q => x3 (ix2 R q)) (fun e d k => x4 (ix3 e d k))
          (fun e d k => x5 (ix3 e d k)) (fun e k j => x6 (ix3 e k j)) ⟨R.val / 512, by omega⟩ ⟨R.val % 512, Nat.mod_lt _ (by decide)⟩ j := by
  have h : val_main_v23 (F := Ideal) x0 x1 x2 x3 x4 x5 x6 (ix2 R j)
      = val_main_v22 (F := Ideal) x0 x1 x2 x3 x4 x5 x6 (ix3 ⟨R.val / 512, by omega⟩ ⟨R.val % 512, Nat.mod_lt _ (by decide)⟩ j) := by
    unfold val_main_v23
    generalize val_main_v22 (F := Ideal) x0 x1 x2 x3 x4 x5 x6 = v
    pointwise
  rw [h, masked_at]
  exact row_at x0 x1 x2 x3 x4 x5 x6 _ (hb _).1 (hb _).2 _ j

end

end Cert.ExpertsRefIdeal.ExpertsValue

end
-- ==== Proof.Experts.Pair.lean ====
module

public import proofs.«01_k».proof.Defs
public import proofs.«01_k».proof.Proof.Experts.Bounds
public import proofs.«01_k».proof.Proof.Experts.Run
public import proofs.«01_k».proof.Proof.Experts.Tables
public import proofs.«01_k».proof.Proof.Experts.Final
public import proofs.«01_k».proof.Proof.Experts.Ref
public import proofs.«01_k».proof.Proof.Gen.ExpertsRefIdeal.Run

@[expose] public section

set_option maxRecDepth 16384

noncomputable section

/-! # The experts: kernel against reference -/

namespace Cert.ExpertsPair

open Idealize.ShloMosaic Idealize.ShloMosaic.TcCoe Idealize.SL.Sem Cert.ExpertsSpec
open Cert.ExpertsIdeal.Blockwise (result)

/-- The reference computes the result the kernel computes. -/
theorem reference_eq (x0 x1 : IVec ExpertsRefIdeal.S449 32) (x2 : IVec ExpertsRefIdeal.S1 32) (x3 : IVec ExpertsRefIdeal.S229888x512 32)
    (x4 x5 : FVec Ideal ExpertsRefIdeal.S64x1024x256 .f32) (x6 : FVec Ideal ExpertsRefIdeal.S64x256x1024 .f32)
    (hb : ∀ b : Fin 449, (x0 (ix1 b)).toNat < 64 ∧ (x1 (ix1 b)).toNat < 449) :
    ExpertsRefIdeal.Read.val_main_v23 (F := Ideal) x0 x1 x2 x3 x4 x5 x6 = result x0 x1 x2 x3 x4 x5 x6 := by
  funext z
  idx_vars z
  exact ExpertsRefIdeal.ExpertsValue.result_at x0 x1 x2 x3 x4 x5 x6 hb z0 z1

theorem tables_ok (m : (ℓ : Loc ExpertsIdeal.nD ExpertsIdeal.τ ExpertsIdeal.sig) → Buf (Elt Ideal) ℓ) (h : Cert.Pre_ExpertsIdeal m)
    (i : Fin 449) : ExpertsIdeal.Blockwise.expertOf m i < 64 ∧ ExpertsIdeal.Blockwise.sourceOf m i < 449 :=
  bounds _ _ _ _ _ _ _ (h 0) (ix1 i)

theorem words_ok (m : (ℓ : Loc Experts.nD Experts.τ Experts.sig) → Buf (Elt Bits) ℓ) (h : Cert.Pre_Experts m)
    (i : Fin 449) : Experts.Blockwise.expertOf m i < 64 ∧ Experts.Blockwise.sourceOf m i < 449 :=
  bounds _ _ _ _ _ _ _ (h 0) (ix1 i)

theorem kernel_frame : Cert.quiescent_Experts := fun m ρ h =>
  Experts.Blockwise.frame_holds m ρ (Experts.Blockwise.in_bounds m (words_ok m h))

theorem ideal_frame : Cert.quiescent_ExpertsIdeal := fun m ρ h =>
  ExpertsIdeal.Blockwise.frame_holds m ρ (ExpertsIdeal.Blockwise.in_bounds m (tables_ok m h))

theorem reference_frame : Cert.quiescent_ExpertsRefIdeal := fun m ρ _ =>
  (θ_run ExpertsRefIdeal.defs _ _).mono
    (fun r h => ⟨fun c => (h c).2, Idealize.ShloMosaic.sem_eq_zero_of_no_sems (by decide) r.2⟩)
    (ExpertsRefIdeal.Value.run (F := Ideal) m ρ)

theorem reference_frame_in_bounds : Cert.quiescent_ExpertsRefIdeal_pre_tables_in_bounds := fun m ρ _ =>
  reference_frame m ρ trivial

theorem algebraic : Cert.algebraic_ExpertsIdeal_ExpertsRefIdeal := by
  intro m g m' g' hpre hagree
  refine ⟨fun c => result (m ((c.tc : Thread ExpertsIdeal.nD ExpertsIdeal.τ).loc ExpertsIdeal.main_arg0)) (m ((c.tc : Thread ExpertsIdeal.nD ExpertsIdeal.τ).loc ExpertsIdeal.main_arg1)) (m ((c.tc : Thread ExpertsIdeal.nD ExpertsIdeal.τ).loc ExpertsIdeal.main_arg2)) (m ((c.tc : Thread ExpertsIdeal.nD ExpertsIdeal.τ).loc ExpertsIdeal.main_arg3)) (m ((c.tc : Thread ExpertsIdeal.nD ExpertsIdeal.τ).loc ExpertsIdeal.main_arg4)) (m ((c.tc : Thread ExpertsIdeal.nD ExpertsIdeal.τ).loc ExpertsIdeal.main_arg5)) (m ((c.tc : Thread ExpertsIdeal.nD ExpertsIdeal.τ).loc ExpertsIdeal.main_arg6)), ?_, ?_⟩
  · have hO := ExpertsIdeal.Blockwise.in_bounds m (tables_ok m hpre)
    refine (θ_run _ _ _).mono (fun r h c => ?_) (ExpertsIdeal.Blockwise.ends m g hO)
    exact ⟨(h.1.1 c).trans (ExpertsIdeal.Blockwise.final m hO (tables_ok m hpre) c), h.1.2 c⟩
  · refine (θ_run _ _ _).mono (fun r h c => ?_) (ExpertsRefIdeal.Value.run m' g')
    replace h := h c
    obtain ⟨a0, a1, a2, a3, a4, a5, a6⟩ := hagree c
    refine ⟨?_, h.2⟩
    refine (h.1.trans (ExpertsRefIdeal.Read.val_main_v23_eq (F := Ideal) _ _ _ _ _ _ _)).trans ?_
    have e := bounds _ _ _ _ _ _ _ (hpre c)
    rw [← a0, ← a1] at e
    refine (reference_eq _ _ _ _ _ _ _ (fun b => e (ix1 b))).trans ?_
    exact congr (congr (congr (congr (congr (congr (congrArg result a0) a1) a2) a3) a4) a5) a6

end Cert.ExpertsPair

end
-- ==== Proof.Mix.Spec.lean ====
module

public import Idealize.ShloMosaic.Lib.Pointwise

@[expose] public section

noncomputable section

/-! # The output stage of a row: normed heads, output projection, second norm, shared expert -/

namespace Cert.MixSpec

open Idealize.ShloMosaic

/-- The lanes of one head, divided by their root mean square and scaled. -/
def headNorm (u g : Fin 128 → EReal) (l : Fin 128) : EReal :=
  u l * Ideal.rsqrt (Ideal.div (∑ e, u e * u e) (Ideal.ofBits .f32 0x43000000#32) + Ideal.ofBits .f32 0x358637BD#32) * g l

/-- A row before the output projection: four gated heads, then the convolution's lanes. -/
def heads (o : Fin 512 → EReal) (g : Fin 128 → EReal) (z c : Fin 512 → EReal) (j : Fin 1024) : EReal :=
  if h : j.val < 512 then
    headNorm (fun e => o ⟨128 * (j.val / 128) + e.val, by omega⟩) g ⟨j.val % 128, Nat.mod_lt _ (by decide)⟩ * z ⟨j.val, h⟩
  else c ⟨j.val - 512, by omega⟩

/-- A row times a column. -/
def dot {n : ℕ} (h w : Fin n → EReal) : EReal := ∑ d, h d * w d

/-- The row after the output projection and its gate. -/
def mid (x gt h : Fin 1024 → EReal) (w : Fin 1024 → Fin 1024 → EReal) (j : Fin 1024) : EReal :=
  x j + gt j * dot h (fun k => w k j)

/-- A row's modulated RMS norm. -/
def rowH (x g sc sh : Fin 1024 → EReal) (d : Fin 1024) : EReal :=
  x d * Ideal.rsqrt (Ideal.div (∑ e, x e * x e) (Ideal.ofBits .f32 0x44800000#32) + Ideal.ofBits .f32 0x358637BD#32) * g d
    * (1 + sc d) + sh d

/-- The shared expert of a row. -/
def shared (h : Fin 1024 → EReal) (wg wu : Fin 1024 → Fin 256 → EReal) (wd : Fin 256 → Fin 1024 → EReal) (j : Fin 1024) : EReal :=
  dot (fun k => dot h (fun d => wg d k) * Ideal.logistic (dot h (fun d => wg d k)) * dot h (fun d => wu d k)) (fun k => wd k j)

/-- The sample and the row in it of a row of all samples. -/
abbrev smp (R : Fin 32768) : Fin 16 := ⟨R.val / 2048, by omega⟩
abbrev pos (R : Fin 32768) : Fin 2048 := ⟨R.val % 2048, Nat.mod_lt _ (by decide)⟩

section

variable (a0 a1 a2 a3 : (⟨2, ![32768, 512]⟩ : Shape).Idx → EReal) (x : (⟨3, ![16, 2048, 1024]⟩ : Shape).Idx → EReal)
  (gt1 sh sc gt2 : (⟨3, ![16, 1, 1024]⟩ : Shape).Idx → EReal) (ng : (⟨1, ![128]⟩ : Shape).Idx → EReal)
  (wo : (⟨2, ![1024, 1024]⟩ : Shape).Idx → EReal) (g : (⟨1, ![1024]⟩ : Shape).Idx → EReal)
  (wg wu : (⟨2, ![1024, 256]⟩ : Shape).Idx → EReal) (wd : (⟨2, ![256, 1024]⟩ : Shape).Idx → EReal)

/-- Row `R` of all samples after the output projection. -/
def midRow (R : Fin 32768) : Fin 1024 → EReal :=
  mid (fun e => x (ix3 (smp R) (pos R) e)) (fun e => gt1 (ix3 (smp R) 0 e))
    (heads (fun e => a0 (ix2 R e) + a1 (ix2 R e)) (fun e => ng (ix1 e)) (fun e => a2 (ix2 R e)) (fun e => a3 (ix2 R e)))
    (fun k e => wo (ix2 k e))

/-- Row `R` of all samples after the second norm. -/
def normRow (R : Fin 32768) : Fin 1024 → EReal :=
  rowH (midRow a0 a1 a2 a3 x gt1 ng wo R) (fun e => g (ix1 e)) (fun e => sc (ix3 (smp R) 0 e)) (fun e => sh (ix3 (smp R) 0 e))

/-- Row `R` of all samples with its shared expert added. -/
def baseRow (R : Fin 32768) (j : Fin 1024) : EReal :=
  midRow a0 a1 a2 a3 x gt1 ng wo R j + gt2 (ix3 (smp R) 0 j)
    * shared (normRow a0 a1 a2 a3 x gt1 sh sc ng wo g R) (fun d k => wg (ix2 d k)) (fun d k => wu (ix2 d k))
        (fun k e => wd (ix2 k e)) j

/-- The two results that a value is claimed of, from the arguments. -/
def base (z : (⟨2, ![32768, 1024]⟩ : Shape).Idx) : EReal :=
  baseRow a0 a1 a2 a3 x gt1 sh sc gt2 ng wo g wg wu wd (z 0) (z 1)

def normed (z : (⟨2, ![32768, 1024]⟩ : Shape).Idx) : EReal := normRow a0 a1 a2 a3 x gt1 sh sc ng wo g (z 0) (z 1)

end

end Cert.MixSpec

end
-- ==== Proof.Mix.Rows.lean ====
module

public import proofs.«01_k».proof.Proof.Gen.MixIdeal.Value
public import proofs.«01_k».proof.Proof.Mix.Spec
public import Idealize.ShloMosaic.Lib.Pipeline.ValueKit
public import Idealize.ShloMosaic.Lib.KernelVsHost
public import Idealize.ShloMosaic.Lib.Pointwise

@[expose] public section

set_option maxRecDepth 16384

noncomputable section

/-! # The kernel of the output stage, read at an index -/

namespace Cert.MixIdeal.MixValue

open Cert.MixIdeal Cert.MixIdeal.Gen Idealize.ShloMosaic Idealize.ShloMosaic.TcCoe Idealize.SL.Sem Cert.MixSpec

section

variable (A B : FVec Ideal S256x512 .f32) (N N' N'' : FVec Ideal S1x128 .f32)

theorem head0_at (r : Fin 256) (l : Fin 128) : k0_pay5 (F := Ideal) A B N (ix2 r l)
    = headNorm (fun e => A (ix2 r ⟨e.val, by omega⟩) + B (ix2 r ⟨e.val, by omega⟩)) (fun e => N (ix2 0 e)) l := by
  pointwise [k0_pay5, k0_pay4]
  rfl

theorem head1_at (r : Fin 256) (l : Fin 128) : k0_pay6 (F := Ideal) A B N (ix2 r l)
    = headNorm (fun e => A (ix2 r ⟨128 + e.val, by omega⟩) + B (ix2 r ⟨128 + e.val, by omega⟩)) (fun e => N (ix2 0 e)) l := by
  pointwise [k0_pay6, k0_pay4]
  rfl

theorem head0'_at (r : Fin 256) (l : Fin 128) : k0_pay20 (F := Ideal) A B N (ix2 r l)
    = headNorm (fun e => A (ix2 r ⟨e.val, by omega⟩) + B (ix2 r ⟨e.val, by omega⟩)) (fun e => N (ix2 0 e)) l := by
  pointwise [k0_pay20, k0_pay19]
  rfl

theorem pair_at (r : Fin 256) (l : Fin 512) : k0_pay4 (F := Ideal) A B (ix2 r l) = A (ix2 r l) + B (ix2 r l) := by
  pointwise [k0_pay4]

theorem pair'_at (r : Fin 256) (l : Fin 512) : k0_pay19 (F := Ideal) A B (ix2 r l) = A (ix2 r l) + B (ix2 r l) := by
  pointwise [k0_pay19]

theorem head2_at (r : Fin 256) (l : Fin 128) : k0_pay7 (F := Ideal) A B (ix2 r l)
    = A (ix2 r ⟨256 + l.val, by omega⟩) + B (ix2 r ⟨256 + l.val, by omega⟩) := by
  pointwise [k0_pay7, k0_pay4]

theorem head2_sq (r : Fin 256) (l : Fin 128) : k0_pay8 (F := Ideal) A B (ix2 r l)
    = k0_pay7 (F := Ideal) A B (ix2 r l) * k0_pay7 (F := Ideal) A B (ix2 r l) := by
  pointwise [k0_pay8]

theorem head1'_at (r : Fin 256) (l : Fin 128) : k0_pay21 (F := Ideal) A B (ix2 r l)
    = A (ix2 r ⟨128 + l.val, by omega⟩) + B (ix2 r ⟨128 + l.val, by omega⟩) := by
  pointwise [k0_pay21, k0_pay19]

/-- One of four pieces of 128 lanes. -/
def piece (a b c d : Fin 128 → EReal) (j : Fin 512) : EReal :=
  if h : j.val < 128 then a ⟨j.val, h⟩ else if h' : j.val - 128 < 128 then b ⟨j.val - 128, h'⟩
  else if h'' : j.val - 128 - 128 < 128 then c ⟨j.val - 128 - 128, h''⟩ else d ⟨j.val - 128 - 128 - 128, by omega⟩

theorem cat_at (v9 : FVec Ideal S256x512 .f32) (v24 v39 v40 v41 : FVec Ideal S256x128 .f32) (S C : FVec Ideal S256x512 .f32)
    (r : Fin 256) (j : Fin 1024) : k0_pay9 (F := Ideal) v9 v24 v39 v40 v41 N N' S C (ix2 r j)
    = if h : j.val < 512 then piece (fun l => v24 (ix2 r l)) (fun l => v39 (ix2 r l))
        (fun l => v40 (ix2 r l) * Ideal.rsqrt (Ideal.div (∑ e, v41 (ix2 r e)) (Ideal.ofBits .f32 0x43000000#32) + Ideal.ofBits .f32 0x358637BD#32) * N (ix2 0 l))
        (headNorm (fun e => v9 (ix2 r ⟨384 + e.val, by omega⟩)) (fun e => N' (ix2 0 e))) ⟨j.val, h⟩ * S (ix2 r ⟨j.val, h⟩)
      else C (ix2 r ⟨j.val - 512, by omega⟩) := by
  pointwise [k0_pay9]
  rfl

theorem cat'_at (v143 : FVec Ideal S256x512 .f32) (v158 v159 : FVec Ideal S256x128 .f32)
    (r : Fin 256) (j : Fin 512) : k0_pay22 (F := Ideal) v143 v158 v159 N N' N'' (ix2 r j)
    = piece (fun l => v158 (ix2 r l)) (headNorm (fun l => v159 (ix2 r l)) (fun e => N (ix2 0 e)))
        (headNorm (fun e => v143 (ix2 r ⟨256 + e.val, by omega⟩)) (fun e => N' (ix2 0 e)))
        (headNorm (fun e => v143 (ix2 r ⟨384 + e.val, by omega⟩)) (fun e => N'' (ix2 0 e))) j := by
  pointwise [k0_pay22]
  rfl

theorem mid_at (h : FVec Ideal S256x1024 .bf16) (x : FVec Ideal S256x1024 .f32) (gt : FVec Ideal S1x1024 .f32)
    (w : FVec Ideal S1024x1024 .bf16) (r : Fin 256) (j : Fin 1024) : k0_pay13 (F := Ideal) h x gt w (ix2 r j)
    = mid (fun e => x (ix2 r e)) (fun e => gt (ix2 0 e)) (fun e => h (ix2 r e)) (fun k e => w (ix2 k e)) j := by
  pointwise [k0_pay13]
  rfl

theorem mid'_at (v : FVec Ideal S256x512 .f32) (S C : FVec Ideal S256x512 .f32) (x : FVec Ideal S256x1024 .f32) (gt : FVec Ideal S1x1x1024 .f32)
    (w : FVec Ideal S1024x1024 .bf16) (r : Fin 256) (j : Fin 1024) : k0_pay23 (F := Ideal) v S C x gt w (ix2 r j)
    = mid (fun e => x (ix2 r e)) (fun e => gt (ix3 0 0 e))
        (fun j => if h : j.val < 512 then v (ix2 r ⟨j.val, h⟩) * S (ix2 r ⟨j.val, h⟩) else C (ix2 r ⟨j.val - 512, by omega⟩))
        (fun k e => w (ix2 k e)) j := by
  unfold k0_pay23
  generalize hH : concatenate S256x1024 1 [⟨S256x512, mulf v S⟩, ⟨S256x512, C⟩] concatenates_S256x512_S256x512_S256x1024_d1 = H
  have e : ∀ k : Fin 1024, H (ix2 r k) = if h : k.val < 512 then v (ix2 r ⟨k.val, h⟩) * S (ix2 r ⟨k.val, h⟩) else C (ix2 r ⟨k.val - 512, by omega⟩) := by
    intro k
    subst hH
    pointwise
  clear hH
  pointwise
  unfold mid dot
  exact congrArg (fun q => x (ix2 r j) + gt (ix3 0 0 j) * q) (Finset.sum_congr rfl fun k _ => congrArg (· * w (ix2 k j)) (e k))

theorem norm_at (h : FVec Ideal S256x1024 .bf16) (x : FVec Ideal S256x1024 .f32) (gt : FVec Ideal S1x1024 .f32)
    (w : FVec Ideal S1024x1024 .bf16) (g : FVec Ideal S1x1024 .f32) (sc sh : FVec Ideal S1x1x1024 .f32) (r : Fin 256) (j : Fin 1024) :
    k0_pay14 (F := Ideal) h x gt w g sc sh (ix2 r j)
    = rowH (fun e => k0_pay13 (F := Ideal) h x gt w (ix2 r e)) (fun e => g (ix2 0 e)) (fun e => sc (ix3 0 0 e)) (fun e => sh (ix3 0 0 e)) j := by
  unfold k0_pay14
  generalize k0_pay13 (F := Ideal) h x gt w = y
  pointwise
  rfl

theorem norm'_at (v : FVec Ideal S256x512 .f32) (S C : FVec Ideal S256x512 .f32) (x : FVec Ideal S256x1024 .f32) (gt : FVec Ideal S1x1x1024 .f32)
    (w : FVec Ideal S1024x1024 .bf16) (g : FVec Ideal S1x1024 .f32) (sc sh : FVec Ideal S1x1x1024 .f32) (r : Fin 256) (j : Fin 1024) :
    k0_pay25 (F := Ideal) (k0_pay24 (F := Ideal) v S C x gt w g sc) sh (ix2 r j)
    = rowH (fun e => k0_pay23 (F := Ideal) v S C x gt w (ix2 r e)) (fun e => g (ix2 0 e)) (fun e => sc (ix3 0 0 e)) (fun e => sh (ix3 0 0 e)) j := by
  unfold k0_pay25 k0_pay24
  generalize k0_pay23 (F := Ideal) v S C x gt w = y
  pointwise
  rfl

/-- The columns of the shared expert's two weights, side by side. -/
abbrev lo (k : Fin 256) : Fin 512 := ⟨k.val, by omega⟩
abbrev hi (k : Fin 256) : Fin 512 := ⟨256 + k.val, by omega⟩

theorem base_at (y : FVec Ideal S256x1024 .f32) (h : FVec Ideal S256x1024 .bf16) (W : FVec Ideal S1024x512 .bf16)
    (gt : FVec Ideal S1x1x1024 .f32) (wd : FVec Ideal S256x1024 .bf16) (r : Fin 256) (j : Fin 1024) :
    k0_pay18 (F := Ideal) y h W gt wd (ix2 r j)
    = y (ix2 r j) + gt (ix3 0 0 j) * shared (fun e => h (ix2 r e)) (fun d k => W (ix2 d (lo k)))
        (fun d k => W (ix2 d (hi k))) (fun k e => wd (ix2 k e)) j := by
  pointwise [k0_pay18]
  rfl

theorem base'_at (y v239 : FVec Ideal S256x1024 .f32) (sh : FVec Ideal S1x1x1024 .f32) (W : FVec Ideal S1024x512 .bf16)
    (gt : FVec Ideal S1x1x1024 .f32) (wd : FVec Ideal S256x1024 .bf16) (r : Fin 256) (j : Fin 1024) :
    k0_pay29 (F := Ideal) y v239 sh W gt wd (ix2 r j)
    = y (ix2 r j) + gt (ix3 0 0 j) * shared (fun e => k0_pay25 (F := Ideal) v239 sh (ix2 r e)) (fun d k => W (ix2 d (lo k)))
        (fun d k => W (ix2 d (hi k))) (fun k e => wd (ix2 k e)) j := by
  unfold k0_pay29 k0_pay27
  generalize k0_pay25 (F := Ideal) v239 sh = h
  pointwise
  rfl

theorem piece_heads (u : Fin 512 → EReal) (g : Fin 128 → EReal) (j : Fin 512) :
    piece (headNorm (fun e => u ⟨e.val, by omega⟩) g) (headNorm (fun e => u ⟨128 + e.val, by omega⟩) g)
      (headNorm (fun e => u ⟨256 + e.val, by omega⟩) g) (headNorm (fun e => u ⟨384 + e.val, by omega⟩) g) j
    = headNorm (fun e => u ⟨128 * (j.val / 128) + e.val, by omega⟩) g ⟨j.val % 128, Nat.mod_lt _ (by decide)⟩ := by
  have hj := j.isLt
  unfold piece
  by_cases h1 : j.val < 128
  · rw [dif_pos h1]
    exact congrArg₂ (fun f l => headNorm f g l)
      (funext fun e => congrArg u (Fin.ext (by show e.val = 128 * (j.val / 128) + e.val; omega)))
      (Fin.ext (by show j.val = j.val % 128; omega))
  · rw [dif_neg h1]
    by_cases h2 : j.val - 128 < 128
    · rw [dif_pos h2]
      exact congrArg₂ (fun f l => headNorm f g l)
        (funext fun e => congrArg u (Fin.ext (by show 128 + e.val = 128 * (j.val / 128) + e.val; omega)))
        (Fin.ext (by show j.val - 128 = j.val % 128; omega))
    · rw [dif_neg h2]
      by_cases h3 : j.val - 128 - 128 < 128
      · rw [dif_pos h3]
        exact congrArg₂ (fun f l => headNorm f g l)
          (funext fun e => congrArg u (Fin.ext (by show 256 + e.val = 128 * (j.val / 128) + e.val; omega)))
          (Fin.ext (by show j.val - 128 - 128 = j.val % 128; omega))
      · rw [dif_neg h3]
        exact congrArg₂ (fun f l => headNorm f g l)
          (funext fun e => congrArg u (Fin.ext (by show 384 + e.val = 128 * (j.val / 128) + e.val; omega)))
          (Fin.ext (by show j.val - 128 - 128 - 128 = j.val % 128; omega))

/-- The lanes before the output projection, first half of a tile. -/
theorem heads_at (S C : FVec Ideal S256x512 .f32) (r : Fin 256) (j : Fin 1024) :
    k0_pay9 (F := Ideal) (k0_pay4 (F := Ideal) A B) (k0_pay5 (F := Ideal) A B N) (k0_pay6 (F := Ideal) A B N)
      (k0_pay7 (F := Ideal) A B) (k0_pay8 (F := Ideal) A B) N N S C (ix2 r j)
    = heads (fun e => A (ix2 r e) + B (ix2 r e)) (fun e => N (ix2 0 e)) (fun e => S (ix2 r e)) (fun e => C (ix2 r e)) j := by
  rw [cat_at]
  unfold heads
  by_cases h : j.val < 512
  · rw [dif_pos h, dif_pos h]
    refine congrArg (· * S (ix2 r ⟨j.val, h⟩)) (Eq.trans ?_
      (piece_heads (fun e => A (ix2 r e) + B (ix2 r e)) (fun e => N (ix2 0 e)) ⟨j.val, h⟩))
    simp only [head0_at, head1_at, head2_sq, head2_at, pair_at]
    rfl
  · rw [dif_neg h, dif_neg h]

/-- The same, second half. -/
theorem heads'_at (S C : FVec Ideal S256x512 .f32) (r : Fin 256) (j : Fin 1024) :
    (if h : j.val < 512 then k0_pay22 (F := Ideal) (k0_pay19 (F := Ideal) A B) (k0_pay20 (F := Ideal) A B N)
        (k0_pay21 (F := Ideal) A B) N N N (ix2 r ⟨j.val, h⟩) * S (ix2 r ⟨j.val, h⟩) else C (ix2 r ⟨j.val - 512, by omega⟩))
    = heads (fun e => A (ix2 r e) + B (ix2 r e)) (fun e => N (ix2 0 e)) (fun e => S (ix2 r e)) (fun e => C (ix2 r e)) j := by
  unfold heads
  by_cases h : j.val < 512
  · rw [dif_pos h, dif_pos h, cat'_at]
    refine congrArg (· * S (ix2 r ⟨j.val, h⟩)) (Eq.trans ?_
      (piece_heads (fun e => A (ix2 r e) + B (ix2 r e)) (fun e => N (ix2 0 e)) ⟨j.val, h⟩))
    simp only [head0'_at, head1'_at, pair'_at]
  · rw [dif_neg h, dif_neg h]

end

end Cert.MixIdeal.MixValue

end
-- ==== Proof.Mix.Tile.lean ====
module

public import proofs.«01_k».proof.Proof.Mix.Rows

@[expose] public section

set_option maxRecDepth 16384

noncomputable section

/-! # A row of a tile of the output stage, from the rows of the arguments it reads -/

namespace Cert.MixIdeal.MixValue

open Cert.MixIdeal Cert.MixIdeal.Gen Idealize.ShloMosaic Idealize.ShloMosaic.TcCoe Idealize.SL.Sem Cert.MixSpec

theorem same_rows (X : FVec Ideal S256x1024 .f32) (r : Fin 256) (e : Fin 1024) : k0_pay10 (F := Ideal) X (ix2 r e) = X (ix2 r e) := by
  pointwise [k0_pay10]

theorem same_gate (X : FVec Ideal S1x1x1024 .f32) (e : Fin 1024) : k0_pay11 (F := Ideal) X (ix2 0 e) = X (ix3 0 0 e) := by
  pointwise [k0_pay11]

theorem same_weights (X : FVec Ideal S1024x1024 .bf16) (d e : Fin 1024) : k0_pay12 (F := Ideal) X (ix2 d e) = X (ix2 d e) := by
  pointwise [k0_pay12]

section

variable (a0 a1 a2 a3 : S32768x512.Idx → EReal) (x : S16x2048x1024.Idx → EReal) (gt1 sh sc gt2 : S16x1x1024.Idx → EReal)
  (ng : S128.Idx → EReal) (wo : S1024x1024.Idx → EReal) (g : S1024.Idx → EReal) (wg wu : S1024x256.Idx → EReal)
  (wd : S256x1024.Idx → EReal)
variable (A B S C : FVec Ideal S256x512 .f32) (X : FVec Ideal S256x1024 .f32) (G1 SH SC G2 : FVec Ideal S1x1x1024 .f32)
  (N : FVec Ideal S1x128 .f32) (WO : FVec Ideal S1024x1024 .bf16) (GF : FVec Ideal S1x1024 .f32)
  (W : FVec Ideal S1024x512 .bf16) (WD : FVec Ideal S256x1024 .bf16)
variable (r : Fin 256) (R : Fin 32768)

/-- Row `r` of half a tile reads row `R` of the arguments. -/
structure Reads : Prop where
  fwd : ∀ e, A (ix2 r e) = a0 (ix2 R e)
  bwd : ∀ e, B (ix2 r e) = a1 (ix2 R e)
  z : ∀ e, S (ix2 r e) = a2 (ix2 R e)
  conv : ∀ e, C (ix2 r e) = a3 (ix2 R e)
  row : ∀ e, X (ix2 r e) = x (ix3 (smp R) (pos R) e)
  gate : ∀ e, G1 (ix3 0 0 e) = gt1 (ix3 (smp R) 0 e)
  shift : ∀ e, SH (ix3 0 0 e) = sh (ix3 (smp R) 0 e)
  scale : ∀ e, SC (ix3 0 0 e) = sc (ix3 (smp R) 0 e)
  headGain : ∀ e, N (ix2 0 e) = ng (ix1 e)
  out : ∀ d e, WO (ix2 d e) = wo (ix2 d e)
  gain : ∀ e, GF (ix2 0 e) = g (ix1 e)

variable (h : Reads a0 a1 a2 a3 x gt1 sh sc ng wo g A B S C X G1 SH SC N WO GF r R)

include h

theorem mid_row (j : Fin 1024) :
    k0_pay13 (F := Ideal) (k0_pay9 (F := Ideal) (k0_pay4 (F := Ideal) A B) (k0_pay5 (F := Ideal) A B N) (k0_pay6 (F := Ideal) A B N)
      (k0_pay7 (F := Ideal) A B) (k0_pay8 (F := Ideal) A B) N N S C) (k0_pay10 (F := Ideal) X) (k0_pay11 (F := Ideal) G1)
      (k0_pay12 (F := Ideal) WO) (ix2 r j) = midRow a0 a1 a2 a3 x gt1 ng wo R j := by
  rw [mid_at]
  simp only [heads_at, same_rows, same_gate, same_weights, h.fwd, h.bwd, h.z, h.conv, h.row, h.gate, h.headGain, h.out]
  rfl

theorem mid'_row (j : Fin 1024) :
    k0_pay23 (F := Ideal) (k0_pay22 (F := Ideal) (k0_pay19 (F := Ideal) A B) (k0_pay20 (F := Ideal) A B N)
      (k0_pay21 (F := Ideal) A B) N N N) S C X G1 WO (ix2 r j) = midRow a0 a1 a2 a3 x gt1 ng wo R j := by
  rw [mid'_at, funext (heads'_at A B N S C r)]
  simp only [h.fwd, h.bwd, h.z, h.conv, h.row, h.gate, h.headGain, h.out]
  rfl

theorem norm_row (j : Fin 1024) :
    k0_pay14 (F := Ideal) (k0_pay9 (F := Ideal) (k0_pay4 (F := Ideal) A B) (k0_pay5 (F := Ideal) A B N) (k0_pay6 (F := Ideal) A B N)
      (k0_pay7 (F := Ideal) A B) (k0_pay8 (F := Ideal) A B) N N S C) (k0_pay10 (F := Ideal) X) (k0_pay11 (F := Ideal) G1)
      (k0_pay12 (F := Ideal) WO) GF SC SH (ix2 r j) = normRow a0 a1 a2 a3 x gt1 sh sc ng wo g R j := by
  rw [norm_at]
  simp only [mid_row a0 a1 a2 a3 x gt1 sh sc ng wo g A B S C X G1 SH SC N WO GF r R h, h.gain, h.scale, h.shift]
  rfl

theorem norm'_row (j : Fin 1024) :
    k0_pay25 (F := Ideal) (k0_pay24 (F := Ideal) (k0_pay22 (F := Ideal) (k0_pay19 (F := Ideal) A B) (k0_pay20 (F := Ideal) A B N)
      (k0_pay21 (F := Ideal) A B) N N N) S C X G1 WO GF SC) SH (ix2 r j) = normRow a0 a1 a2 a3 x gt1 sh sc ng wo g R j := by
  rw [norm'_at]
  simp only [mid'_row a0 a1 a2 a3 x gt1 sh sc ng wo g A B S C X G1 SH SC N WO GF r R h, h.gain, h.scale, h.shift]
  rfl

theorem bf_row (j : Fin 1024) :
    k0_pay15 (F := Ideal) (k0_pay9 (F := Ideal) (k0_pay4 (F := Ideal) A B) (k0_pay5 (F := Ideal) A B N) (k0_pay6 (F := Ideal) A B N)
      (k0_pay7 (F := Ideal) A B) (k0_pay8 (F := Ideal) A B) N N S C) (k0_pay10 (F := Ideal) X) (k0_pay11 (F := Ideal) G1)
      (k0_pay12 (F := Ideal) WO) GF SC SH (ix2 r j) = normRow a0 a1 a2 a3 x gt1 sh sc ng wo g R j :=
  norm_row a0 a1 a2 a3 x gt1 sh sc ng wo g A B S C X G1 SH SC N WO GF r R h j

theorem bf'_row (j : Fin 1024) :
    k0_pay26 (F := Ideal) (k0_pay24 (F := Ideal) (k0_pay22 (F := Ideal) (k0_pay19 (F := Ideal) A B) (k0_pay20 (F := Ideal) A B N)
      (k0_pay21 (F := Ideal) A B) N N N) S C X G1 WO GF SC) SH (ix2 r j) = normRow a0 a1 a2 a3 x gt1 sh sc ng wo g R j :=
  norm'_row a0 a1 a2 a3 x gt1 sh sc ng wo g A B S C X G1 SH SC N WO GF r R h j

variable (hg2 : ∀ e, G2 (ix3 0 0 e) = gt2 (ix3 (smp R) 0 e)) (hg : ∀ d (k : Fin 256), W (ix2 d (lo k)) = wg (ix2 d k))
  (hu : ∀ d (k : Fin 256), W (ix2 d (hi k)) = wu (ix2 d k)) (hd : ∀ k e, WD (ix2 k e) = wd (ix2 k e))

include hg2 hg hu hd

theorem base_row (j : Fin 1024) :
    k0_pay18 (F := Ideal)
      (k0_pay13 (F := Ideal) (k0_pay9 (F := Ideal) (k0_pay4 (F := Ideal) A B) (k0_pay5 (F := Ideal) A B N) (k0_pay6 (F := Ideal) A B N)
        (k0_pay7 (F := Ideal) A B) (k0_pay8 (F := Ideal) A B) N N S C) (k0_pay10 (F := Ideal) X) (k0_pay11 (F := Ideal) G1)
        (k0_pay12 (F := Ideal) WO))
      (k0_pay16 (F := Ideal) (k0_pay9 (F := Ideal) (k0_pay4 (F := Ideal) A B) (k0_pay5 (F := Ideal) A B N) (k0_pay6 (F := Ideal) A B N)
        (k0_pay7 (F := Ideal) A B) (k0_pay8 (F := Ideal) A B) N N S C) (k0_pay10 (F := Ideal) X) (k0_pay11 (F := Ideal) G1)
        (k0_pay12 (F := Ideal) WO) GF SC SH) W G2 WD (ix2 r j)
    = baseRow a0 a1 a2 a3 x gt1 sh sc gt2 ng wo g wg wu wd R j := by
  have hn : ∀ e, k0_pay16 (F := Ideal) (k0_pay9 (F := Ideal) (k0_pay4 (F := Ideal) A B) (k0_pay5 (F := Ideal) A B N) (k0_pay6 (F := Ideal) A B N)
      (k0_pay7 (F := Ideal) A B) (k0_pay8 (F := Ideal) A B) N N S C) (k0_pay10 (F := Ideal) X) (k0_pay11 (F := Ideal) G1)
      (k0_pay12 (F := Ideal) WO) GF SC SH (ix2 r e) = normRow a0 a1 a2 a3 x gt1 sh sc ng wo g R e :=
    norm_row a0 a1 a2 a3 x gt1 sh sc ng wo g A B S C X G1 SH SC N WO GF r R h
  rw [base_at]
  simp only [mid_row a0 a1 a2 a3 x gt1 sh sc ng wo g A B S C X G1 SH SC N WO GF r R h, hn, hg2, hg, hu, hd]
  rfl

theorem base'_row (j : Fin 1024) :
    k0_pay29 (F := Ideal)
      (k0_pay23 (F := Ideal) (k0_pay22 (F := Ideal) (k0_pay19 (F := Ideal) A B) (k0_pay20 (F := Ideal) A B N)
        (k0_pay21 (F := Ideal) A B) N N N) S C X G1 WO)
      (k0_pay24 (F := Ideal) (k0_pay22 (F := Ideal) (k0_pay19 (F := Ideal) A B) (k0_pay20 (F := Ideal) A B N)
        (k0_pay21 (F := Ideal) A B) N N N) S C X G1 WO GF SC) SH W G2 WD (ix2 r j)
    = baseRow a0 a1 a2 a3 x gt1 sh sc gt2 ng wo g wg wu wd R j := by
  rw [base'_at]
  simp only [mid'_row a0 a1 a2 a3 x gt1 sh sc ng wo g A B S C X G1 SH SC N WO GF r R h,
    norm'_row a0 a1 a2 a3 x gt1 sh sc ng wo g A B S C X G1 SH SC N WO GF r R h, hg2, hg, hu, hd]
  rfl

end

end Cert.MixIdeal.MixValue

end
-- ==== Proof.Mix.Blocks.lean ====
module

public import proofs.«01_k».proof.Proof.Gen.MixIdeal.Value
public import proofs.«01_k».proof.Proof.Mix.Spec
public import Idealize.ShloMosaic.Lib.Pipeline.ValueKit
public import Idealize.ShloMosaic.Lib.KernelVsHost
public import Idealize.ShloMosaic.Lib.Pointwise
public import Idealize.ShloMosaic.Lib.StableHlo.ReadAt

@[expose] public section

set_option maxRecDepth 16384

noncomputable section

/-! # The blocks of the arguments that a tile of the output stage reads -/

namespace Cert.MixIdeal.MixValue

open Cert.MixIdeal Cert.MixIdeal.Gen Idealize.ShloMosaic Idealize.ShloMosaic.TcCoe Idealize.SL.Sem Cert.MixSpec

variable (m : (ℓ : Loc nD τ sig) → Buf (Elt Ideal) ℓ)

/-- The windows' index maps. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val / 4, 0, 0] ∧ win0_6.index t = ![t.val / 4, 0, 0] ∧ win0_7.index t = ![t.val / 4, 0, 0]
    ∧ win0_8.index t = ![t.val / 4, 0, 0]
    ∧ win0_9.index t = ![0, 0] ∧ win0_10.index t = ![0, 0] ∧ win0_11.index t = ![0, 0]
    ∧ win0_12.index t = ![0, 0] ∧ win0_13.index t = ![0, 0] ∧ win0_14.index t = ![0, 0]
    ∧ win0_15.index t = ![t.val, 0] ∧ win0_16.index t = ![t.val, 0] :=
  (by decide +kernel : ∀ t : Fin grid0.N, _)

/-- The row of all samples that a tile's row `r` is. -/
abbrev place (t : Fin cfg0.N) (r : Fin 512) : Fin 32768 := ⟨512 * t.val + r.val, by have : t.val < 64 := t.isLt; omega⟩

theorem smp_eq (t : Fin cfg0.N) (r : Fin 512) :
    (⟨t.val / 4, by have : t.val < 64 := t.isLt; omega⟩ : Fin 16) = smp (place t r) :=
  Fin.ext (by show t.val / 4 = (512 * t.val + r.val) / 2048; omega)

theorem x_entry (c : Dev nD) (R : Fin 32768) (e : Fin 1024) :
    (V m c main_v2 : S32768x1024.Idx → EReal) (ix2 R e) = (m ((c : Thread nD τ).loc main_arg4) : S16x2048x1024.Idx → EReal)
      (ix3 (smp R) (pos R) e) := by
  unfold V
  after_reads_at

theorem head_gain_entry (c : Dev nD) (e : Fin 128) :
    (V m c main_v3 : S1x128.Idx → EReal) (ix2 0 e) = (m ((c : Thread nD τ).loc main_arg9) : S128.Idx → EReal) (ix1 e) := by
  unfold V
  after_reads_at

theorem out_entry (c : Dev nD) (d j : Fin 1024) :
    (V m c main_v4 : S1024x1024.Idx → EReal) (ix2 d j)
      = (m ((c : Thread nD τ).loc main_arg10) : S1024x1024.Idx → EReal) (ix2 d j) := by
  unfold V
  after_reads_at

theorem gain_entry (c : Dev nD) (e : Fin 1024) :
    (V m c main_v5 : S1x1024.Idx → EReal) (ix2 0 e) = (m ((c : Thread nD τ).loc main_arg11) : S1024.Idx → EReal) (ix1 e) := by
  unfold V
  after_reads_at

theorem gate_entry (c : Dev nD) (d : Fin 1024) (k : Fin 256) :
    (V m c main_v1 : S1024x512.Idx → EReal) (ix2 d ⟨k.val, by omega⟩)
      = (m ((c : Thread nD τ).loc main_arg13) : S1024x256.Idx → EReal) (ix2 d k) := by
  unfold V
  after_reads_at
  rfl

theorem up_entry (c : Dev nD) (d : Fin 1024) (k : Fin 256) :
    (V m c main_v1 : S1024x512.Idx → EReal) (ix2 d ⟨256 + k.val, by omega⟩)
      = (m ((c : Thread nD τ).loc main_arg14) : S1024x256.Idx → EReal) (ix2 d k) := by
  unfold V
  after_reads_at
  rfl

theorem down_entry (c : Dev nD) (k : Fin 256) (j : Fin 1024) :
    (V m c main_v7 : S256x1024.Idx → EReal) (ix2 k j)
      = (m ((c : Thread nD τ).loc main_arg15) : S256x1024.Idx → EReal) (ix2 k j) := by
  unfold V
  after_reads_at

theorem fwd_block (c : Dev nD) (t : Fin cfg0.N) (r : Fin 512) (e : Fin 512) :
    (show FVec Ideal S512x512 .f32 from iblk m c 0 t) (ix2 r e)
      = (m ((c : Thread nD τ).loc main_arg0) : S32768x512.Idx → EReal) (ix2 (place t r) e) := by
  blk_point [iblk, V, idx t]

theorem bwd_block (c : Dev nD) (t : Fin cfg0.N) (r : Fin 512) (e : Fin 512) :
    (show FVec Ideal S512x512 .f32 from iblk m c 1 t) (ix2 r e)
      = (m ((c : Thread nD τ).loc main_arg1) : S32768x512.Idx → EReal) (ix2 (place t r) e) := by
  blk_point [iblk, V, idx t]

theorem z_block (c : Dev nD) (t : Fin cfg0.N) (r : Fin 512) (e : Fin 512) :
    (show FVec Ideal S512x512 .f32 from iblk m c 2 t) (ix2 r e)
      = (m ((c : Thread nD τ).loc main_arg2) : S32768x512.Idx → EReal) (ix2 (place t r) e) := by
  blk_point [iblk, V, idx t]

theorem conv_block (c : Dev nD) (t : Fin cfg0.N) (r : Fin 512) (e : Fin 512) :
    (show FVec Ideal S512x512 .f32 from iblk m c 3 t) (ix2 r e)
      = (m ((c : Thread nD τ).loc main_arg3) : S32768x512.Idx → EReal) (ix2 (place t r) e) := by
  blk_point [iblk, V, idx t]

theorem x_block (c : Dev nD) (t : Fin cfg0.N) (r : Fin 512) (e : Fin 1024) :
    (show FVec Ideal S512x1024 .f32 from iblk m c 4 t) (ix2 r e)
      = (m ((c : Thread nD τ).loc main_arg4) : S16x2048x1024.Idx → EReal) (ix3 (smp (place t r)) (pos (place t r)) e) := by
  have h : (show FVec Ideal S512x1024 .f32 from iblk m c 4 t) (ix2 r e)
      = (V m c main_v2 : S32768x1024.Idx → EReal) (ix2 (place t r) e) := by
    blk_point [iblk, idx t]
  rw [h, x_entry]

theorem gate1_block (c : Dev nD) (t : Fin cfg0.N) (e : Fin 1024) :
    (show FVec Ideal S1x1x1024 .f32 from iblk m c 5 t) (ix3 0 0 e)
      = (m ((c : Thread nD τ).loc main_arg5) : S16x1x1024.Idx → EReal)
          (ix3 ⟨t.val / 4, by have : t.val < 64 := t.isLt; omega⟩ 0 e) := by
  blk_point [iblk, V, idx t]

theorem shift_block (c : Dev nD) (t : Fin cfg0.N) (e : Fin 1024) :
    (show FVec Ideal S1x1x1024 .f32 from iblk m c 6 t) (ix3 0 0 e)
      = (m ((c : Thread nD τ).loc main_arg6) : S16x1x1024.Idx → EReal)
          (ix3 ⟨t.val / 4, by have : t.val < 64 := t.isLt; omega⟩ 0 e) := by
  blk_point [iblk, V, idx t]

theorem scale_block (c : Dev nD) (t : Fin cfg0.N) (e : Fin 1024) :
    (show FVec Ideal S1x1x1024 .f32 from iblk m c 7 t) (ix3 0 0 e)
      = (m ((c : Thread nD τ).loc main_arg7) : S16x1x1024.Idx → EReal)
          (ix3 ⟨t.val / 4, by have : t.val < 64 := t.isLt; omega⟩ 0 e) := by
  blk_point [iblk, V, idx t]

theorem gate2_block (c : Dev nD) (t : Fin cfg0.N) (e : Fin 1024) :
    (show FVec Ideal S1x1x1024 .f32 from iblk m c 8 t) (ix3 0 0 e)
      = (m ((c : Thread nD τ).loc main_arg8) : S16x1x1024.Idx → EReal)
          (ix3 ⟨t.val / 4, by have : t.val < 64 := t.isLt; omega⟩ 0 e) := by
  blk_point [iblk, V, idx t]

theorem head_gain_block (c : Dev nD) (t : Fin cfg0.N) (e : Fin 128) :
    (show FVec Ideal S1x128 .f32 from iblk m c 9 t) (ix2 0 e)
      = (m ((c : Thread nD τ).loc main_arg9) : S128.Idx → EReal) (ix1 e) := by
  have e1 : (show FVec Ideal S1x128 .f32 from iblk m c 9 t) (ix2 0 e)
      = (V m c main_v3 : S1x128.Idx → EReal) (ix2 0 e) := by
    blk_point [iblk, idx t]
  exact e1.trans (head_gain_entry m c e)

theorem out_block (c : Dev nD) (t : Fin cfg0.N) (d j : Fin 1024) :
    (show FVec Ideal S1024x1024 .bf16 from iblk m c 10 t) (ix2 d j)
      = (m ((c : Thread nD τ).loc main_arg10) : S1024x1024.Idx → EReal) (ix2 d j) := by
  have e1 : (show FVec Ideal S1024x1024 .bf16 from iblk m c 10 t) (ix2 d j)
      = (V m c main_v4 : S1024x1024.Idx → EReal) (ix2 d j) := by
    blk_point [iblk, idx t]
  exact e1.trans (out_entry m c d j)

theorem gain_block (c : Dev nD) (t : Fin cfg0.N) (e : Fin 1024) :
    (show FVec Ideal S1x1024 .f32 from iblk m c 11 t) (ix2 0 e)
      = (m ((c : Thread nD τ).loc main_arg11) : S1024.Idx → EReal) (ix1 e) := by
  have e1 : (show FVec Ideal S1x1024 .f32 from iblk m c 11 t) (ix2 0 e)
      = (V m c main_v5 : S1x1024.Idx → EReal) (ix2 0 e) := by
    blk_point [iblk, idx t]
  exact e1.trans (gain_entry m c e)

theorem gate_block (c : Dev nD) (t : Fin cfg0.N) (d : Fin 1024) (k : Fin 256) :
    (show FVec Ideal S1024x512 .bf16 from iblk m c 13 t) (ix2 d ⟨k.val, by omega⟩)
      = (m ((c : Thread nD τ).loc main_arg13) : S1024x256.Idx → EReal) (ix2 d k) := by
  have e1 : (show FVec Ideal S1024x512 .bf16 from iblk m c 13 t) (ix2 d ⟨k.val, by omega⟩)
      = (V m c main_v1 : S1024x512.Idx → EReal) (ix2 d ⟨k.val, by omega⟩) := by
    blk_point [iblk, idx t]
  exact e1.trans (gate_entry m c d k)

theorem up_block (c : Dev nD) (t : Fin cfg0.N) (d : Fin 1024) (k : Fin 256) :
    (show FVec Ideal S1024x512 .bf16 from iblk m c 13 t) (ix2 d ⟨256 + k.val, by omega⟩)
      = (m ((c : Thread nD τ).loc main_arg14) : S1024x256.Idx → EReal) (ix2 d k) := by
  have e1 : (show FVec Ideal S1024x512 .bf16 from iblk m c 13 t) (ix2 d ⟨256 + k.val, by omega⟩)
      = (V m c main_v1 : S1024x512.Idx → EReal) (ix2 d ⟨256 + k.val, by omega⟩) := by
    blk_point [iblk, idx t]
  exact e1.trans (up_entry m c d k)

theorem down_block (c : Dev nD) (t : Fin cfg0.N) (k : Fin 256) (j : Fin 1024) :
    (show FVec Ideal S256x1024 .bf16 from iblk m c 14 t) (ix2 k j)
      = (m ((c : Thread nD τ).loc main_arg15) : S256x1024.Idx → EReal) (ix2 k j) := by
  have e1 : (show FVec Ideal S256x1024 .bf16 from iblk m c 14 t) (ix2 k j)
      = (V m c main_v7 : S256x1024.Idx → EReal) (ix2 k j) := by
    blk_point [iblk, idx t]
  exact e1.trans (down_entry m c k j)

end Cert.MixIdeal.MixValue

end
-- ==== Proof.Mix.Final.lean ====
module

public import proofs.«01_k».proof.Proof.Mix.Tile
public import proofs.«01_k».proof.Proof.Mix.Blocks

@[expose] public section

set_option maxRecDepth 16384

noncomputable section

/-! # The arrays the output stage leaves -/

namespace Cert.MixIdeal.MixValue

open Cert.MixIdeal Cert.MixIdeal.Gen Idealize.ShloMosaic Idealize.ShloMosaic.TcCoe Idealize.SL.Sem Cert.MixSpec

theorem low_at (X : Vec Ideal S512x512 .f32) (r : Fin 256) (e : Fin 512) :
    (show Vec Ideal S256x512 .f32 from View.ld X r0_1) (ix2 r e) = X (ix2 ⟨r.val, by omega⟩ e) := by
  pointwise

theorem high_at (X : Vec Ideal S512x512 .f32) (r : Fin 256) (e : Fin 512) :
    (show Vec Ideal S256x512 .f32 from View.ld X r0_10) (ix2 r e) = X (ix2 ⟨256 + r.val, by omega⟩ e) := by
  pointwise

theorem lowx_at (X : Vec Ideal S512x1024 .f32) (r : Fin 256) (e : Fin 1024) :
    (show Vec Ideal S256x1024 .f32 from View.ld X r0_3) (ix2 r e) = X (ix2 ⟨r.val, by omega⟩ e) := by
  pointwise

theorem highx_at (X : Vec Ideal S512x1024 .f32) (r : Fin 256) (e : Fin 1024) :
    (show Vec Ideal S256x1024 .f32 from View.ld X r0_11) (ix2 r e) = X (ix2 ⟨256 + r.val, by omega⟩ e) := by
  pointwise

variable (m : (ℓ : Loc nD τ sig) → Buf (Elt Ideal) ℓ)

theorem reads_low (c : Dev nD) (t : Fin cfg0.N) (r : Fin 256) : Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))
    (View.ld (iblk m c 0 t) r0_1) (View.ld (iblk m c 1 t) r0_1) (View.ld (iblk m c 2 t) r0_1) (View.ld (iblk m c 3 t) r0_1)
    (View.ld (iblk m c 4 t) r0_3) (iblk m c 5 t) (iblk m c 6 t) (iblk m c 7 t) (iblk m c 9 t) (iblk m c 10 t) (iblk m c 11 t)
    r (place t ⟨r.val, by omega⟩) where
  fwd e := (low_at _ r e).trans (fwd_block m c t _ e)
  bwd e := (low_at _ r e).trans (bwd_block m c t _ e)
  z e := (low_at _ r e).trans (z_block m c t _ e)
  conv e := (low_at _ r e).trans (conv_block m c t _ e)
  row e := (lowx_at _ r e).trans (x_block m c t _ e)
  gate e := (gate1_block m c t e).trans (congrArg (fun i => (m ((c : Thread nD τ).loc main_arg5) : S16x1x1024.Idx → EReal) (ix3 i 0 e)) (smp_eq t _))
  shift e := (shift_block m c t e).trans (congrArg (fun i => (m ((c : Thread nD τ).loc main_arg6) : S16x1x1024.Idx → EReal) (ix3 i 0 e)) (smp_eq t _))
  scale e := (scale_block m c t e).trans (congrArg (fun i => (m ((c : Thread nD τ).loc main_arg7) : S16x1x1024.Idx → EReal) (ix3 i 0 e)) (smp_eq t _))
  headGain e := head_gain_block m c t e
  out d e := out_block m c t d e
  gain e := gain_block m c t e

theorem reads_high (c : Dev nD) (t : Fin cfg0.N) (r : Fin 256) : Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))
    (View.ld (iblk m c 0 t) r0_10) (View.ld (iblk m c 1 t) r0_10) (View.ld (iblk m c 2 t) r0_10) (View.ld (iblk m c 3 t) r0_10)
    (View.ld (iblk m c 4 t) r0_11) (iblk m c 5 t) (iblk m c 6 t) (iblk m c 7 t) (iblk m c 9 t) (iblk m c 10 t) (iblk m c 11 t)
    r (place t ⟨256 + r.val, by omega⟩) where
  fwd e := (high_at _ r e).trans (fwd_block m c t _ e)
  bwd e := (high_at _ r e).trans (bwd_block m c t _ e)
  z e := (high_at _ r e).trans (z_block m c t _ e)
  conv e := (high_at _ r e).trans (conv_block m c t _ e)
  row e := (highx_at _ r e).trans (x_block m c t _ e)
  gate e := (gate1_block m c t e).trans (congrArg (fun i => (m ((c : Thread nD τ).loc main_arg5) : S16x1x1024.Idx → EReal) (ix3 i 0 e)) (smp_eq t _))
  shift e := (shift_block m c t e).trans (congrArg (fun i => (m ((c : Thread nD τ).loc main_arg6) : S16x1x1024.Idx → EReal) (ix3 i 0 e)) (smp_eq t _))
  scale e := (scale_block m c t e).trans (congrArg (fun i => (m ((c : Thread nD τ).loc main_arg7) : S16x1x1024.Idx → EReal) (ix3 i 0 e)) (smp_eq t _))
  headGain e := head_gain_block m c t e
  out d e := out_block m c t d e
  gain e := gain_block m c t e

theorem gate2_at (c : Dev nD) (t : Fin cfg0.N) (r : Fin 512) (e : Fin 1024) :
    (iblk m c 8 t : S1x1x1024.Idx → EReal) (ix3 0 0 e)
      = (m ((c : Thread nD τ).loc main_arg8) : S16x1x1024.Idx → EReal) (ix3 (smp (place t r)) 0 e) :=
  (gate2_block m c t e).trans (congrArg (fun i => (m ((c : Thread nD τ).loc main_arg8) : S16x1x1024.Idx → EReal) (ix3 i 0 e)) (smp_eq t _))

theorem final16 (c : Dev nD) : (dats m 0 c).arrAt 16 cfg0.N
    = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) := by
  refine (dats m 0 c).arrAt_eq_of_covers 16 _ (by decide +kernel) fun t hf y => ?_
  generalize hG : normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) = G
  blk_simp
  rw [after0_16]
  unfold_out out0_16
  frame_out
  have he : (((View.whole main_v8_1).slice (win0_16.rect t)).emb y : S32768x1024.Idx) = ix2 (place t (y 0)) (y 1) := by
    idx_vars y
    blk_ext [idx t]
  rw [he]
  clear he
  canon_tiles x h
  · obtain ⟨p, q, hx⟩ : ∃ (p : Fin 256) (q : Fin 1024), x = ix2 p q := ⟨x 0, x 1, eq_ix2 x⟩
    subst hx
    have hy : (ix2 (place t (y 0)) (y 1) : S32768x1024.Idx) = ix2 (place t ⟨256 + p.val, by omega⟩) q :=
      congrArg₂ (fun a b => (ix2 (place t a) b : S32768x1024.Idx)) (Fin.ext (show (y 0).val = 256 + p.val from h0)) (Fin.ext (show (y 1).val = q.val from h1))
    refine Eq.trans ?_ (congrArg G hy.symm)
    subst hG
    exact bf'_row _ _ _ _ _ _ _ _ _ _ _ _ _ _ _ _ _ _ _ _ _ _ _ _ (reads_high m c t p) q
  · obtain ⟨p, q, hx⟩ : ∃ (p : Fin 256) (q : Fin 1024), x = ix2 p q := ⟨x 0, x 1, eq_ix2 x⟩
    subst hx
    have hy : (ix2 (place t (y 0)) (y 1) : S32768x1024.Idx) = ix2 (place t ⟨p.val, by omega⟩) q :=
      congrArg₂ (fun a b => (ix2 (place t a) b : S32768x1024.Idx)) (Fin.ext (show (y 0).val = p.val from h0)) (Fin.ext (show (y 1).val = q.val from h1))
    refine Eq.trans ?_ (congrArg G hy.symm)
    subst hG
    exact bf_row _ _ _ _ _ _ _ _ _ _ _ _ _ _ _ _ _ _ _ _ _ _ _ _ (reads_low m c t p) q

theorem final15 (c : Dev nD) : (dats m 0 c).arrAt 15 cfg0.N
    = base (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) := by
  refine (dats m 0 c).arrAt_eq_of_covers 15 _ (by decide +kernel) fun t hf y => ?_
  generalize hG : base (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) = G
  blk_simp
  rw [after0_15]
  unfold_out out0_15
  frame_out
  have he : (((View.whole main_v8_0).slice (win0_15.rect t)).emb y : S32768x1024.Idx) = ix2 (place t (y 0)) (y 1) := by
    idx_vars y
    blk_ext [idx t]
  rw [he]
  clear he
  canon_tiles x h
  · obtain ⟨p, q, hx⟩ : ∃ (p : Fin 256) (q : Fin 1024), x = ix2 p q := ⟨x 0, x 1, eq_ix2 x⟩
    subst hx
    have hy : (ix2 (place t (y 0)) (y 1) : S32768x1024.Idx) = ix2 (place t ⟨256 + p.val, by omega⟩) q :=
      congrArg₂ (fun a b => (ix2 (place t a) b : S32768x1024.Idx)) (Fin.ext (show (y 0).val = 256 + p.val from h0)) (Fin.ext (show (y 1).val = q.val from h1))
    refine Eq.trans ?_ (congrArg G hy.symm)
    subst hG
    exact base'_row _ _ _ _ _ _ _ _ _ _ _ _ _ _ _ _ _ _ _ _ _ _ _ _ _ _ _ _ _ _ _ (reads_high m c t p) (gate2_at m c t _) (gate_block m c t) (up_block m c t) (down_block m c t) q
  · obtain ⟨p, q, hx⟩ : ∃ (p : Fin 256) (q : Fin 1024), x = ix2 p q := ⟨x 0, x 1, eq_ix2 x⟩
    subst hx
    have hy : (ix2 (place t (y 0)) (y 1) : S32768x1024.Idx) = ix2 (place t ⟨p.val, by omega⟩) q :=
      congrArg₂ (fun a b => (ix2 (place t a) b : S32768x1024.Idx)) (Fin.ext (show (y 0).val = p.val from h0)) (Fin.ext (show (y 1).val = q.val from h1))
    refine Eq.trans ?_ (congrArg G hy.symm)
    subst hG
    exact base_row _ _ _ _ _ _ _ _ _ _ _ _ _ _ _ _ _ _ _ _ _ _ _ _ _ _ _ _ _ _ _ (reads_low m c t p) (gate2_at m c t _) (gate_block m c t) (up_block m c t) (down_block m c t) q

end Cert.MixIdeal.MixValue

end
-- ==== Proof.Mix.Ref.lean ====
module

public import proofs.«01_k».proof.Proof.Gen.MixRefIdeal.Read
public import proofs.«01_k».proof.Proof.Mix.Spec
public import Idealize.ShloMosaic.Lib.Pointwise

@[expose] public section

set_option maxRecDepth 16384

noncomputable section

/-! # The reference of the output stage, read at an index -/

namespace Cert.MixRefIdeal.MixValue

open Cert.MixRefIdeal Cert.MixRefIdeal.Gen Cert.MixRefIdeal.Read Idealize.ShloMosaic Cert.MixSpec

section

variable (x0 x1 x2 x3 : FVec Ideal S32768x512 .f32) (x4 : FVec Ideal S16x2048x1024 .f32)
  (x5 x6 x7 x8 : FVec Ideal S16x1x1024 .f32) (x9 : FVec Ideal S128 .f32) (x10 : FVec Ideal S1024x1024 .f32)
  (x11 : FVec Ideal S1024 .f32) (x13 x14 : FVec Ideal S1024x256 .f32) (x15 : FVec Ideal S256x1024 .f32)

/-- The row of all samples that row `p` of sample `i` is. -/
abbrev row (i : Fin 16) (p : Fin 2048) : Fin 32768 := ⟨2048 * i.val + p.val, by omega⟩

theorem smp_row (i : Fin 16) (p : Fin 2048) : smp (row i p) = i :=
  Fin.ext (by show (2048 * i.val + p.val) / 2048 = i.val; omega)

theorem pos_row (i : Fin 16) (p : Fin 2048) : pos (row i p) = p :=
  Fin.ext (by show (2048 * i.val + p.val) % 2048 = p.val; omega)

theorem pair_at (i : Fin 16) (p : Fin 2048) (h : Fin 4) (l : Fin 128) : val_main_v1 (F := Ideal) x0 x1 (ix4 i p h l)
    = x0 (ix2 (row i p) ⟨128 * h.val + l.val, by omega⟩) + x1 (ix2 (row i p) ⟨128 * h.val + l.val, by omega⟩) := by
  pointwise [val_main_v1, val_main_v0]
  have e1 : (⟨i.val * 2048 + p.val, by omega⟩ : Fin 32768) = row i p :=
    Fin.ext (by show i.val * 2048 + p.val = 2048 * i.val + p.val; omega)
  have e2 : (⟨h.val * 128 + l.val, by omega⟩ : Fin 512) = ⟨128 * h.val + l.val, by omega⟩ :=
    Fin.ext (by show h.val * 128 + l.val = 128 * h.val + l.val; omega)
  exact congrArg₂ (fun a b => x0 (ix2 a b) + x1 (ix2 a b)) e1 e2

theorem norm_at (i : Fin 16) (p : Fin 2048) (h : Fin 4) (l : Fin 128) : val_main_v14 (F := Ideal) x0 x1 x9 (ix4 i p h l)
    = headNorm (fun e => val_main_v1 (F := Ideal) x0 x1 (ix4 i p h e)) (fun e => x9 (ix1 e)) l := by
  unfold val_main_v14 val_main_v11 val_main_v10 val_main_v9 val_main_v8 val_main_v6 val_main_v4 val_main_v3 val_main_v2
  generalize val_main_v1 (F := Ideal) x0 x1 = v
  pointwise [val_main_v13, val_main_v12, val_main_v7, val_main_cst_1, val_main_v5, val_main_cst_0, val_main_cst]
  rfl

theorem cat_at (i : Fin 16) (p : Fin 2048) (j : Fin 1024) : val_main_v19 (F := Ideal) x0 x1 x2 x3 x9 (ix3 i p j)
    = if h : j.val < 512 then val_main_v14 (F := Ideal) x0 x1 x9 (ix4 i p ⟨j.val / 128, by omega⟩ ⟨j.val % 128, Nat.mod_lt _ (by decide)⟩) * x2 (ix2 (row i p) ⟨j.val, h⟩)
      else x3 (ix2 (row i p) ⟨j.val - 512, by omega⟩) := by
  unfold val_main_v19 val_main_v17 val_main_v15
  generalize val_main_v14 (F := Ideal) x0 x1 x9 = v
  pointwise [val_main_v18, val_main_v16]
  have e1 : (⟨i.val * 2048 + p.val, by omega⟩ : Fin 32768) = row i p :=
    Fin.ext (by show i.val * 2048 + p.val = 2048 * i.val + p.val; omega)
  simp only [e1]

theorem heads_at (i : Fin 16) (p : Fin 2048) (j : Fin 1024) : val_main_v19 (F := Ideal) x0 x1 x2 x3 x9 (ix3 i p j)
    = heads (fun e => x0 (ix2 (row i p) e) + x1 (ix2 (row i p) e)) (fun e => x9 (ix1 e)) (fun e => x2 (ix2 (row i p) e))
        (fun e => x3 (ix2 (row i p) e)) j := by
  rw [cat_at]
  unfold heads
  by_cases h : j.val < 512
  · rw [dif_pos h, dif_pos h, norm_at]
    simp only [pair_at]
  · rw [dif_neg h, dif_neg h]

theorem mid_at (i : Fin 16) (p : Fin 2048) (j : Fin 1024) : val_main_v23 (F := Ideal) x0 x1 x2 x3 x4 x5 x9 x10 (ix3 i p j)
    = midRow x0 x1 x2 x3 x4 x5 x9 x10 (row i p) j := by
  have e : val_main_v23 (F := Ideal) x0 x1 x2 x3 x4 x5 x9 x10 (ix3 i p j)
      = mid (fun e => x4 (ix3 i p e)) (fun e => x5 (ix3 i 0 e)) (fun e => val_main_v19 (F := Ideal) x0 x1 x2 x3 x9 (ix3 i p e))
          (fun k e => x10 (ix2 k e)) j := by
    unfold val_main_v23 val_main_v22 val_main_v20
    generalize val_main_v19 (F := Ideal) x0 x1 x2 x3 x9 = v
    pointwise [val_main_v21]
    rfl
  rw [e]
  simp only [heads_at]
  unfold midRow
  rw [smp_row, pos_row]

theorem hn_at (i : Fin 16) (p : Fin 2048) (j : Fin 1024) : val_main_v42 (F := Ideal) x0 x1 x2 x3 x4 x5 x6 x7 x9 x10 x11 (ix3 i p j)
    = normRow x0 x1 x2 x3 x4 x5 x6 x7 x9 x10 x11 (row i p) j := by
  have e : val_main_v42 (F := Ideal) x0 x1 x2 x3 x4 x5 x6 x7 x9 x10 x11 (ix3 i p j)
      = rowH (fun e => val_main_v23 (F := Ideal) x0 x1 x2 x3 x4 x5 x9 x10 (ix3 i p e)) (fun e => x11 (ix1 e))
          (fun e => x7 (ix3 i 0 e)) (fun e => x6 (ix3 i 0 e)) j := by
    unfold val_main_v42 val_main_v40 val_main_v36 val_main_v33 val_main_v32 val_main_v31 val_main_v30 val_main_v28 val_main_v26
      val_main_v25 val_main_v24
    generalize val_main_v23 (F := Ideal) x0 x1 x2 x3 x4 x5 x9 x10 = v
    pointwise [val_main_v41, val_main_v39, val_main_v38, val_main_v37, val_main_cst_5, val_main_v35, val_main_v34,
      val_main_v29, val_main_cst_4, val_main_v27, val_main_cst_3, val_main_cst_2]
    rfl
  rw [e]
  simp only [mid_at]
  unfold normRow
  rw [smp_row]

theorem flat_at (R : Fin 32768) (j : Fin 1024) : val_main_v43 (F := Ideal) x0 x1 x2 x3 x4 x5 x6 x7 x9 x10 x11 (ix2 R j)
    = normRow x0 x1 x2 x3 x4 x5 x6 x7 x9 x10 x11 R j := by
  have e : val_main_v43 (F := Ideal) x0 x1 x2 x3 x4 x5 x6 x7 x9 x10 x11 (ix2 R j)
      = val_main_v42 (F := Ideal) x0 x1 x2 x3 x4 x5 x6 x7 x9 x10 x11 (ix3 (smp R) (pos R) j) := by
    unfold val_main_v43
    generalize val_main_v42 (F := Ideal) x0 x1 x2 x3 x4 x5 x6 x7 x9 x10 x11 = v
    pointwise
  rw [e, hn_at]
  exact congrArg (fun r => normRow x0 x1 x2 x3 x4 x5 x6 x7 x9 x10 x11 r j)
    (Fin.ext (by show 2048 * (R.val / 2048) + R.val % 2048 = R.val; omega))

theorem bf_at (R : Fin 32768) (j : Fin 1024) : val_main_v54 (F := Ideal) x0 x1 x2 x3 x4 x5 x6 x7 x9 x10 x11 (ix2 R j)
    = normRow x0 x1 x2 x3 x4 x5 x6 x7 x9 x10 x11 R j := by
  rw [← flat_at]
  unfold val_main_v54
  generalize val_main_v43 (F := Ideal) x0 x1 x2 x3 x4 x5 x6 x7 x9 x10 x11 = v
  pointwise

theorem shared_at (R : Fin 32768) (j : Fin 1024) :
    val_main_v48 (F := Ideal) x0 x1 x2 x3 x4 x5 x6 x7 x9 x10 x11 x13 x14 x15 (ix2 R j)
    = shared (normRow x0 x1 x2 x3 x4 x5 x6 x7 x9 x10 x11 R) (fun d k => x13 (ix2 d k)) (fun d k => x14 (ix2 d k))
        (fun k e => x15 (ix2 k e)) j := by
  have e : val_main_v48 (F := Ideal) x0 x1 x2 x3 x4 x5 x6 x7 x9 x10 x11 x13 x14 x15 (ix2 R j)
      = shared (fun e => val_main_v43 (F := Ideal) x0 x1 x2 x3 x4 x5 x6 x7 x9 x10 x11 (ix2 R e)) (fun d k => x13 (ix2 d k))
        (fun d k => x14 (ix2 d k)) (fun k e => x15 (ix2 k e)) j := by
    unfold val_main_v48 val_main_v47 val_main_v46 val_main_v45 val_main_call0_v5 val_main_call0_v3 val_main_call0_v1
      val_main_call0_v0 val_main_v44
    generalize val_main_v43 (F := Ideal) x0 x1 x2 x3 x4 x5 x6 x7 x9 x10 x11 = v
    pointwise [val_main_call0_v4, val_main_call0_cst_0, val_main_call0_v2, val_main_call0_cst]
    rfl
  rw [e]
  simp only [flat_at]

theorem base_at (R : Fin 32768) (j : Fin 1024) :
    val_main_v53 (F := Ideal) x0 x1 x2 x3 x4 x5 x6 x7 x8 x9 x10 x11 x13 x14 x15 (ix2 R j)
    = baseRow x0 x1 x2 x3 x4 x5 x6 x7 x8 x9 x10 x11 x13 x14 x15 R j := by
  have er : row (smp R) (pos R) = R := Fin.ext (by show 2048 * (R.val / 2048) + R.val % 2048 = R.val; omega)
  have e : val_main_v53 (F := Ideal) x0 x1 x2 x3 x4 x5 x6 x7 x8 x9 x10 x11 x13 x14 x15 (ix2 R j)
      = val_main_v23 (F := Ideal) x0 x1 x2 x3 x4 x5 x9 x10 (ix3 (smp R) (pos R) j) + x8 (ix3 (smp R) 0 j)
        * val_main_v48 (F := Ideal) x0 x1 x2 x3 x4 x5 x6 x7 x9 x10 x11 x13 x14 x15 (ix2 (row (smp R) (pos R)) j) := by
    unfold val_main_v53 val_main_v52 val_main_v51 val_main_v49
    generalize val_main_v23 (F := Ideal) x0 x1 x2 x3 x4 x5 x9 x10 = v
    generalize val_main_v48 (F := Ideal) x0 x1 x2 x3 x4 x5 x6 x7 x9 x10 x11 x13 x14 x15 = u
    pointwise [val_main_v50]
    rw [er]
  rw [e, mid_at, shared_at, er]
  rfl

end

end Cert.MixRefIdeal.MixValue

end
-- ==== Proof.Mix.Pair.lean ====
module

public import proofs.«01_k».proof.Defs
public import proofs.«01_k».proof.Proof.Mix.Final
public import proofs.«01_k».proof.Proof.Mix.Ref
public import proofs.«01_k».proof.Proof.Gen.On_without_scores
public import proofs.«01_k».proof.Proof.Gen.MixRefIdeal.Run

@[expose] public section

set_option maxRecDepth 16384

noncomputable section

/-! # The output stage: kernel against reference -/

namespace Cert.MixPair

open Idealize.ShloMosaic Idealize.ShloMosaic.TcCoe Idealize.SL.Sem Cert.MixSpec

section

variable (x0 x1 x2 x3 : FVec Ideal MixRefIdeal.S32768x512 .f32) (x4 : FVec Ideal MixRefIdeal.S16x2048x1024 .f32)
  (x5 x6 x7 x8 : FVec Ideal MixRefIdeal.S16x1x1024 .f32) (x9 : FVec Ideal MixRefIdeal.S128 .f32)
  (x10 : FVec Ideal MixRefIdeal.S1024x1024 .f32) (x11 : FVec Ideal MixRefIdeal.S1024 .f32)
  (x13 x14 : FVec Ideal MixRefIdeal.S1024x256 .f32) (x15 : FVec Ideal MixRefIdeal.S256x1024 .f32)

theorem base_eq : MixRefIdeal.Read.val_main_v53 (F := Ideal) x0 x1 x2 x3 x4 x5 x6 x7 x8 x9 x10 x11 x13 x14 x15
    = base x0 x1 x2 x3 x4 x5 x6 x7 x8 x9 x10 x11 x13 x14 x15 := by
  funext z
  idx_vars z
  exact MixRefIdeal.MixValue.base_at x0 x1 x2 x3 x4 x5 x6 x7 x8 x9 x10 x11 x13 x14 x15 z0 z1

theorem normed_eq : MixRefIdeal.Read.val_main_v54 (F := Ideal) x0 x1 x2 x3 x4 x5 x6 x7 x9 x10 x11
    = normed x0 x1 x2 x3 x4 x5 x6 x7 x9 x10 x11 := by
  funext z
  idx_vars z
  exact MixRefIdeal.MixValue.bf_at x0 x1 x2 x3 x4 x5 x6 x7 x9 x10 x11 z0 z1

end

/-- The scores are left out of the claim: their mask is 0 everywhere. -/
theorem no_score {a0 a1 a2 a3 a4 a5 a6 a7 a8 a9 a10 a11 a12 a13 a14 a15} (i : (⟨2, ![64, 32768]⟩ : Shape).Idx)
    (h : (On_without_scores.fn (F := Ideal) a0 a1 a2 a3 a4 a5 a6 a7 a8 a9 a10 a11 a12 a13 a14 a15).2.2 i = 1#1) : False := by
  idx_vars i
  revert h
  pointwise [On_without_scores.fn]
  decide

theorem algebraic : Cert.algebraic_MixIdeal_MixRefIdeal_on_without_scores := by
  intro m g m' g' _ hagree
  refine ⟨fun c => base (m ((c.tc : Thread MixIdeal.nD MixIdeal.τ).loc MixIdeal.main_arg0)) (m ((c.tc : Thread MixIdeal.nD MixIdeal.τ).loc MixIdeal.main_arg1)) (m ((c.tc : Thread MixIdeal.nD MixIdeal.τ).loc MixIdeal.main_arg2)) (m ((c.tc : Thread MixIdeal.nD MixIdeal.τ).loc MixIdeal.main_arg3)) (m ((c.tc : Thread MixIdeal.nD MixIdeal.τ).loc MixIdeal.main_arg4)) (m ((c.tc : Thread MixIdeal.nD MixIdeal.τ).loc MixIdeal.main_arg5)) (m ((c.tc : Thread MixIdeal.nD MixIdeal.τ).loc MixIdeal.main_arg6)) (m ((c.tc : Thread MixIdeal.nD MixIdeal.τ).loc MixIdeal.main_arg7)) (m ((c.tc : Thread MixIdeal.nD MixIdeal.τ).loc MixIdeal.main_arg8)) (m ((c.tc : Thread MixIdeal.nD MixIdeal.τ).loc MixIdeal.main_arg9)) (m ((c.tc : Thread MixIdeal.nD MixIdeal.τ).loc MixIdeal.main_arg10)) (m ((c.tc : Thread MixIdeal.nD MixIdeal.τ).loc MixIdeal.main_arg11)) (m ((c.tc : Thread MixIdeal.nD MixIdeal.τ).loc MixIdeal.main_arg13)) (m ((c.tc : Thread MixIdeal.nD MixIdeal.τ).loc MixIdeal.main_arg14)) (m ((c.tc : Thread MixIdeal.nD MixIdeal.τ).loc MixIdeal.main_arg15)),
    fun c => normed (m ((c.tc : Thread MixIdeal.nD MixIdeal.τ).loc MixIdeal.main_arg0)) (m ((c.tc : Thread MixIdeal.nD MixIdeal.τ).loc MixIdeal.main_arg1)) (m ((c.tc : Thread MixIdeal.nD MixIdeal.τ).loc MixIdeal.main_arg2)) (m ((c.tc : Thread MixIdeal.nD MixIdeal.τ).loc MixIdeal.main_arg3)) (m ((c.tc : Thread MixIdeal.nD MixIdeal.τ).loc MixIdeal.main_arg4)) (m ((c.tc : Thread MixIdeal.nD MixIdeal.τ).loc MixIdeal.main_arg5)) (m ((c.tc : Thread MixIdeal.nD MixIdeal.τ).loc MixIdeal.main_arg6)) (m ((c.tc : Thread MixIdeal.nD MixIdeal.τ).loc MixIdeal.main_arg7)) (m ((c.tc : Thread MixIdeal.nD MixIdeal.τ).loc MixIdeal.main_arg9)) (m ((c.tc : Thread MixIdeal.nD MixIdeal.τ).loc MixIdeal.main_arg10)) (m ((c.tc : Thread MixIdeal.nD MixIdeal.τ).loc MixIdeal.main_arg11)),
    fun c => (MixIdeal.Gen.dats m 0 c).arrAt 17 MixIdeal.cfg0.N, ?_, ?_⟩
  · refine (θ_run _ _ _).mono (fun r h c => ?_) (MixIdeal.Value.run_blocks m g)
    replace h := h c
    refine ⟨?_, ?_, ?_, h.2.2.2⟩
    · intro i _
      exact congrFun (h.1.trans (MixIdeal.MixValue.final15 m c)) i
    · intro i _
      exact congrFun (h.2.1.trans (MixIdeal.MixValue.final16 m c)) i
    · intro i hi
      exact (no_score i hi).elim
  · refine (θ_run _ _ _).mono (fun r h c => ?_) (MixRefIdeal.Value.run m' g')
    replace h := h c
    obtain ⟨a0, a1, a2, a3, a4, a5, a6, a7, a8, a9, a10, a11, a12, a13, a14, a15⟩ := hagree c
    refine ⟨?_, ?_, ?_, h.2.2.2⟩
    · intro i _
      exact congrFun ((h.1.trans (MixRefIdeal.Read.val_main_v53_eq (F := Ideal) m' c)).trans ((base_eq _ _ _ _ _ _ _ _ _ _ _ _ _ _ _).trans (congr (congr (congr (congr (congr (congr (congr (congr (congr (congr (congr (congr (congr (congr (congrArg base a0) a1) a2) a3) a4) a5) a6) a7) a8) a9) a10) a11) a13) a14) a15))) i
    · intro i _
      exact congrFun ((h.2.1.trans (MixRefIdeal.Read.val_main_v54_eq (F := Ideal) m' c)).trans ((normed_eq _ _ _ _ _ _ _ _ _ _ _).trans (congr (congr (congr (congr (congr (congr (congr (congr (congr (congr (congrArg normed a0) a1) a2) a3) a4) a5) a6) a7) a9) a10) a11))) i
    · intro i hi
      exact (no_score i hi).elim

theorem reference_frame : Cert.quiescent_MixRefIdeal := fun m ρ _ =>
  (θ_run MixRefIdeal.defs _ _).mono
    (fun r h => ⟨fun c => (h c).2.2.2, Idealize.ShloMosaic.sem_eq_zero_of_no_sems (by decide) r.2⟩)
    (MixRefIdeal.Value.run (F := Ideal) m ρ)

end Cert.MixPair

end
-- ==== Proof.Mix.Finite.lean ====
module

public import proofs.«01_k».proof.Proof.Mix.Spec

@[expose] public section

noncomputable section

/-! # Rows without infinite values -/

namespace Cert.MixSpec

open Idealize.ShloMosaic

/-- A value that is neither of the two infinities. -/
def IsReal (x : EReal) : Prop := ∃ r : ℝ, x = r

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.one : IsReal 1 := ⟨1, rfl⟩

theorem IsReal.sum {n : ℕ} (u : Fin n → EReal) (h : ∀ i, IsReal (u i)) : IsReal (∑ i, u i) :=
  Finset.sum_induction u IsReal (fun _ _ => IsReal.add) ⟨0, rfl⟩ fun i _ => h i

theorem IsReal.sub_self {x : EReal} : IsReal x → x - x = 0 := by
  rintro ⟨a, rfl⟩
  rw [← EReal.coe_sub, _root_.sub_self, EReal.coe_zero]

theorem IsReal.of_abs_lt {x : EReal} (h : max x (-x) < ⊤) : IsReal x := by
  induction x with
  | bot => simp at h
  | top => simp at h
  | coe r => exact ⟨r, rfl⟩

theorem const_128 : Ideal.ofBits .f32 0x43000000#32 = ((128 : ℝ) : EReal) := by
  simp [Ideal.ofBits, Ideal.ieee, -EReal.coe_mul]; norm_num

theorem const_1024 : Ideal.ofBits .f32 0x44800000#32 = ((1024 : ℝ) : EReal) := by
  simp [Ideal.ofBits, Ideal.ieee, -EReal.coe_mul]; norm_num

theorem const_eps : ∃ e : ℝ, 0 < e ∧ Ideal.ofBits .f32 0x358637BD#32 = (e : EReal) := by
  refine ⟨_, ?_, by simp [Ideal.ofBits, Ideal.ieee, -EReal.coe_mul]; rfl⟩
  norm_num

theorem const_inf : Ideal.ofBits .f32 0x7F800000#32 = ⊤ := by
  simp [Ideal.ofBits, Ideal.ieee]

theorem real_rsqrt {n : ℕ} (u : Fin n → EReal) (h : ∀ i, IsReal (u i)) {k : EReal} {c : ℝ} (hk : k = c) (hc : 0 < c) :
    IsReal (Ideal.rsqrt (Ideal.div (∑ e, u e * u e) k + Ideal.ofBits .f32 0x358637BD#32)) := by
  choose r hr using h
  obtain ⟨eps, heps, he⟩ := const_eps
  have hs : ∑ e, u e * u e = ((∑ e, r e * r e : ℝ) : EReal) := by
    simp only [hr, ← EReal.coe_mul]
    exact (map_sum (⟨⟨Real.toEReal, EReal.coe_zero⟩, EReal.coe_add⟩ : ℝ →+ EReal) _ _).symm
  have hn : 0 ≤ ∑ e, r e * r e := Finset.sum_nonneg fun e _ => mul_self_nonneg (r e)
  have hd : Ideal.div (((∑ e, r e * r e : ℝ) : EReal)) k = (((∑ e, r e * r e) * c⁻¹ : ℝ) : EReal) := by
    subst hk
    unfold Ideal.div
    rw [if_neg (by exact_mod_cast hc.ne'), ← EReal.coe_inv, ← EReal.coe_mul]
  rw [hs, hd, he, ← EReal.coe_add]
  have hp : 0 < (∑ e, r e * r e) * c⁻¹ + eps := add_pos_of_nonneg_of_pos (mul_nonneg hn (inv_nonneg.2 hc.le)) heps
  generalize (∑ e, r e * r e) * c⁻¹ + eps = v at hp
  refine ⟨(Real.sqrt v)⁻¹, ?_⟩
  show (if v < 0 then (⊥ : EReal) else if v = 0 then ⊤ else _) = _
  rw [if_neg (not_lt.2 hp.le), if_neg hp.ne']

theorem real_headNorm (u g : Fin 128 → EReal) (hu : ∀ e, IsReal (u e)) (hg : ∀ e, IsReal (g e)) (l : Fin 128) :
    IsReal (headNorm u g l) :=
  ((hu l).mul (real_rsqrt u hu const_128 (by norm_num))).mul (hg l)

theorem real_dot {n : ℕ} (h w : Fin n → EReal) (hh : ∀ d, IsReal (h d)) (hw : ∀ d, IsReal (w d)) : IsReal (dot h w) :=
  IsReal.sum _ fun d => (hh d).mul (hw d)

theorem real_rowH (x g sc sh : Fin 1024 → EReal) (hx : ∀ e, IsReal (x e)) (hg : ∀ e, IsReal (g e)) (hsc : ∀ e, IsReal (sc e))
    (hsh : ∀ e, IsReal (sh e)) (d : Fin 1024) : IsReal (rowH x g sc sh d) :=
  ((((hx d).mul (real_rsqrt x hx const_1024 (by norm_num))).mul (hg d)).mul (IsReal.one.add (hsc d))).add (hsh d)

theorem real_heads (o : Fin 512 → EReal) (g : Fin 128 → EReal) (z c : Fin 512 → EReal) (ho : ∀ e, IsReal (o e))
    (hg : ∀ e, IsReal (g e)) (hz : ∀ e, IsReal (z e)) (hc : ∀ e, IsReal (c e)) (j : Fin 1024) : IsReal (heads o g z c j) := by
  unfold heads
  by_cases h : j.val < 512
  · rw [dif_pos h]
    exact (real_headNorm _ _ (fun e => ho _) hg _).mul (hz _)
  · rw [dif_neg h]
    exact hc _

section

variable (a0 a1 a2 a3 : (⟨2, ![32768, 512]⟩ : Shape).Idx → EReal) (x : (⟨3, ![16, 2048, 1024]⟩ : Shape).Idx → EReal)
  (gt1 sh sc : (⟨3, ![16, 1, 1024]⟩ : Shape).Idx → EReal) (ng : (⟨1, ![128]⟩ : Shape).Idx → EReal)
  (wo : (⟨2, ![1024, 1024]⟩ : Shape).Idx → EReal) (g : (⟨1, ![1024]⟩ : Shape).Idx → EReal)
  (rw' : (⟨2, ![1024, 64]⟩ : Shape).Idx → EReal)

/-- No infinite value in what the scores are computed from. -/
structure AllReal : Prop where
  fwd : ∀ i, IsReal (a0 i)
  bwd : ∀ i, IsReal (a1 i)
  z : ∀ i, IsReal (a2 i)
  conv : ∀ i, IsReal (a3 i)
  row : ∀ i, IsReal (x i)
  gate : ∀ i, IsReal (gt1 i)
  shift : ∀ i, IsReal (sh i)
  scale : ∀ i, IsReal (sc i)
  headGain : ∀ i, IsReal (ng i)
  out : ∀ i, IsReal (wo i)
  gain : ∀ i, IsReal (g i)
  router : ∀ i, IsReal (rw' i)

theorem real_normRow (h : AllReal a0 a1 a2 a3 x gt1 sh sc ng wo g rw') (R : Fin 32768) (j : Fin 1024) :
    IsReal (normRow a0 a1 a2 a3 x gt1 sh sc ng wo g R j) := by
  refine real_rowH _ _ _ _ (fun e => ?_) (fun e => h.gain _) (fun e => h.scale _) (fun e => h.shift _) j
  refine (h.row _).add ((h.gate _).mul (real_dot _ _ (fun d => ?_) fun d => h.out _))
  exact real_heads _ _ _ _ (fun e => (h.fwd _).add (h.bwd _)) (fun e => h.headGain _) (fun e => h.z _) (fun e => h.conv _) d

/-- Row `R`'s score of expert `e`. -/
def scoreRow (R : Fin 32768) (e : Fin 64) : EReal :=
  dot (normRow a0 a1 a2 a3 x gt1 sh sc ng wo g R) (fun d => rw' (ix2 d e))

/-- The third result, from the arguments. -/
def scores (z : (⟨2, ![64, 32768]⟩ : Shape).Idx) : EReal := scoreRow a0 a1 a2 a3 x gt1 sh sc ng wo g rw' (z 1) (z 0)

end

/-- Three products of high and low parts are one product where the low parts are zero. -/
theorem split_dot {n : ℕ} (w h : Fin n → EReal) (hw : ∀ d, IsReal (w d)) (hh : ∀ d, IsReal (h d)) :
    (∑ d, w d * h d + ∑ d, (w d - w d) * h d) + ∑ d, w d * (h d - h d) = dot h w := by
  have e1 : ∑ d, (w d - w d) * h d = 0 := Finset.sum_eq_zero fun d _ => by rw [(hw d).sub_self, zero_mul]
  have e2 : ∑ d, w d * (h d - h d) = 0 := Finset.sum_eq_zero fun d _ => by rw [(hh d).sub_self, mul_zero]
  rw [e1, e2, add_zero, add_zero]
  exact Finset.sum_congr rfl fun d _ => mul_comm _ _

end Cert.MixSpec

end
-- ==== Proof.Mix.Scores.lean ====
module

public import proofs.«01_k».proof.Proof.Mix.Tile
public import proofs.«01_k».proof.Proof.Mix.Final
public import proofs.«01_k».proof.Proof.Mix.Finite

@[expose] public section

set_option maxRecDepth 16384

noncomputable section

/-! # The scores the output stage leaves -/

namespace Cert.MixIdeal.MixValue

open Cert.MixIdeal Cert.MixIdeal.Gen Idealize.ShloMosaic Idealize.ShloMosaic.TcCoe Idealize.SL.Sem Cert.MixSpec

/-- The rows of the split weights: high parts, then low parts. -/
abbrev up (e : Fin 64) : Fin 128 := ⟨e.val, by omega⟩
abbrev dn (e : Fin 64) : Fin 128 := ⟨64 + e.val, by omega⟩

theorem split_up (V : Vec Ideal S64x1024 .f32) (e : Fin 64) (d : Fin 1024) : k0_pay3 (F := Ideal) V (ix2 (up e) d) = V (ix2 e d) := by
  pointwise [k0_pay3, k0_pay2, k0_pay1]

theorem split_dn (V : Vec Ideal S64x1024 .f32) (e : Fin 64) (d : Fin 1024) :
    k0_pay3 (F := Ideal) V (ix2 (dn e) d) = V (ix2 e d) - V (ix2 e d) := by
  pointwise [k0_pay3, k0_pay2, k0_pay1]

theorem high_part (V : Vec Ideal S64x1024 .f32) (e : Fin 64) (d : Fin 1024) : k0_pay2 (F := Ideal) V (ix2 e d) = V (ix2 e d) := by
  pointwise [k0_pay2, k0_pay1]

theorem score_at (A : FVec Ideal S64x1024 .bf16) (B : FVec Ideal S128x1024 .bf16) (h : FVec Ideal S256x1024 .bf16) (x : FVec Ideal S256x1024 .f32) (gt : FVec Ideal S1x1024 .f32)
    (w : FVec Ideal S1024x1024 .bf16) (g : FVec Ideal S1x1024 .f32) (sc sh : FVec Ideal S1x1x1024 .f32) (e : Fin 64) (r : Fin 256) :
    k0_pay17 (F := Ideal) A B h x gt w g sc sh (ix2 e r)
    = (∑ d, B (ix2 (up e) d) * k0_pay14 (F := Ideal) h x gt w g sc sh (ix2 r d) + ∑ d, B (ix2 (dn e) d) * k0_pay14 (F := Ideal) h x gt w g sc sh (ix2 r d))
      + ∑ d, A (ix2 e d) * (k0_pay14 (F := Ideal) h x gt w g sc sh (ix2 r d) - k0_pay14 (F := Ideal) h x gt w g sc sh (ix2 r d)) := by
  unfold k0_pay17 k0_pay16
  generalize k0_pay14 (F := Ideal) h x gt w g sc sh = y
  pointwise

theorem score'_at (A : FVec Ideal S64x1024 .bf16) (B : FVec Ideal S128x1024 .bf16) (v : FVec Ideal S256x1024 .f32) (sh : FVec Ideal S1x1x1024 .f32) (e : Fin 64) (r : Fin 256) :
    k0_pay28 (F := Ideal) A B v sh (ix2 e r)
    = (∑ d, B (ix2 (up e) d) * k0_pay25 (F := Ideal) v sh (ix2 r d) + ∑ d, B (ix2 (dn e) d) * k0_pay25 (F := Ideal) v sh (ix2 r d))
      + ∑ d, A (ix2 e d) * (k0_pay25 (F := Ideal) v sh (ix2 r d) - k0_pay25 (F := Ideal) v sh (ix2 r d)) := by
  unfold k0_pay28 k0_pay27
  generalize k0_pay25 (F := Ideal) v sh = y
  pointwise

section

variable (a0 a1 a2 a3 : S32768x512.Idx → EReal) (x : S16x2048x1024.Idx → EReal) (gt1 sh sc : S16x1x1024.Idx → EReal)
  (ng : S128.Idx → EReal) (wo : S1024x1024.Idx → EReal) (g : S1024.Idx → EReal) (rt : S1024x64.Idx → EReal)
variable (A B S C : FVec Ideal S256x512 .f32) (X : FVec Ideal S256x1024 .f32) (G1 SH SC : FVec Ideal S1x1x1024 .f32)
  (N : FVec Ideal S1x128 .f32) (WO : FVec Ideal S1024x1024 .bf16) (GF : FVec Ideal S1x1024 .f32) (RT : FVec Ideal S64x1024 .f32)
variable (r : Fin 256) (R : Fin 32768)
variable (h : Reads a0 a1 a2 a3 x gt1 sh sc ng wo g A B S C X G1 SH SC N WO GF r R)
  (hr : ∀ e d, RT (ix2 e d) = rt (ix2 d e)) (hf : AllReal a0 a1 a2 a3 x gt1 sh sc ng wo g rt)

include h hr hf

theorem score_row (e : Fin 64) :
    k0_pay17 (F := Ideal) (k0_pay2 (F := Ideal) RT) (k0_pay3 (F := Ideal) RT)
      (k0_pay9 (F := Ideal) (k0_pay4 (F := Ideal) A B) (k0_pay5 (F := Ideal) A B N) (k0_pay6 (F := Ideal) A B N)
        (k0_pay7 (F := Ideal) A B) (k0_pay8 (F := Ideal) A B) N N S C) (k0_pay10 (F := Ideal) X) (k0_pay11 (F := Ideal) G1)
      (k0_pay12 (F := Ideal) WO) GF SC SH (ix2 e r) = scoreRow a0 a1 a2 a3 x gt1 sh sc ng wo g rt R e := by
  rw [score_at]
  simp only [split_up, split_dn, high_part, norm_row a0 a1 a2 a3 x gt1 sh sc ng wo g A B S C X G1 SH SC N WO GF r R h, hr]
  exact split_dot (fun d => rt (ix2 d e)) (normRow a0 a1 a2 a3 x gt1 sh sc ng wo g R) (fun d => hf.router _)
    (real_normRow a0 a1 a2 a3 x gt1 sh sc ng wo g rt hf R)

theorem score'_row (e : Fin 64) :
    k0_pay28 (F := Ideal) (k0_pay2 (F := Ideal) RT) (k0_pay3 (F := Ideal) RT)
      (k0_pay24 (F := Ideal) (k0_pay22 (F := Ideal) (k0_pay19 (F := Ideal) A B) (k0_pay20 (F := Ideal) A B N)
        (k0_pay21 (F := Ideal) A B) N N N) S C X G1 WO GF SC) SH (ix2 e r) = scoreRow a0 a1 a2 a3 x gt1 sh sc ng wo g rt R e := by
  rw [score'_at]
  simp only [split_up, split_dn, high_part, norm'_row a0 a1 a2 a3 x gt1 sh sc ng wo g A B S C X G1 SH SC N WO GF r R h, hr]
  exact split_dot (fun d => rt (ix2 d e)) (normRow a0 a1 a2 a3 x gt1 sh sc ng wo g R) (fun d => hf.router _)
    (real_normRow a0 a1 a2 a3 x gt1 sh sc ng wo g rt hf R)

end

variable (m : (ℓ : Loc nD τ sig) → Buf (Elt Ideal) ℓ)

theorem idx17 : ∀ t : Fin cfg0.N, win0_17.index t = ![0, t.val] :=
  (by decide +kernel : ∀ t : Fin grid0.N, _)

theorem router_entry (c : Dev nD) (e : Fin 64) (d : Fin 1024) :
    (V m c main_v6 : S64x1024.Idx → EReal) (ix2 e d) = (m ((c : Thread nD τ).loc main_arg12) : S1024x64.Idx → EReal) (ix2 d e) := by
  unfold V
  after_reads_at

theorem router_block (c : Dev nD) (t : Fin cfg0.N) (e : Fin 64) (d : Fin 1024) :
    (show FVec Ideal S64x1024 .f32 from iblk m c 12 t) (ix2 e d)
      = (m ((c : Thread nD τ).loc main_arg12) : S1024x64.Idx → EReal) (ix2 d e) := by
  have e1 : (show FVec Ideal S64x1024 .f32 from iblk m c 12 t) (ix2 e d) = (V m c main_v6 : S64x1024.Idx → EReal) (ix2 e d) := by
    blk_point [iblk, idx t]
  exact e1.trans (router_entry m c e d)

theorem final17 (c : Dev nD) (hf : AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12))) :
    (dats m 0 c).arrAt 17 cfg0.N
    = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) := by
  refine (dats m 0 c).arrAt_eq_of_covers 17 _ (by decide +kernel) fun t _ y => ?_
  generalize hG : scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) = G
  blk_simp
  rw [after0_17]
  unfold_out out0_17
  frame_out
  have he : (((View.whole main_v8_2).slice (win0_17.rect t)).emb y : S64x32768.Idx) = ix2 (y 0) (place t (y 1)) := by
    idx_vars y
    blk_ext [idx17 t]
  rw [he]
  clear he
  canon_tiles x h
  · obtain ⟨p, q, hx⟩ : ∃ (p : Fin 64) (q : Fin 256), x = ix2 p q := ⟨x 0, x 1, eq_ix2 x⟩
    subst hx
    have hy : (ix2 (y 0) (place t (y 1)) : S64x32768.Idx) = ix2 p (place t ⟨256 + q.val, by omega⟩) :=
      congrArg₂ (fun a b => (ix2 a (place t b) : S64x32768.Idx)) (Fin.ext (show (y 0).val = p.val from h0)) (Fin.ext (show (y 1).val = 256 + q.val from h1))
    refine Eq.trans ?_ (congrArg G hy.symm)
    subst hG
    exact score'_row _ _ _ _ _ _ _ _ _ _ _ _ _ _ _ _ _ _ _ _ _ _ _ _ _ _ (reads_high m c t q) (router_block m c t) hf p
  · obtain ⟨p, q, hx⟩ : ∃ (p : Fin 64) (q : Fin 256), x = ix2 p q := ⟨x 0, x 1, eq_ix2 x⟩
    subst hx
    have hy : (ix2 (y 0) (place t (y 1)) : S64x32768.Idx) = ix2 p (place t ⟨q.val, by omega⟩) :=
      congrArg₂ (fun a b => (ix2 a (place t b) : S64x32768.Idx)) (Fin.ext (show (y 0).val = p.val from h0)) (Fin.ext (show (y 1).val = q.val from h1))
    refine Eq.trans ?_ (congrArg G hy.symm)
    subst hG
    exact score_row _ _ _ _ _ _ _ _ _ _ _ _ _ _ _ _ _ _ _ _ _ _ _ _ _ _ (reads_low m c t q) (router_block m c t) hf p

end Cert.MixIdeal.MixValue

end
-- ==== Proof.Mix.PairFinite.lean ====
module

public import proofs.«01_k».proof.Proof.Mix.Pair
public import proofs.«01_k».proof.Proof.Mix.Scores
public import proofs.«01_k».proof.Proof.Gen.Pre_finite

@[expose] public section

set_option maxRecDepth 16384

noncomputable section

/-! # The output stage: kernel against reference, the scores included -/

namespace Cert.MixPair

open Idealize.ShloMosaic Idealize.ShloMosaic.TcCoe Idealize.SL.Sem Cert.MixSpec

/-- An element whose absolute value compares below infinity is real. -/
theorem real_of_cmp {S : Shape} (a : FVec Ideal S .f32) (hb : Pre_finite.S_.BroadcastsInDim S (![] : Fin 0 → Fin S.rank)) (i : S.Idx)
    (h : cmpf .olt (Host.absf a) (broadcastInDim S ![] hb (constant (F := Ideal) Pre_finite.S_ .f32 0x7F800000#32)) i = 1#1) : IsReal (a i) := by
  apply IsReal.of_abs_lt
  rw [← const_inf]
  by_contra hn
  have e : cmpf .olt (Host.absf a) (broadcastInDim S ![] hb (constant (F := Ideal) Pre_finite.S_ .f32 0x7F800000#32)) i = 0#1 := by
    show BitVec.ofBool (decide (max (a i) (-a i) < Ideal.ofBits .f32 0x7F800000#32)) = 0#1
    rw [decide_eq_false hn]
    rfl
  rw [e] at h
  exact absurd h (by decide)

section

variable (x0 x1 x2 x3 : FVec Ideal MixRefIdeal.S32768x512 .f32) (x4 : FVec Ideal MixRefIdeal.S16x2048x1024 .f32)
  (x5 x6 x7 : FVec Ideal MixRefIdeal.S16x1x1024 .f32) (x9 : FVec Ideal MixRefIdeal.S128 .f32)
  (x10 : FVec Ideal MixRefIdeal.S1024x1024 .f32) (x11 : FVec Ideal MixRefIdeal.S1024 .f32) (x12 : FVec Ideal MixRefIdeal.S1024x64 .f32)

theorem scores_eq : MixRefIdeal.Read.val_main_v56 (F := Ideal) x0 x1 x2 x3 x4 x5 x6 x7 x9 x10 x11 x12
    = scores x0 x1 x2 x3 x4 x5 x6 x7 x9 x10 x11 x12 := by
  funext z
  idx_vars z
  show _ = dot (normRow x0 x1 x2 x3 x4 x5 x6 x7 x9 x10 x11 z1) (fun d => x12 (ix2 d z0))
  have e : MixRefIdeal.Read.val_main_v56 (F := Ideal) x0 x1 x2 x3 x4 x5 x6 x7 x9 x10 x11 x12 (ix2 z0 z1)
      = dot (fun d => MixRefIdeal.Read.val_main_v43 (F := Ideal) x0 x1 x2 x3 x4 x5 x6 x7 x9 x10 x11 (ix2 z1 d)) (fun d => x12 (ix2 d z0)) := by
    unfold MixRefIdeal.Read.val_main_v56 MixRefIdeal.Read.val_main_v55
    generalize MixRefIdeal.Read.val_main_v43 (F := Ideal) x0 x1 x2 x3 x4 x5 x6 x7 x9 x10 x11 = v
    pointwise
    rfl
  rw [e]
  simp only [MixRefIdeal.MixValue.flat_at]

end

theorem scores_congr {y0 : FVec Ideal MixRefIdeal.S32768x512 .f32} {y1 : FVec Ideal MixRefIdeal.S32768x512 .f32} {y2 : FVec Ideal MixRefIdeal.S32768x512 .f32} {y3 : FVec Ideal MixRefIdeal.S32768x512 .f32} {y4 : FVec Ideal MixRefIdeal.S16x2048x1024 .f32} {y5 : FVec Ideal MixRefIdeal.S16x1x1024 .f32} {y6 : FVec Ideal MixRefIdeal.S16x1x1024 .f32} {y7 : FVec Ideal MixRefIdeal.S16x1x1024 .f32} {y9 : FVec Ideal MixRefIdeal.S128 .f32} {y10 : FVec Ideal MixRefIdeal.S1024x1024 .f32} {y11 : FVec Ideal MixRefIdeal.S1024 .f32} {y12 : FVec Ideal MixRefIdeal.S1024x64 .f32}
    {x0 : FVec Ideal MixRefIdeal.S32768x512 .f32} {x1 : FVec Ideal MixRefIdeal.S32768x512 .f32} {x2 : FVec Ideal MixRefIdeal.S32768x512 .f32} {x3 : FVec Ideal MixRefIdeal.S32768x512 .f32} {x4 : FVec Ideal MixRefIdeal.S16x2048x1024 .f32} {x5 : FVec Ideal MixRefIdeal.S16x1x1024 .f32} {x6 : FVec Ideal MixRefIdeal.S16x1x1024 .f32} {x7 : FVec Ideal MixRefIdeal.S16x1x1024 .f32} {x9 : FVec Ideal MixRefIdeal.S128 .f32} {x10 : FVec Ideal MixRefIdeal.S1024x1024 .f32} {x11 : FVec Ideal MixRefIdeal.S1024 .f32} {x12 : FVec Ideal MixRefIdeal.S1024x64 .f32}
    (h0 : y0 = x0) (h1 : y1 = x1) (h2 : y2 = x2) (h3 : y3 = x3) (h4 : y4 = x4) (h5 : y5 = x5) (h6 : y6 = x6) (h7 : y7 = x7) (h9 : y9 = x9) (h10 : y10 = x10) (h11 : y11 = x11) (h12 : y12 = x12) :
    scores y0 y1 y2 y3 y4 y5 y6 y7 y9 y10 y11 y12 = scores x0 x1 x2 x3 x4 x5 x6 x7 x9 x10 x11 x12 := by
  subst h0
  subst h1
  subst h2
  subst h3
  subst h4
  subst h5
  subst h6
  subst h7
  subst h9
  subst h10
  subst h11
  subst h12
  rfl

theorem all_real (m : (ℓ : Loc MixIdeal.nD MixIdeal.τ MixIdeal.sig) → Buf (Elt Ideal) ℓ) (h : Cert.Pre_MixIdeal_finite m) (c : Dev MixIdeal.nD) :
    AllReal (m ((c.tc : Thread MixIdeal.nD MixIdeal.τ).loc MixIdeal.main_arg0)) (m ((c.tc : Thread MixIdeal.nD MixIdeal.τ).loc MixIdeal.main_arg1)) (m ((c.tc : Thread MixIdeal.nD MixIdeal.τ).loc MixIdeal.main_arg2)) (m ((c.tc : Thread MixIdeal.nD MixIdeal.τ).loc MixIdeal.main_arg3)) (m ((c.tc : Thread MixIdeal.nD MixIdeal.τ).loc MixIdeal.main_arg4)) (m ((c.tc : Thread MixIdeal.nD MixIdeal.τ).loc MixIdeal.main_arg5)) (m ((c.tc : Thread MixIdeal.nD MixIdeal.τ).loc MixIdeal.main_arg6)) (m ((c.tc : Thread MixIdeal.nD MixIdeal.τ).loc MixIdeal.main_arg7)) (m ((c.tc : Thread MixIdeal.nD MixIdeal.τ).loc MixIdeal.main_arg9)) (m ((c.tc : Thread MixIdeal.nD MixIdeal.τ).loc MixIdeal.main_arg10)) (m ((c.tc : Thread MixIdeal.nD MixIdeal.τ).loc MixIdeal.main_arg11)) (m ((c.tc : Thread MixIdeal.nD MixIdeal.τ).loc MixIdeal.main_arg12)) := by
  obtain ⟨h0, h1, h2, h3, h4, h5, h6, h7, h9, h10, h11, h12⟩ := h c
  exact ⟨fun i => real_of_cmp _ _ i (congrFun h0 i), fun i => real_of_cmp _ _ i (congrFun h1 i), fun i => real_of_cmp _ _ i (congrFun h2 i),
    fun i => real_of_cmp _ _ i (congrFun h3 i), fun i => real_of_cmp _ _ i (congrFun h4 i), fun i => real_of_cmp _ _ i (congrFun h5 i),
    fun i => real_of_cmp _ _ i (congrFun h6 i), fun i => real_of_cmp _ _ i (congrFun h7 i), fun i => real_of_cmp _ _ i (congrFun h9 i),
    fun i => real_of_cmp _ _ i (congrFun h10 i), fun i => real_of_cmp _ _ i (congrFun h11 i), fun i => real_of_cmp _ _ i (congrFun h12 i)⟩

theorem algebraic_finite : Cert.algebraic_MixIdeal_MixRefIdeal_pre_finite := by
  intro m g m' g' hpre hagree
  refine ⟨fun c => base (m ((c.tc : Thread MixIdeal.nD MixIdeal.τ).loc MixIdeal.main_arg0)) (m ((c.tc : Thread MixIdeal.nD MixIdeal.τ).loc MixIdeal.main_arg1)) (m ((c.tc : Thread MixIdeal.nD MixIdeal.τ).loc MixIdeal.main_arg2)) (m ((c.tc : Thread MixIdeal.nD MixIdeal.τ).loc MixIdeal.main_arg3)) (m ((c.tc : Thread MixIdeal.nD MixIdeal.τ).loc MixIdeal.main_arg4)) (m ((c.tc : Thread MixIdeal.nD MixIdeal.τ).loc MixIdeal.main_arg5)) (m ((c.tc : Thread MixIdeal.nD MixIdeal.τ).loc MixIdeal.main_arg6)) (m ((c.tc : Thread MixIdeal.nD MixIdeal.τ).loc MixIdeal.main_arg7)) (m ((c.tc : Thread MixIdeal.nD MixIdeal.τ).loc MixIdeal.main_arg8)) (m ((c.tc : Thread MixIdeal.nD MixIdeal.τ).loc MixIdeal.main_arg9)) (m ((c.tc : Thread MixIdeal.nD MixIdeal.τ).loc MixIdeal.main_arg10)) (m ((c.tc : Thread MixIdeal.nD MixIdeal.τ).loc MixIdeal.main_arg11)) (m ((c.tc : Thread MixIdeal.nD MixIdeal.τ).loc MixIdeal.main_arg13)) (m ((c.tc : Thread MixIdeal.nD MixIdeal.τ).loc MixIdeal.main_arg14)) (m ((c.tc : Thread MixIdeal.nD MixIdeal.τ).loc MixIdeal.main_arg15)),
    fun c => normed (m ((c.tc : Thread MixIdeal.nD MixIdeal.τ).loc MixIdeal.main_arg0)) (m ((c.tc : Thread MixIdeal.nD MixIdeal.τ).loc MixIdeal.main_arg1)) (m ((c.tc : Thread MixIdeal.nD MixIdeal.τ).loc MixIdeal.main_arg2)) (m ((c.tc : Thread MixIdeal.nD MixIdeal.τ).loc MixIdeal.main_arg3)) (m ((c.tc : Thread MixIdeal.nD MixIdeal.τ).loc MixIdeal.main_arg4)) (m ((c.tc : Thread MixIdeal.nD MixIdeal.τ).loc MixIdeal.main_arg5)) (m ((c.tc : Thread MixIdeal.nD MixIdeal.τ).loc MixIdeal.main_arg6)) (m ((c.tc : Thread MixIdeal.nD MixIdeal.τ).loc MixIdeal.main_arg7)) (m ((c.tc : Thread MixIdeal.nD MixIdeal.τ).loc MixIdeal.main_arg9)) (m ((c.tc : Thread MixIdeal.nD MixIdeal.τ).loc MixIdeal.main_arg10)) (m ((c.tc : Thread MixIdeal.nD MixIdeal.τ).loc MixIdeal.main_arg11)),
    fun c => scores (m ((c.tc : Thread MixIdeal.nD MixIdeal.τ).loc MixIdeal.main_arg0)) (m ((c.tc : Thread MixIdeal.nD MixIdeal.τ).loc MixIdeal.main_arg1)) (m ((c.tc : Thread MixIdeal.nD MixIdeal.τ).loc MixIdeal.main_arg2)) (m ((c.tc : Thread MixIdeal.nD MixIdeal.τ).loc MixIdeal.main_arg3)) (m ((c.tc : Thread MixIdeal.nD MixIdeal.τ).loc MixIdeal.main_arg4)) (m ((c.tc : Thread MixIdeal.nD MixIdeal.τ).loc MixIdeal.main_arg5)) (m ((c.tc : Thread MixIdeal.nD MixIdeal.τ).loc MixIdeal.main_arg6)) (m ((c.tc : Thread MixIdeal.nD MixIdeal.τ).loc MixIdeal.main_arg7)) (m ((c.tc : Thread MixIdeal.nD MixIdeal.τ).loc MixIdeal.main_arg9)) (m ((c.tc : Thread MixIdeal.nD MixIdeal.τ).loc MixIdeal.main_arg10)) (m ((c.tc : Thread MixIdeal.nD MixIdeal.τ).loc MixIdeal.main_arg11)) (m ((c.tc : Thread MixIdeal.nD MixIdeal.τ).loc MixIdeal.main_arg12)),
    ?_, ?_⟩
  · refine (θ_run _ _ _).mono (fun r h c => ?_) (MixIdeal.Value.run_blocks m g)
    replace h := h c
    exact ⟨h.1.trans (MixIdeal.MixValue.final15 m c), h.2.1.trans (MixIdeal.MixValue.final16 m c),
      h.2.2.1.trans (MixIdeal.MixValue.final17 m c (all_real m hpre c)), h.2.2.2⟩
  · refine (θ_run _ _ _).mono (fun r h c => ?_) (MixRefIdeal.Value.run m' g')
    replace h := h c
    obtain ⟨a0, a1, a2, a3, a4, a5, a6, a7, a8, a9, a10, a11, a12, a13, a14, a15⟩ := hagree c
    refine ⟨?_, ?_, ?_, h.2.2.2⟩
    · exact (h.1.trans (MixRefIdeal.Read.val_main_v53_eq (F := Ideal) m' c)).trans ((base_eq _ _ _ _ _ _ _ _ _ _ _ _ _ _ _).trans (congr (congr (congr (congr (congr (congr (congr (congr (congr (congr (congr (congr (congr (congr (congrArg base a0) a1) a2) a3) a4) a5) a6) a7) a8) a9) a10) a11) a13) a14) a15))
    · exact (h.2.1.trans (MixRefIdeal.Read.val_main_v54_eq (F := Ideal) m' c)).trans ((normed_eq _ _ _ _ _ _ _ _ _ _ _).trans (congr (congr (congr (congr (congr (congr (congr (congr (congr (congr (congrArg normed a0) a1) a2) a3) a4) a5) a6) a7) a9) a10) a11))
    · refine (h.2.2.1.trans (MixRefIdeal.Read.val_main_v56_eq (F := Ideal) m' c)).trans ((scores_eq _ _ _ _ _ _ _ _ _ _ _ _).trans ?_)
      exact scores_congr a0 a1 a2 a3 a4 a5 a6 a7 a9 a10 a11 a12

theorem ideal_frame_finite : Cert.quiescent_MixIdeal_pre_finite := fun m ρ _ => MixIdeal.Gen.frame m ρ

theorem reference_frame_finite : Cert.quiescent_MixRefIdeal_pre_finite := fun m ρ _ =>
  (θ_run MixRefIdeal.defs _ _).mono
    (fun r h => ⟨fun c => (h c).2.2.2, Idealize.ShloMosaic.sem_eq_zero_of_no_sems (by decide) r.2⟩)
    (MixRefIdeal.Value.run (F := Ideal) m ρ)

end Cert.MixPair

end
-- ==== Proof.Ctx.Spec.lean ====
module

public import proofs.«01_k».proof.Proof.Proj.Spec

@[expose] public section

noncomputable section

/-! # The input projection of the context's rows -/

namespace Cert.CtxSpec

open Idealize.ShloMosaic
open Cert.ProjSpec hiding entry addend gate

/-- Column `j` of the projection of row `p` of sample `i`. -/
def entry (x : (⟨3, ![16, 256, 1024]⟩ : Shape).Idx → EReal) (sh sc : (⟨3, ![1, 1, 1024]⟩ : Shape).Idx → EReal)
    (g : (⟨1, ![1024]⟩ : Shape).Idx → EReal) (w : (⟨2, ![1024, 3088]⟩ : Shape).Idx → EReal)
    (i : Fin 16) (p : Fin 256) (j : Fin 3088) : EReal :=
  proj (rowH (fun e => x (ix3 i p e)) (fun e => g (ix1 e)) (fun e => sc (ix3 0 0 e)) (fun e => sh (ix3 0 0 e)))
    (fun d => w (ix2 d j))

/-- The addends of lane `c` of the gates, down the rows of a sample. -/
def addend (u : Fin 256 → Fin 3088 → EReal) (al dt : (⟨2, ![2, 4]⟩ : Shape).Idx → EReal) (c : Fin 16) (n : ℕ) : EReal :=
  if h : n < 256 then
    decay (al (ix2 ⟨c.val / 8, by omega⟩ ⟨c.val % 4, Nat.mod_lt _ (by decide)⟩))
      (dt (ix2 ⟨c.val / 8, by omega⟩ ⟨c.val % 4, Nat.mod_lt _ (by decide)⟩)) (u ⟨n, h⟩ ⟨2048 + c.val, by omega⟩)
  else 0

/-- Lane `c` of the gates of row `p`: a rate, or the running sum in its chunk, forward in the first eight lanes and
    backward in the last eight. -/
def gate (u : Fin 256 → Fin 3088 → EReal) (al dt : (⟨2, ![2, 4]⟩ : Shape).Idx → EReal) (p : Fin 256) (c : Fin 16) : EReal :=
  if c.val % 8 < 4 then Ideal.logistic (u p ⟨2048 + c.val, by omega⟩)
  else if c.val < 8 then back (addend u al dt c) 64 p.val else ahead (addend u al dt c) 64 p.val

end Cert.CtxSpec

end
-- ==== Proof.Ctx.Rows.lean ====
module

public import proofs.«01_k».proof.Proof.Gen.CtxIdeal.Value
public import proofs.«01_k».proof.Proof.Ctx.Spec
public import Idealize.ShloMosaic.Lib.Pipeline.ValueKit
public import Idealize.ShloMosaic.Lib.KernelVsHost
public import Idealize.ShloMosaic.Lib.Pointwise

@[expose] public section

set_option maxRecDepth 16384

noncomputable section

/-! # The kernel of the context's input projection, read at an index -/

namespace Cert.CtxIdeal.CtxValue

open Cert.CtxIdeal Cert.CtxIdeal.Gen Idealize.ShloMosaic Idealize.ShloMosaic.TcCoe Idealize.SL.Sem
open Cert.ProjSpec hiding entry addend gate
open Cert.CtxSpec

section

variable (X : FVec Ideal S256x1024 .f32) (G : FVec Ideal S1x1024 .f32) (C H : FVec Ideal S1x1x1024 .f32)

theorem row_at (r : Fin 256) (d : Fin 1024) : k0_pay4 (F := Ideal) X G C H (ix2 r d)
    = rowH (fun e => X (ix2 r e)) (fun e => G (ix2 0 e)) (fun e => C (ix3 0 0 e)) (fun e => H (ix3 0 0 e)) d := by
  pointwise [k0_pay4]
  rfl

theorem qkv_at (W : FVec Ideal S1024x1536 .bf16) (r : Fin 256) (j : Fin 1536) :
    k0_pay5 (F := Ideal) X G C H W (ix2 r j)
      = proj (fun d => k0_pay4 (F := Ideal) X G C H (ix2 r d)) (fun d => W (ix2 d j)) := by
  pointwise [k0_pay5]
  rfl

theorem ba_at (W : FVec Ideal S1024x128 .bf16) (r : Fin 256) (j : Fin 128) :
    k0_pay6 (F := Ideal) X G C H W (ix2 r j)
      = proj (fun d => k0_pay4 (F := Ideal) X G C H (ix2 r d)) (fun d => W (ix2 d j)) := by
  pointwise [k0_pay6]
  rfl

end

end Cert.CtxIdeal.CtxValue

end
-- ==== Proof.Ctx.Scan.lean ====
module

public import proofs.«01_k».proof.Proof.Gen.CtxIdeal.Value
public import proofs.«01_k».proof.Proof.Ctx.Spec
public import Idealize.ShloMosaic.Lib.KernelVsHost
public import Idealize.ShloMosaic.Lib.Pointwise

@[expose] public section

set_option maxRecDepth 16384

noncomputable section

/-! # The kernel's running sums of the gates -/

namespace Cert.CtxIdeal.CtxValue

open Cert.CtxIdeal Cert.CtxIdeal.Gen Idealize.ShloMosaic Idealize.ShloMosaic.TcCoe Idealize.SL.Sem
open Cert.ProjSpec hiding entry addend gate
open Cert.CtxSpec

/-- A row's place in its chunk. -/
theorem place_at (r : Fin 256) (c : Fin 128) : k0_pay10 (ix2 r c) = BitVec.ofNat 32 (r.val % 64) := by
  pointwise [k0_pay10]
  revert r
  decide +kernel

theorem place_at' (r : Fin 256) (c : Fin 128) : k0_pay14 (ix2 r c) = BitVec.ofNat 32 (r.val % 64) := by
  pointwise [k0_pay14]
  revert r
  decide +kernel

/-- Lanes 0–3 and 8–11 of the first sixteen hold the rates `beta`. -/
theorem rate_lane (r : Fin 256) (c : Fin 128) : k0_pay7 (iota .tc S256x128 32 [1] iota_S256x128_d1_w32) 8#32 (ix2 r c)
    = (if c.val % 8 < 4 then 1#1 else 0#1) := by
  pointwise [k0_pay7]
  revert c
  decide +kernel

theorem low_lane (r : Fin 256) (c : Fin 128) : k0_pay9 (iota .tc S256x128 32 [1] iota_S256x128_d1_w32) 8#32 (ix2 r c)
    = (if c.val < 8 then 1#1 else 0#1) := by
  pointwise [k0_pay9]
  revert c
  decide +kernel

/-- Column `c` of the rows, zero past the end. -/
def col (x : FVec Ideal S256x128 .f32) (c : Fin 128) (n : ℕ) : EReal := if h : n < 256 then x (ix2 ⟨n, h⟩ c) else 0

theorem sge_word : ∀ s < 64, ∀ p < 64,
    IntOp.cmpi .sge (BitVec.ofNat 32 p) (BitVec.ofNat 32 s) = if s ≤ p then 1#1 else 0#1 := by decide +kernel

theorem slt_word : ∀ s < 64, ∀ p < 64,
    IntOp.cmpi .slt (BitVec.ofNat 32 p) (BitVec.ofNat 32 s) = if p < s then 1#1 else 0#1 := by decide +kernel

/-- One doubling of the sums that run forward. -/
theorem back_step (x y : FVec Ideal S256x128 .f32) (P : IVec S256x128 32) (s : ℕ) (hs : s < 64) (w : BitVec 32)
    (hw : w = BitVec.ofNat 32 s) (hP : ∀ r c, P (ix2 r c) = BitVec.ofNat 32 (r.val % 64))
    (hx : ∀ (r : Fin 256) (c : Fin 128), x (ix2 r c) = back (col y c) s r.val) (r : Fin 256) (c : Fin 128) :
    addf x (select (cmpi .sge P (broadcast S256x128 w)) (dynamicRotate 0 w none x rotates_S256x128_d0)
      (broadcast S256x128 (Scalar.ofBits (F := Ideal) .f32 0x00000000#32))) (ix2 r c) = back (col y c) (s + s) r.val := by
  have hwn : w.toNat = s := by rw [hw, BitVec.toNat_ofNat]; omega
  have hrot : dynamicRotate 0 w none x rotates_S256x128_d0 (ix2 r c)
      = x (ix2 ⟨(r.val + 256 - s) % 256, Nat.mod_lt _ (by decide)⟩ c) := by
    refine dynamicRotate_apply (0 : Fin 2) w x _ _ _ fun b => ?_
    fin_cases b
    · show (r.val + 256 - s) % 256 = (r.val + 256 - w.toNat % 256) % 256
      rw [hwn, Nat.mod_eq_of_lt (by omega : s < 256)]
    · rfl
  have hc : (cmpi .sge P (broadcast S256x128 w)) (ix2 r c) = if s ≤ r.val % 64 then 1#1 else 0#1 := by
    show IntOp.cmpi .sge (P (ix2 r c)) w = _
    rw [hP, hw]
    exact sge_word s hs _ (Nat.mod_lt _ (by decide))
  show x (ix2 r c) + Scalar.select ((cmpi .sge P (broadcast S256x128 w)) (ix2 r c))
    (dynamicRotate 0 w none x rotates_S256x128_d0 (ix2 r c)) (Scalar.ofBits (F := Ideal) .f32 0x00000000#32) = _
  rw [hrot, hc, hx, hx, back_double]
  refine congrArg (_ + ·) ?_
  by_cases h : s ≤ r.val % 64
  · rw [if_pos h, if_pos h]
    refine congrArg (back (col y c) s) ?_
    have := r.isLt
    show (r.val + 256 - s) % 256 = r.val - s
    omega
  · rw [if_neg h, if_neg h]
    exact Ideal.ofBits_zero_f32

/-- One doubling of the sums that run backward: a rotation by `256 - s` brings row `r + s` to row `r`. -/
theorem ahead_step (x y : FVec Ideal S256x128 .f32) (P : IVec S256x128 32) (s : ℕ) (hs : s < 64) (hs0 : 0 < s)
    (w v : BitVec 32) (hw : w = BitVec.ofNat 32 (256 - s)) (hv : v = BitVec.ofNat 32 (64 - s))
    (hP : ∀ r c, P (ix2 r c) = BitVec.ofNat 32 (r.val % 64))
    (hx : ∀ (r : Fin 256) (c : Fin 128), x (ix2 r c) = ahead (col y c) s r.val) (r : Fin 256) (c : Fin 128) :
    addf x (select (cmpi .slt P (broadcast S256x128 v)) (dynamicRotate 0 w none x rotates_S256x128_d0)
      (broadcast S256x128 (Scalar.ofBits (F := Ideal) .f32 0x00000000#32))) (ix2 r c) = ahead (col y c) (s + s) r.val := by
  have hwn : w.toNat = 256 - s := by rw [hw, BitVec.toNat_ofNat]; omega
  have hrot : dynamicRotate 0 w none x rotates_S256x128_d0 (ix2 r c)
      = x (ix2 ⟨(r.val + s) % 256, Nat.mod_lt _ (by decide)⟩ c) := by
    refine dynamicRotate_apply (0 : Fin 2) w x _ _ _ fun b => ?_
    fin_cases b
    · show (r.val + s) % 256 = (r.val + 256 - w.toNat % 256) % 256
      rw [hwn, Nat.mod_eq_of_lt (by omega : 256 - s < 256)]
      congr 1
      omega
    · rfl
  have hc : (cmpi .slt P (broadcast S256x128 v)) (ix2 r c) = if r.val % 64 < 64 - s then 1#1 else 0#1 := by
    show IntOp.cmpi .slt (P (ix2 r c)) v = _
    rw [hP, hv]
    exact slt_word (64 - s) (by omega) _ (Nat.mod_lt _ (by decide))
  show x (ix2 r c) + Scalar.select ((cmpi .slt P (broadcast S256x128 v)) (ix2 r c))
    (dynamicRotate 0 w none x rotates_S256x128_d0 (ix2 r c)) (Scalar.ofBits (F := Ideal) .f32 0x00000000#32) = _
  rw [hrot, hc, hx, hx, ahead_double _ _ _ (by omega)]
  refine congrArg (_ + ·) ?_
  by_cases h : r.val % 64 < 64 - s
  · rw [if_pos h, if_pos h]
    refine congrArg (ahead (col y c) s) ?_
    have := r.isLt
    show (r.val + s) % 256 = r.val + s
    omega
  · rw [if_neg h, if_neg h]
    exact Ideal.ofBits_zero_f32

theorem col_at (y : FVec Ideal S256x128 .f32) (r : Fin 256) (c : Fin 128) : y (ix2 r c) = col y c r.val := by
  unfold col
  rw [dif_pos r.isLt]

/-- The three first doublings. -/
theorem back8 (y : FVec Ideal S256x128 .f32) (r : Fin 256) (c : Fin 128) :
    k0_pay11 (F := Ideal) y (ix2 r c) = back (col y c) 8 r.val :=
  back_step _ y k0_pay10 4 (by decide) 4#32 rfl place_at
    (back_step _ y k0_pay10 2 (by decide) 2#32 rfl place_at
      (back_step _ y k0_pay10 1 (by decide) 1#32 rfl place_at
        (fun r c => (col_at y r c).trans (back_one _ _).symm))) r c

theorem back64 (y : FVec Ideal S256x128 .f32) (r : Fin 256) (c : Fin 128) :
    k0_pay13 (F := Ideal) k0_pay10 (k0_pay11 (F := Ideal) y) (k0_pay12 (F := Ideal) y) (ix2 r c)
      = back (col y c) 64 r.val :=
  back_step _ y k0_pay10 32 (by decide) 32#32 rfl place_at
    (back_step _ y k0_pay10 16 (by decide) 16#32 rfl place_at
      (back_step _ y k0_pay10 8 (by decide) 8#32 rfl place_at (back8 y))) r c

theorem ahead4 (y : FVec Ideal S256x128 .f32) (r : Fin 256) (c : Fin 128) :
    k0_pay15 (F := Ideal) y (ix2 r c) = ahead (col y c) 4 r.val :=
  ahead_step _ y k0_pay14 2 (by decide) (by decide) 254#32 62#32 rfl rfl place_at'
    (ahead_step _ y k0_pay14 1 (by decide) (by decide) 255#32 63#32 rfl rfl place_at'
      (fun r c => (col_at y r c).trans (ahead_one _ _).symm)) r c

/-- The gates as the kernel stores them. -/
theorem gates_at (a y : FVec Ideal S256x128 .f32) (r : Fin 256) (c : Fin 128) :
    k0_pay16 (F := Ideal) a (k0_pay7 (iota .tc S256x128 32 [1] iota_S256x128_d1_w32) 8#32)
      (k0_pay9 (iota .tc S256x128 32 [1] iota_S256x128_d1_w32) 8#32)
      (k0_pay13 (F := Ideal) k0_pay10 (k0_pay11 (F := Ideal) y) (k0_pay12 (F := Ideal) y)) k0_pay14
      (k0_pay15 (F := Ideal) y) (ix2 r c)
    = if c.val % 8 < 4 then Ideal.logistic (a (ix2 r c))
      else if c.val < 8 then back (col y c) 64 r.val else ahead (col y c) 64 r.val := by
  have h64 : ∀ (r : Fin 256) (c : Fin 128), _ = ahead (col y c) 64 r.val :=
    ahead_step _ y k0_pay14 32 (by decide) (by decide) 224#32 32#32 rfl rfl place_at'
      (ahead_step _ y k0_pay14 16 (by decide) (by decide) 240#32 48#32 rfl rfl place_at'
        (ahead_step _ y k0_pay14 8 (by decide) (by decide) 248#32 56#32 rfl rfl place_at'
          (ahead_step _ y k0_pay14 4 (by decide) (by decide) 252#32 60#32 rfl rfl place_at' (ahead4 y))))
  show Scalar.select (k0_pay7 (iota .tc S256x128 32 [1] iota_S256x128_d1_w32) 8#32 (ix2 r c)) (Ideal.logistic (a (ix2 r c)))
    (Scalar.select (k0_pay9 (iota .tc S256x128 32 [1] iota_S256x128_d1_w32) 8#32 (ix2 r c)) _ _) = _
  rw [rate_lane, low_lane, back64]
  refine (congrArg (fun q => Scalar.select _ _ (Scalar.select _ _ q)) (h64 r c)).trans ?_
  by_cases h : c.val % 8 < 4
  · rw [if_pos h, if_pos h]; rfl
  · rw [if_neg h, if_neg h]
    by_cases h' : c.val < 8
    · rw [if_pos h', if_pos h']; rfl
    · rw [if_neg h', if_neg h']; rfl

/-- The gate's addend on the lanes that hold one. -/
theorem decay_at (a : FVec Ideal S256x128 .f32) (A D : FVec Ideal S1x128 .f32) (r : Fin 256) (c : Fin 128)
    (h : ¬ c.val % 8 < 4) :
    k0_pay8 (F := Ideal) a (iota .tc S256x128 32 [1] iota_S256x128_d1_w32) 8#32 A D (ix2 r c)
      = decay (A (ix2 0 c)) (D (ix2 0 c)) (a (ix2 r c)) := by
  have hl := rate_lane r c
  rw [if_neg h] at hl
  generalize hk : k0_pay7 (iota .tc S256x128 32 [1] iota_S256x128_d1_w32) 8#32 = K at hl
  unfold k0_pay8
  rw [hk]
  pointwise
  rw [hl]
  unfold decay
  show (0 - Ideal.exp (A (ix2 0 c))) * _ = _
  rw [if_neg (not_not.mpr rfl), zero_sub, zero_sub]
  rfl

end Cert.CtxIdeal.CtxValue

end
-- ==== Proof.Ctx.Blocks.lean ====
module

public import proofs.«01_k».proof.Proof.Gen.CtxIdeal.Value
public import proofs.«01_k».proof.Proof.Ctx.Spec
public import Idealize.ShloMosaic.Lib.Pipeline.ValueKit
public import Idealize.ShloMosaic.Lib.KernelVsHost
public import Idealize.ShloMosaic.Lib.Pointwise
public import Idealize.ShloMosaic.Lib.StableHlo.ReadAt

@[expose] public section

set_option maxRecDepth 16384

noncomputable section

/-! # The blocks of the arguments that a tile of the context's input projection reads -/

namespace Cert.CtxIdeal.CtxValue

open Cert.CtxIdeal Cert.CtxIdeal.Gen Idealize.ShloMosaic Idealize.ShloMosaic.TcCoe Idealize.SL.Sem
open Cert.ProjSpec hiding entry addend gate
open Cert.CtxSpec

variable (m : (ℓ : Loc nD τ sig) → Buf (Elt Ideal) ℓ)

/-- The windows' index maps. -/
theorem idx : ∀ t : Fin cfg0.N, win0_0.index t = ![t.val, 0] ∧ win0_1.index t = ![0, 0, 0]
    ∧ win0_2.index t = ![0, 0, 0] ∧ win0_3.index t = ![0, 0] ∧ win0_4.index t = ![0, 0]
    ∧ win0_5.index t = ![0, 0] ∧ win0_6.index t = ![0, 0] ∧ win0_7.index t = ![0, 0] ∧ win0_8.index t = ![t.val, 0]
    ∧ win0_9.index t = ![t.val, 0] ∧ win0_10.index t = ![t.val, 0, 0] :=
  (by decide +kernel : ∀ t : Fin grid0.N, _)

/-- The sample a tile is. -/
abbrev sample (t : Fin cfg0.N) : Fin 16 := ⟨t.val, t.isLt⟩

theorem x_entry (c : Dev nD) (R : Fin 4096) (e : Fin 1024) :
    (V m c main_v13 : S4096x1024.Idx → EReal) (ix2 R e) = (m ((c : Thread nD τ).loc main_arg0) : S16x256x1024.Idx → EReal)
      (ix3 ⟨R.val / 256, by omega⟩ ⟨R.val % 256, Nat.mod_lt _ (by decide)⟩ e) := by
  unfold V
  after_reads_at

theorem gain_entry (c : Dev nD) (e : Fin 1024) :
    (V m c main_v12 : S1x1024.Idx → EReal) (ix2 0 e) = (m ((c : Thread nD τ).loc main_arg3) : S1024.Idx → EReal) (ix1 e) := by
  unfold V
  after_reads_at

theorem qkv_entry (c : Dev nD) (d : Fin 1024) (j : Fin 1536) :
    (V m c main_v1 : S1024x1536.Idx → EReal) (ix2 d j)
      = (m ((c : Thread nD τ).loc main_arg4) : S1024x3088.Idx → EReal) (ix2 d ⟨j.val, by omega⟩) := by
  unfold V
  after_reads_at

theorem ba_entry (c : Dev nD) (d : Fin 1024) (j : Fin 16) :
    (V m c main_v4 : S1024x128.Idx → EReal) (ix2 d ⟨j.val, by omega⟩)
      = (m ((c : Thread nD τ).loc main_arg4) : S1024x3088.Idx → EReal) (ix2 d ⟨2048 + j.val, by omega⟩) := by
  unfold V
  after_reads_at

theorem alog_entry (c : Dev nD) (j : Fin 16) (h : ¬ j.val % 8 < 4) :
    (V m c main_v8 : S1x128.Idx → EReal) (ix2 0 ⟨j.val, by omega⟩)
      = (m ((c : Thread nD τ).loc main_arg5) : S2x4.Idx → EReal)
          (ix2 ⟨j.val / 8, by omega⟩ ⟨j.val % 4, Nat.mod_lt _ (by decide)⟩) := by
  unfold V
  after_reads_at
  rw [dif_neg h]
  after_reads_simp
  exact congrArg _ (congrArg (ix2 _) (Fin.ext (by show j.val % 8 - 4 = j.val % 4; omega)))

theorem dtb_entry (c : Dev nD) (j : Fin 16) (h : ¬ j.val % 8 < 4) :
    (V m c main_v11 : S1x128.Idx → EReal) (ix2 0 ⟨j.val, by omega⟩)
      = (m ((c : Thread nD τ).loc main_arg6) : S2x4.Idx → EReal)
          (ix2 ⟨j.val / 8, by omega⟩ ⟨j.val % 4, Nat.mod_lt _ (by decide)⟩) := by
  unfold V
  after_reads_at
  rw [dif_neg h]
  after_reads_simp
  exact congrArg _ (congrArg (ix2 _) (Fin.ext (by show j.val % 8 - 4 = j.val % 4; omega)))

theorem x_block (c : Dev nD) (t : Fin cfg0.N) (r : Fin 256) (e : Fin 1024) :
    (show FVec Ideal S256x1024 .f32 from iblk m c 0 t) (ix2 r e)
      = (m ((c : Thread nD τ).loc main_arg0) : S16x256x1024.Idx → EReal) (ix3 (sample t) r e) := by
  have ht : t.val < 16 := t.isLt
  have h : (show FVec Ideal S256x1024 .f32 from iblk m c 0 t) (ix2 r e)
      = (V m c main_v13 : S4096x1024.Idx → EReal) (ix2 ⟨256 * t.val + r.val, by omega⟩ e) := by
    blk_point [iblk, idx t]
  rw [h, x_entry]
  exact congrArg _ (congrArg₂ (fun a b => ix3 a b e) (Fin.ext (by show (256 * t.val + r.val) / 256 = t.val; omega))
    (Fin.ext (by show (256 * t.val + r.val) % 256 = r.val; omega)))

theorem shift_block (c : Dev nD) (t : Fin cfg0.N) (e : Fin 1024) :
    (show FVec Ideal S1x1x1024 .f32 from iblk m c 1 t) (ix3 0 0 e)
      = (m ((c : Thread nD τ).loc main_arg1) : S1x1x1024.Idx → EReal) (ix3 0 0 e) := by
  blk_point [iblk, V, idx t]

theorem scale_block (c : Dev nD) (t : Fin cfg0.N) (e : Fin 1024) :
    (show FVec Ideal S1x1x1024 .f32 from iblk m c 2 t) (ix3 0 0 e)
      = (m ((c : Thread nD τ).loc main_arg2) : S1x1x1024.Idx → EReal) (ix3 0 0 e) := by
  blk_point [iblk, V, idx t]

theorem gain_block (c : Dev nD) (t : Fin cfg0.N) (e : Fin 1024) :
    (show FVec Ideal S1x1024 .f32 from iblk m c 3 t) (ix2 0 e)
      = (m ((c : Thread nD τ).loc main_arg3) : S1024.Idx → EReal) (ix1 e) := by
  have e1 : (show FVec Ideal S1x1024 .f32 from iblk m c 3 t) (ix2 0 e)
      = (V m c main_v12 : S1x1024.Idx → EReal) (ix2 0 e) := by
    blk_point [iblk, idx t]
  exact e1.trans (gain_entry m c e)

theorem qkv_block (c : Dev nD) (t : Fin cfg0.N) (d : Fin 1024) (j : Fin 1536) :
    (show FVec Ideal S1024x1536 .bf16 from iblk m c 4 t) (ix2 d j)
      = (m ((c : Thread nD τ).loc main_arg4) : S1024x3088.Idx → EReal) (ix2 d ⟨j.val, by omega⟩) := by
  have e1 : (show FVec Ideal S1024x1536 .bf16 from iblk m c 4 t) (ix2 d j)
      = (V m c main_v1 : S1024x1536.Idx → EReal) (ix2 d j) := by
    blk_point [iblk, idx t]
  exact e1.trans (qkv_entry m c d j)

theorem ba_block (c : Dev nD) (t : Fin cfg0.N) (d : Fin 1024) (j : Fin 16) :
    (show FVec Ideal S1024x128 .bf16 from iblk m c 5 t) (ix2 d ⟨j.val, by omega⟩)
      = (m ((c : Thread nD τ).loc main_arg4) : S1024x3088.Idx → EReal) (ix2 d ⟨2048 + j.val, by omega⟩) := by
  have e1 : (show FVec Ideal S1024x128 .bf16 from iblk m c 5 t) (ix2 d ⟨j.val, by omega⟩)
      = (V m c main_v4 : S1024x128.Idx → EReal) (ix2 d ⟨j.val, by omega⟩) := by
    blk_point [iblk, idx t]
  exact e1.trans (ba_entry m c d j)

theorem alog_block (c : Dev nD) (t : Fin cfg0.N) (j : Fin 16) (h : ¬ j.val % 8 < 4) :
    (show FVec Ideal S1x128 .f32 from iblk m c 6 t) (ix2 0 ⟨j.val, by omega⟩)
      = (m ((c : Thread nD τ).loc main_arg5) : S2x4.Idx → EReal)
          (ix2 ⟨j.val / 8, by omega⟩ ⟨j.val % 4, Nat.mod_lt _ (by decide)⟩) := by
  have e1 : (show FVec Ideal S1x128 .f32 from iblk m c 6 t) (ix2 0 ⟨j.val, by omega⟩)
      = (V m c main_v8 : S1x128.Idx → EReal) (ix2 0 ⟨j.val, by omega⟩) := by
    blk_point [iblk, idx t]
  exact e1.trans (alog_entry m c j h)

theorem dtb_block (c : Dev nD) (t : Fin cfg0.N) (j : Fin 16) (h : ¬ j.val % 8 < 4) :
    (show FVec Ideal S1x128 .f32 from iblk m c 7 t) (ix2 0 ⟨j.val, by omega⟩)
      = (m ((c : Thread nD τ).loc main_arg6) : S2x4.Idx → EReal)
          (ix2 ⟨j.val / 8, by omega⟩ ⟨j.val % 4, Nat.mod_lt _ (by decide)⟩) := by
  have e1 : (show FVec Ideal S1x128 .f32 from iblk m c 7 t) (ix2 0 ⟨j.val, by omega⟩)
      = (V m c main_v11 : S1x128.Idx → EReal) (ix2 0 ⟨j.val, by omega⟩) := by
    blk_point [iblk, idx t]
  exact e1.trans (dtb_entry m c j h)

end Cert.CtxIdeal.CtxValue

end
-- ==== Proof.Ctx.Final.lean ====
module

public import proofs.«01_k».proof.Proof.Ctx.Rows
public import proofs.«01_k».proof.Proof.Ctx.Scan
public import proofs.«01_k».proof.Proof.Ctx.Blocks

@[expose] public section

set_option maxRecDepth 16384

noncomputable section

/-! # The arrays the context's input projection leaves -/

namespace Cert.CtxIdeal.CtxValue

open Cert.CtxIdeal Cert.CtxIdeal.Gen Idealize.ShloMosaic Idealize.ShloMosaic.TcCoe Idealize.SL.Sem
open Cert.ProjSpec hiding entry addend gate
open Cert.CtxSpec

section

variable (x : S16x256x1024.Idx → EReal) (sh sc : S1x1x1024.Idx → EReal) (g : S1024.Idx → EReal)
  (w : S1024x3088.Idx → EReal) (al dt : S2x4.Idx → EReal)

/-- The sample and the row in it of a row of all samples. -/
abbrev smp (R : Fin 4096) : Fin 16 := ⟨R.val / 256, by omega⟩
abbrev pos (R : Fin 4096) : Fin 256 := ⟨R.val % 256, Nat.mod_lt _ (by decide)⟩

/-- The three arrays, from the arguments. -/
def qkv (z : S4096x1536.Idx) : EReal :=
  entry x sh sc g w (smp (z 0)) (pos (z 0)) ⟨(z 1).val, by have : (z 1).val < 1536 := (z 1).isLt; omega⟩

def gates (z : S4096x128.Idx) : EReal :=
  if h : (z 1).val < 16 then gate (entry x sh sc g w (smp (z 0))) al dt (pos (z 0)) ⟨(z 1).val, h⟩ else 0

theorem gates_of_lt (z : S4096x128.Idx) (h : (z 1).val < 16) : gates x sh sc g w al dt z
    = gate (entry x sh sc g w (smp (z 0))) al dt (pos (z 0)) ⟨(z 1).val, h⟩ := dif_pos h

def chunks (z : S64x16x64.Idx) : EReal :=
  gate (entry x sh sc g w ⟨(z 0).val / 4, by have : (z 0).val < 64 := (z 0).isLt; omega⟩) al dt
    ⟨64 * ((z 0).val % 4) + (z 2).val, by have : (z 2).val < 64 := (z 2).isLt; omega⟩ (z 1)

end

variable (m : (ℓ : Loc nD τ sig) → Buf (Elt Ideal) ℓ)

/-- The arguments of a launch, as arrays. -/
abbrev ent (c : Dev nD) : Fin 16 → Fin 256 → Fin 3088 → EReal :=
  entry (m ((c : Thread nD τ).loc main_arg0)) (m ((c : Thread nD τ).loc main_arg1)) (m ((c : Thread nD τ).loc main_arg2))
    (m ((c : Thread nD τ).loc main_arg3)) (m ((c : Thread nD τ).loc main_arg4))

/-- The tile's rows, normalised and modulated. -/
abbrev tile (c : Dev nD) (t : Fin cfg0.N) : FVec Ideal S256x1024 .bf16 :=
  k0_pay4 (F := Ideal) (show FVec Ideal S256x1024 .f32 from iblk m c 0 t) (show FVec Ideal S1x1024 .f32 from iblk m c 3 t)
    (show FVec Ideal S1x1x1024 .f32 from iblk m c 2 t) (show FVec Ideal S1x1x1024 .f32 from iblk m c 1 t)

/-- A tile's row times a column of a block of the weights. -/
theorem ent_at (c : Dev nD) (t : Fin cfg0.N) (r : Fin 256) (J : Fin 3088) (W : Fin 1024 → EReal)
    (hW : ∀ d, W d = (m ((c : Thread nD τ).loc main_arg4) : S1024x3088.Idx → EReal) (ix2 d J)) :
    proj (fun d => tile m c t (ix2 r d)) W = ent m c (sample t) r J := by
  have h : ∀ d, tile m c t (ix2 r d) = _ := fun d => row_at _ _ _ _ r d
  unfold ent entry
  refine congrArg₂ proj (funext fun d => (h d).trans ?_) (funext hW)
  rw [funext (x_block m c t r), funext (gain_block m c t), funext (scale_block m c t), funext (shift_block m c t)]

theorem rows (t : Fin cfg0.N) (r : Fin 256) : 256 * t.val + r.val < 4096 := by
  have : t.val < 16 := t.isLt
  omega

theorem smp_eq (t : Fin cfg0.N) (r : Fin 256) : smp ⟨256 * t.val + r.val, rows t r⟩ = sample t :=
  Fin.ext (by show (256 * t.val + r.val) / 256 = t.val; omega)

theorem pos_eq (t : Fin cfg0.N) (r : Fin 256) : pos ⟨256 * t.val + r.val, rows t r⟩ = r :=
  Fin.ext (by show (256 * t.val + r.val) % 256 = r.val; omega)

theorem final8 (c : Dev nD) : (dats m 0 c).arrAt 8 cfg0.N
    = qkv (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  generalize hG : qkv (m ((c : Thread nD τ).loc main_arg0)) (m ((c : Thread nD τ).loc main_arg1)) (m ((c : Thread nD τ).loc main_arg2)) (m ((c : Thread nD τ).loc main_arg3)) (m ((c : Thread nD τ).loc main_arg4)) = G
  blk_simp
  rw [after0_8]
  unfold out0_8
  frame_out
  idx_vars y
  subst hG
  have he : (((View.whole main_v14_0).slice (win0_8.rect t)).emb (ix2 y0 y1) : S4096x1536.Idx)
      = ix2 ⟨256 * t.val + y0.val, rows t y0⟩ y1 := by
    blk_ext [idx t]
  rw [he]
  refine ((qkv_at _ _ _ _ _ y0 y1).trans
    (ent_at m c t y0 ⟨y1.val, by omega⟩ _ fun d => qkv_block m c t d y1)).trans ?_
  rw [← smp_eq t y0]
  refine Eq.trans ?_ (congrArg (fun p => ent m c (smp ⟨256 * t.val + y0.val, rows t y0⟩) p ⟨y1.val, by omega⟩) (pos_eq t y0).symm)
  rfl

/-- The gates of a tile, all 128 lanes. -/
abbrev lanes (c : Dev nD) (t : Fin cfg0.N) : FVec Ideal S256x128 .f32 :=
  k0_pay16 (F := Ideal) (k0_pay6 (F := Ideal) (iblk m c 0 t) (iblk m c 3 t) (iblk m c 2 t) (iblk m c 1 t) (iblk m c 5 t))
    (k0_pay7 (iota .tc S256x128 32 [1] iota_S256x128_d1_w32) 8#32)
    (k0_pay9 (iota .tc S256x128 32 [1] iota_S256x128_d1_w32) 8#32)
    (k0_pay13 (F := Ideal) k0_pay10
      (k0_pay11 (F := Ideal) (k0_pay8 (F := Ideal)
        (k0_pay6 (F := Ideal) (iblk m c 0 t) (iblk m c 3 t) (iblk m c 2 t) (iblk m c 1 t) (iblk m c 5 t))
        (iota .tc S256x128 32 [1] iota_S256x128_d1_w32) 8#32 (iblk m c 6 t) (iblk m c 7 t)))
      (k0_pay12 (F := Ideal) (k0_pay8 (F := Ideal)
        (k0_pay6 (F := Ideal) (iblk m c 0 t) (iblk m c 3 t) (iblk m c 2 t) (iblk m c 1 t) (iblk m c 5 t))
        (iota .tc S256x128 32 [1] iota_S256x128_d1_w32) 8#32 (iblk m c 6 t) (iblk m c 7 t))))
    k0_pay14
    (k0_pay15 (F := Ideal) (k0_pay8 (F := Ideal)
      (k0_pay6 (F := Ideal) (iblk m c 0 t) (iblk m c 3 t) (iblk m c 2 t) (iblk m c 1 t) (iblk m c 5 t))
      (iota .tc S256x128 32 [1] iota_S256x128_d1_w32) 8#32 (iblk m c 6 t) (iblk m c 7 t)))

theorem ba_ent (c : Dev nD) (t : Fin cfg0.N) (r : Fin 256) (k : Fin 16) :
    k0_pay6 (F := Ideal) (iblk m c 0 t) (iblk m c 3 t) (iblk m c 2 t) (iblk m c 1 t) (iblk m c 5 t)
      (ix2 r ⟨k.val, by omega⟩) = ent m c (sample t) r ⟨2048 + k.val, by omega⟩ :=
  (ba_at _ _ _ _ _ r _).trans (ent_at m c t r ⟨2048 + k.val, by omega⟩ _ fun d => ba_block m c t d k)

theorem addend_at (c : Dev nD) (t : Fin cfg0.N) (k : Fin 16) (hk : ¬ k.val % 8 < 4) (n : ℕ) (hn : n < 256) :
    col (k0_pay8 (F := Ideal)
        (k0_pay6 (F := Ideal) (iblk m c 0 t) (iblk m c 3 t) (iblk m c 2 t) (iblk m c 1 t) (iblk m c 5 t))
        (iota .tc S256x128 32 [1] iota_S256x128_d1_w32) 8#32 (iblk m c 6 t) (iblk m c 7 t)) ⟨k.val, by omega⟩ n
      = addend (ent m c (sample t)) (m ((c : Thread nD τ).loc main_arg5)) (m ((c : Thread nD τ).loc main_arg6)) k
          (64 * 0 + n) := by
  have e : (⟨64 * 0 + n, by omega⟩ : Fin 256) = ⟨n, hn⟩ := Fin.ext (by show 64 * 0 + n = n; omega)
  unfold col addend
  rw [dif_pos hn, dif_pos (by omega : 64 * 0 + n < 256), e]
  refine (decay_at _ _ _ _ ⟨k.val, by omega⟩ hk).trans ?_
  rw [← ba_ent m c t ⟨n, hn⟩ k]
  have h1 : (iblk m c 6 t : S1x128.Idx → EReal) (ix2 0 ⟨k.val, by omega⟩) = _ := alog_block m c t k hk
  have h2 : (iblk m c 7 t : S1x128.Idx → EReal) (ix2 0 ⟨k.val, by omega⟩) = _ := dtb_block m c t k hk
  exact congrArg₂ (fun p q => decay p q _) h1 h2

theorem lanes_at (c : Dev nD) (t : Fin cfg0.N) (r : Fin 256) (k : Fin 16) :
    lanes m c t (ix2 r ⟨k.val, by omega⟩)
      = gate (ent m c (sample t)) (m ((c : Thread nD τ).loc main_arg5)) (m ((c : Thread nD τ).loc main_arg6)) r k := by
  refine (gates_at _ _ r ⟨k.val, by omega⟩).trans ?_
  have hp : r.val = 64 * 0 + r.val := by omega
  unfold gate
  by_cases h : k.val % 8 < 4
  · rw [if_pos h, if_pos h, ba_ent]
  · rw [if_neg h, if_neg h]
    by_cases h8 : k.val < 8
    · rw [if_pos h8, if_pos h8]
      exact back_shift _ _ _ _ _ _ hp fun n hn => addend_at m c t k h n (by have := r.isLt; omega)
    · rw [if_neg h8, if_neg h8]
      exact ahead_shift _ _ _ _ _ _ 256 hp (by decide) r.isLt fun n hn => addend_at m c t k h n hn

/-- The second array on all its lanes. -/
def allLanes (c : Dev nD) (z : S4096x128.Idx) : EReal :=
  lanes m c ⟨(z 0).val / 256, by have : (z 0).val < 4096 := (z 0).isLt; show _ < 16; omega⟩
    (ix2 ⟨(z 0).val % 256, Nat.mod_lt _ (by decide)⟩ (z 1))

theorem final9 (c : Dev nD) : (dats m 0 c).arrAt 9 cfg0.N = allLanes m c := by
  refine (dats m 0 c).arrAt_eq_of_covers 9 _ (by decide +kernel) fun t hf y => ?_
  generalize hG : allLanes m c = G
  blk_simp
  rw [after0_9]
  unfold_out out0_9
  frame_out
  idx_vars y
  subst hG
  have he : (((View.whole main_v14_1).slice (win0_9.rect t)).emb (ix2 y0 y1) : S4096x128.Idx)
      = ix2 ⟨256 * t.val + y0.val, rows t y0⟩ y1 := by
    blk_ext [idx t]
  rw [he]
  have e1 : (⟨(256 * t.val + y0.val) / 256, by have : t.val < 16 := t.isLt; show _ < 16; omega⟩ : Fin cfg0.N) = t :=
    Fin.ext (by show (256 * t.val + y0.val) / 256 = t.val; omega)
  have e2 : (⟨(256 * t.val + y0.val) % 256, Nat.mod_lt _ (by decide)⟩ : Fin 256) = y0 :=
    Fin.ext (by show (256 * t.val + y0.val) % 256 = y0.val; omega)
  exact (congrArg₂ (fun a b => lanes m c a (ix2 b y1)) e1 e2).symm

theorem lanes_gate (c : Dev nD) (z : S4096x128.Idx) (h : (z 1).val < 16) : allLanes m c z
    = (gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) z := by
  refine (lanes_at m c _ _ ⟨(z 1).val, h⟩).trans ?_
  unfold gates
  rw [dif_pos h]

theorem chunk0 (a b c d e f) (j : Fin 16) (k : Fin 64) : k0_pay17 (F := Ideal) a b c d e f (ix3 0 j k)
    = k0_pay16 (F := Ideal) a b c d e f (ix2 ⟨k.val, by omega⟩ ⟨j.val, by omega⟩) := by
  unfold k0_pay17
  generalize k0_pay16 (F := Ideal) a b c d e f = L
  pointwise

theorem chunk1 (a b c d e f) (j : Fin 16) (k : Fin 64) : k0_pay1 (F := Ideal) (k0_pay18 (F := Ideal) a b c d e f) (ix3 0 j k)
    = k0_pay16 (F := Ideal) a b c d e f (ix2 ⟨64 + k.val, by omega⟩ ⟨j.val, by omega⟩) := by
  unfold k0_pay1 k0_pay18
  generalize k0_pay16 (F := Ideal) a b c d e f = L
  pointwise

theorem chunk2 (L : FVec Ideal S256x128 .f32) (j : Fin 16) (k : Fin 64) : k0_pay2 (F := Ideal) L (ix3 0 j k)
    = L (ix2 ⟨128 + k.val, by omega⟩ ⟨j.val, by omega⟩) := by
  pointwise [k0_pay2]

theorem chunk3 (L : FVec Ideal S256x128 .f32) (j : Fin 16) (k : Fin 64) : k0_pay3 (F := Ideal) L (ix3 0 j k)
    = L (ix2 ⟨192 + k.val, by omega⟩ ⟨j.val, by omega⟩) := by
  pointwise [k0_pay3]

theorem chunk_eq (c : Dev nD) (t : Fin cfg0.N) (q : Fin 4) (j : Fin 16) (k : Fin 64) (r : Fin 256) (z : S64x16x64.Idx)
    (hr : r.val = 64 * q.val + k.val) (h0 : (z 0).val = 4 * t.val + q.val) (h1 : (z 1).val = j.val) (h2 : (z 2).val = k.val) :
    lanes m c t (ix2 r ⟨j.val, by omega⟩) = chunks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z := by
  have ht : t.val < 16 := t.isLt
  have hz0 : (z 0).val < 64 := (z 0).isLt
  have hz2 : (z 2).val < 64 := (z 2).isLt
  refine (lanes_at m c t r j).trans ?_
  unfold chunks
  have e1 : sample t = ⟨(z 0).val / 4, by omega⟩ := Fin.ext (by show t.val = (z 0).val / 4; omega)
  have e2 : r = ⟨64 * ((z 0).val % 4) + (z 2).val, by omega⟩ :=
    Fin.ext (by show r.val = 64 * ((z 0).val % 4) + (z 2).val; omega)
  have e3 : j = z 1 := Fin.ext h1.symm
  rw [e1]
  exact congrArg₂ _ e2 e3

theorem final10 (c : Dev nD) : (dats m 0 c).arrAt 10 cfg0.N
    = chunks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  generalize hG : chunks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G
  blk_simp
  rw [after0_10]
  unfold_out out0_10
  frame_out
  have he : (((View.whole main_v14_2).slice (win0_10.rect t)).emb y : S64x16x64.Idx)
      = ix3 ⟨4 * t.val + (y 0).val, by have h1 : t.val < 16 := t.isLt; have h2 : (y 0).val < 4 := (y 0).isLt; omega⟩ (y 1) (y 2) := by
    idx_vars y
    blk_ext [idx t]
  have g0 := congrArg (fun z : S64x16x64.Idx => (z 0).val) he
  have g1 := congrArg (fun z : S64x16x64.Idx => (z 1).val) he
  have g2 := congrArg (fun z : S64x16x64.Idx => (z 2).val) he
  replace g0 : _ = 4 * t.val + (y 0).val := g0
  replace g1 : _ = (y 1).val := g1
  replace g2 : _ = (y 2).val := g2
  clear he
  generalize ((View.whole main_v14_2).slice (win0_10.rect t)).emb y = z at g0 g1 g2 ⊢
  subst hG
  canon_tiles x h
  · have hx : x = ix3 0 (x 1) (x 2) := by
      refine (eq_ix3 x).trans (congrArg (fun a => ix3 a (x 1) (x 2)) (Fin.ext ?_))
      show (x 0).val = 0
      omega
    rw [hx]
    exact (chunk3 _ (x 1) (x 2)).trans (chunk_eq m c t 3 (x 1) (x 2) _ z (by rfl) (by show _ = 4 * t.val + 3; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk2 _ (x 1) (x 2)).trans (chunk_eq m c t 2 (x 1) (x 2) _ z (by rfl) (by show _ = 4 * t.val + 2; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk1 _ _ _ _ _ _ (x 1) (x 2)).trans (chunk_eq m c t 1 (x 1) (x 2) _ z (by rfl) (by show _ = 4 * t.val + 1; omega) (by omega) (by omega))
  · have hx : x = ix3 0 (x 1) (x 2) := by
      refine (eq_ix3 x).trans (congrArg (fun a => ix3 a (x 1) (x 2)) (Fin.ext ?_))
      show (x 0).val = 0
      omega
    rw [hx]
    exact (chunk0 _ _ _ _ _ _ (x 1) (x 2)).trans (chunk_eq m c t 0 (x 1) (x 2) _ z (by show (x 2).val = 64 * 0 + (x 2).val; omega) (by show _ = 4 * t.val + 0; omega) (by omega) (by omega))

end Cert.CtxIdeal.CtxValue

end
-- ==== Proof.Ctx.Ref.lean ====
module

public import proofs.«01_k».proof.Proof.Gen.CtxRefIdeal.Read
public import proofs.«01_k».proof.Proof.Ctx.Spec
public import Idealize.ShloMosaic.Lib.Pointwise

@[expose] public section

set_option maxRecDepth 16384

noncomputable section

/-! # The reference of the context's input projection, read at an index -/

namespace Cert.CtxRefIdeal.CtxValue

open Cert.CtxRefIdeal Cert.CtxRefIdeal.Gen Cert.CtxRefIdeal.Read Idealize.ShloMosaic
open Cert.ProjSpec hiding entry addend gate
open Cert.CtxSpec

theorem foldl_add {α : Type} (f : α → EReal) : ∀ (l : List α) (z : EReal), l.foldl (fun r n => r + f n) z = z + (l.map f).sum
  | [], z => (add_zero z).symm
  | a :: l, z => by
    rw [List.foldl_cons, foldl_add f l, List.map_cons, List.sum_cons, add_assoc]

/-- A window of 64 that ends at row `q` of a chunk, summed. -/
theorem window_at (v : FVec Ideal S16x4x64x4 .f32) (init : FVec Ideal S_ .f32) (hi : init (Shape.Idx.first h_S_) = 0)
    (i : Fin 16) (a : Fin 4) (q : Fin 64) (h : Fin 4) :
    Host.reduceWindowAdd (F := Ideal) ![1, 1, 64, 1] ![1, 1, 1, 1] ![0, 0, 63, 0] ![0, 0, 0, 0] v init
      reduceWindows_S16x4x64x4_S16x4x64x4_w1s1p0_0_w1s1p0_0_w64s1p63_0_w1s1p0_0 h_S_ (ix4 i a q h)
    = ∑ n : Fin 64, (if 63 ≤ q.val + n.val then
        (if h' : q.val + n.val - 63 < 64 then v (ix4 i a ⟨q.val + n.val - 63, h'⟩ h) else 0) else 0) := by
  simp only [Host.reduceWindowAdd, Ideal.hostReduceWindowAdd_def, Ideal.hostReduceWindowAdd, Host.reduceWindow, hi]
  rw [foldl_add, zero_add, ← Fin.sum_univ_def]
  refine (Equiv.sum_comp (Shape.rowMajor ⟨4, ![1, 1, 64, 1]⟩).symm (fun y : (⟨4, ![1, 1, 64, 1]⟩ : Shape).Idx =>
    if hin : ∀ b : Fin 4, (![0, 0, 63, 0] : Fin 4 → ℕ) b ≤ (ix4 i a q h b).val * (![1, 1, 1, 1] : Fin 4 → ℕ) b + (y b).val
        ∧ (ix4 i a q h b).val * (![1, 1, 1, 1] : Fin 4 → ℕ) b + (y b).val - (![0, 0, 63, 0] : Fin 4 → ℕ) b < S16x4x64x4.size b
      then v (fun b => ⟨(ix4 i a q h b).val * (![1, 1, 1, 1] : Fin 4 → ℕ) b + (y b).val - (![0, 0, 63, 0] : Fin 4 → ℕ) b, (hin b).2⟩)
      else (0 : EReal))).trans ?_
  rw [sum_idx4]
  simp only [Finset.univ_unique, Finset.sum_singleton]
  refine Finset.sum_congr rfl fun n _ => ?_
  have hn := n.isLt
  have hq := q.isLt
  by_cases hc : 63 ≤ q.val + n.val
  · rw [if_pos hc, dif_pos (by omega : q.val + n.val - 63 < 64)]
    rw [dif_pos]
    · refine congrArg v (funext fun b => Fin.ext ?_)
      fin_cases b
      · show i.val * 1 + 0 - 0 = i.val
        omega
      · show a.val * 1 + 0 - 0 = a.val
        omega
      · show q.val * 1 + n.val - 63 = q.val + n.val - 63
        omega
      · show h.val * 1 + 0 - 0 = h.val
        omega
    · intro b
      fin_cases b
      · exact ⟨Nat.zero_le _, by show i.val * 1 + 0 - 0 < 16; omega⟩
      · exact ⟨Nat.zero_le _, by show a.val * 1 + 0 - 0 < 4; omega⟩
      · exact ⟨by show 63 ≤ q.val * 1 + n.val; omega, by show q.val * 1 + n.val - 63 < 64; omega⟩
      · exact ⟨Nat.zero_le _, by show h.val * 1 + 0 - 0 < 4; omega⟩
  · rw [if_neg hc, dif_neg]
    intro hin
    have h2 := (hin 2).1
    have h3 : 63 ≤ q.val * 1 + n.val := h2
    omega

section

variable (x0 : FVec Ideal S16x256x1024 .f32) (x1 x2 : FVec Ideal S1x1x1024 .f32) (x3 : FVec Ideal S1024 .f32)
  (x4 : FVec Ideal S1024x3088 .f32) (x5 x6 : FVec Ideal S2x4 .f32)

theorem mean_at (i : Fin 16) (p : Fin 256) : val_main_v4 (F := Ideal) x0 (ix3 i p 0)
    = Ideal.div (∑ e, x0 (ix3 i p e) * x0 (ix3 i p e)) (Ideal.ofBits .f32 0x44800000#32) := by
  pointwise [val_main_v4, val_main_v3, val_main_cst_0, val_main_v2, val_main_v1, val_main_cst, val_main_v0]

theorem row_at (i : Fin 16) (p : Fin 256) (d : Fin 1024) : val_main_v18 (F := Ideal) x0 x1 x2 x3 (ix3 i p d)
    = rowH (fun e => x0 (ix3 i p e)) (fun e => x3 (ix1 e)) (fun e => x2 (ix3 0 0 e)) (fun e => x1 (ix3 0 0 e)) d := by
  pointwise [val_main_v18, val_main_v17, val_main_v16, val_main_v15, val_main_v14, val_main_v13, val_main_cst_2,
    val_main_v12, val_main_v11, val_main_v10, val_main_v9, val_main_v8, val_main_v7, val_main_v6, val_main_v5,
    val_main_cst_1]
  rw [mean_at]
  rfl

theorem ent_at (i : Fin 16) (p : Fin 256) (j : Fin 3088) : val_main_v19 (F := Ideal) x0 x1 x2 x3 x4 (ix3 i p j)
    = entry x0 x1 x2 x3 x4 i p j := by
  have h : val_main_v19 (F := Ideal) x0 x1 x2 x3 x4 (ix3 i p j)
      = ∑ d, val_main_v18 (F := Ideal) x0 x1 x2 x3 (ix3 i p d) * x4 (ix2 d j) := by
    unfold val_main_v19
    generalize val_main_v18 (F := Ideal) x0 x1 x2 x3 = v
    pointwise
  rw [h]
  simp only [row_at]
  rfl

theorem qkv_at (R : Fin 4096) (j : Fin 1536) : val_main_v59 (F := Ideal) x0 x1 x2 x3 x4 (ix2 R j)
    = entry x0 x1 x2 x3 x4 ⟨R.val / 256, by omega⟩ ⟨R.val % 256, Nat.mod_lt _ (by decide)⟩ ⟨j.val, by omega⟩ := by
  pointwise [val_main_v59, val_main_v20]
  rw [ent_at]

theorem rate_at (i : Fin 16) (p : Fin 256) (s : Fin 2) (h : Fin 4) :
    val_main_v30 (F := Ideal) x0 x1 x2 x3 x4 (ix4 i p s h)
      = Ideal.logistic (entry x0 x1 x2 x3 x4 i p ⟨2048 + (s.val * 8 + h.val), by omega⟩) := by
  pointwise [val_main_v30, val_main_v29, val_main_cst_4, val_main_v28, val_main_v27, val_main_cst_3, val_main_v26,
    val_main_v25, val_main_v24, val_main_v23, val_main_v22, val_main_v21]
  rw [ent_at]
  rfl

theorem shifted_at (i : Fin 16) (p : Fin 256) (s : Fin 2) (h : Fin 4) :
    val_main_v37 (F := Ideal) x0 x1 x2 x3 x4 x6 (ix4 i p s h)
      = entry x0 x1 x2 x3 x4 i p ⟨2048 + (s.val * 8 + 4 + h.val), by omega⟩ + x6 (ix2 s h) := by
  pointwise [val_main_v37, val_main_v36, val_main_v35, val_main_v34, val_main_v33, val_main_v22, val_main_v21]
  rw [ent_at]

theorem soft_at (i : Fin 16) (p : Fin 256) (s : Fin 2) (h : Fin 4) (a : EReal)
    (ha : val_main_v37 (F := Ideal) x0 x1 x2 x3 x4 x6 (ix4 i p s h) = a) :
    val_main_v38 (F := Ideal) x0 x1 x2 x3 x4 x6 (ix4 i p s h) = max a 0 + Ideal.log1p (Ideal.exp (-(max a (-a)))) := by
  pointwise [val_main_v38, val_main_call0_v11, val_main_call0_v10, val_main_call0_v9, val_main_call0_v8,
    val_main_call0_v7, val_main_call0_v6, val_main_call0_v5, val_main_call0_v4, val_main_call0_v3, val_main_call0_v2,
    val_main_call0_v1, val_main_call0_v0, val_main_call0_cst]
  rw [ha]
  exact if_neg (not_not.mpr rfl)

theorem decay_at (i : Fin 16) (p : Fin 256) (s : Fin 2) (h : Fin 4) :
    val_main_v41 (F := Ideal) x0 x1 x2 x3 x4 x5 x6 (ix4 i p s h)
      = decay (x5 (ix2 s h)) (x6 (ix2 s h)) (entry x0 x1 x2 x3 x4 i p ⟨2048 + (s.val * 8 + 4 + h.val), by omega⟩) := by
  pointwise [val_main_v41, val_main_v40, val_main_v39, val_main_v32, val_main_v31]
  rw [soft_at x0 x1 x2 x3 x4 x6 i p s h _ (shifted_at x0 x1 x2 x3 x4 x6 i p s h)]
  rfl

/-- The addend of direction `s`, head `h` at row `n`. -/
theorem addend_at (i : Fin 16) (p : Fin 256) (s : Fin 2) (h : Fin 4) (c : Fin 16) (hc : c.val = s.val * 8 + 4 + h.val) :
    val_main_v41 (F := Ideal) x0 x1 x2 x3 x4 x5 x6 (ix4 i p s h) = addend (entry x0 x1 x2 x3 x4 i) x5 x6 c p.val := by
  refine (decay_at x0 x1 x2 x3 x4 x5 x6 i p s h).trans ?_
  unfold addend
  rw [dif_pos p.isLt]
  have e1 : (⟨c.val / 8, by omega⟩ : Fin 2) = s := Fin.ext (by show c.val / 8 = s.val; omega)
  have e2 : (⟨c.val % 4, Nat.mod_lt _ (by decide)⟩ : Fin 4) = h := Fin.ext (by show c.val % 4 = h.val; omega)
  have e3 : (⟨2048 + c.val, by omega⟩ : Fin 3088) = ⟨2048 + (s.val * 8 + 4 + h.val), by omega⟩ := Fin.ext (by show 2048 + c.val = 2048 + (s.val * 8 + 4 + h.val); omega)
  rw [e3, e1, e2]

theorem forward_tile (i : Fin 16) (a : Fin 4) (q : Fin 64) (h : Fin 4) :
    val_main_v44 (F := Ideal) x0 x1 x2 x3 x4 x5 x6 (ix4 i a q h)
      = val_main_v41 (F := Ideal) x0 x1 x2 x3 x4 x5 x6 (ix4 i ⟨64 * a.val + q.val, by omega⟩ 0 h) := by
  pointwise [val_main_v44, val_main_v43, val_main_v42]
  exact congrArg (fun n => val_main_v41 (F := Ideal) x0 x1 x2 x3 x4 x5 x6 (ix4 i n 0 h))
    (Fin.ext (by show a.val * 64 + q.val = 64 * a.val + q.val; omega))

theorem backward_tile (i : Fin 16) (a : Fin 4) (q : Fin 64) (h : Fin 4) :
    val_main_v50 (F := Ideal) x0 x1 x2 x3 x4 x5 x6 (ix4 i a q h)
      = val_main_v41 (F := Ideal) x0 x1 x2 x3 x4 x5 x6 (ix4 i ⟨255 - (64 * a.val + q.val), by omega⟩ 1 h) := by
  pointwise [val_main_v50, val_main_v49, val_main_v48, val_main_v47]
  exact congrArg (fun n => val_main_v41 (F := Ideal) x0 x1 x2 x3 x4 x5 x6 (ix4 i n 1 h))
    (Fin.ext (by show 256 - (a.val * 64 + q.val + 1) = 255 - (64 * a.val + q.val); omega))

/-- The window of 64 ending at row `q` of chunk `a`, of any column whose rows are `f`. -/
theorem window_rows (v : FVec Ideal S16x4x64x4 .f32) (init : FVec Ideal S_ .f32) (hi : init (Shape.Idx.first h_S_) = 0)
    (i : Fin 16) (a : Fin 4) (q : Fin 64) (h : Fin 4) (f : ℕ → EReal) (hf : ∀ r : Fin 64, v (ix4 i a r h) = f r.val) :
    Host.reduceWindowAdd (F := Ideal) ![1, 1, 64, 1] ![1, 1, 1, 1] ![0, 0, 63, 0] ![0, 0, 0, 0] v init
      reduceWindows_S16x4x64x4_S16x4x64x4_w1s1p0_0_w1s1p0_0_w64s1p63_0_w1s1p0_0 h_S_ (ix4 i a q h)
    = ∑ k ∈ Finset.range (q.val + 1), f (q.val - k) := by
  rw [window_at v init hi i a q h, ← window_back f q.val q.isLt]
  refine Finset.sum_congr rfl fun n _ => ?_
  by_cases hc : 63 ≤ q.val + n.val
  · have hn := n.isLt
    have hq := q.isLt
    rw [if_pos hc, if_pos hc, dif_pos (by omega : q.val + n.val - 63 < 64), hf]
  · rw [if_neg hc, if_neg hc]

theorem forward_at (i : Fin 16) (p : Fin 256) (h : Fin 4) (c : Fin 16) (hc : c.val = 4 + h.val) :
    val_main_v46 (F := Ideal) x0 x1 x2 x3 x4 x5 x6 (ix3 i p h) = back (addend (entry x0 x1 x2 x3 x4 i) x5 x6 c) 64 p.val := by
  have e : val_main_v46 (F := Ideal) x0 x1 x2 x3 x4 x5 x6 (ix3 i p h)
      = val_main_v45 (F := Ideal) x0 x1 x2 x3 x4 x5 x6 (ix4 i ⟨p.val / 64, by omega⟩ ⟨p.val % 64, Nat.mod_lt _ (by decide)⟩ h) := by
    unfold val_main_v46
    generalize val_main_v45 (F := Ideal) x0 x1 x2 x3 x4 x5 x6 = v
    pointwise
  rw [e]
  unfold val_main_v45
  refine (window_rows _ _ (by pointwise [val_main_call1_call0_v0, val_main_call1_call0_cst]) i _ _ h
    (fun r => addend (entry x0 x1 x2 x3 x4 i) x5 x6 c (64 * (p.val / 64) + r)) fun r =>
    (forward_tile x0 x1 x2 x3 x4 x5 x6 i _ r h).trans (addend_at x0 x1 x2 x3 x4 x5 x6 i _ 0 h c (by rw [hc]; rfl))).trans ?_
  unfold back
  have hm : min 64 (p.val % 64 + 1) = p.val % 64 + 1 := by omega
  rw [hm]
  refine Finset.sum_congr rfl fun k hk => ?_
  rw [Finset.mem_range] at hk
  exact congrArg _ (by show 64 * (p.val / 64) + (p.val % 64 - k) = p.val - k; omega)

theorem backward_at (i : Fin 16) (p : Fin 256) (h : Fin 4) (c : Fin 16) (hc : c.val = 12 + h.val) :
    val_main_v53 (F := Ideal) x0 x1 x2 x3 x4 x5 x6 (ix3 i p h) = ahead (addend (entry x0 x1 x2 x3 x4 i) x5 x6 c) 64 p.val := by
  have e : val_main_v53 (F := Ideal) x0 x1 x2 x3 x4 x5 x6 (ix3 i p h)
      = val_main_v51 (F := Ideal) x0 x1 x2 x3 x4 x5 x6 (ix4 i ⟨(255 - p.val) / 64, by omega⟩ ⟨(255 - p.val) % 64, Nat.mod_lt _ (by decide)⟩ h) := by
    unfold val_main_v53 val_main_v52
    generalize val_main_v51 (F := Ideal) x0 x1 x2 x3 x4 x5 x6 = v
    pointwise
    have e : Fin.rev p = ⟨255 - p.val, by omega⟩ := Fin.ext (by show 256 - (p.val + 1) = 255 - p.val; omega)
    show v (ix4 i ⟨(Fin.rev p).val / 64, _⟩ ⟨(Fin.rev p).val % 64, _⟩ h) = _
    simp only [e]
  rw [e]
  unfold val_main_v51
  refine (window_rows _ _ (by pointwise [val_main_call3_call0_v0, val_main_call3_call0_cst]) i _ _ h
    (fun r => addend (entry x0 x1 x2 x3 x4 i) x5 x6 c (255 - (64 * ((255 - p.val) / 64) + r))) fun r =>
    (backward_tile x0 x1 x2 x3 x4 x5 x6 i _ r h).trans (addend_at x0 x1 x2 x3 x4 x5 x6 i _ 1 h c (by rw [hc]; show _ = 1 * 8 + 4 + h.val; omega))).trans ?_
  unfold ahead
  have hp := p.isLt
  have hm : min 64 (64 - p.val % 64) = (255 - p.val) % 64 + 1 := by omega
  rw [hm]
  refine Finset.sum_congr rfl fun k hk => ?_
  rw [Finset.mem_range] at hk
  exact congrArg _ (by
    show 255 - (64 * ((255 - p.val) / 64) + ((255 - p.val) % 64 - k)) = p.val + k
    omega)

theorem rates0_at (i : Fin 16) (p : Fin 256) (h : Fin 4) : val_main_v55 (F := Ideal) x0 x1 x2 x3 x4 (ix3 i p h)
    = val_main_v30 (F := Ideal) x0 x1 x2 x3 x4 (ix4 i p 0 h) := by
  pointwise [val_main_v55, val_main_v54]

theorem rates1_at (i : Fin 16) (p : Fin 256) (h : Fin 4) : val_main_v57 (F := Ideal) x0 x1 x2 x3 x4 (ix3 i p h)
    = val_main_v30 (F := Ideal) x0 x1 x2 x3 x4 (ix4 i p 1 h) := by
  pointwise [val_main_v57, val_main_v56]

theorem gate_at (i : Fin 16) (p : Fin 256) (c : Fin 16) : val_main_v58 (F := Ideal) x0 x1 x2 x3 x4 x5 x6 (ix3 i p c)
    = gate (entry x0 x1 x2 x3 x4 i) x5 x6 p c := by
  have e : val_main_v58 (F := Ideal) x0 x1 x2 x3 x4 x5 x6 (ix3 i p c)
      = if h : c.val < 4 then val_main_v55 (F := Ideal) x0 x1 x2 x3 x4 (ix3 i p ⟨c.val, h⟩)
        else if h' : c.val - 4 < 4 then val_main_v46 (F := Ideal) x0 x1 x2 x3 x4 x5 x6 (ix3 i p ⟨c.val - 4, by omega⟩)
        else if h'' : c.val - 4 - 4 < 4 then val_main_v57 (F := Ideal) x0 x1 x2 x3 x4 (ix3 i p ⟨c.val - 4 - 4, by omega⟩)
        else val_main_v53 (F := Ideal) x0 x1 x2 x3 x4 x5 x6 (ix3 i p ⟨c.val - 4 - 4 - 4, by omega⟩) := by
    unfold val_main_v58
    generalize val_main_v55 (F := Ideal) x0 x1 x2 x3 x4 = A
    generalize val_main_v46 (F := Ideal) x0 x1 x2 x3 x4 x5 x6 = B
    generalize val_main_v57 (F := Ideal) x0 x1 x2 x3 x4 = C
    generalize val_main_v53 (F := Ideal) x0 x1 x2 x3 x4 x5 x6 = D
    pointwise
  rw [e]
  unfold gate
  by_cases h1 : c.val < 4
  · rw [dif_pos h1, if_pos (by omega), rates0_at, rate_at]
    exact congrArg (fun j => Ideal.logistic (entry x0 x1 x2 x3 x4 i p j)) (Fin.ext (by show 2048 + (0 * 8 + c.val) = 2048 + c.val; omega))
  · rw [dif_neg h1]
    by_cases h2 : c.val - 4 < 4
    · rw [dif_pos h2, if_neg (by omega), if_pos (by omega)]
      exact forward_at x0 x1 x2 x3 x4 x5 x6 i p _ c (by show c.val = 4 + (c.val - 4); omega)
    · rw [dif_neg (by omega)]
      by_cases h3 : c.val - 4 - 4 < 4
      · rw [dif_pos h3, if_pos (by omega), rates1_at, rate_at]
        exact congrArg (fun j => Ideal.logistic (entry x0 x1 x2 x3 x4 i p j))
          (Fin.ext (by show 2048 + (1 * 8 + (c.val - 4 - 4)) = 2048 + c.val; omega))
      · rw [dif_neg h3, if_neg (by omega), if_neg (by omega)]
        exact backward_at x0 x1 x2 x3 x4 x5 x6 i p _ c (by show c.val = 12 + (c.val - 4 - 4 - 4); omega)

theorem gates_at (R : Fin 4096) (j : Fin 128) (h : j.val < 16) : val_main_v61 (F := Ideal) x0 x1 x2 x3 x4 x5 x6 (ix2 R j)
    = gate (entry x0 x1 x2 x3 x4 ⟨R.val / 256, by omega⟩) x5 x6 ⟨R.val % 256, Nat.mod_lt _ (by decide)⟩ ⟨j.val, h⟩ := by
  rw [← gate_at]
  unfold val_main_v61 val_main_v60
  generalize val_main_v58 (F := Ideal) x0 x1 x2 x3 x4 x5 x6 = v
  pointwise
  rw [dif_pos h]

theorem chunks_at (n : Fin 64) (c : Fin 16) (k : Fin 64) : val_main_v63 (F := Ideal) x0 x1 x2 x3 x4 x5 x6 (ix3 n c k)
    = gate (entry x0 x1 x2 x3 x4 ⟨n.val / 4, by omega⟩) x5 x6 ⟨64 * (n.val % 4) + k.val, by omega⟩ c := by
  rw [← gate_at]
  unfold val_main_v63 val_main_v62
  generalize val_main_v58 (F := Ideal) x0 x1 x2 x3 x4 x5 x6 = v
  pointwise
  exact congrArg (fun p => v (ix3 _ p c)) (Fin.ext (by show n.val % 4 * 64 + k.val = 64 * (n.val % 4) + k.val; omega))

end

end Cert.CtxRefIdeal.CtxValue

end
-- ==== Proof.Ctx.Pair.lean ====
module

public import proofs.«01_k».proof.Defs
public import proofs.«01_k».proof.Proof.Ctx.Final
public import proofs.«01_k».proof.Proof.Ctx.Ref
public import proofs.«01_k».proof.Proof.Gen.On_context_gate_columns
public import proofs.«01_k».proof.Proof.Gen.CtxRefIdeal.Run

@[expose] public section

set_option maxRecDepth 16384

noncomputable section

/-! # The context's input projection: kernel against reference -/

namespace Cert.CtxPair

open Idealize.ShloMosaic Idealize.ShloMosaic.TcCoe Idealize.SL.Sem
open Cert.ProjSpec hiding entry addend gate
open Cert.CtxSpec
open Cert.CtxIdeal.CtxValue (qkv gates chunks)

section

variable (x0 : FVec Ideal CtxRefIdeal.S16x256x1024 .f32) (x1 x2 : FVec Ideal CtxRefIdeal.S1x1x1024 .f32)
  (x3 : FVec Ideal CtxRefIdeal.S1024 .f32) (x4 : FVec Ideal CtxRefIdeal.S1024x3088 .f32)
  (x5 x6 : FVec Ideal CtxRefIdeal.S2x4 .f32)

theorem qkv_eq : CtxRefIdeal.Read.val_main_v59 (F := Ideal) x0 x1 x2 x3 x4 = qkv x0 x1 x2 x3 x4 := by
  funext z
  idx_vars z
  exact CtxRefIdeal.CtxValue.qkv_at x0 x1 x2 x3 x4 z0 z1

theorem chunks_eq : CtxRefIdeal.Read.val_main_v63 (F := Ideal) x0 x1 x2 x3 x4 x5 x6 = chunks x0 x1 x2 x3 x4 x5 x6 := by
  funext z
  idx_vars z
  exact CtxRefIdeal.CtxValue.chunks_at x0 x1 x2 x3 x4 x5 x6 z0 z1 z2

theorem gates_eq (z : CtxRefIdeal.S4096x128.Idx) (h : (z 1).val < 16) :
    CtxRefIdeal.Read.val_main_v61 (F := Ideal) x0 x1 x2 x3 x4 x5 x6 z = gates x0 x1 x2 x3 x4 x5 x6 z := by
  idx_vars z
  refine (CtxRefIdeal.CtxValue.gates_at x0 x1 x2 x3 x4 x5 x6 z0 z1 h).trans ?_
  exact (CtxIdeal.CtxValue.gates_of_lt x0 x1 x2 x3 x4 x5 x6 (ix2 z0 z1) h).symm

end

theorem lane_word : ∀ n : Fin 128, IntOp.cmpi .slt (BitVec.ofNat 32 n.val) 16#32 = 1#1 → n.val < 16 := by decide +kernel

/-- The lanes the value is claimed on are the first sixteen. -/
theorem lane_lt {a0 a1 a2 a3 a4 a5 a6} (i : (⟨2, ![4096, 128]⟩ : Shape).Idx)
    (h : (On_context_gate_columns.fn (F := Ideal) a0 a1 a2 a3 a4 a5 a6).2.1 i = 1#1) : (i 1).val < 16 := by
  idx_vars i
  revert h
  pointwise [On_context_gate_columns.fn]
  exact lane_word i1

theorem algebraic : Cert.algebraic_CtxIdeal_CtxRefIdeal_on_context_gate_columns := by
  intro m g m' g' _ hagree
  refine ⟨fun c => qkv (m ((c.tc : Thread CtxIdeal.nD CtxIdeal.τ).loc CtxIdeal.main_arg0)) (m ((c.tc : Thread CtxIdeal.nD CtxIdeal.τ).loc CtxIdeal.main_arg1)) (m ((c.tc : Thread CtxIdeal.nD CtxIdeal.τ).loc CtxIdeal.main_arg2)) (m ((c.tc : Thread CtxIdeal.nD CtxIdeal.τ).loc CtxIdeal.main_arg3)) (m ((c.tc : Thread CtxIdeal.nD CtxIdeal.τ).loc CtxIdeal.main_arg4)),
    fun c => gates (m ((c.tc : Thread CtxIdeal.nD CtxIdeal.τ).loc CtxIdeal.main_arg0)) (m ((c.tc : Thread CtxIdeal.nD CtxIdeal.τ).loc CtxIdeal.main_arg1)) (m ((c.tc : Thread CtxIdeal.nD CtxIdeal.τ).loc CtxIdeal.main_arg2)) (m ((c.tc : Thread CtxIdeal.nD CtxIdeal.τ).loc CtxIdeal.main_arg3)) (m ((c.tc : Thread CtxIdeal.nD CtxIdeal.τ).loc CtxIdeal.main_arg4)) (m ((c.tc : Thread CtxIdeal.nD CtxIdeal.τ).loc CtxIdeal.main_arg5)) (m ((c.tc : Thread CtxIdeal.nD CtxIdeal.τ).loc CtxIdeal.main_arg6)),
    fun c => chunks (m ((c.tc : Thread CtxIdeal.nD CtxIdeal.τ).loc CtxIdeal.main_arg0)) (m ((c.tc : Thread CtxIdeal.nD CtxIdeal.τ).loc CtxIdeal.main_arg1)) (m ((c.tc : Thread CtxIdeal.nD CtxIdeal.τ).loc CtxIdeal.main_arg2)) (m ((c.tc : Thread CtxIdeal.nD CtxIdeal.τ).loc CtxIdeal.main_arg3)) (m ((c.tc : Thread CtxIdeal.nD CtxIdeal.τ).loc CtxIdeal.main_arg4)) (m ((c.tc : Thread CtxIdeal.nD CtxIdeal.τ).loc CtxIdeal.main_arg5)) (m ((c.tc : Thread CtxIdeal.nD CtxIdeal.τ).loc CtxIdeal.main_arg6)), ?_, ?_⟩
  · refine (θ_run _ _ _).mono (fun r h c => ?_) (CtxIdeal.Value.run_blocks m g)
    replace h := h c
    refine ⟨?_, ?_, ?_, h.2.2.2⟩
    · intro i _
      exact congrFun (h.1.trans (CtxIdeal.CtxValue.final8 m c)) i
    · intro i hi
      exact (congrFun (h.2.1.trans (CtxIdeal.CtxValue.final9 m c)) i).trans
        (CtxIdeal.CtxValue.lanes_gate m c i (lane_lt i hi))
    · intro i _
      exact congrFun (h.2.2.1.trans (CtxIdeal.CtxValue.final10 m c)) i
  · refine (θ_run _ _ _).mono (fun r h c => ?_) (CtxRefIdeal.Value.run m' g')
    replace h := h c
    obtain ⟨a0, a1, a2, a3, a4, a5, a6⟩ := hagree c
    refine ⟨?_, ?_, ?_, h.2.2.2⟩
    · intro i _
      exact congrFun ((h.1.trans (CtxRefIdeal.Read.val_main_v59_eq (F := Ideal) _ _ _ _ _)).trans ((qkv_eq _ _ _ _ _ ).trans (congr (congr (congr (congr (congrArg qkv a0) a1) a2) a3) a4))) i
    · intro i hi
      refine (congrFun (h.2.1.trans (CtxRefIdeal.Read.val_main_v61_eq (F := Ideal) m' c)) i).trans ((gates_eq _ _ _ _ _ _ _ i (lane_lt i hi)).trans ?_)
      exact congrFun (congr (congr (congr (congr (congr (congr (congrArg gates a0) a1) a2) a3) a4) a5) a6) i
    · intro i _
      exact congrFun ((h.2.2.1.trans (CtxRefIdeal.Read.val_main_v63_eq (F := Ideal) m' c)).trans ((chunks_eq _ _ _ _ _ _ _ ).trans (congr (congr (congr (congr (congr (congr (congrArg chunks a0) a1) a2) a3) a4) a5) a6))) i

theorem reference_frame : Cert.quiescent_CtxRefIdeal := fun m ρ _ =>
  (θ_run CtxRefIdeal.defs _ _).mono
    (fun r h => ⟨fun c => (h c).2.2.2, Idealize.ShloMosaic.sem_eq_zero_of_no_sems (by decide) r.2⟩)
    (CtxRefIdeal.Value.run (F := Ideal) m ρ)

end Cert.CtxPair

end
-- ==== Proof.Mod.Value.lean ====
module

public import proofs.«01_k».proof.Proof.Gen.ModIdeal.Value
public import Idealize.ShloMosaic.Lib.Pipeline.ValueKit
public import Idealize.ShloMosaic.Lib.KernelVsHost
public import Idealize.ShloMosaic.Lib.Pointwise
public import Idealize.ShloMosaic.Lib.StableHlo.ReadAt

@[expose] public section

set_option maxRecDepth 16384

noncomputable section

/-! # The array of modulation vectors the kernel leaves -/

namespace Cert.ModIdeal.ModValue

open Cert.ModIdeal Cert.ModIdeal.Gen Idealize.ShloMosaic Idealize.ShloMosaic.TcCoe Idealize.SL.Sem

/-- One entry of a modulation vector: silu of the conditioning times a column of the weights, plus the bias. -/
def entry (v w : Fin 1024 → EReal) (b : EReal) : EReal := ∑ d, v d * Ideal.logistic (v d) * w d + b

/-- The modulation vectors: a row for each sample, then the context's. -/
def vectors (c : S16x1024.Idx → EReal) (k : S1024.Idx → EReal) (w : S1024x6144.Idx → EReal) (b : S6144.Idx → EReal)
    (z : S24x6144.Idx) : EReal :=
  entry (fun d => if h : (z 0).val < 16 then c (ix2 ⟨(z 0).val, h⟩ d) else k (ix1 d)) (fun d => w (ix2 d (z 1))) (b (ix1 (z 1)))

theorem tile_at (X : FVec Ideal S24x1024 .f32) (W : FVec Ideal S1024x1024 .f32) (B : FVec Ideal S1x1024 .f32) (r : Fin 24)
    (j : Fin 1024) : k0_pay1 (F := Ideal) X W B (ix2 r j)
      = entry (fun d => X (ix2 r d)) (fun d => W (ix2 d j)) (B (ix2 0 j)) := by
  pointwise [k0_pay1]
  rfl

variable (m : (ℓ : Loc nD τ sig) → Buf (Elt Ideal) ℓ)

/-- The windows' index maps. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem cond_entry (c : Dev nD) (r : Fin 24) (hr : r.val < 17) (d : Fin 1024) :
    (V m c main_v2 : S24x1024.Idx → EReal) (ix2 r d)
      = if h : r.val < 16 then (m ((c : Thread nD τ).loc main_arg0) : S16x1024.Idx → EReal) (ix2 ⟨r.val, h⟩ d)
        else (m ((c : Thread nD τ).loc main_arg1) : S1024.Idx → EReal) (ix1 d) := by
  unfold V
  after_reads_at
  rw [dif_pos hr]
  after_reads_simp
  by_cases h : r.val < 16
  · rw [dif_pos h, dif_pos h]
  · rw [dif_neg h, dif_neg h]
    pointwise

theorem bias_entry (c : Dev nD) (j : Fin 6144) :
    (V m c main_v3 : S1x6144.Idx → EReal) (ix2 0 j) = (m ((c : Thread nD τ).loc main_arg3) : S6144.Idx → EReal) (ix1 j) := by
  unfold V
  after_reads_at

theorem cols (t : Fin cfg0.N) (j : Fin 1024) : 1024 * t.val + j.val < 6144 := by
  have : t.val < 6 := t.isLt
  omega

theorem cond_block (c : Dev nD) (t : Fin cfg0.N) (r : Fin 24) (d : Fin 1024) :
    (show FVec Ideal S24x1024 .f32 from iblk m c 0 t) (ix2 r d) = (V m c main_v2 : S24x1024.Idx → EReal) (ix2 r d) := by
  blk_point [iblk, idx t]

theorem weight_block (c : Dev nD) (t : Fin cfg0.N) (d j : Fin 1024) :
    (show FVec Ideal S1024x1024 .f32 from iblk m c 1 t) (ix2 d j)
      = (m ((c : Thread nD τ).loc main_arg2) : S1024x6144.Idx → EReal) (ix2 d ⟨1024 * t.val + j.val, cols t j⟩) := by
  blk_point [iblk, V, idx t]

theorem bias_block (c : Dev nD) (t : Fin cfg0.N) (j : Fin 1024) :
    (show FVec Ideal S1x1024 .f32 from iblk m c 2 t) (ix2 0 j)
      = (m ((c : Thread nD τ).loc main_arg3) : S6144.Idx → EReal) (ix1 ⟨1024 * t.val + j.val, cols t j⟩) := by
  have e1 : (show FVec Ideal S1x1024 .f32 from iblk m c 2 t) (ix2 0 j)
      = (V m c main_v3 : S1x6144.Idx → EReal) (ix2 0 ⟨1024 * t.val + j.val, cols t j⟩) := by
    blk_point [iblk, idx t]
  exact e1.trans (bias_entry m c _)

/-- The array on all its rows. -/
def allRows (c : Dev nD) (z : S24x6144.Idx) : EReal :=
  entry (fun d => (V m c main_v2 : S24x1024.Idx → EReal) (ix2 (z 0) d))
    (fun d => (m ((c : Thread nD τ).loc main_arg2) : S1024x6144.Idx → EReal) (ix2 d (z 1)))
    ((m ((c : Thread nD τ).loc main_arg3) : S6144.Idx → EReal) (ix1 (z 1)))

theorem final3 (c : Dev nD) : (dats m 0 c).arrAt 3 cfg0.N = allRows m c := by
  refine (dats m 0 c).arrAt_eq_of_covers 3 _ (by decide +kernel) fun t hf y => ?_
  generalize hG : allRows m c = G
  blk_simp
  rw [after0_3]
  unfold out0_3
  frame_out
  idx_vars y
  subst hG
  have he : (((View.whole main_v4).slice (win0_3.rect t)).emb (ix2 y0 y1) : S24x6144.Idx)
      = ix2 y0 ⟨1024 * t.val + y1.val, cols t y1⟩ := by
    blk_ext [idx t]
  rw [he]
  refine (tile_at _ _ _ y0 y1).trans ?_
  have h0 := fun d => cond_block m c t y0 d
  have h1 := fun d => weight_block m c t d y1
  have h2 := bias_block m c t y1
  exact (congr (congrArg₂ entry (funext h0) (funext h1)) h2 :)

theorem rows_vectors (c : Dev nD) (z : S24x6144.Idx) (h : (z 0).val < 17) : allRows m c z
    = vectors (m ((c : Thread nD τ).loc main_arg0)) (m ((c : Thread nD τ).loc main_arg1)) (m ((c : Thread nD τ).loc main_arg2))
        (m ((c : Thread nD τ).loc main_arg3)) z := by
  unfold allRows vectors
  exact congrArg (fun v => entry v _ _) (funext fun d => cond_entry m c (z 0) h d)

end Cert.ModIdeal.ModValue

end
-- ==== Proof.Mod.Pair.lean ====
module

public import proofs.«01_k».proof.Defs
public import proofs.«01_k».proof.Proof.Mod.Value
public import proofs.«01_k».proof.Proof.Gen.ModRefIdeal.Read
public import proofs.«01_k».proof.Proof.Gen.ModRefIdeal.Run
public import proofs.«01_k».proof.Proof.Gen.On_modulation_rows

@[expose] public section

set_option maxRecDepth 16384

noncomputable section

/-! # The modulation vectors: kernel against reference -/

namespace Cert.ModPair

open Idealize.ShloMosaic Idealize.ShloMosaic.TcCoe Idealize.SL.Sem
open Cert.ModIdeal.ModValue (entry vectors)
open Cert.ModRefIdeal Cert.ModRefIdeal.Gen Cert.ModRefIdeal.Read

section

variable (x0 : FVec Ideal S16x1024 .f32) (x1 : FVec Ideal S1024 .f32) (x2 : FVec Ideal S1024x6144 .f32)
  (x3 : FVec Ideal S6144 .f32)

theorem silu_at (i : Fin 16) (d : Fin 1024) :
    val_main_v0 (F := Ideal) x0 (ix2 i d) = x0 (ix2 i d) * Ideal.logistic (x0 (ix2 i d)) := by
  pointwise [val_main_v0, val_main_call0_v5, val_main_call0_v4, val_main_call0_cst_0, val_main_call0_v3, val_main_call0_v2,
    val_main_call0_cst, val_main_call0_v1, val_main_call0_v0]
  rfl

theorem context_silu_at (d : Fin 1024) : val_main_v5 (F := Ideal) x1 (ix1 d) = x1 (ix1 d) * Ideal.logistic (x1 (ix1 d)) := by
  pointwise [val_main_v5, val_main_call1_v5, val_main_call1_v4, val_main_call1_cst_0, val_main_call1_v3, val_main_call1_v2,
    val_main_call1_cst, val_main_call1_v1, val_main_call1_v0]
  rfl

theorem latent_at (i : Fin 16) (j : Fin 6144) : val_main_v4 (F := Ideal) x0 x2 x3 (ix2 i j)
    = entry (fun d => x0 (ix2 i d)) (fun d => x2 (ix2 d j)) (x3 (ix1 j)) := by
  have h : val_main_v4 (F := Ideal) x0 x2 x3 (ix2 i j)
      = ∑ d, val_main_v0 (F := Ideal) x0 (ix2 i d) * x2 (ix2 d j) + x3 (ix1 j) := by
    unfold val_main_v4 val_main_v3 val_main_v2 val_main_v1
    generalize val_main_v0 (F := Ideal) x0 = v
    pointwise
  rw [h]
  simp only [silu_at]
  rfl

theorem context_at (j : Fin 6144) : val_main_v7 (F := Ideal) x1 x2 x3 (ix1 j)
    = entry (fun d => x1 (ix1 d)) (fun d => x2 (ix2 d j)) (x3 (ix1 j)) := by
  have h : val_main_v7 (F := Ideal) x1 x2 x3 (ix1 j)
      = ∑ d, val_main_v5 (F := Ideal) x1 (ix1 d) * x2 (ix2 d j) + x3 (ix1 j) := by
    unfold val_main_v7 val_main_v6
    generalize val_main_v5 (F := Ideal) x1 = v
    pointwise
  rw [h]
  simp only [context_silu_at]
  rfl

theorem vectors_eq (z : S24x6144.Idx) (h : (z 0).val < 17) :
    val_main_v10 (F := Ideal) x0 x1 x2 x3 z = vectors x0 x1 x2 x3 z := by
  idx_vars z
  have hz : z0.val < 17 := h
  have e : val_main_v10 (F := Ideal) x0 x1 x2 x3 (ix2 z0 z1)
      = if h : z0.val < 16 then val_main_v4 (F := Ideal) x0 x2 x3 (ix2 ⟨z0.val, h⟩ z1)
        else val_main_v7 (F := Ideal) x1 x2 x3 (ix1 z1) := by
    unfold val_main_v10 val_main_v9 val_main_v8
    generalize val_main_v4 (F := Ideal) x0 x2 x3 = A
    generalize val_main_v7 (F := Ideal) x1 x2 x3 = B
    pointwise
    rw [dif_pos hz]
  rw [e]
  unfold vectors
  by_cases h16 : z0.val < 16
  · rw [dif_pos h16, latent_at]
    exact congrArg (fun v => entry v _ _) (funext fun d => (by
      show _ = if h : z0.val < 16 then x0 (ix2 ⟨z0.val, h⟩ d) else x1 (ix1 d)
      rw [dif_pos h16]))
  · rw [dif_neg h16, context_at]
    exact congrArg (fun v => entry v _ _) (funext fun d => (by
      show _ = if h : z0.val < 16 then x0 (ix2 ⟨z0.val, h⟩ d) else x1 (ix1 d)
      rw [dif_neg h16]))

end

theorem row_word : ∀ n : Fin 24, IntOp.cmpi .slt (BitVec.ofNat 32 n.val) 17#32 = 1#1 → n.val < 17 := by decide +kernel

/-- The rows the value is claimed on are the first seventeen. -/
theorem row_lt {a0 a1 a2 a3} (i : (⟨2, ![24, 6144]⟩ : Shape).Idx)
    (h : On_modulation_rows.fn (F := Ideal) a0 a1 a2 a3 i = 1#1) : (i 0).val < 17 := by
  idx_vars i
  revert h
  pointwise [On_modulation_rows.fn]
  exact row_word i0

theorem algebraic : Cert.algebraic_ModIdeal_ModRefIdeal_on_modulation_rows := by
  intro m g m' g' _ hagree
  refine ⟨fun c => vectors (m ((c.tc : Thread ModIdeal.nD ModIdeal.τ).loc ModIdeal.main_arg0))
    (m ((c.tc : Thread ModIdeal.nD ModIdeal.τ).loc ModIdeal.main_arg1))
    (m ((c.tc : Thread ModIdeal.nD ModIdeal.τ).loc ModIdeal.main_arg2))
    (m ((c.tc : Thread ModIdeal.nD ModIdeal.τ).loc ModIdeal.main_arg3)), ?_, ?_⟩
  · refine (θ_run _ _ _).mono (fun r h c => ?_) (ModIdeal.Value.run_blocks m g)
    replace h := h c
    refine ⟨?_, h.2⟩
    intro i hi
    exact (congrFun (h.1.trans (ModIdeal.ModValue.final3 m c)) i).trans
      (ModIdeal.ModValue.rows_vectors m c i (row_lt i hi))
  · refine (θ_run _ _ _).mono (fun r h c => ?_) (ModRefIdeal.Value.run m' g')
    replace h := h c
    obtain ⟨a0, a1, a2, a3⟩ := hagree c
    refine ⟨?_, h.2⟩
    intro i hi
    refine (congrFun (h.1.trans (val_main_v10_eq (F := Ideal) _ _ _ _)) i).trans ((vectors_eq _ _ _ _ i (row_lt i hi)).trans ?_)
    exact congrFun (congr (congr (congr (congrArg vectors a0) a1) a2) a3) i

theorem reference_frame : Cert.quiescent_ModRefIdeal := fun m ρ _ =>
  (θ_run ModRefIdeal.defs _ _).mono
    (fun r h => ⟨fun c => (h c).2, Idealize.ShloMosaic.sem_eq_zero_of_no_sems (by decide) r.2⟩)
    (ModRefIdeal.Value.run (F := Ideal) m ρ)

end Cert.ModPair

end
-- ==== Proof.Short.Spec.lean ====
module

public import Idealize.ShloMosaic.Lib.Pointwise

@[expose] public section

noncomputable section

/-! # One row of the short convolution, as a formula

Seven taps along the sequence over the rows padded with zeros and SiLU; then, for each query and key head of 128
lanes, the division by its norm, and for the query heads the factor `128 ^ (-1/2)`. -/

namespace Cert.ShortSpec

open Idealize.ShloMosaic

/-- The seven taps `w` over seven rows `f`, added in order, and SiLU of the sum. -/
def conv (w f : ℕ → EReal) : EReal :=
  0 + w 0 * f 0 + w 1 * f 1 + w 2 * f 2 + w 3 * f 3 + w 4 * f 4 + w 5 * f 5 + w 6 * f 6

def act (w f : ℕ → EReal) : EReal := conv w f * Ideal.logistic (conv w f)

/-- A lane of a head over the head's norm, and with the queries' factor. -/
def unit (A : Fin 128 → EReal) (l : Fin 128) : EReal :=
  A l * Ideal.rsqrt ((∑ x, A x * A x) + Ideal.ofBits .f32 897988541#32)

def query (A : Fin 128 → EReal) (l : Fin 128) : EReal := unit A l * Ideal.ofBits .f32 1035273459#32

/-- The result's lane `l` of head `h`: four heads of queries, four of keys, four of values. -/
def out (h : ℕ) (A : Fin 128 → EReal) (l : Fin 128) : EReal :=
  if h < 4 then query A l else if h < 8 then unit A l else A l

/-- Row `j` of the weights, zero past their end. -/
def tap (W : (⟨2, ![7, 1536]⟩ : Shape).Idx → EReal) (ch : Fin 1536) (j : ℕ) : EReal :=
  if h : j < 7 then W (ix2 ⟨j, h⟩ ch) else 0

/-- Row `q` of sample `b` with three rows of zeros before and after its 256 rows. -/
def padRow (Y : (⟨2, ![4096, 1536]⟩ : Shape).Idx → EReal) (b : Fin 16) (ch : Fin 1536) (q : ℕ) : EReal :=
  if h : 3 ≤ q ∧ q < 259 then Y (ix2 ⟨256 * b.val + (q - 3), by omega⟩ ch) else 0

/-- Lane `l` of head `h` of row `p` of sample `b`. -/
def result (Y : (⟨2, ![4096, 1536]⟩ : Shape).Idx → EReal) (W : (⟨2, ![7, 1536]⟩ : Shape).Idx → EReal) (b : Fin 16)
    (p : ℕ) (h : Fin 12) (l : Fin 128) : EReal :=
  out h.val (fun l => act (tap W ⟨128 * h.val + l.val, by omega⟩)
    (fun j => padRow Y b ⟨128 * h.val + l.val, by omega⟩ (p + j))) l

end Cert.ShortSpec

end
-- ==== Proof.Short.Rows.lean ====
module

public import proofs.«01_k».proof.Proof.Gen.ShortIdeal.Value
public import proofs.«01_k».proof.Proof.Short.Spec
public import Idealize.ShloMosaic.Lib.Pipeline.ValueKit
public import Idealize.ShloMosaic.Lib.Pointwise

@[expose] public section

set_option maxRecDepth 16384

noncomputable section

/-! # A block of 64 rows and 128 lanes of the short convolution -/

namespace Cert.ShortIdeal.ShortValue

open Cert.ShortIdeal Cert.ShortIdeal.Gen Idealize.ShloMosaic Idealize.ShloMosaic.TcCoe Idealize.SL.Sem Cert.ShortSpec

/-- SiLU of a block, each row over its norm, and the factor of the queries. -/
def siluV (U : FVec Ideal S64x128 .f32) : FVec Ideal S64x128 .f32 := mulf U (logistic U)

def unitV (A : FVec Ideal S64x128 .f32) : FVec Ideal S64x128 .f32 :=
  mulf A (broadcastTo S64x128 (rsqrt (addf (shapeCast S64x1
    (multiReduction .add [1] S64 (mulf A A) 0x00000000#32 reduces_S64x128_S64 (.inl rfl) rfl) shapeCasts_S64_S64x1)
    (broadcast S64x1 (Scalar.ofBits .f32 0x358637BD#32)))) broadcasts_S64x1_S64x128)

def queryV (A : FVec Ideal S64x128 .f32) : FVec Ideal S64x128 .f32 :=
  mulf (unitV A) (broadcast S64x128 (Scalar.ofBits .f32 0x3DB504F3#32))

theorem silu_at (U : FVec Ideal S64x128 .f32) (r : Fin 64) (l : Fin 128) :
    siluV U (ix2 r l) = U (ix2 r l) * Ideal.logistic (U (ix2 r l)) := by
  pointwise [siluV]

theorem unit_at (A : FVec Ideal S64x128 .f32) (r : Fin 64) (l : Fin 128) :
    unitV A (ix2 r l) = unit (fun x => A (ix2 r x)) l := by
  pointwise [unitV]
  rfl

theorem query_at (A : FVec Ideal S64x128 .f32) (r : Fin 64) (l : Fin 128) :
    queryV A (ix2 r l) = query (fun x => A (ix2 r x)) l := by
  refine Eq.trans ?_ (congrArg (· * Ideal.ofBits .f32 1035273459#32) (unit_at A r l))
  unfold queryV
  generalize unitV A = B
  pointwise

/-- Row `p` of the scratch array, zero past its end. -/
def rowOf (P : S272x1536.Idx → EReal) (ch : Fin 1536) (p : ℕ) : EReal :=
  if h : p < 272 then P (ix2 ⟨p, h⟩ ch) else 0

theorem eq_rowOf (P : S272x1536.Idx → EReal) (a : Fin 272) (b ch : Fin 1536) (p : ℕ) (ha : a.val = p)
    (hb : b.val = ch.val) : P (ix2 a b) = rowOf P ch p := by
  obtain rfl : b = ch := Fin.ext hb
  subst ha
  unfold rowOf
  rw [dif_pos a.isLt]

theorem eq_tap (W : S7x1536.Idx → EReal) (a : Fin 7) (b ch : Fin 1536) (p : ℕ) (ha : a.val = p)
    (hb : b.val = ch.val) : W (ix2 a b) = tap W ch p := by
  obtain rfl : b = ch := Fin.ext hb
  subst ha
  unfold tap
  rw [dif_pos a.isLt]

/-- Lane `l` of head `h` of row `p` of a block, from the scratch array and the weights. -/
def lane (P : S272x1536.Idx → EReal) (W : S7x1536.Idx → EReal) (p : ℕ) (h : Fin 12) (l : Fin 128) : EReal :=
  out h.val (fun l => act (tap W ⟨128 * h.val + l.val, by omega⟩)
    (fun j => rowOf P ⟨128 * h.val + l.val, by omega⟩ (p + 5 + j))) l

/-- The block the kernel leaves. -/
def blockOf (P : S272x1536.Idx → EReal) (W : S7x1536.Idx → EReal) (z : S256x1536.Idx) : EReal :=
  lane P W (z 0).val ⟨(z 1).val / 128, by have : (z 1).val < 1536 := (z 1).isLt; omega⟩
    ⟨(z 1).val % 128, Nat.mod_lt _ (by decide)⟩

theorem blockOf_at (P : S272x1536.Idx → EReal) (W : S7x1536.Idx → EReal) (z : S256x1536.Idx) (p : ℕ) (h : Fin 12)
    (l : Fin 128) (h0 : (z 0).val = p) (h1 : (z 1).val = 128 * h.val + l.val) : blockOf P W z = lane P W p h l := by
  subst h0
  have := l.isLt
  have e1 : (⟨(z 1).val / 128, by have : (z 1).val < 1536 := (z 1).isLt; omega⟩ : Fin 12) = h :=
    Fin.ext (by show (z 1).val / 128 = _; omega)
  have e2 : (⟨(z 1).val % 128, Nat.mod_lt _ (by decide)⟩ : Fin 128) = l :=
    Fin.ext (by show (z 1).val % 128 = _; omega)
  unfold blockOf
  rw [e1, e2]

section

variable (P : FVec Ideal S272x1536 .f32) (W : FVec Ideal S7x1536 .f32) (a b : ℕ) (hb : b + 128 ≤ 1536)
  (w0 : ∀ i, (![0, b] : Fin 2 → ℕ) i + (![1, 128] : Fin 2 → ℕ) i ≤ S7x1536.size i)
  (y0 : ∀ i, (![a + 0, b] : Fin 2 → ℕ) i + (![64, 128] : Fin 2 → ℕ) i ≤ S272x1536.size i)
  (w1 : ∀ i, (![1, b] : Fin 2 → ℕ) i + (![1, 128] : Fin 2 → ℕ) i ≤ S7x1536.size i)
  (y1 : ∀ i, (![a + 1, b] : Fin 2 → ℕ) i + (![64, 128] : Fin 2 → ℕ) i ≤ S272x1536.size i)
  (w2 : ∀ i, (![2, b] : Fin 2 → ℕ) i + (![1, 128] : Fin 2 → ℕ) i ≤ S7x1536.size i)
  (y2 : ∀ i, (![a + 2, b] : Fin 2 → ℕ) i + (![64, 128] : Fin 2 → ℕ) i ≤ S272x1536.size i)
  (w3 : ∀ i, (![3, b] : Fin 2 → ℕ) i + (![1, 128] : Fin 2 → ℕ) i ≤ S7x1536.size i)
  (y3 : ∀ i, (![a + 3, b] : Fin 2 → ℕ) i + (![64, 128] : Fin 2 → ℕ) i ≤ S272x1536.size i)
  (w4 : ∀ i, (![4, b] : Fin 2 → ℕ) i + (![1, 128] : Fin 2 → ℕ) i ≤ S7x1536.size i)
  (y4 : ∀ i, (![a + 4, b] : Fin 2 → ℕ) i + (![64, 128] : Fin 2 → ℕ) i ≤ S272x1536.size i)
  (w5 : ∀ i, (![5, b] : Fin 2 → ℕ) i + (![1, 128] : Fin 2 → ℕ) i ≤ S7x1536.size i)
  (y5 : ∀ i, (![a + 5, b] : Fin 2 → ℕ) i + (![64, 128] : Fin 2 → ℕ) i ≤ S272x1536.size i)
  (w6 : ∀ i, (![6, b] : Fin 2 → ℕ) i + (![1, 128] : Fin 2 → ℕ) i ≤ S7x1536.size i)
  (y6 : ∀ i, (![a + 6, b] : Fin 2 → ℕ) i + (![64, 128] : Fin 2 → ℕ) i ≤ S272x1536.size i)

/-- The sum of the seven products of a row of weights with a block of the scratch array, from lane `b` and row `a` on. -/
def accV : FVec Ideal S64x128 .f32 :=
  k0_pay6 (F := Ideal) (k0_pay5 (F := Ideal)) (View.ld W (Rect.unit (s := S7x1536) ![0, b] ![1, 128] w0))
    (View.ld P (Rect.unit (s := S272x1536) ![a + 0, b] ![64, 128] y0)) (View.ld W (Rect.unit (s := S7x1536) ![1, b] ![1, 128] w1))
    (View.ld P (Rect.unit (s := S272x1536) ![a + 1, b] ![64, 128] y1)) (View.ld W (Rect.unit (s := S7x1536) ![2, b] ![1, 128] w2))
    (View.ld P (Rect.unit (s := S272x1536) ![a + 2, b] ![64, 128] y2)) (View.ld W (Rect.unit (s := S7x1536) ![3, b] ![1, 128] w3))
    (View.ld P (Rect.unit (s := S272x1536) ![a + 3, b] ![64, 128] y3)) (View.ld W (Rect.unit (s := S7x1536) ![4, b] ![1, 128] w4))
    (View.ld P (Rect.unit (s := S272x1536) ![a + 4, b] ![64, 128] y4)) (View.ld W (Rect.unit (s := S7x1536) ![5, b] ![1, 128] w5))
    (View.ld P (Rect.unit (s := S272x1536) ![a + 5, b] ![64, 128] y5)) (View.ld W (Rect.unit (s := S7x1536) ![6, b] ![1, 128] w6))
    (View.ld P (Rect.unit (s := S272x1536) ![a + 6, b] ![64, 128] y6))

theorem prod_at (j : ℕ) (hj : j < 7)
    (w : ∀ i, (![j, b] : Fin 2 → ℕ) i + (![1, 128] : Fin 2 → ℕ) i ≤ S7x1536.size i)
    (y : ∀ i, (![a + j, b] : Fin 2 → ℕ) i + (![64, 128] : Fin 2 → ℕ) i ≤ S272x1536.size i) (r : Fin 64) (l : Fin 128) :
    (show FVec Ideal S1x128 .f32 from View.ld (Val := Elt Ideal) (e' := .f32) W (Rect.unit (s := S7x1536) ![j, b] ![1, 128] w))
        (ix2 0 l)
      * (show FVec Ideal S64x128 .f32 from
          View.ld (Val := Elt Ideal) (e' := .f32) P (Rect.unit (s := S272x1536) ![a + j, b] ![64, 128] y)) (ix2 r l)
      = tap W ⟨b + l.val, by omega⟩ j * rowOf P ⟨b + l.val, by omega⟩ (a + r.val + j) := by
  have h0 : a + j + 64 ≤ 272 := y 0
  refine congrArg₂ HMul.hMul ?_ ?_
  · refine Eq.trans ?_ (eq_tap W ⟨j, hj⟩ ⟨b + l.val, by omega⟩ _ j rfl rfl)
    pointwise
  · refine Eq.trans ?_ (eq_rowOf P ⟨a + j + r.val, by omega⟩ ⟨b + l.val, by omega⟩ _ _ (by show a + j + r.val = _; omega) rfl)
    pointwise

include hb in
theorem acc_at (r : Fin 64) (l : Fin 128) : accV P W a b w0 y0 w1 y1 w2 y2 w3 y3 w4 y4 w5 y5 w6 y6 (ix2 r l)
    = conv (tap W ⟨b + l.val, by omega⟩) (fun j => rowOf P ⟨b + l.val, by omega⟩ (a + r.val + j)) := by
  unfold accV conv
  beta_reduce
  rw [← prod_at P W a b hb 0 (by decide) w0 y0 r l, ← prod_at P W a b hb 1 (by decide) w1 y1 r l, ← prod_at P W a b hb 2 (by decide) w2 y2 r l, ← prod_at P W a b hb 3 (by decide) w3 y3 r l, ← prod_at P W a b hb 4 (by decide) w4 y4 r l, ← prod_at P W a b hb 5 (by decide) w5 y5 r l, ← prod_at P W a b hb 6 (by decide) w6 y6 r l]
  pointwise [k0_pay6, k0_pay5]

include hb in
theorem act_at (r : Fin 64) (l : Fin 128) : siluV (accV P W a b w0 y0 w1 y1 w2 y2 w3 y3 w4 y4 w5 y5 w6 y6) (ix2 r l)
    = act (tap W ⟨b + l.val, by omega⟩) (fun j => rowOf P ⟨b + l.val, by omega⟩ (a + r.val + j)) := by
  rw [silu_at, acc_at P W a b hb]
  rfl

variable (a0 : ℕ) (h : Fin 12) (hab : a = a0 + 5) (hh : b = 128 * h.val)

include hab hh in
theorem blockOf_emb (i0 : ∀ i, (![a0, b] : Fin 2 → ℕ) i + (![64, 128] : Fin 2 → ℕ) i ≤ S256x1536.size i) (x : S64x128.Idx) :
    blockOf P W ((Rect.unit (s := S256x1536) ![a0, b] ![64, 128] i0).emb x) = lane P W (a0 + (x 0).val) h ⟨(x 1).val, (x 1).isLt⟩ := by
  have e0 : (((Rect.unit (s := S256x1536) ![a0, b] ![64, 128] i0).emb x) 0 : ℕ) = a0 + (x 0).val :=
    ValueKit.rect_emb_unit_val _ _ _ _ _
  have e1 : (((Rect.unit (s := S256x1536) ![a0, b] ![64, 128] i0).emb x) 1 : ℕ) = b + (x 1).val :=
    ValueKit.rect_emb_unit_val _ _ _ _ _
  have hx : (x 1).val < 128 := (x 1).isLt
  exact blockOf_at P W _ _ h ⟨(x 1).val, hx⟩ e0 (by rw [e1, hh])

include hb hab hh in
theorem lane_eq (r : Fin 64) (x : Fin 128) :
    siluV (accV P W a b w0 y0 w1 y1 w2 y2 w3 y3 w4 y4 w5 y5 w6 y6) (ix2 r x) = act (tap W ⟨128 * h.val + x.val, by omega⟩)
      (fun j => rowOf P ⟨128 * h.val + x.val, by omega⟩ (a0 + r.val + 5 + j)) := by
  refine (act_at P W a b hb w0 y0 w1 y1 w2 y2 w3 y3 w4 y4 w5 y5 w6 y6 r x).trans ?_
  subst hab hh
  refine congrArg (act _) (funext fun j => congrArg (rowOf P _) ?_)
  omega

include hb hab hh in
theorem piece_query (hq : h.val < 4) (i0 : ∀ i, (![a0, b] : Fin 2 → ℕ) i + (![64, 128] : Fin 2 → ℕ) i ≤ S256x1536.size i) (x : S64x128.Idx) :
    queryV (siluV (accV P W a b w0 y0 w1 y1 w2 y2 w3 y3 w4 y4 w5 y5 w6 y6)) x = blockOf P W ((Rect.unit (s := S256x1536) ![a0, b] ![64, 128] i0).emb x) := by
  refine Eq.trans ?_ (blockOf_emb P W a b a0 h hab hh i0 x).symm
  idx_vars x
  refine (query_at _ x0 x1).trans ?_
  refine Eq.trans ?_ (if_pos hq).symm
  exact congrArg (fun A => query A x1) (funext fun l => lane_eq P W a b hb w0 y0 w1 y1 w2 y2 w3 y3 w4 y4 w5 y5 w6 y6 a0 h hab hh x0 l)

include hb hab hh in
theorem piece_unit (hq : ¬h.val < 4 ∧ h.val < 8) (i0 : ∀ i, (![a0, b] : Fin 2 → ℕ) i + (![64, 128] : Fin 2 → ℕ) i ≤ S256x1536.size i) (x : S64x128.Idx) :
    unitV (siluV (accV P W a b w0 y0 w1 y1 w2 y2 w3 y3 w4 y4 w5 y5 w6 y6)) x = blockOf P W ((Rect.unit (s := S256x1536) ![a0, b] ![64, 128] i0).emb x) := by
  refine Eq.trans ?_ (blockOf_emb P W a b a0 h hab hh i0 x).symm
  idx_vars x
  refine (unit_at _ x0 x1).trans ?_
  refine Eq.trans ?_ ((if_neg hq.1).trans (if_pos hq.2)).symm
  exact congrArg (fun A => unit A x1) (funext fun l => lane_eq P W a b hb w0 y0 w1 y1 w2 y2 w3 y3 w4 y4 w5 y5 w6 y6 a0 h hab hh x0 l)

include hb hab hh in
theorem piece_plain (hq : ¬h.val < 4 ∧ ¬h.val < 8) (i0 : ∀ i, (![a0, b] : Fin 2 → ℕ) i + (![64, 128] : Fin 2 → ℕ) i ≤ S256x1536.size i) (x : S64x128.Idx) :
    siluV (accV P W a b w0 y0 w1 y1 w2 y2 w3 y3 w4 y4 w5 y5 w6 y6) x = blockOf P W ((Rect.unit (s := S256x1536) ![a0, b] ![64, 128] i0).emb x) := by
  refine Eq.trans ?_ (blockOf_emb P W a b a0 h hab hh i0 x).symm
  idx_vars x
  refine Eq.trans ?_ ((if_neg hq.1).trans (if_neg hq.2)).symm
  exact (fun l => lane_eq P W a b hb w0 y0 w1 y1 w2 y2 w3 y3 w4 y4 w5 y5 w6 y6 a0 h hab hh x0 l) x1

end

end Cert.ShortIdeal.ShortValue

end
-- ==== Proof.Short.Final.lean ====
module

public import proofs.«01_k».proof.Proof.Short.Rows

@[expose] public section

set_option maxRecDepth 16384

noncomputable section

/-! # The array the short convolution leaves -/

namespace Cert.ShortIdeal.ShortValue

open Cert.ShortIdeal Cert.ShortIdeal.Gen Idealize.ShloMosaic Idealize.ShloMosaic.TcCoe Idealize.SL.Sem Cert.ShortSpec
open Idealize.ShloMosaic.Pipeline (Dat)

/-- Row `q` of the scratch array: eight rows of zeros, the block's 256 rows, eight rows of zeros. -/
def padded (Y : S256x1536.Idx → EReal) (z : S272x1536.Idx) : EReal :=
  if h : 8 ≤ (z 0).val ∧ (z 0).val < 264 then Y (ix2 ⟨(z 0).val - 8, by omega⟩ ⟨(z 1).val, (z 1).isLt⟩) else 0

theorem padded_out (Y : S256x1536.Idx → EReal) (z : S272x1536.Idx) (h : ¬(8 ≤ (z 0).val ∧ (z 0).val < 264)) :
    padded Y z = 0 := dif_neg h

theorem padded_in (Y : S256x1536.Idx → EReal) (z : S272x1536.Idx) (a : Fin 256) (b : Fin 1536)
    (ha : (z 0).val = 8 + a.val) (hb : (z 1).val = b.val) : padded Y z = Y (ix2 a b) := by
  have := a.isLt
  unfold padded
  rw [dif_pos (by omega)]
  refine congrArg Y ?_
  congr 1
  · exact Fin.ext (by show (z 0).val - 8 = a.val; omega)
  · exact Fin.ext hb

/-- Each block begins a sample: its number has no remainder by one. -/
theorem whole_sample : ∀ n : Fin 16,
    (Scalar.cmpi CmpIPredicate.eq
        (Scalar.select
          (Scalar.andi
            (Scalar.xori (Scalar.cmpi CmpIPredicate.slt (Scalar.remsi (BitVec.ofNat 32 n.val) 1#32) 0#32)
              (Scalar.cmpi CmpIPredicate.slt 1#32 0#32))
            (Scalar.cmpi CmpIPredicate.ne (Scalar.remsi (BitVec.ofNat 32 n.val) 1#32) 0#32))
          (Scalar.addi (Scalar.remsi (BitVec.ofNat 32 n.val) 1#32) 1#32) (Scalar.remsi (BitVec.ofNat 32 n.val) 1#32))
        0#32) = 1#1 := by
  decide +kernel

/-- A sample is one block, so both ends of every block are the sample's. -/
theorem above_zero (i : grid0.Coords) (v : FVec Ideal S8x1536 .f32) (a : Fin 8) (b : Fin 1536) :
    k0_pay2 (F := Ideal) i v (ix2 a b) = 0 := by
  pointwise [k0_pay2]
  rw [whole_sample ⟨(i 0).val, (i 0).isLt⟩]
  rfl

theorem below_zero (i : grid0.Coords) (v : FVec Ideal S8x1536 .f32) (a : Fin 8) (b : Fin 1536) :
    k0_pay4 (F := Ideal) i v (ix2 a b) = 0 := by
  pointwise [k0_pay4]
  rw [whole_sample ⟨(i 0).val, (i 0).isLt⟩]
  rfl

/-- The scratch array after its three stores. -/
theorem scratch_eq (i : grid0.Coords) (u v : FVec Ideal S8x1536 .f32) (Y : FVec Ideal S256x1536 .f32) (h1 h2 h3) :
    View.canon (Val := Elt Ideal) (e := .f32) (s := S272x1536)
      [⟨Rect.unit (s := S272x1536) ![264, 0] ![8, 1536] h1, k0_pay4 (F := Ideal) i u⟩,
       ⟨Rect.unit (s := S272x1536) ![8, 0] ![256, 1536] h2, k0_pay3 (F := Ideal) Y⟩,
       ⟨Rect.unit (s := S272x1536) ![0, 0] ![8, 1536] h3, k0_pay2 (F := Ideal) i v⟩] = padded Y := by
  funext y
  refine View.canon_apply_of_pieces (Val := Elt Ideal) (e := .f32) (padded Y) _ ?_ y ?_
  · simp only [List.forall_mem_cons, List.not_mem_nil, false_implies, implies_true, and_true]
    refine ⟨fun x => ?_, fun x => ?_, fun x => ?_⟩
    · have hx : (x 0).val < 8 := (x 0).isLt
      have he : (((Rect.unit (s := S272x1536) ![264, 0] ![8, 1536] h1).emb x) 0 : ℕ) = 264 + (x 0).val :=
        ValueKit.rect_emb_unit_val _ _ _ _ _
      refine Eq.trans ?_ (padded_out Y _ (by omega)).symm
      clear he hx
      idx_vars x
      exact below_zero i u x0 x1
    · have he : (((Rect.unit (s := S272x1536) ![8, 0] ![256, 1536] h2).emb x) 0 : ℕ) = 8 + (x 0).val :=
        ValueKit.rect_emb_unit_val _ _ _ _ _
      have he' : (((Rect.unit (s := S272x1536) ![8, 0] ![256, 1536] h2).emb x) 1 : ℕ) = (x 1).val :=
        (ValueKit.rect_emb_unit_val _ _ _ _ _).trans (Nat.zero_add _)
      refine Eq.trans ?_ (padded_in Y _ (x 0) (x 1) he he').symm
      clear he he'
      idx_vars x
      pointwise [k0_pay3]
    · have hx : (x 0).val < 8 := (x 0).isLt
      have he : (((Rect.unit (s := S272x1536) ![0, 0] ![8, 1536] h3).emb x) 0 : ℕ) = (x 0).val :=
        (ValueKit.rect_emb_unit_val _ _ _ _ _).trans (Nat.zero_add _)
      refine Eq.trans ?_ (padded_out Y _ (by omega)).symm
      clear he hx
      idx_vars x
      exact above_zero i v x0 x1
  · have hy0 : (y 0).val < 272 := (y 0).isLt
    have hy1 : (y 1).val < 1536 := (y 1).isLt
    by_cases ha : (y 0).val < 8
    · exact ⟨_, .tail _ (.tail _ (.head _)), (Rect.mem_set_unit (inb := h3)).mpr (Fin.forall_fin_two.mpr
        ⟨⟨Nat.zero_le _, by show (y 0).val < 0 + 8; omega⟩, Nat.zero_le _, by show (y 1).val < 0 + 1536; omega⟩)⟩
    · by_cases hb : (y 0).val < 264
      · exact ⟨_, .tail _ (.head _), (Rect.mem_set_unit (inb := h2)).mpr (Fin.forall_fin_two.mpr
          ⟨⟨by show 8 ≤ (y 0).val; omega, by show (y 0).val < 8 + 256; omega⟩, Nat.zero_le _,
            by show (y 1).val < 0 + 1536; omega⟩)⟩
      · exact ⟨_, .head _, (Rect.mem_set_unit (inb := h1)).mpr (Fin.forall_fin_two.mpr
          ⟨⟨by show 264 ≤ (y 0).val; omega, by show (y 0).val < 264 + 8; omega⟩, Nat.zero_le _,
            by show (y 1).val < 0 + 1536; omega⟩)⟩

theorem read_ld (L : List (View.Piece (Elt Ideal) S272x1536 .f32)) (r : Rect S272x1536) :
    (View.whole (sig := sig) cc0_scratch0).readCov L r.toLoadRect = View.ld (View.canon L) r :=
  View.readCov_eq_canon' _ _ _

/-- The array the kernel computes, from its arguments. -/
def array (Y : S4096x1536.Idx → EReal) (W : S7x1536.Idx → EReal) (z : S4096x1536.Idx) : EReal :=
  result Y W ⟨(z 0).val / 256, by have : (z 0).val < 4096 := (z 0).isLt; omega⟩ ((z 0).val % 256)
    ⟨(z 1).val / 128, by have : (z 1).val < 1536 := (z 1).isLt; omega⟩ ⟨(z 1).val % 128, Nat.mod_lt _ (by decide)⟩

theorem array_at (Y : S4096x1536.Idx → EReal) (W : S7x1536.Idx → EReal) (z : S4096x1536.Idx) (b : Fin 16) (p : ℕ)
    (h : Fin 12) (l : Fin 128) (hp : p < 256) (h0 : (z 0).val = 256 * b.val + p) (h1 : (z 1).val = 128 * h.val + l.val) :
    array Y W z = result Y W b p h l := by
  have := l.isLt
  have e0 : (⟨(z 0).val / 256, by have : (z 0).val < 4096 := (z 0).isLt; omega⟩ : Fin 16) = b :=
    Fin.ext (by show (z 0).val / 256 = _; omega)
  have e1 : (⟨(z 1).val / 128, by have : (z 1).val < 1536 := (z 1).isLt; omega⟩ : Fin 12) = h :=
    Fin.ext (by show (z 1).val / 128 = _; omega)
  have e2 : (⟨(z 1).val % 128, Nat.mod_lt _ (by decide)⟩ : Fin 128) = l :=
    Fin.ext (by show (z 1).val % 128 = _; omega)
  have e3 : (z 0).val % 256 = p := by omega
  unfold array
  rw [e0, e1, e2, e3]

variable (m : (ℓ : Loc nD τ sig) → Buf (Elt Ideal) ℓ)

/-- The windows' index maps. -/
theorem idx : ∀ t : Fin cfg0.N, win0_1.index t = ![t.val, 0] ∧ win0_3.index t = ![0, 0] ∧ win0_4.index t = ![t.val, 0] :=
  (by decide +kernel : ∀ t : Fin grid0.N, _)

theorem rows_block (c : Dev nD) (t : Fin cfg0.N) (q : Fin 256) (ch : Fin 1536) :
    (show FVec Ideal S256x1536 .f32 from iblk m c 1 t) (ix2 q ch)
      = (m ((c : Thread nD τ).loc main_arg0) : S4096x1536.Idx → EReal)
          (ix2 ⟨256 * t.val + q.val, by have : t.val < 16 := t.isLt; omega⟩ ch) := by
  blk_point [iblk, V, idx t]

theorem taps_block (c : Dev nD) (t : Fin cfg0.N) :
    (show FVec Ideal S7x1536 .f32 from iblk m c 3 t) = (m ((c : Thread nD τ).loc main_arg1) : S7x1536.Idx → EReal) := by
  blk_ext! [iblk, V, idx t]

/-- A row of the scratch array is a row of the sample, three of zeros on either side. -/
theorem rowOf_padded (c : Dev nD) (t : Fin cfg0.N) (ch : Fin 1536) (q : ℕ) :
    rowOf (padded (iblk m c 1 t)) ch (q + 5)
      = padRow (m ((c : Thread nD τ).loc main_arg0) : S4096x1536.Idx → EReal) ⟨t.val, t.isLt⟩ ch q := by
  unfold rowOf padRow
  by_cases h : 3 ≤ q ∧ q < 259
  · rw [dif_pos h, dif_pos (show q + 5 < 272 by omega)]
    refine (padded_in _ _ ⟨q - 3, by omega⟩ ch (by show q + 5 = 8 + (q - 3); omega) rfl).trans ?_
    exact rows_block m c t ⟨q - 3, by omega⟩ ch
  · rw [dif_neg h]
    by_cases h' : q + 5 < 272
    · rw [dif_pos h']
      exact padded_out _ _ (by show ¬(8 ≤ q + 5 ∧ q + 5 < 264); omega)
    · rw [dif_neg h']

/-- The block of the kernel's array. -/
theorem block_eq (c : Dev nD) (t : Fin cfg0.N) (p : Fin 256) (h : Fin 12) (l : Fin 128) :
    lane (padded (iblk m c 1 t)) (iblk m c 3 t) p.val h l
      = result (m ((c : Thread nD τ).loc main_arg0)) (m ((c : Thread nD τ).loc main_arg1)) ⟨t.val, t.isLt⟩ p.val h l := by
  unfold lane result
  refine congrArg (fun A => out h.val A l) (funext fun l => ?_)
  refine congrArg₂ act (congrArg (fun W => tap W _) (taps_block m c t)) (funext fun j => ?_)
  refine Eq.trans ?_ (rowOf_padded m c t _ (p.val + j))
  exact congrArg (rowOf _ _) (by omega)

theorem final (c : Dev nD) : (dats m 0 c).arrAt 4 cfg0.N
    = array (m ((c : Thread nD τ).loc main_arg0)) (m ((c : Thread nD τ).loc main_arg1)) := by
  refine (dats m 0 c).arrAt_eq_of_covers 4 _ (by decide +kernel) fun t hf y => ?_
  generalize hG : array (m ((c : Thread nD τ).loc main_arg0)) (m ((c : Thread nD τ).loc main_arg1)) = G
  blk_simp
  rw [after0_4]
  unfold outsAt0
  unfold out0_A_4 kernelRun0_A
  frame_out
  simp only [read_ld]
  simp only [scratch_eq]
  refine Eq.trans (View.canon_apply_of_pieces (Val := Elt Ideal) (e := .f32) (blockOf (padded (iblk m c 1 t)) (iblk m c 3 t)) _ ?_ y ?_) ?_
  · simp only [List.forall_mem_cons, List.not_mem_nil, false_implies, implies_true, and_true]
    generalize padded (iblk m c 1 t) = P
    generalize iblk m c 3 t = W
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact fun x => piece_plain P W 197 1408 (by decide)
        inb_S7x1536_S1x128_0_1408 inb_S272x1536_S64x128_197_1408 inb_S7x1536_S1x128_1_1408 inb_S272x1536_S64x128_198_1408 inb_S7x1536_S1x128_2_1408 inb_S272x1536_S64x128_199_1408 inb_S7x1536_S1x128_3_1408 inb_S272x1536_S64x128_200_1408 inb_S7x1536_S1x128_4_1408 inb_S272x1536_S64x128_201_1408 inb_S7x1536_S1x128_5_1408 inb_S272x1536_S64x128_202_1408 inb_S7x1536_S1x128_6_1408 inb_S272x1536_S64x128_203_1408
        192 11 rfl rfl (by decide) _ x
    · exact fun x => piece_plain P W 197 1280 (by decide)
        inb_S7x1536_S1x128_0_1280 inb_S272x1536_S64x128_197_1280 inb_S7x1536_S1x128_1_1280 inb_S272x1536_S64x128_198_1280 inb_S7x1536_S1x128_2_1280 inb_S272x1536_S64x128_199_1280 inb_S7x1536_S1x128_3_1280 inb_S272x1536_S64x128_200_1280 inb_S7x1536_S1x128_4_1280 inb_S272x1536_S64x128_201_1280 inb_S7x1536_S1x128_5_1280 inb_S272x1536_S64x128_202_1280 inb_S7x1536_S1x128_6_1280 inb_S272x1536_S64x128_203_1280
        192 10 rfl rfl (by decide) _ x
    · exact fun x => piece_plain P W 197 1152 (by decide)
        inb_S7x1536_S1x128_0_1152 inb_S272x1536_S64x128_197_1152 inb_S7x1536_S1x128_1_1152 inb_S272x1536_S64x128_198_1152 inb_S7x1536_S1x128_2_1152 inb_S272x1536_S64x128_199_1152 inb_S7x1536_S1x128_3_1152 inb_S272x1536_S64x128_200_1152 inb_S7x1536_S1x128_4_1152 inb_S272x1536_S64x128_201_1152 inb_S7x1536_S1x128_5_1152 inb_S272x1536_S64x128_202_1152 inb_S7x1536_S1x128_6_1152 inb_S272x1536_S64x128_203_1152
        192 9 rfl rfl (by decide) _ x
    · exact fun x => piece_plain P W 197 1024 (by decide)
        inb_S7x1536_S1x128_0_1024 inb_S272x1536_S64x128_197_1024 inb_S7x1536_S1x128_1_1024 inb_S272x1536_S64x128_198_1024 inb_S7x1536_S1x128_2_1024 inb_S272x1536_S64x128_199_1024 inb_S7x1536_S1x128_3_1024 inb_S272x1536_S64x128_200_1024 inb_S7x1536_S1x128_4_1024 inb_S272x1536_S64x128_201_1024 inb_S7x1536_S1x128_5_1024 inb_S272x1536_S64x128_202_1024 inb_S7x1536_S1x128_6_1024 inb_S272x1536_S64x128_203_1024
        192 8 rfl rfl (by decide) _ x
    · exact fun x => piece_unit P W 197 896 (by decide)
        inb_S7x1536_S1x128_0_896 inb_S272x1536_S64x128_197_896 inb_S7x1536_S1x128_1_896 inb_S272x1536_S64x128_198_896 inb_S7x1536_S1x128_2_896 inb_S272x1536_S64x128_199_896 inb_S7x1536_S1x128_3_896 inb_S272x1536_S64x128_200_896 inb_S7x1536_S1x128_4_896 inb_S272x1536_S64x128_201_896 inb_S7x1536_S1x128_5_896 inb_S272x1536_S64x128_202_896 inb_S7x1536_S1x128_6_896 inb_S272x1536_S64x128_203_896
        192 7 rfl rfl (by decide) _ x
    · exact fun x => piece_unit P W 197 768 (by decide)
        inb_S7x1536_S1x128_0_768 inb_S272x1536_S64x128_197_768 inb_S7x1536_S1x128_1_768 inb_S272x1536_S64x128_198_768 inb_S7x1536_S1x128_2_768 inb_S272x1536_S64x128_199_768 inb_S7x1536_S1x128_3_768 inb_S272x1536_S64x128_200_768 inb_S7x1536_S1x128_4_768 inb_S272x1536_S64x128_201_768 inb_S7x1536_S1x128_5_768 inb_S272x1536_S64x128_202_768 inb_S7x1536_S1x128_6_768 inb_S272x1536_S64x128_203_768
        192 6 rfl rfl (by decide) _ x
    · exact fun x => piece_unit P W 197 640 (by decide)
        inb_S7x1536_S1x128_0_640 inb_S272x1536_S64x128_197_640 inb_S7x1536_S1x128_1_640 inb_S272x1536_S64x128_198_640 inb_S7x1536_S1x128_2_640 inb_S272x1536_S64x128_199_640 inb_S7x1536_S1x128_3_640 inb_S272x1536_S64x128_200_640 inb_S7x1536_S1x128_4_640 inb_S272x1536_S64x128_201_640 inb_S7x1536_S1x128_5_640 inb_S272x1536_S64x128_202_640 inb_S7x1536_S1x128_6_640 inb_S272x1536_S64x128_203_640
        192 5 rfl rfl (by decide) _ x
    · exact fun x => piece_unit P W 197 512 (by decide)
        inb_S7x1536_S1x128_0_512 inb_S272x1536_S64x128_197_512 inb_S7x1536_S1x128_1_512 inb_S272x1536_S64x128_198_512 inb_S7x1536_S1x128_2_512 inb_S272x1536_S64x128_199_512 inb_S7x1536_S1x128_3_512 inb_S272x1536_S64x128_200_512 inb_S7x1536_S1x128_4_512 inb_S272x1536_S64x128_201_512 inb_S7x1536_S1x128_5_512 inb_S272x1536_S64x128_202_512 inb_S7x1536_S1x128_6_512 inb_S272x1536_S64x128_203_512
        192 4 rfl rfl (by decide) _ x
    · exact fun x => piece_query P W 197 384 (by decide)
        inb_S7x1536_S1x128_0_384 inb_S272x1536_S64x128_197_384 inb_S7x1536_S1x128_1_384 inb_S272x1536_S64x128_198_384 inb_S7x1536_S1x128_2_384 inb_S272x1536_S64x128_199_384 inb_S7x1536_S1x128_3_384 inb_S272x1536_S64x128_200_384 inb_S7x1536_S1x128_4_384 inb_S272x1536_S64x128_201_384 inb_S7x1536_S1x128_5_384 inb_S272x1536_S64x128_202_384 inb_S7x1536_S1x128_6_384 inb_S272x1536_S64x128_203_384
        192 3 rfl rfl (by decide) _ x
    · exact fun x => piece_query P W 197 256 (by decide)
        inb_S7x1536_S1x128_0_256 inb_S272x1536_S64x128_197_256 inb_S7x1536_S1x128_1_256 inb_S272x1536_S64x128_198_256 inb_S7x1536_S1x128_2_256 inb_S272x1536_S64x128_199_256 inb_S7x1536_S1x128_3_256 inb_S272x1536_S64x128_200_256 inb_S7x1536_S1x128_4_256 inb_S272x1536_S64x128_201_256 inb_S7x1536_S1x128_5_256 inb_S272x1536_S64x128_202_256 inb_S7x1536_S1x128_6_256 inb_S272x1536_S64x128_203_256
        192 2 rfl rfl (by decide) _ x
    · exact fun x => piece_query P W 197 128 (by decide)
        inb_S7x1536_S1x128_0_128 inb_S272x1536_S64x128_197_128 inb_S7x1536_S1x128_1_128 inb_S272x1536_S64x128_198_128 inb_S7x1536_S1x128_2_128 inb_S272x1536_S64x128_199_128 inb_S7x1536_S1x128_3_128 inb_S272x1536_S64x128_200_128 inb_S7x1536_S1x128_4_128 inb_S272x1536_S64x128_201_128 inb_S7x1536_S1x128_5_128 inb_S272x1536_S64x128_202_128 inb_S7x1536_S1x128_6_128 inb_S272x1536_S64x128_203_128
        192 1 rfl rfl (by decide) _ x
    · exact fun x => piece_query P W 197 0 (by decide)
        inb_S7x1536_S1x128_0_0 inb_S272x1536_S64x128_197_0 inb_S7x1536_S1x128_1_0 inb_S272x1536_S64x128_198_0 inb_S7x1536_S1x128_2_0 inb_S272x1536_S64x128_199_0 inb_S7x1536_S1x128_3_0 inb_S272x1536_S64x128_200_0 inb_S7x1536_S1x128_4_0 inb_S272x1536_S64x128_201_0 inb_S7x1536_S1x128_5_0 inb_S272x1536_S64x128_202_0 inb_S7x1536_S1x128_6_0 inb_S272x1536_S64x128_203_0
        192 0 rfl rfl (by decide) _ x
    · exact fun x => piece_plain P W 133 1408 (by decide)
        inb_S7x1536_S1x128_0_1408 inb_S272x1536_S64x128_133_1408 inb_S7x1536_S1x128_1_1408 inb_S272x1536_S64x128_134_1408 inb_S7x1536_S1x128_2_1408 inb_S272x1536_S64x128_135_1408 inb_S7x1536_S1x128_3_1408 inb_S272x1536_S64x128_136_1408 inb_S7x1536_S1x128_4_1408 inb_S272x1536_S64x128_137_1408 inb_S7x1536_S1x128_5_1408 inb_S272x1536_S64x128_138_1408 inb_S7x1536_S1x128_6_1408 inb_S272x1536_S64x128_139_1408
        128 11 rfl rfl (by decide) _ x
    · exact fun x => piece_plain P W 133 1280 (by decide)
        inb_S7x1536_S1x128_0_1280 inb_S272x1536_S64x128_133_1280 inb_S7x1536_S1x128_1_1280 inb_S272x1536_S64x128_134_1280 inb_S7x1536_S1x128_2_1280 inb_S272x1536_S64x128_135_1280 inb_S7x1536_S1x128_3_1280 inb_S272x1536_S64x128_136_1280 inb_S7x1536_S1x128_4_1280 inb_S272x1536_S64x128_137_1280 inb_S7x1536_S1x128_5_1280 inb_S272x1536_S64x128_138_1280 inb_S7x1536_S1x128_6_1280 inb_S272x1536_S64x128_139_1280
        128 10 rfl rfl (by decide) _ x
    · exact fun x => piece_plain P W 133 1152 (by decide)
        inb_S7x1536_S1x128_0_1152 inb_S272x1536_S64x128_133_1152 inb_S7x1536_S1x128_1_1152 inb_S272x1536_S64x128_134_1152 inb_S7x1536_S1x128_2_1152 inb_S272x1536_S64x128_135_1152 inb_S7x1536_S1x128_3_1152 inb_S272x1536_S64x128_136_1152 inb_S7x1536_S1x128_4_1152 inb_S272x1536_S64x128_137_1152 inb_S7x1536_S1x128_5_1152 inb_S272x1536_S64x128_138_1152 inb_S7x1536_S1x128_6_1152 inb_S272x1536_S64x128_139_1152
        128 9 rfl rfl (by decide) _ x
    · exact fun x => piece_plain P W 133 1024 (by decide)
        inb_S7x1536_S1x128_0_1024 inb_S272x1536_S64x128_133_1024 inb_S7x1536_S1x128_1_1024 inb_S272x1536_S64x128_134_1024 inb_S7x1536_S1x128_2_1024 inb_S272x1536_S64x128_135_1024 inb_S7x1536_S1x128_3_1024 inb_S272x1536_S64x128_136_1024 inb_S7x1536_S1x128_4_1024 inb_S272x1536_S64x128_137_1024 inb_S7x1536_S1x128_5_1024 inb_S272x1536_S64x128_138_1024 inb_S7x1536_S1x128_6_1024 inb_S272x1536_S64x128_139_1024
        128 8 rfl rfl (by decide) _ x
    · exact fun x => piece_unit P W 133 896 (by decide)
        inb_S7x1536_S1x128_0_896 inb_S272x1536_S64x128_133_896 inb_S7x1536_S1x128_1_896 inb_S272x1536_S64x128_134_896 inb_S7x1536_S1x128_2_896 inb_S272x1536_S64x128_135_896 inb_S7x1536_S1x128_3_896 inb_S272x1536_S64x128_136_896 inb_S7x1536_S1x128_4_896 inb_S272x1536_S64x128_137_896 inb_S7x1536_S1x128_5_896 inb_S272x1536_S64x128_138_896 inb_S7x1536_S1x128_6_896 inb_S272x1536_S64x128_139_896
        128 7 rfl rfl (by decide) _ x
    · exact fun x => piece_unit P W 133 768 (by decide)
        inb_S7x1536_S1x128_0_768 inb_S272x1536_S64x128_133_768 inb_S7x1536_S1x128_1_768 inb_S272x1536_S64x128_134_768 inb_S7x1536_S1x128_2_768 inb_S272x1536_S64x128_135_768 inb_S7x1536_S1x128_3_768 inb_S272x1536_S64x128_136_768 inb_S7x1536_S1x128_4_768 inb_S272x1536_S64x128_137_768 inb_S7x1536_S1x128_5_768 inb_S272x1536_S64x128_138_768 inb_S7x1536_S1x128_6_768 inb_S272x1536_S64x128_139_768
        128 6 rfl rfl (by decide) _ x
    · exact fun x => piece_unit P W 133 640 (by decide)
        inb_S7x1536_S1x128_0_640 inb_S272x1536_S64x128_133_640 inb_S7x1536_S1x128_1_640 inb_S272x1536_S64x128_134_640 inb_S7x1536_S1x128_2_640 inb_S272x1536_S64x128_135_640 inb_S7x1536_S1x128_3_640 inb_S272x1536_S64x128_136_640 inb_S7x1536_S1x128_4_640 inb_S272x1536_S64x128_137_640 inb_S7x1536_S1x128_5_640 inb_S272x1536_S64x128_138_640 inb_S7x1536_S1x128_6_640 inb_S272x1536_S64x128_139_640
        128 5 rfl rfl (by decide) _ x
    · exact fun x => piece_unit P W 133 512 (by decide)
        inb_S7x1536_S1x128_0_512 inb_S272x1536_S64x128_133_512 inb_S7x1536_S1x128_1_512 inb_S272x1536_S64x128_134_512 inb_S7x1536_S1x128_2_512 inb_S272x1536_S64x128_135_512 inb_S7x1536_S1x128_3_512 inb_S272x1536_S64x128_136_512 inb_S7x1536_S1x128_4_512 inb_S272x1536_S64x128_137_512 inb_S7x1536_S1x128_5_512 inb_S272x1536_S64x128_138_512 inb_S7x1536_S1x128_6_512 inb_S272x1536_S64x128_139_512
        128 4 rfl rfl (by decide) _ x
    · exact fun x => piece_query P W 133 384 (by decide)
        inb_S7x1536_S1x128_0_384 inb_S272x1536_S64x128_133_384 inb_S7x1536_S1x128_1_384 inb_S272x1536_S64x128_134_384 inb_S7x1536_S1x128_2_384 inb_S272x1536_S64x128_135_384 inb_S7x1536_S1x128_3_384 inb_S272x1536_S64x128_136_384 inb_S7x1536_S1x128_4_384 inb_S272x1536_S64x128_137_384 inb_S7x1536_S1x128_5_384 inb_S272x1536_S64x128_138_384 inb_S7x1536_S1x128_6_384 inb_S272x1536_S64x128_139_384
        128 3 rfl rfl (by decide) _ x
    · exact fun x => piece_query P W 133 256 (by decide)
        inb_S7x1536_S1x128_0_256 inb_S272x1536_S64x128_133_256 inb_S7x1536_S1x128_1_256 inb_S272x1536_S64x128_134_256 inb_S7x1536_S1x128_2_256 inb_S272x1536_S64x128_135_256 inb_S7x1536_S1x128_3_256 inb_S272x1536_S64x128_136_256 inb_S7x1536_S1x128_4_256 inb_S272x1536_S64x128_137_256 inb_S7x1536_S1x128_5_256 inb_S272x1536_S64x128_138_256 inb_S7x1536_S1x128_6_256 inb_S272x1536_S64x128_139_256
        128 2 rfl rfl (by decide) _ x
    · exact fun x => piece_query P W 133 128 (by decide)
        inb_S7x1536_S1x128_0_128 inb_S272x1536_S64x128_133_128 inb_S7x1536_S1x128_1_128 inb_S272x1536_S64x128_134_128 inb_S7x1536_S1x128_2_128 inb_S272x1536_S64x128_135_128 inb_S7x1536_S1x128_3_128 inb_S272x1536_S64x128_136_128 inb_S7x1536_S1x128_4_128 inb_S272x1536_S64x128_137_128 inb_S7x1536_S1x128_5_128 inb_S272x1536_S64x128_138_128 inb_S7x1536_S1x128_6_128 inb_S272x1536_S64x128_139_128
        128 1 rfl rfl (by decide) _ x
    · exact fun x => piece_query P W 133 0 (by decide)
        inb_S7x1536_S1x128_0_0 inb_S272x1536_S64x128_133_0 inb_S7x1536_S1x128_1_0 inb_S272x1536_S64x128_134_0 inb_S7x1536_S1x128_2_0 inb_S272x1536_S64x128_135_0 inb_S7x1536_S1x128_3_0 inb_S272x1536_S64x128_136_0 inb_S7x1536_S1x128_4_0 inb_S272x1536_S64x128_137_0 inb_S7x1536_S1x128_5_0 inb_S272x1536_S64x128_138_0 inb_S7x1536_S1x128_6_0 inb_S272x1536_S64x128_139_0
        128 0 rfl rfl (by decide) _ x
    · exact fun x => piece_plain P W 69 1408 (by decide)
        inb_S7x1536_S1x128_0_1408 inb_S272x1536_S64x128_69_1408 inb_S7x1536_S1x128_1_1408 inb_S272x1536_S64x128_70_1408 inb_S7x1536_S1x128_2_1408 inb_S272x1536_S64x128_71_1408 inb_S7x1536_S1x128_3_1408 inb_S272x1536_S64x128_72_1408 inb_S7x1536_S1x128_4_1408 inb_S272x1536_S64x128_73_1408 inb_S7x1536_S1x128_5_1408 inb_S272x1536_S64x128_74_1408 inb_S7x1536_S1x128_6_1408 inb_S272x1536_S64x128_75_1408
        64 11 rfl rfl (by decide) _ x
    · exact fun x => piece_plain P W 69 1280 (by decide)
        inb_S7x1536_S1x128_0_1280 inb_S272x1536_S64x128_69_1280 inb_S7x1536_S1x128_1_1280 inb_S272x1536_S64x128_70_1280 inb_S7x1536_S1x128_2_1280 inb_S272x1536_S64x128_71_1280 inb_S7x1536_S1x128_3_1280 inb_S272x1536_S64x128_72_1280 inb_S7x1536_S1x128_4_1280 inb_S272x1536_S64x128_73_1280 inb_S7x1536_S1x128_5_1280 inb_S272x1536_S64x128_74_1280 inb_S7x1536_S1x128_6_1280 inb_S272x1536_S64x128_75_1280
        64 10 rfl rfl (by decide) _ x
    · exact fun x => piece_plain P W 69 1152 (by decide)
        inb_S7x1536_S1x128_0_1152 inb_S272x1536_S64x128_69_1152 inb_S7x1536_S1x128_1_1152 inb_S272x1536_S64x128_70_1152 inb_S7x1536_S1x128_2_1152 inb_S272x1536_S64x128_71_1152 inb_S7x1536_S1x128_3_1152 inb_S272x1536_S64x128_72_1152 inb_S7x1536_S1x128_4_1152 inb_S272x1536_S64x128_73_1152 inb_S7x1536_S1x128_5_1152 inb_S272x1536_S64x128_74_1152 inb_S7x1536_S1x128_6_1152 inb_S272x1536_S64x128_75_1152
        64 9 rfl rfl (by decide) _ x
    · exact fun x => piece_plain P W 69 1024 (by decide)
        inb_S7x1536_S1x128_0_1024 inb_S272x1536_S64x128_69_1024 inb_S7x1536_S1x128_1_1024 inb_S272x1536_S64x128_70_1024 inb_S7x1536_S1x128_2_1024 inb_S272x1536_S64x128_71_1024 inb_S7x1536_S1x128_3_1024 inb_S272x1536_S64x128_72_1024 inb_S7x1536_S1x128_4_1024 inb_S272x1536_S64x128_73_1024 inb_S7x1536_S1x128_5_1024 inb_S272x1536_S64x128_74_1024 inb_S7x1536_S1x128_6_1024 inb_S272x1536_S64x128_75_1024
        64 8 rfl rfl (by decide) _ x
    · exact fun x => piece_unit P W 69 896 (by decide)
        inb_S7x1536_S1x128_0_896 inb_S272x1536_S64x128_69_896 inb_S7x1536_S1x128_1_896 inb_S272x1536_S64x128_70_896 inb_S7x1536_S1x128_2_896 inb_S272x1536_S64x128_71_896 inb_S7x1536_S1x128_3_896 inb_S272x1536_S64x128_72_896 inb_S7x1536_S1x128_4_896 inb_S272x1536_S64x128_73_896 inb_S7x1536_S1x128_5_896 inb_S272x1536_S64x128_74_896 inb_S7x1536_S1x128_6_896 inb_S272x1536_S64x128_75_896
        64 7 rfl rfl (by decide) _ x
    · exact fun x => piece_unit P W 69 768 (by decide)
        inb_S7x1536_S1x128_0_768 inb_S272x1536_S64x128_69_768 inb_S7x1536_S1x128_1_768 inb_S272x1536_S64x128_70_768 inb_S7x1536_S1x128_2_768 inb_S272x1536_S64x128_71_768 inb_S7x1536_S1x128_3_768 inb_S272x1536_S64x128_72_768 inb_S7x1536_S1x128_4_768 inb_S272x1536_S64x128_73_768 inb_S7x1536_S1x128_5_768 inb_S272x1536_S64x128_74_768 inb_S7x1536_S1x128_6_768 inb_S272x1536_S64x128_75_768
        64 6 rfl rfl (by decide) _ x
    · exact fun x => piece_unit P W 69 640 (by decide)
        inb_S7x1536_S1x128_0_640 inb_S272x1536_S64x128_69_640 inb_S7x1536_S1x128_1_640 inb_S272x1536_S64x128_70_640 inb_S7x1536_S1x128_2_640 inb_S272x1536_S64x128_71_640 inb_S7x1536_S1x128_3_640 inb_S272x1536_S64x128_72_640 inb_S7x1536_S1x128_4_640 inb_S272x1536_S64x128_73_640 inb_S7x1536_S1x128_5_640 inb_S272x1536_S64x128_74_640 inb_S7x1536_S1x128_6_640 inb_S272x1536_S64x128_75_640
        64 5 rfl rfl (by decide) _ x
    · exact fun x => piece_unit P W 69 512 (by decide)
        inb_S7x1536_S1x128_0_512 inb_S272x1536_S64x128_69_512 inb_S7x1536_S1x128_1_512 inb_S272x1536_S64x128_70_512 inb_S7x1536_S1x128_2_512 inb_S272x1536_S64x128_71_512 inb_S7x1536_S1x128_3_512 inb_S272x1536_S64x128_72_512 inb_S7x1536_S1x128_4_512 inb_S272x1536_S64x128_73_512 inb_S7x1536_S1x128_5_512 inb_S272x1536_S64x128_74_512 inb_S7x1536_S1x128_6_512 inb_S272x1536_S64x128_75_512
        64 4 rfl rfl (by decide) _ x
    · exact fun x => piece_query P W 69 384 (by decide)
        inb_S7x1536_S1x128_0_384 inb_S272x1536_S64x128_69_384 inb_S7x1536_S1x128_1_384 inb_S272x1536_S64x128_70_384 inb_S7x1536_S1x128_2_384 inb_S272x1536_S64x128_71_384 inb_S7x1536_S1x128_3_384 inb_S272x1536_S64x128_72_384 inb_S7x1536_S1x128_4_384 inb_S272x1536_S64x128_73_384 inb_S7x1536_S1x128_5_384 inb_S272x1536_S64x128_74_384 inb_S7x1536_S1x128_6_384 inb_S272x1536_S64x128_75_384
        64 3 rfl rfl (by decide) _ x
    · exact fun x => piece_query P W 69 256 (by decide)
        inb_S7x1536_S1x128_0_256 inb_S272x1536_S64x128_69_256 inb_S7x1536_S1x128_1_256 inb_S272x1536_S64x128_70_256 inb_S7x1536_S1x128_2_256 inb_S272x1536_S64x128_71_256 inb_S7x1536_S1x128_3_256 inb_S272x1536_S64x128_72_256 inb_S7x1536_S1x128_4_256 inb_S272x1536_S64x128_73_256 inb_S7x1536_S1x128_5_256 inb_S272x1536_S64x128_74_256 inb_S7x1536_S1x128_6_256 inb_S272x1536_S64x128_75_256
        64 2 rfl rfl (by decide) _ x
    · exact fun x => piece_query P W 69 128 (by decide)
        inb_S7x1536_S1x128_0_128 inb_S272x1536_S64x128_69_128 inb_S7x1536_S1x128_1_128 inb_S272x1536_S64x128_70_128 inb_S7x1536_S1x128_2_128 inb_S272x1536_S64x128_71_128 inb_S7x1536_S1x128_3_128 inb_S272x1536_S64x128_72_128 inb_S7x1536_S1x128_4_128 inb_S272x1536_S64x128_73_128 inb_S7x1536_S1x128_5_128 inb_S272x1536_S64x128_74_128 inb_S7x1536_S1x128_6_128 inb_S272x1536_S64x128_75_128
        64 1 rfl rfl (by decide) _ x
    · exact fun x => piece_query P W 69 0 (by decide)
        inb_S7x1536_S1x128_0_0 inb_S272x1536_S64x128_69_0 inb_S7x1536_S1x128_1_0 inb_S272x1536_S64x128_70_0 inb_S7x1536_S1x128_2_0 inb_S272x1536_S64x128_71_0 inb_S7x1536_S1x128_3_0 inb_S272x1536_S64x128_72_0 inb_S7x1536_S1x128_4_0 inb_S272x1536_S64x128_73_0 inb_S7x1536_S1x128_5_0 inb_S272x1536_S64x128_74_0 inb_S7x1536_S1x128_6_0 inb_S272x1536_S64x128_75_0
        64 0 rfl rfl (by decide) _ x
    · exact fun x => piece_plain P W 5 1408 (by decide)
        inb_S7x1536_S1x128_0_1408 inb_S272x1536_S64x128_5_1408 inb_S7x1536_S1x128_1_1408 inb_S272x1536_S64x128_6_1408 inb_S7x1536_S1x128_2_1408 inb_S272x1536_S64x128_7_1408 inb_S7x1536_S1x128_3_1408 inb_S272x1536_S64x128_8_1408 inb_S7x1536_S1x128_4_1408 inb_S272x1536_S64x128_9_1408 inb_S7x1536_S1x128_5_1408 inb_S272x1536_S64x128_10_1408 inb_S7x1536_S1x128_6_1408 inb_S272x1536_S64x128_11_1408
        0 11 rfl rfl (by decide) _ x
    · exact fun x => piece_plain P W 5 1280 (by decide)
        inb_S7x1536_S1x128_0_1280 inb_S272x1536_S64x128_5_1280 inb_S7x1536_S1x128_1_1280 inb_S272x1536_S64x128_6_1280 inb_S7x1536_S1x128_2_1280 inb_S272x1536_S64x128_7_1280 inb_S7x1536_S1x128_3_1280 inb_S272x1536_S64x128_8_1280 inb_S7x1536_S1x128_4_1280 inb_S272x1536_S64x128_9_1280 inb_S7x1536_S1x128_5_1280 inb_S272x1536_S64x128_10_1280 inb_S7x1536_S1x128_6_1280 inb_S272x1536_S64x128_11_1280
        0 10 rfl rfl (by decide) _ x
    · exact fun x => piece_plain P W 5 1152 (by decide)
        inb_S7x1536_S1x128_0_1152 inb_S272x1536_S64x128_5_1152 inb_S7x1536_S1x128_1_1152 inb_S272x1536_S64x128_6_1152 inb_S7x1536_S1x128_2_1152 inb_S272x1536_S64x128_7_1152 inb_S7x1536_S1x128_3_1152 inb_S272x1536_S64x128_8_1152 inb_S7x1536_S1x128_4_1152 inb_S272x1536_S64x128_9_1152 inb_S7x1536_S1x128_5_1152 inb_S272x1536_S64x128_10_1152 inb_S7x1536_S1x128_6_1152 inb_S272x1536_S64x128_11_1152
        0 9 rfl rfl (by decide) _ x
    · exact fun x => piece_plain P W 5 1024 (by decide)
        inb_S7x1536_S1x128_0_1024 inb_S272x1536_S64x128_5_1024 inb_S7x1536_S1x128_1_1024 inb_S272x1536_S64x128_6_1024 inb_S7x1536_S1x128_2_1024 inb_S272x1536_S64x128_7_1024 inb_S7x1536_S1x128_3_1024 inb_S272x1536_S64x128_8_1024 inb_S7x1536_S1x128_4_1024 inb_S272x1536_S64x128_9_1024 inb_S7x1536_S1x128_5_1024 inb_S272x1536_S64x128_10_1024 inb_S7x1536_S1x128_6_1024 inb_S272x1536_S64x128_11_1024
        0 8 rfl rfl (by decide) _ x
    · exact fun x => piece_unit P W 5 896 (by decide)
        inb_S7x1536_S1x128_0_896 inb_S272x1536_S64x128_5_896 inb_S7x1536_S1x128_1_896 inb_S272x1536_S64x128_6_896 inb_S7x1536_S1x128_2_896 inb_S272x1536_S64x128_7_896 inb_S7x1536_S1x128_3_896 inb_S272x1536_S64x128_8_896 inb_S7x1536_S1x128_4_896 inb_S272x1536_S64x128_9_896 inb_S7x1536_S1x128_5_896 inb_S272x1536_S64x128_10_896 inb_S7x1536_S1x128_6_896 inb_S272x1536_S64x128_11_896
        0 7 rfl rfl (by decide) _ x
    · exact fun x => piece_unit P W 5 768 (by decide)
        inb_S7x1536_S1x128_0_768 inb_S272x1536_S64x128_5_768 inb_S7x1536_S1x128_1_768 inb_S272x1536_S64x128_6_768 inb_S7x1536_S1x128_2_768 inb_S272x1536_S64x128_7_768 inb_S7x1536_S1x128_3_768 inb_S272x1536_S64x128_8_768 inb_S7x1536_S1x128_4_768 inb_S272x1536_S64x128_9_768 inb_S7x1536_S1x128_5_768 inb_S272x1536_S64x128_10_768 inb_S7x1536_S1x128_6_768 inb_S272x1536_S64x128_11_768
        0 6 rfl rfl (by decide) _ x
    · exact fun x => piece_unit P W 5 640 (by decide)
        inb_S7x1536_S1x128_0_640 inb_S272x1536_S64x128_5_640 inb_S7x1536_S1x128_1_640 inb_S272x1536_S64x128_6_640 inb_S7x1536_S1x128_2_640 inb_S272x1536_S64x128_7_640 inb_S7x1536_S1x128_3_640 inb_S272x1536_S64x128_8_640 inb_S7x1536_S1x128_4_640 inb_S272x1536_S64x128_9_640 inb_S7x1536_S1x128_5_640 inb_S272x1536_S64x128_10_640 inb_S7x1536_S1x128_6_640 inb_S272x1536_S64x128_11_640
        0 5 rfl rfl (by decide) _ x
    · exact fun x => piece_unit P W 5 512 (by decide)
        inb_S7x1536_S1x128_0_512 inb_S272x1536_S64x128_5_512 inb_S7x1536_S1x128_1_512 inb_S272x1536_S64x128_6_512 inb_S7x1536_S1x128_2_512 inb_S272x1536_S64x128_7_512 inb_S7x1536_S1x128_3_512 inb_S272x1536_S64x128_8_512 inb_S7x1536_S1x128_4_512 inb_S272x1536_S64x128_9_512 inb_S7x1536_S1x128_5_512 inb_S272x1536_S64x128_10_512 inb_S7x1536_S1x128_6_512 inb_S272x1536_S64x128_11_512
        0 4 rfl rfl (by decide) _ x
    · exact fun x => piece_query P W 5 384 (by decide)
        inb_S7x1536_S1x128_0_384 inb_S272x1536_S64x128_5_384 inb_S7x1536_S1x128_1_384 inb_S272x1536_S64x128_6_384 inb_S7x1536_S1x128_2_384 inb_S272x1536_S64x128_7_384 inb_S7x1536_S1x128_3_384 inb_S272x1536_S64x128_8_384 inb_S7x1536_S1x128_4_384 inb_S272x1536_S64x128_9_384 inb_S7x1536_S1x128_5_384 inb_S272x1536_S64x128_10_384 inb_S7x1536_S1x128_6_384 inb_S272x1536_S64x128_11_384
        0 3 rfl rfl (by decide) _ x
    · exact fun x => piece_query P W 5 256 (by decide)
        inb_S7x1536_S1x128_0_256 inb_S272x1536_S64x128_5_256 inb_S7x1536_S1x128_1_256 inb_S272x1536_S64x128_6_256 inb_S7x1536_S1x128_2_256 inb_S272x1536_S64x128_7_256 inb_S7x1536_S1x128_3_256 inb_S272x1536_S64x128_8_256 inb_S7x1536_S1x128_4_256 inb_S272x1536_S64x128_9_256 inb_S7x1536_S1x128_5_256 inb_S272x1536_S64x128_10_256 inb_S7x1536_S1x128_6_256 inb_S272x1536_S64x128_11_256
        0 2 rfl rfl (by decide) _ x
    · exact fun x => piece_query P W 5 128 (by decide)
        inb_S7x1536_S1x128_0_128 inb_S272x1536_S64x128_5_128 inb_S7x1536_S1x128_1_128 inb_S272x1536_S64x128_6_128 inb_S7x1536_S1x128_2_128 inb_S272x1536_S64x128_7_128 inb_S7x1536_S1x128_3_128 inb_S272x1536_S64x128_8_128 inb_S7x1536_S1x128_4_128 inb_S272x1536_S64x128_9_128 inb_S7x1536_S1x128_5_128 inb_S272x1536_S64x128_10_128 inb_S7x1536_S1x128_6_128 inb_S272x1536_S64x128_11_128
        0 1 rfl rfl (by decide) _ x
    · exact fun x => piece_query P W 5 0 (by decide)
        inb_S7x1536_S1x128_0_0 inb_S272x1536_S64x128_5_0 inb_S7x1536_S1x128_1_0 inb_S272x1536_S64x128_6_0 inb_S7x1536_S1x128_2_0 inb_S272x1536_S64x128_7_0 inb_S7x1536_S1x128_3_0 inb_S272x1536_S64x128_8_0 inb_S7x1536_S1x128_4_0 inb_S272x1536_S64x128_9_0 inb_S7x1536_S1x128_5_0 inb_S272x1536_S64x128_10_0 inb_S7x1536_S1x128_6_0 inb_S272x1536_S64x128_11_0
        0 0 rfl rfl (by decide) _ x
  · exact View.cover_of_tiledL (s := S256x1536) _ S64x128.size (by sl_kernel_rfl) y
  · subst hG
    idx_vars y
    have h1 := y1.isLt
    have h0 := y0.isLt
    refine (blockOf_at _ _ _ y0.val ⟨y1.val / 128, by omega⟩ ⟨y1.val % 128, by omega⟩ rfl (by show y1.val = 128 * (y1.val / 128) + y1.val % 128; omega)).trans ?_
    refine (block_eq m c t y0 _ _).trans ?_
    have ht : t.val < 16 := t.isLt
    have he : (((View.whole main_v0).slice (win0_4.rect t)).emb (ix2 y0 y1) : S4096x1536.Idx)
        = ix2 ⟨256 * t.val + y0.val, by omega⟩ y1 := by
      blk_ext [idx t]
    refine Eq.trans ?_ (congrArg (array _ _) he.symm)
    refine (array_at _ _ _ ⟨t.val, ht⟩ y0.val ⟨y1.val / 128, by omega⟩ ⟨y1.val % 128, by omega⟩ h0 rfl ?_).symm
    show y1.val = 128 * (y1.val / 128) + y1.val % 128
    omega

end Cert.ShortIdeal.ShortValue

end
-- ==== Proof.Short.Ref.lean ====
module

public import proofs.«01_k».proof.Proof.Gen.ShortRefIdeal.Read
public import proofs.«01_k».proof.Proof.Short.Spec
public import Idealize.ShloMosaic.Lib.Pointwise

@[expose] public section

set_option maxRecDepth 16384

noncomputable section

/-! # The reference of the short convolution, read at an index -/

namespace Cert.ShortRefIdeal.ShortValue

open Cert.ShortRefIdeal Cert.ShortRefIdeal.Gen Cert.ShortRefIdeal.Read Idealize.ShloMosaic Cert.ShortSpec

section

variable (x0 : FVec Ideal S4096x1536 .f32) (x1 : FVec Ideal S7x1536 .f32) (b : Fin 16) (p : Fin 256) (ch : Fin 1536)

/-- The padded array's row `q` of sample `b`. -/
theorem pad_at (q : Fin 262) : val_main_v1 (F := Ideal) x0 (ix3 b q ch) = padRow x0 b ch q.val := by
  pointwise [val_main_v1, val_main_v0, val_main_call0_v0, val_main_c]
  unfold padRow
  by_cases h : 3 ≤ q.val ∧ q.val - 3 < 256
  · rw [dif_pos h, dif_pos (by omega)]
    congr 2
    apply Fin.ext
    try simp
    try omega
  · rw [dif_neg h, dif_neg (by omega)]
    simp [FloatOps.sitofp]

theorem eq_tap (j : Fin 7) (n : ℕ) (hj : j.val = n) : x1 (ix2 j ch) = tap x1 ch n := by
  subst hj
  unfold tap
  rw [dif_pos j.isLt]

/-- One product of the sum: the tap's weights times the shifted row. -/
theorem tap_eq (q : Fin 262) (n : ℕ) (hq : q.val = n + p.val) (j : Fin 7) (hj : j.val = n) (a : EReal) :
    a + val_main_v1 (F := Ideal) x0 (ix3 b q ch) * x1 (ix2 j ch) = a + tap x1 ch n * padRow x0 b ch (p.val + n) := by
  rw [pad_at, mul_comm, eq_tap x1 ch j n hj, hq, Nat.add_comm n]

theorem tap0 : val_main_v9 (F := Ideal) x0 x1 (ix3 b p ch)
    = val_main_v2 (F := Ideal) (ix3 b p ch) + tap x1 ch 0 * padRow x0 b ch (p.val + 0) := by
  pointwise [val_main_v3, val_main_v4, val_main_v5, val_main_v6, val_main_v7, val_main_v8, val_main_v9]
  exact tap_eq x0 x1 b p ch _ 0 (by show _ = _; simp; try omega) _ rfl _

theorem tap1 : val_main_v16 (F := Ideal) x0 x1 (ix3 b p ch)
    = val_main_v9 (F := Ideal) x0 x1 (ix3 b p ch) + tap x1 ch 1 * padRow x0 b ch (p.val + 1) := by
  pointwise [val_main_v10, val_main_v11, val_main_v12, val_main_v13, val_main_v14, val_main_v15, val_main_v16]
  exact tap_eq x0 x1 b p ch _ 1 (by rfl) _ rfl _

theorem tap2 : val_main_v23 (F := Ideal) x0 x1 (ix3 b p ch)
    = val_main_v16 (F := Ideal) x0 x1 (ix3 b p ch) + tap x1 ch 2 * padRow x0 b ch (p.val + 2) := by
  pointwise [val_main_v17, val_main_v18, val_main_v19, val_main_v20, val_main_v21, val_main_v22, val_main_v23]
  exact tap_eq x0 x1 b p ch _ 2 (by rfl) _ rfl _

theorem tap3 : val_main_v30 (F := Ideal) x0 x1 (ix3 b p ch)
    = val_main_v23 (F := Ideal) x0 x1 (ix3 b p ch) + tap x1 ch 3 * padRow x0 b ch (p.val + 3) := by
  pointwise [val_main_v24, val_main_v25, val_main_v26, val_main_v27, val_main_v28, val_main_v29, val_main_v30]
  exact tap_eq x0 x1 b p ch _ 3 (by rfl) _ rfl _

theorem tap4 : val_main_v37 (F := Ideal) x0 x1 (ix3 b p ch)
    = val_main_v30 (F := Ideal) x0 x1 (ix3 b p ch) + tap x1 ch 4 * padRow x0 b ch (p.val + 4) := by
  pointwise [val_main_v31, val_main_v32, val_main_v33, val_main_v34, val_main_v35, val_main_v36, val_main_v37]
  exact tap_eq x0 x1 b p ch _ 4 (by rfl) _ rfl _

theorem tap5 : val_main_v44 (F := Ideal) x0 x1 (ix3 b p ch)
    = val_main_v37 (F := Ideal) x0 x1 (ix3 b p ch) + tap x1 ch 5 * padRow x0 b ch (p.val + 5) := by
  pointwise [val_main_v38, val_main_v39, val_main_v40, val_main_v41, val_main_v42, val_main_v43, val_main_v44]
  exact tap_eq x0 x1 b p ch _ 5 (by rfl) _ rfl _

theorem tap6 : val_main_v51 (F := Ideal) x0 x1 (ix3 b p ch)
    = val_main_v44 (F := Ideal) x0 x1 (ix3 b p ch) + tap x1 ch 6 * padRow x0 b ch (p.val + 6) := by
  pointwise [val_main_v45, val_main_v46, val_main_v47, val_main_v48, val_main_v49, val_main_v50, val_main_v51]
  exact tap_eq x0 x1 b p ch _ 6 (by rfl) _ rfl _

theorem conv_at : val_main_v51 (F := Ideal) x0 x1 (ix3 b p ch)
    = conv (tap x1 ch) (fun j => padRow x0 b ch (p.val + j)) := by
  have h0 : val_main_v2 (F := Ideal) (ix3 b p ch) = 0 := by
    pointwise [val_main_v2, val_main_cst]
  rw [tap6, tap5, tap4, tap3, tap2, tap1, tap0, h0]
  rfl

theorem silu_at : val_main_v52 (F := Ideal) x0 x1 (ix3 b p ch)
    = act (tap x1 ch) (fun j => padRow x0 b ch (p.val + j)) := by
  have h : val_main_v52 (F := Ideal) x0 x1 (ix3 b p ch)
      = val_main_v51 (F := Ideal) x0 x1 (ix3 b p ch) * Ideal.logistic (val_main_v51 (F := Ideal) x0 x1 (ix3 b p ch)) := by
    pointwise [val_main_v52, val_main_call1_v5, val_main_call1_v4, val_main_call1_cst_0, val_main_call1_v3,
      val_main_call1_cst, val_main_call1_v2, val_main_call1_v1, val_main_call1_v0]
    rfl
  rw [h, conv_at]
  rfl

end

section

variable (x0 : FVec Ideal S4096x1536 .f32) (x1 : FVec Ideal S7x1536 .f32) (r : Fin 4096) (l : Fin 128)

/-- The lanes of head `h` of row `r`, before the norms. -/
theorem lanes_at (h : Fin 12) : val_main_v53 (F := Ideal) x0 x1 (ix3 r h l)
    = act (tap x1 ⟨128 * h.val + l.val, by omega⟩)
        (fun j => padRow x0 ⟨r.val / 256, by omega⟩ ⟨128 * h.val + l.val, by omega⟩ (r.val % 256 + j)) := by
  refine Eq.trans ?_ (silu_at x0 x1 ⟨r.val / 256, by omega⟩ ⟨r.val % 256, by omega⟩ ⟨128 * h.val + l.val, by omega⟩)
  pointwise [val_main_v53]
  refine congrArg (val_main_v52 (F := Ideal) x0 x1) ?_
  have hl := l.isLt
  have hh := h.isLt
  congr 1
  exact Fin.ext (by show h.val * 128 + l.val = 128 * h.val + l.val; omega)

theorem query_at (h : Fin 4) : val_main_v66 (F := Ideal) x0 x1 (ix3 r h l)
    = query (fun l => val_main_v53 (F := Ideal) x0 x1 (ix3 r (⟨h.val, by omega⟩ : Fin 12) l)) l := by
  have hs : ∀ l, val_main_v54 (F := Ideal) x0 x1 (ix3 r h l) = val_main_v53 (F := Ideal) x0 x1 (ix3 r (⟨h.val, by omega⟩ : Fin 12) l) := by
    intro l
    pointwise [val_main_v54]
  simp only [← hs]
  pointwise [val_main_v66, val_main_v65, val_main_cst_2, val_main_v64, val_main_v63, val_main_v62, val_main_v61, val_main_v60,
    val_main_cst_1, val_main_v59, val_main_v58, val_main_cst_0, val_main_v57]
  rfl

theorem key_at (h : Fin 4) : val_main_v74 (F := Ideal) x0 x1 (ix3 r h l)
    = unit (fun l => val_main_v53 (F := Ideal) x0 x1 (ix3 r (⟨4 + h.val, by omega⟩ : Fin 12) l)) l := by
  have hs : ∀ l, val_main_v55 (F := Ideal) x0 x1 (ix3 r h l) = val_main_v53 (F := Ideal) x0 x1 (ix3 r (⟨4 + h.val, by omega⟩ : Fin 12) l) := by
    intro l
    pointwise [val_main_v55]
  simp only [← hs]
  pointwise [val_main_v74, val_main_v73, val_main_v72, val_main_v71, val_main_v70,
    val_main_cst_4, val_main_v69, val_main_v68, val_main_cst_3, val_main_v67]
  rfl

theorem value_at (h : Fin 4) : val_main_v56 (F := Ideal) x0 x1 (ix3 r h l)
    = val_main_v53 (F := Ideal) x0 x1 (ix3 r (⟨8 + h.val, by omega⟩ : Fin 12) l) := by
  pointwise [val_main_v56]

end

theorem head_at (x0 : FVec Ideal S4096x1536 .f32) (x1 : FVec Ideal S7x1536 .f32) (r : Fin 4096) (h : Fin 12) (l : Fin 128) :
    val_main_v75 (F := Ideal) x0 x1 (ix3 r h l) = out h.val (fun l => val_main_v53 (F := Ideal) x0 x1 (ix3 r h l)) l := by
  have hh := h.isLt
  pointwise [val_main_v75]
  unfold out
  by_cases h4 : h.val < 4
  · rw [dif_pos h4, if_pos h4]
    exact query_at x0 x1 r l ⟨h.val, h4⟩
  · rw [dif_neg h4, if_neg h4]
    by_cases h8 : h.val < 8
    · rw [dif_pos (show h.val - 4 < 4 by omega), if_pos h8]
      refine (key_at x0 x1 r l ⟨h.val - 4, by omega⟩).trans ?_
      have e : (⟨4 + (h.val - 4), by omega⟩ : Fin 12) = h := Fin.ext (by show 4 + (h.val - 4) = h.val; omega)
      exact congrArg (fun h => unit (fun l => val_main_v53 (F := Ideal) x0 x1 (ix3 r h l)) l) e
    · rw [dif_neg (show ¬h.val - 4 < 4 by omega), if_neg h8]
      refine (value_at x0 x1 r l ⟨h.val - 4 - 4, by omega⟩).trans ?_
      have e : (⟨8 + (h.val - 4 - 4), by omega⟩ : Fin 12) = h := Fin.ext (by show 8 + (h.val - 4 - 4) = h.val; omega)
      exact congrArg (fun h => val_main_v53 (F := Ideal) x0 x1 (ix3 r h l)) e

theorem result_at (x0 : FVec Ideal S4096x1536 .f32) (x1 : FVec Ideal S7x1536 .f32) (r : Fin 4096) (ch : Fin 1536) :
    val_main_v76 (F := Ideal) x0 x1 (ix2 r ch) = result x0 x1 ⟨r.val / 256, by omega⟩ (r.val % 256)
      ⟨ch.val / 128, by omega⟩ ⟨ch.val % 128, Nat.mod_lt _ (by decide)⟩ := by
  refine Eq.trans ?_ ((head_at x0 x1 r ⟨ch.val / 128, by omega⟩ ⟨ch.val % 128, Nat.mod_lt _ (by decide)⟩).trans ?_)
  · pointwise [val_main_v76]
  · unfold result
    exact congrArg (fun A => out (ch.val / 128) A _) (funext fun l => lanes_at x0 x1 r l _)

end Cert.ShortRefIdeal.ShortValue

end
-- ==== Proof.Short.Pair.lean ====
module

public import proofs.«01_k».proof.Defs
public import proofs.«01_k».proof.Proof.Short.Final
public import proofs.«01_k».proof.Proof.Short.Ref
public import proofs.«01_k».proof.Proof.Gen.ShortRefIdeal.Run

@[expose] public section

set_option maxRecDepth 16384

noncomputable section

/-! # The context rows' short convolution: kernel against reference -/

namespace Cert.ShortPair

open Idealize.ShloMosaic Idealize.ShloMosaic.TcCoe Idealize.SL.Sem Cert.ShortSpec

/-- The reference's array is the kernel's. -/
theorem ref_eq (Y : FVec Ideal ShortRefIdeal.S4096x1536 .f32) (W : FVec Ideal ShortRefIdeal.S7x1536 .f32) :
    ShortRefIdeal.Read.val_main_v76 (F := Ideal) Y W = ShortIdeal.ShortValue.array Y W := by
  funext z
  idx_vars z
  exact ShortRefIdeal.ShortValue.result_at Y W z0 z1

/-- Every run of the reference ends, leaves its arguments as they were, and it declares no semaphore. -/
theorem reference_frame : Cert.quiescent_ShortRefIdeal := fun m ρ _ =>
  (θ_run ShortRefIdeal.defs _ _).mono
    (fun r h => ⟨fun c => (h c).2, Idealize.ShloMosaic.sem_eq_zero_of_no_sems (by decide) r.2⟩)
    (ShortRefIdeal.Value.run (F := Ideal) m ρ)

/-- The value claim of the short convolution. -/
theorem algebraic [hK : Cert.ShortIdeal.Facts] [hR : Cert.ShortRefIdeal.Facts] :
    Cert.algebraic_ShortIdeal_ShortRefIdeal (hShortIdeal := hK) (hShortRefIdeal := hR) := by
  intro m g m' g' _ hagree
  refine ⟨fun c => ShortIdeal.ShortValue.array (m ((c.tc : Thread ShortIdeal.nD ShortIdeal.τ).loc ShortIdeal.main_arg0))
    (m ((c.tc : Thread ShortIdeal.nD ShortIdeal.τ).loc ShortIdeal.main_arg1)), ?_, ?_⟩
  · refine (θ_run _ _ _).mono (fun r h c => ⟨(h c).1.trans (ShortIdeal.ShortValue.final m c), (h c).2⟩)
      (ShortIdeal.Value.run_blocks m g)
  · refine (θ_run _ _ _).mono (fun r h c => ⟨(h c).1.trans ?_, (h c).2⟩) (ShortRefIdeal.Value.run m' g')
    obtain ⟨a0, a1⟩ := hagree c
    refine ((ShortRefIdeal.Read.val_main_v76_eq (F := Ideal) m' c).trans
      (ref_eq _ _)).trans ?_
    exact congr (congrArg ShortIdeal.ShortValue.array a0) a1

end Cert.ShortPair

end
-- ==== Proof.lean ====
module

public import proofs.«01_k».proof.Defs
public import proofs.«01_k».proof.Proof.Gen.Conv
public import proofs.«01_k».proof.Proof.Gen.Conv.Skeleton
public import proofs.«01_k».proof.Proof.Gen.Conv.Loops
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Loops
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.On_gate_columns
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.Pre_tables_in_bounds
public import proofs.«01_k».proof.Proof.Gen.ExpertsRefIdeal.Run
public import proofs.«01_k».proof.Proof.Gen.ExpertsRefIdeal.Read
public import proofs.«01_k».proof.Proof.Conv.Pair
public import proofs.«01_k».proof.Proof.Proj.Pair
public import proofs.«01_k».proof.Proof.Experts.Pair
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.On_without_scores
public import proofs.«01_k».proof.Proof.Mix.Pair
public import proofs.«01_k».proof.Proof.Gen.Pre_finite
public import proofs.«01_k».proof.Proof.Mix.PairFinite
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import proofs.«01_k».proof.Proof.Gen.On_context_gate_columns
public import proofs.«01_k».proof.Proof.Ctx.Pair
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.On_modulation_rows
public import proofs.«01_k».proof.Proof.Mod.Pair
public import proofs.«01_k».proof.Proof.Gen.Short
public import proofs.«01_k».proof.Proof.Gen.Short.Skeleton
public import proofs.«01_k».proof.Proof.Gen.Short.Launch
public import proofs.«01_k».proof.Proof.Gen.Short.Points
public import proofs.«01_k».proof.Proof.Gen.Short.Frame
public import proofs.«01_k».proof.Proof.Gen.ShortIdeal
public import proofs.«01_k».proof.Proof.Gen.ShortIdeal.Skeleton
public import proofs.«01_k».proof.Proof.Gen.ShortIdeal.Launch
public import proofs.«01_k».proof.Proof.Gen.ShortIdeal.Points
public import proofs.«01_k».proof.Proof.Gen.ShortIdeal.Frame
public import proofs.«01_k».proof.Proof.Gen.ShortIdeal.Value
public import proofs.«01_k».proof.Proof.Gen.ShortRefIdeal
public import proofs.«01_k».proof.Proof.Gen.ShortRefIdeal.Run
public import proofs.«01_k».proof.Proof.Gen.ShortRefIdeal.Read
public import proofs.«01_k».proof.Proof.Short.Pair
public import Idealize.ShloMosaic.Adequacy
public import Idealize.ShloMosaic.Init

@[expose] public section

noncomputable section

namespace Cert.Proof

open Idealize.ShloMosaic Idealize.SL.Sem

theorem claim : Cert.Claim := ⟨Cert.Conv.Gen.facts, Cert.ConvIdeal.Gen.facts, Cert.ConvRefIdeal.Gen.facts, Cert.Proj.Gen.facts, Cert.ProjIdeal.Gen.facts, Cert.ProjRefIdeal.Gen.facts, Cert.Experts.Gen.facts, Cert.ExpertsIdeal.Gen.facts, Cert.ExpertsRefIdeal.Gen.facts, Cert.Mix.Gen.facts, Cert.MixIdeal.Gen.facts, Cert.MixRefIdeal.Gen.facts, Cert.Ctx.Gen.facts, Cert.CtxIdeal.Gen.facts, Cert.CtxRefIdeal.Gen.facts, Cert.Mod.Gen.facts, Cert.ModIdeal.Gen.facts, Cert.ModRefIdeal.Gen.facts, Cert.Short.Gen.facts, Cert.ShortIdeal.Gen.facts, Cert.ShortRefIdeal.Gen.facts, Cert.Pre_tables_in_bounds.Gen.facts, Cert.Pre_finite.Gen.facts, Cert.On_gate_columns.Gen.facts, Cert.On_without_scores.Gen.facts, Cert.On_context_gate_columns.Gen.facts, Cert.On_modulation_rows.Gen.facts,
  fun m ρ _ => Cert.Conv.Gen.frame m ρ, fun m ρ _ => Cert.ConvIdeal.Gen.frame m ρ, Cert.ConvPair.reference_frame,
  fun m ρ _ => Cert.Proj.Gen.frame m ρ, fun m ρ _ => Cert.ProjIdeal.Gen.frame m ρ, Cert.ProjPair.reference_frame,
  Cert.ExpertsPair.kernel_frame, Cert.ExpertsPair.ideal_frame, Cert.ExpertsPair.reference_frame, Cert.ExpertsPair.reference_frame_in_bounds,
  fun m ρ _ => Cert.Mix.Gen.frame m ρ, fun m ρ _ => Cert.MixIdeal.Gen.frame m ρ, Cert.MixPair.ideal_frame_finite, Cert.MixPair.reference_frame, Cert.MixPair.reference_frame_finite,
  fun m ρ _ => Cert.Ctx.Gen.frame m ρ, fun m ρ _ => Cert.CtxIdeal.Gen.frame m ρ, Cert.CtxPair.reference_frame,
  fun m ρ _ => Cert.Mod.Gen.frame m ρ, fun m ρ _ => Cert.ModIdeal.Gen.frame m ρ, Cert.ModPair.reference_frame,
  fun m ρ _ => Cert.Short.Gen.frame m ρ, fun m ρ _ => Cert.ShortIdeal.Gen.frame m ρ, Cert.ShortPair.reference_frame,
  trivial, Cert.ConvPair.algebraic, trivial, Cert.ProjPair.algebraic, trivial, Cert.ExpertsPair.algebraic, trivial, Cert.MixPair.algebraic, Cert.MixPair.algebraic_finite, trivial, Cert.CtxPair.algebraic, trivial, Cert.ModPair.algebraic, trivial, Cert.ShortPair.algebraic⟩

end Cert.Proof

end
